-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)) (v3 : (c : Dev Cert.KernelIdeal.nD) → Buf (Elt Ideal) ((c.tc : Thread Cert.KernelIdeal.nD Cert.KernelIdeal.τ).loc Cert.KernelIdeal.main_v21_3)) (v4 : (c : Dev Cert.KernelIdeal.nD) → Buf (Elt Ideal) ((c.tc : Thread Cert.KernelIdeal.nD Cert.KernelIdeal.τ).loc Cert.KernelIdeal.main_v21_4)) (v5 : (c : Dev Cert.KernelIdeal.nD) → Buf (Elt Ideal) ((c.tc : Thread Cert.KernelIdeal.nD Cert.KernelIdeal.τ).loc Cert.KernelIdeal.main_v21_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_v21_3) = v3 c
          ∧ r.2.mem ((c.tc : Thread Cert.KernelIdeal.nD Cert.KernelIdeal.τ).loc Cert.KernelIdeal.main_v21_4) = v4 c
          ∧ r.2.mem ((c.tc : Thread Cert.KernelIdeal.nD Cert.KernelIdeal.τ).loc Cert.KernelIdeal.main_v21_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_v103) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v28_3)) (v4 : (c : Dev Cert.Kernel2Ideal.nD) → Buf (Elt Ideal) ((c.tc : Thread Cert.Kernel2Ideal.nD Cert.Kernel2Ideal.τ).loc Cert.Kernel2Ideal.main_v28_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_v28_3) = v3 c
          ∧ r.2.mem ((c.tc : Thread Cert.Kernel2Ideal.nD Cert.Kernel2Ideal.τ).loc Cert.Kernel2Ideal.main_v28_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v72) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_v39) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v84_0)) (v1 : (c : Dev Cert.Kernel3Ideal.nD) → Buf (Elt Ideal) ((c.tc : Thread Cert.Kernel3Ideal.nD Cert.Kernel3Ideal.τ).loc Cert.Kernel3Ideal.main_v84_1)) (v2 : (c : Dev Cert.Kernel3Ideal.nD) → Buf (Elt Ideal) ((c.tc : Thread Cert.Kernel3Ideal.nD Cert.Kernel3Ideal.τ).loc Cert.Kernel3Ideal.main_v84_2)) (v3 : (c : Dev Cert.Kernel3Ideal.nD) → Buf (Elt Ideal) ((c.tc : Thread Cert.Kernel3Ideal.nD Cert.Kernel3Ideal.τ).loc Cert.Kernel3Ideal.main_v84_3)) (v4 : (c : Dev Cert.Kernel3Ideal.nD) → Buf (Elt Ideal) ((c.tc : Thread Cert.Kernel3Ideal.nD Cert.Kernel3Ideal.τ).loc Cert.Kernel3Ideal.main_v84_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v84_0) = v0 c
          ∧ r.2.mem ((c.tc : Thread Cert.Kernel3Ideal.nD Cert.Kernel3Ideal.τ).loc Cert.Kernel3Ideal.main_v84_1) = v1 c
          ∧ r.2.mem ((c.tc : Thread Cert.Kernel3Ideal.nD Cert.Kernel3Ideal.τ).loc Cert.Kernel3Ideal.main_v84_2) = v2 c
          ∧ r.2.mem ((c.tc : Thread Cert.Kernel3Ideal.nD Cert.Kernel3Ideal.τ).loc Cert.Kernel3Ideal.main_v84_3) = v3 c
          ∧ r.2.mem ((c.tc : Thread Cert.Kernel3Ideal.nD Cert.Kernel3Ideal.τ).loc Cert.Kernel3Ideal.main_v84_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v199) = v0 c
          ∧ r.2.mem ((c.tc : Thread Cert.Reference3Ideal.nD Cert.Reference3Ideal.τ).loc Cert.Reference3Ideal.main_v148) = v1 c
          ∧ r.2.mem ((c.tc : Thread Cert.Reference3Ideal.nD Cert.Reference3Ideal.τ).loc Cert.Reference3Ideal.main_v140) = v2 c
          ∧ r.2.mem ((c.tc : Thread Cert.Reference3Ideal.nD Cert.Reference3Ideal.τ).loc Cert.Reference3Ideal.main_v128) = v3 c
          ∧ r.2.mem ((c.tc : Thread Cert.Reference3Ideal.nD Cert.Reference3Ideal.τ).loc Cert.Reference3Ideal.main_v105) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v243) = v0 c
          ∧ r.2.mem ((c.tc : Thread Cert.Reference4Ideal.nD Cert.Reference4Ideal.τ).loc Cert.Reference4Ideal.main_v216) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v91) = v0 c
          ∧ r.2.mem ((c.tc : Thread Cert.Reference5Ideal.nD Cert.Reference5Ideal.τ).loc Cert.Reference5Ideal.main_v92) = v1 c
          ∧ r.2.mem ((c.tc : Thread Cert.Reference5Ideal.nD Cert.Reference5Ideal.τ).loc Cert.Reference5Ideal.main_v93) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v24_0)) (v1 : (c : Dev Cert.Kernel6Ideal.nD) → Buf (Elt Ideal) ((c.tc : Thread Cert.Kernel6Ideal.nD Cert.Kernel6Ideal.τ).loc Cert.Kernel6Ideal.main_v24_1)) (v2 : (c : Dev Cert.Kernel6Ideal.nD) → Buf (Elt Ideal) ((c.tc : Thread Cert.Kernel6Ideal.nD Cert.Kernel6Ideal.τ).loc Cert.Kernel6Ideal.main_v24_2)) (v3 : (c : Dev Cert.Kernel6Ideal.nD) → Buf (Elt Ideal) ((c.tc : Thread Cert.Kernel6Ideal.nD Cert.Kernel6Ideal.τ).loc Cert.Kernel6Ideal.main_v24_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v24_0) = v0 c
          ∧ r.2.mem ((c.tc : Thread Cert.Kernel6Ideal.nD Cert.Kernel6Ideal.τ).loc Cert.Kernel6Ideal.main_v24_1) = v1 c
          ∧ r.2.mem ((c.tc : Thread Cert.Kernel6Ideal.nD Cert.Kernel6Ideal.τ).loc Cert.Kernel6Ideal.main_v24_2) = v2 c
          ∧ r.2.mem ((c.tc : Thread Cert.Kernel6Ideal.nD Cert.Kernel6Ideal.τ).loc Cert.Kernel6Ideal.main_v24_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v43) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v68) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  bcast_S_S2048x1024 : S_.BroadcastsInDim S2048x1024 (![] : Fin 0 → Fin S2048x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S8192x1024 .f32) (main_v2 : IVec S8192x2048 1) (main_v5 : IVec S2048x1024 1) (main_v8 : IVec S8192x1024 1) (main_v11 : IVec S1x1024 1) (main_v14 : IVec S1x1024 1) (main_v17 : IVec S1x1024 1) : IVec S8192x2048 1 × IVec S2048x1024 1 × IVec S8192x1024 1 × IVec S1x1024 1 × IVec S1x1024 1 × IVec S1x1024 1 × IVec S1x1024 1 × IVec S8192x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x2048 .f32) (main_arg1 : FVec F S2048x1024 .f32) (main_arg2 : FVec F S8192x1024 .f32) (main_arg3 : FVec F S1x1024 .f32) (main_arg4 : FVec F S1x1024 .f32) (main_arg5 : FVec F S1x1024 .f32) (main_arg6 : FVec F S1x1024 .f32) (main_arg7 : FVec F S8192x1024 .f32) : IVec S8192x2048 1 × IVec S2048x1024 1 × IVec S8192x1024 1 × IVec S1x1024 1 × IVec S1x1024 1 × IVec S1x1024 1 × IVec S1x1024 1 × IVec S8192x1024 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_finite2.lean ====
abbrev S8192x1024 : Shape := ⟨2, ![8192, 1024]⟩
abbrev S8192x2048 : Shape := ⟨2, ![8192, 2048]⟩
abbrev S2048x1024 : Shape := ⟨2, ![2048, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  bcast_S_S8192x2048 : S_.BroadcastsInDim S8192x2048 (![] : Fin 0 → Fin S8192x2048.rank)
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x6144 : S_.BroadcastsInDim S1024x6144 (![] : Fin 0 → Fin S1024x6144.rank)
  bcast_S_S8192x6144 : S_.BroadcastsInDim S8192x6144 (![] : Fin 0 → Fin S8192x6144.rank)

variable [Facts]

def fn_part1 {F : FTy → Type} [FloatOps F] (main_arg7 : FVec F S8192x1024 .f32) (main_v2 : IVec S8192x1024 1) (main_v5 : IVec S8192x2048 1) (main_v8 : IVec S2048x1024 1) (main_v11 : IVec S1x1024 1) (main_v14 : IVec S1024x6144 1) (main_v17 : IVec S8192x6144 1) : IVec S8192x1024 1 × IVec S8192x2048 1 × IVec S2048x1024 1 × IVec S1x1024 1 × IVec S1024x6144 1 × IVec S8192x6144 1 × IVec S8192x1024 1 :=
  let main_v18 : FVec F S8192x1024 .f32 := Host.absf main_arg7
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S8192x2048 .f32) (main_arg2 : FVec F S2048x1024 .f32) (main_arg3 : FVec F S1x1024 .f32) (main_arg4 : FVec F S1x1024 .f32) (main_arg5 : FVec F S1024x6144 .f32) (main_arg6 : FVec F S8192x6144 .f32) (main_arg7 : FVec F S8192x1024 .f32) : IVec S8192x1024 1 × IVec S8192x2048 1 × IVec S2048x1024 1 × IVec S1x1024 1 × IVec S1024x6144 1 × IVec S8192x6144 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x6144 .f32 := Host.absf main_arg5
  let main_cst_3 : FVec F S_ .f32 := constant S_ .f32 0x7F800000#32
  let main_v13 : FVec F S1024x6144 .f32 := broadcastInDim S1024x6144 ![] bcast_S_S1024x6144 main_cst_3
  let main_v14 : IVec S1024x6144 1 := cmpf .olt main_v12 main_v13
  let main_v15 : FVec F S8192x6144 .f32 := Host.absf main_arg6
  let main_cst_4 : FVec F S_ .f32 := constant S_ .f32 0x7F800000#32
  let main_v16 : FVec F S8192x6144 .f32 := broadcastInDim S8192x6144 ![] bcast_S_S8192x6144 main_cst_4
  let main_v17 : IVec S8192x6144 1 := cmpf .olt main_v15 main_v16
  fn_part1 (F := F) main_arg7 main_v2 main_v5 main_v8 main_v11 main_v14 main_v17
-- ==== Pre_finite3.lean ====
abbrev S8192x6144 : Shape := ⟨2, ![8192, 6144]⟩
abbrev S4x256x256 : Shape := ⟨3, ![4, 256, 256]⟩
abbrev S1x1024 : Shape := ⟨2, ![1, 1024]⟩
abbrev S3x1024 : Shape := ⟨2, ![3, 1024]⟩
abbrev S8192x2048 : Shape := ⟨2, ![8192, 2048]⟩
abbrev S_ : Shape := ⟨0, ![]⟩

class Facts : Prop where
  bcast_S_S8192x6144 : S_.BroadcastsInDim S8192x6144 (![] : Fin 0 → Fin S8192x6144.rank)
  bcast_S_S4x256x256 : S_.BroadcastsInDim S4x256x256 (![] : Fin 0 → Fin S4x256x256.rank)
  bcast_S_S1x1024 : S_.BroadcastsInDim S1x1024 (![] : Fin 0 → Fin S1x1024.rank)
  bcast_S_S3x1024 : S_.BroadcastsInDim S3x1024 (![] : Fin 0 → Fin S3x1024.rank)
  bcast_S_S8192x2048 : S_.BroadcastsInDim S8192x2048 (![] : Fin 0 → Fin S8192x2048.rank)

variable [Facts]

def fn {F : FTy → Type} [FloatOps F] (main_arg0 : FVec F S8192x6144 .f32) (main_arg1 : FVec F S4x256x256 .f32) (main_arg2 : FVec F S1x1024 .f32) (main_arg3 : FVec F S3x1024 .f32) (main_arg4 : FVec F S1x1024 .f32) (main_arg5 : FVec F S8192x2048 .f32) : IVec S8192x6144 1 × IVec S4x256x256 1 × IVec S1x1024 1 × IVec S3x1024 1 × IVec S1x1024 1 × IVec S8192x2048 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_v3 : FVec F S4x256x256 .f32 := Host.absf main_arg1
  let main_cst_0 : FVec F S_ .f32 := constant S_ .f32 0x7F800000#32
  let main_v4 : FVec F S4x256x256 .f32 := broadcastInDim S4x256x256 ![] bcast_S_S4x256x256 main_cst_0
  let main_v5 : IVec S4x256x256 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S3x1024 .f32 := Host.absf main_arg3
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S8192x2048 .f32 := Host.absf main_arg5
  let main_cst_4 : FVec F S_ .f32 := constant S_ .f32 0x7F800000#32
  let main_v16 : FVec F S8192x2048 .f32 := broadcastInDim S8192x2048 ![] bcast_S_S8192x2048 main_cst_4
  let main_v17 : IVec S8192x2048 1 := cmpf .olt main_v15 main_v16
  (main_v2, main_v5, main_v8, main_v11, main_v14, main_v17)
-- ==== Pre_finite4.lean ====
abbrev S8192x6144 : Shape := ⟨2, ![8192, 6144]⟩
abbrev S1x1024 : Shape := ⟨2, ![1, 1024]⟩
abbrev S4x128x128 : Shape := ⟨3, ![4, 128, 128]⟩
abbrev S4x128 : Shape := ⟨2, ![4, 128]⟩
abbrev S31x1024 : Shape := ⟨2, ![31, 1024]⟩
abbrev S_ : Shape := ⟨0, ![]⟩

class Facts : Prop where
  bcast_S_S8192x6144 : S_.BroadcastsInDim S8192x6144 (![] : Fin 0 → Fin S8192x6144.rank)
  bcast_S_S1x1024 : S_.BroadcastsInDim S1x1024 (![] : Fin 0 → Fin S1x1024.rank)

variable [Facts]

def fn {F : FTy → Type} [FloatOps F] (main_arg0 : FVec F S8192x6144 .f32) (main_arg1 : FVec F S1x1024 .f32) (main_arg2 : FVec F S1x1024 .f32) (main_arg3 : FVec F S4x128x128 .f32) (main_arg4 : FVec F S4x128 .f32) (main_arg5 : FVec F S31x1024 .f32) (main_arg6 : FVec F S1x1024 .f32) (main_arg7 : FVec F S1x1024 .f32) (main_arg8 : FVec F S1x1024 .f32) : IVec S8192x6144 1 × IVec S1x1024 1 × IVec S1x1024 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_v3 : FVec F S1x1024 .f32 := Host.absf main_arg7
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg8
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite5.lean ====
abbrev S8192x6144 : Shape := ⟨2, ![8192, 6144]⟩
abbrev S4x256x256 : Shape := ⟨3, ![4, 256, 256]⟩
abbrev S1x1024 : Shape := ⟨2, ![1, 1024]⟩
abbrev S3x1024 : Shape := ⟨2, ![3, 1024]⟩
abbrev S_ : Shape := ⟨0, ![]⟩

class Facts : Prop where
  bcast_S_S8192x6144 : S_.BroadcastsInDim S8192x6144 (![] : Fin 0 → Fin S8192x6144.rank)

variable [Facts]

def fn {F : FTy → Type} [FloatOps F] (main_arg0 : FVec F S8192x6144 .f32) (main_arg1 : FVec F S4x256x256 .f32) (main_arg2 : FVec F S1x1024 .f32) (main_arg3 : FVec F S3x1024 .f32) (main_arg4 : FVec F S1x1024 .f32) : IVec S8192x6144 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  main_v2
-- ==== Kernel.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8x256x1024 : Shape := ⟨3, ![8, 256, 1024]⟩
abbrev S1x1 : Shape := ⟨2, ![1, 1]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1024 : Shape := ⟨1, ![1024]⟩

abbrev nBuf : Space → Nat
  | .hbm => 40
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2048, .bf16⟩
  | .hbm, ⟨32, _⟩ => ⟨S2048x1024, .bf16⟩
  | .hbm, ⟨33, _⟩ => ⟨S8x256x1024, .bf16⟩
  | .hbm, ⟨34, _⟩ => ⟨S8192x1024, .f32⟩
  | .hbm, ⟨35, _⟩ => ⟨S8192x1024, .bf16⟩
  | .hbm, ⟨36, _⟩ => ⟨S8192x2048, .bf16⟩
  | .hbm, ⟨37, _⟩ => ⟨S1x1024, .f32⟩
  | .hbm, ⟨38, _⟩ => ⟨S1x1024, .f32⟩
  | .hbm, ⟨39, _⟩ => ⟨S1x1, .f32⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S1x1024, .f32⟩
  | .local _ .vmem, ⟨18, _⟩ => ⟨S1x1024, .f32⟩
  | .local _ .vmem, ⟨19, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev main_v21_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S8192x2048, .f32⟩
  | 1 => ⟨S2048x1024, .f32⟩
  | 2 => ⟨S8192x1024, .f32⟩
  | 3 => ⟨S1x1024, .f32⟩
  | 4 => ⟨S1x1024, .f32⟩
  | 5 => ⟨S1x1024, .f32⟩
  | 6 => ⟨S1x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S8192x1024, .f32⟩
  | 15 => ⟨S8192x1024, .f32⟩
  | 16 => ⟨S8192x1024, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S_, .f32⟩
  | 26 => ⟨S8192x1, .f32⟩
  | 27 => ⟨S8192x1, .f32⟩
  | 28 => ⟨S8192x1, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S_, .f32⟩
  | 61 => ⟨S8192x1, .f32⟩
  | 62 => ⟨S8192x1, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S8192x1024, .f32⟩
  | 78 => ⟨S8192x1024, .f32⟩
  | 79 => ⟨S_, .f32⟩
  | 80 => ⟨S8192, .f32⟩
  | 81 => ⟨S_, .f32⟩
  | 82 => ⟨S8192, .f32⟩
  | 83 => ⟨S8192, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S8192, .f32⟩
  | 92 => ⟨S_, .f32⟩
  | 93 => ⟨S8192, .f32⟩
  | 94 => ⟨S8192, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S8192x1024, .f32⟩
  | 111 => ⟨S8192x1024, .f32⟩
  | 112 => ⟨S8192x1, .f32⟩
  | 113 => ⟨S8192x1024, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S_, .f32⟩
  | 126 => ⟨S8192, .f32⟩
  | 127 => ⟨S8192x1, .f32⟩
  | _ => ⟨S8192x2048, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x2048, .f32⟩
  | 11 => ⟨S8192x1024, .bf16⟩
  | 12 => ⟨S8192x2048, .bf16⟩
  | 13 => ⟨S1x1, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_cst_16 : Ref sig .tc := ⟨.hbm, 86, rfl⟩
abbrev main_v61 : Ref sig .tc := ⟨.hbm, 87, rfl⟩
abbrev main_cst_17 : Ref sig .tc := ⟨.hbm, 88, rfl⟩
abbrev main_cst_18 : Ref sig .tc := ⟨.hbm, 89, rfl⟩
abbrev main_v62 : Ref sig .tc := ⟨.hbm, 90, rfl⟩
abbrev main_v63 : Ref sig .tc := ⟨.hbm, 91, rfl⟩
abbrev main_cst_19 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_21 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_23 : Ref sig .tc := ⟨.hbm, 114, rfl⟩
abbrev main_v82 : Ref sig .tc := ⟨.hbm, 115, rfl⟩
abbrev main_v83 : Ref sig .tc := ⟨.hbm, 116, rfl⟩
abbrev main_cst_24 : Ref sig .tc := ⟨.hbm, 117, rfl⟩
abbrev main_v84 : Ref sig .tc := ⟨.hbm, 118, rfl⟩
abbrev main_v85 : Ref sig .tc := ⟨.hbm, 119, rfl⟩
abbrev main_cst_25 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_26 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_27 : Ref sig .tc := ⟨.hbm, 130, rfl⟩
abbrev main_v94 : Ref sig .tc := ⟨.hbm, 131, rfl⟩
abbrev main_v95 : Ref sig .tc := ⟨.hbm, 132, rfl⟩
abbrev main_cst_28 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩

abbrev nD : Nat := 1
abbrev τ : Topo := Topo.v7x

variable {F : FTy → Type} [FloatOps F]
-- ==== Kernel2.lean ====
abbrev S8192x1024 : Shape := ⟨2, ![8192, 1024]⟩
abbrev S8192x2048 : Shape := ⟨2, ![8192, 2048]⟩
abbrev S2048x1024 : Shape := ⟨2, ![2048, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1024x8x768 : Shape := ⟨3, ![1024, 8, 768]⟩
abbrev S8x1024x768 : Shape := ⟨3, ![8, 1024, 768]⟩
abbrev S8x256x1024 : Shape := ⟨3, ![8, 256, 1024]⟩
abbrev S512x6144 : Shape := ⟨2, ![512, 6144]⟩
abbrev S512x1024 : Shape := ⟨2, ![512, 1024]⟩
abbrev S512x1 : Shape := ⟨2, ![512, 1]⟩
abbrev S512x2048 : Shape := ⟨2, ![512, 2048]⟩
abbrev S512x768 : Shape := ⟨2, ![512, 768]⟩
abbrev S1x1024x768 : Shape := ⟨3, ![1, 1024, 768]⟩
abbrev S1024x768 : Shape := ⟨2, ![1024, 768]⟩
abbrev S1024 : Shape := ⟨1, ![1024]⟩
abbrev S512 : Shape := ⟨1, ![512]⟩

abbrev nBuf : Space → Nat
  | .hbm => 47
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x6144, .f32⟩
  | .hbm, ⟨6, _⟩ => ⟨S8192x6144, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x6144, .bf16⟩
  | .hbm, ⟨37, _⟩ => ⟨S1024x8x768, .bf16⟩
  | .hbm, ⟨38, _⟩ => ⟨S8x1024x768, .bf16⟩
  | .hbm, ⟨39, _⟩ => ⟨S2048x1024, .bf16⟩
  | .hbm, ⟨40, _⟩ => ⟨S8x256x1024, .bf16⟩
  | .hbm, ⟨41, _⟩ => ⟨S8192x6144, .bf16⟩
  | .hbm, ⟨42, _⟩ => ⟨S8192x1024, .f32⟩
  | .hbm, ⟨43, _⟩ => ⟨S8192x1024, .bf16⟩
  | .hbm, ⟨44, _⟩ => ⟨S8192x2048, .bf16⟩
  | .hbm, ⟨45, _⟩ => ⟨S1x1024, .f32⟩
  | .hbm, ⟨46, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S1x1024, .f32⟩
  | .local _ .vmem, ⟨10, _⟩ => ⟨S8x256x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev main_v28_3 : Ref sig .tc := ⟨.hbm, 45, rfl⟩
abbrev main_v28_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S8192x1024 : Shape := ⟨2, ![8192, 1024]⟩
abbrev S8192x2048 : Shape := ⟨2, ![8192, 2048]⟩
abbrev S2048x1024 : Shape := ⟨2, ![2048, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x6144, .f32⟩
  | .hbm, ⟨6, _⟩ => ⟨S8192x6144, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x6144, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x2048, .f32⟩
  | .hbm, ⟨98, _⟩ => ⟨S8192x1024, .bf16⟩
  | .hbm, ⟨99, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Kernel3.lean ====
abbrev S8192x6144 : Shape := ⟨2, ![8192, 6144]⟩
abbrev S4x256x256 : Shape := ⟨3, ![4, 256, 256]⟩
abbrev S1x1024 : Shape := ⟨2, ![1, 1024]⟩
abbrev S3x1024 : Shape := ⟨2, ![3, 1024]⟩
abbrev S8192x2048 : Shape := ⟨2, ![8192, 2048]⟩
abbrev S8192x1024 : Shape := ⟨2, ![8192, 1024]⟩
abbrev S_ : Shape := ⟨0, ![]⟩
abbrev S8193x1024 : Shape := ⟨2, ![8193, 1024]⟩
abbrev S8192 : Shape := ⟨1, ![8192]⟩
abbrev S8193x256 : Shape := ⟨2, ![8193, 256]⟩
abbrev S8191x256 : Shape := ⟨2, ![8191, 256]⟩
abbrev S1x256 : Shape := ⟨2, ![1, 256]⟩
abbrev S8192x256 : Shape := ⟨2, ![8192, 256]⟩
abbrev S8192x1 : Shape := ⟨2, ![8192, 1]⟩
abbrev S8189x256 : Shape := ⟨2, ![8189, 256]⟩
abbrev S3x256 : Shape := ⟨2, ![3, 256]⟩
abbrev S8185x256 : Shape := ⟨2, ![8185, 256]⟩
abbrev S7x256 : Shape := ⟨2, ![7, 256]⟩
abbrev S8177x256 : Shape := ⟨2, ![8177, 256]⟩
abbrev S15x256 : Shape := ⟨2, ![15, 256]⟩
abbrev S2x1024 : Shape := ⟨2, ![2, 1024]⟩
abbrev S8194x1024 : Shape := ⟨2, ![8194, 1024]⟩
abbrev S256x6144 : Shape := ⟨2, ![256, 6144]⟩
abbrev S256x2048 : Shape := ⟨2, ![256, 2048]⟩
abbrev S256x1024 : Shape := ⟨2, ![256, 1024]⟩
abbrev S288x1024 : Shape := ⟨2, ![288, 1024]⟩
abbrev S264x1024 : Shape := ⟨2, ![264, 1024]⟩
abbrev S32x1024 : Shape := ⟨2, ![32, 1024]⟩
abbrev S8x1024 : Shape := ⟨2, ![8, 1024]⟩
abbrev S256x256 : Shape := ⟨2, ![256, 256]⟩
abbrev S1x256x256 : Shape := ⟨3, ![1, 256, 256]⟩
abbrev S16x256 : Shape := ⟨2, ![16, 256]⟩
abbrev S256 : Shape := ⟨1, ![256]⟩
abbrev S16x1 : Shape := ⟨2, ![16, 1]⟩
abbrev S32x768 : Shape := ⟨2, ![32, 768]⟩
abbrev S24x768 : Shape := ⟨2, ![24, 768]⟩
abbrev S32x512 : Shape := ⟨2, ![32, 512]⟩
abbrev S16x512 : Shape := ⟨2, ![16, 512]⟩
abbrev S32x256 : Shape := ⟨2, ![32, 256]⟩
abbrev S8x256 : Shape := ⟨2, ![8, 256]⟩

abbrev nBuf : Space → Nat
  | .hbm => 109
  | .vmem => 24
  | .smem => 0
  | _ => 0

abbrev bufTy : (tb : Table) → Fin (tcTables nBuf tb) → BufTy
  | .hbm, ⟨0, _⟩ => ⟨S8192x6144, .f32⟩
  | .hbm, ⟨1, _⟩ => ⟨S4x256x256, .f32⟩
  | .hbm, ⟨2, _⟩ => ⟨S1x1024, .f32⟩
  | .hbm, ⟨3, _⟩ => ⟨S3x1024, .f32⟩
  | .hbm, ⟨4, _⟩ => ⟨S1x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S_, .f32⟩
  | .hbm, ⟨14, _⟩ => ⟨S8192x1024, .f32⟩
  | .hbm, ⟨15, _⟩ => ⟨S_, .f32⟩
  | .hbm, ⟨16, _⟩ => ⟨S1x1024, .f32⟩
  | .hbm, ⟨17, _⟩ => ⟨S8193x1024, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8193x256, .f32⟩
  | .hbm, ⟨23, _⟩ => ⟨S8191x256, .f32⟩
  | .hbm, ⟨24, _⟩ => ⟨S_, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x256, .f32⟩
  | .hbm, ⟨34, _⟩ => ⟨S8192x256, .f32⟩
  | .hbm, ⟨35, _⟩ => ⟨S8193x256, .f32⟩
  | .hbm, ⟨36, _⟩ => ⟨S8189x256, .f32⟩
  | .hbm, ⟨37, _⟩ => ⟨S_, .f32⟩
  | .hbm, ⟨38, _⟩ => ⟨S3x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x256, .f32⟩
  | .hbm, ⟨47, _⟩ => ⟨S8192x256, .f32⟩
  | .hbm, ⟨48, _⟩ => ⟨S8193x256, .f32⟩
  | .hbm, ⟨49, _⟩ => ⟨S8185x256, .f32⟩
  | .hbm, ⟨50, _⟩ => ⟨S_, .f32⟩
  | .hbm, ⟨51, _⟩ => ⟨S7x256, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S8192x1, .f32⟩
  | .hbm, ⟨59, _⟩ => ⟨S8192x256, .f32⟩
  | .hbm, ⟨60, _⟩ => ⟨S8192x256, .f32⟩
  | .hbm, ⟨61, _⟩ => ⟨S8193x256, .f32⟩
  | .hbm, ⟨62, _⟩ => ⟨S8177x256, .f32⟩
  | .hbm, ⟨63, _⟩ => ⟨S_, .f32⟩
  | .hbm, ⟨64, _⟩ => ⟨S15x256, .f32⟩
  | .hbm, ⟨65, _⟩ => ⟨S8192x256, .f32⟩
  | .hbm, ⟨66, _⟩ => ⟨S8192x256, .f32⟩
  | .hbm, ⟨67, _⟩ => ⟨S8192x256, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1, .f32⟩
  | .hbm, ⟨72, _⟩ => ⟨S8192x256, .f32⟩
  | .hbm, ⟨73, _⟩ => ⟨S8192x256, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S2x1024, .f32⟩
  | .hbm, ⟨79, _⟩ => ⟨S8194x1024, .f32⟩
  | .hbm, ⟨80, _⟩ => ⟨S8192x1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x6144, .bf16⟩
  | .hbm, ⟨100, _⟩ => ⟨S8192x2048, .bf16⟩
  | .hbm, ⟨101, _⟩ => ⟨S8192x1024, .bf16⟩
  | .hbm, ⟨102, _⟩ => ⟨S8192x1024, .bf16⟩
  | .hbm, ⟨103, _⟩ => ⟨S4x256x256, .bf16⟩
  | .hbm, ⟨104, _⟩ => ⟨S8192x6144, .bf16⟩
  | .hbm, ⟨105, _⟩ => ⟨S4x256x256, .f32⟩
  | .hbm, ⟨106, _⟩ => ⟨S1x1024, .f32⟩
  | .hbm, ⟨107, _⟩ => ⟨S3x1024, .f32⟩
  | .hbm, ⟨108, _⟩ => ⟨S1x1024, .f32⟩
  | .local _ .vmem, ⟨0, _⟩ => ⟨S256x6144, .bf16⟩
  | .local _ .vmem, ⟨1, _⟩ => ⟨S256x6144, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S4x256x256, .bf16⟩
  | .local _ .vmem, ⟨9, _⟩ => ⟨S1x1024, .f32⟩
  | .local _ .vmem, ⟨10, _⟩ => ⟨S3x1024, .f32⟩
  | .local _ .vmem, ⟨11, _⟩ => ⟨S256x6144, .bf16⟩
  | .local _ .vmem, ⟨12, _⟩ => ⟨S256x6144, .bf16⟩
  | .local _ .vmem, ⟨13, _⟩ => ⟨S4x256x256, .f32⟩
  | .local _ .vmem, ⟨14, _⟩ => ⟨S1x1024, .f32⟩
  | .local _ .vmem, ⟨15, _⟩ => ⟨S3x1024, .f32⟩
  | .local _ .vmem, ⟨16, _⟩ => ⟨S1x1024, .f32⟩
  | .local _ .vmem, ⟨17, _⟩ => ⟨S288x1024, .f32⟩
  | .local _ .vmem, ⟨18, _⟩ => ⟨S264x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .f32⟩
  | .local _ .vmem, ⟨22, _⟩ => ⟨S288x1024, .f32⟩
  | .local _ .vmem, ⟨23, _⟩ => ⟨S288x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84_0 : Ref sig .tc := ⟨.hbm, 104, rfl⟩
abbrev main_v84_1 : Ref sig .tc := ⟨.hbm, 105, rfl⟩
abbrev main_v84_2 : Ref sig .tc := ⟨.hbm, 106, rfl⟩
abbrev main_v84_3 : Ref sig .tc := ⟨.hbm, 107, rfl⟩
abbrev main_v84_4 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x6144 : Shape := ⟨2, ![8192, 6144]⟩
abbrev S4x256x256 : Shape := ⟨3, ![4, 256, 256]⟩
abbrev S1x1024 : Shape := ⟨2, ![1, 1024]⟩
abbrev S3x1024 : Shape := ⟨2, ![3, 1024]⟩
abbrev S8192x2048 : Shape := ⟨2, ![8192, 2048]⟩
abbrev S8192x1024 : Shape := ⟨2, ![8192, 1024]⟩
abbrev S_ : Shape := ⟨0, ![]⟩
abbrev S8193x1024 : Shape := ⟨2, ![8193, 1024]⟩
abbrev S8192 : Shape := ⟨1, ![8192]⟩
abbrev S8193x256 : Shape := ⟨2, ![8193, 256]⟩
abbrev S8191x256 : Shape := ⟨2, ![8191, 256]⟩
abbrev S1x256 : Shape := ⟨2, ![1, 256]⟩
abbrev S8192x256 : Shape := ⟨2, ![8192, 256]⟩
abbrev S8192x1 : Shape := ⟨2, ![8192, 1]⟩
abbrev S8189x256 : Shape := ⟨2, ![8189, 256]⟩
abbrev S3x256 : Shape := ⟨2, ![3, 256]⟩
abbrev S8185x256 : Shape := ⟨2, ![8185, 256]⟩
abbrev S7x256 : Shape := ⟨2, ![7, 256]⟩
abbrev S8177x256 : Shape := ⟨2, ![8177, 256]⟩
abbrev S15x256 : Shape := ⟨2, ![15, 256]⟩
abbrev S8192x4x256 : Shape := ⟨3, ![8192, 4, 256]⟩
abbrev S4x256x8192 : Shape := ⟨3, ![4, 256, 8192]⟩
abbrev S2x1024 : Shape := ⟨2, ![2, 1024]⟩
abbrev S8194x1024 : Shape := ⟨2, ![8194, 1024]⟩
abbrev S1024 : Shape := ⟨1, ![1024]⟩
abbrev S4x8192x256 : Shape := ⟨3, ![4, 8192, 256]⟩

abbrev nBuf : Space → Nat
  | .hbm => 281
  | .vmem => 0
  | .smem => 0
  | _ => 0

abbrev hbmTy0_0 (i : Nat) : BufTy := match i % 128 with
  | 0 => ⟨S8192x6144, .f32⟩
  | 1 => ⟨S4x256x256, .f32⟩
  | 2 => ⟨S1x1024, .f32⟩
  | 3 => ⟨S3x1024, .f32⟩
  | 4 => ⟨S1x1024, .f32⟩
  | 5 => ⟨S8192x2048, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S_, .f32⟩
  | 14 => ⟨S8192x1024, .f32⟩
  | 15 => ⟨S_, .f32⟩
  | 16 => ⟨S1x1024, .f32⟩
  | 17 => ⟨S8193x1024, .f32⟩
  | 18 => ⟨S_, .f32⟩
  | 19 => ⟨S1x1024, .f32⟩
  | 20 => ⟨S8192, .f32⟩
  | 21 => ⟨S_, .f32⟩
  | 22 => ⟨S8192, .f32⟩
  | 23 => ⟨S8192, .f32⟩
  | 24 => ⟨S8193x256, .f32⟩
  | 25 => ⟨S8191x256, .f32⟩
  | 26 => ⟨S_, .f32⟩
  | 27 => ⟨S1x256, .f32⟩
  | 28 => ⟨S8192x256, .f32⟩
  | 29 => ⟨S_, .f32⟩
  | 30 => ⟨S1x256, .f32⟩
  | 31 => ⟨S8192x256, .f32⟩
  | 32 => ⟨S8192x256, .f32⟩
  | 33 => ⟨S_, .f32⟩
  | 34 => ⟨S8192, .f32⟩
  | 35 => ⟨S8192, .f32⟩
  | 36 => ⟨S8192x1, .f32⟩
  | 37 => ⟨S8192x256, .f32⟩
  | 38 => ⟨S8192x256, .f32⟩
  | 39 => ⟨S8193x256, .f32⟩
  | 40 => ⟨S8189x256, .f32⟩
  | 41 => ⟨S_, .f32⟩
  | 42 => ⟨S3x256, .f32⟩
  | 43 => ⟨S8192x256, .f32⟩
  | 44 => ⟨S_, .f32⟩
  | 45 => ⟨S3x256, .f32⟩
  | 46 => ⟨S8192x256, .f32⟩
  | 47 => ⟨S8192x256, .f32⟩
  | 48 => ⟨S_, .f32⟩
  | 49 => ⟨S8192, .f32⟩
  | 50 => ⟨S8192, .f32⟩
  | 51 => ⟨S8192x1, .f32⟩
  | 52 => ⟨S8192x256, .f32⟩
  | 53 => ⟨S8192x256, .f32⟩
  | 54 => ⟨S8193x256, .f32⟩
  | 55 => ⟨S8185x256, .f32⟩
  | 56 => ⟨S_, .f32⟩
  | 57 => ⟨S7x256, .f32⟩
  | 58 => ⟨S8192x256, .f32⟩
  | 59 => ⟨S_, .f32⟩
  | 60 => ⟨S7x256, .f32⟩
  | 61 => ⟨S8192x256, .f32⟩
  | 62 => ⟨S8192x256, .f32⟩
  | 63 => ⟨S_, .f32⟩
  | 64 => ⟨S8192, .f32⟩
  | 65 => ⟨S8192, .f32⟩
  | 66 => ⟨S8192x1, .f32⟩
  | 67 => ⟨S8192x256, .f32⟩
  | 68 => ⟨S8192x256, .f32⟩
  | 69 => ⟨S8193x256, .f32⟩
  | 70 => ⟨S8177x256, .f32⟩
  | 71 => ⟨S_, .f32⟩
  | 72 => ⟨S15x256, .f32⟩
  | 73 => ⟨S8192x256, .f32⟩
  | 74 => ⟨S_, .f32⟩
  | 75 => ⟨S15x256, .f32⟩
  | 76 => ⟨S8192x256, .f32⟩
  | 77 => ⟨S8192x256, .f32⟩
  | 78 => ⟨S_, .f32⟩
  | 79 => ⟨S8192, .f32⟩
  | 80 => ⟨S8192, .f32⟩
  | 81 => ⟨S8192x1, .f32⟩
  | 82 => ⟨S8192x256, .f32⟩
  | 83 => ⟨S8192x256, .f32⟩
  | 84 => ⟨S8192x1024, .f32⟩
  | 85 => ⟨S8192x1024, .f32⟩
  | 86 => ⟨S8192x4x256, .f32⟩
  | 87 => ⟨S4x256x8192, .f32⟩
  | 88 => ⟨S8192x4x256, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S8192x1024, .f32⟩
  | 96 => ⟨S8192x1024, .f32⟩
  | 97 => ⟨S_, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S_, .f32⟩
  | 108 => ⟨S2x1024, .f32⟩
  | 109 => ⟨S8194x1024, .f32⟩
  | 110 => ⟨S_, .f32⟩
  | 111 => ⟨S2x1024, .f32⟩
  | 112 => ⟨S8192x1024, .f32⟩
  | 113 => ⟨S1x1024, .f32⟩
  | 114 => ⟨S8192x1024, .f32⟩
  | 115 => ⟨S8192x1024, .f32⟩
  | 116 => ⟨S_, .f32⟩
  | 117 => ⟨S8192x1024, .f32⟩
  | 118 => ⟨S8192x1024, .f32⟩
  | 119 => ⟨S8192x1024, .f32⟩
  | 120 => ⟨S1x1024, .f32⟩
  | 121 => ⟨S8192x1024, .f32⟩
  | 122 => ⟨S8192x1024, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x6144, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S8192x1024, .f32⟩
  | 16 => ⟨S8192x1024, .f32⟩
  | 17 => ⟨S8192x1024, .f32⟩
  | 18 => ⟨S8192x2048, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S1024, .f32⟩
  | 31 => ⟨S1x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S3x1024, .f32⟩
  | 40 => ⟨S_, .f32⟩
  | 41 => ⟨S8194x1024, .f32⟩
  | 42 => ⟨S8192x1024, .f32⟩
  | 43 => ⟨S_, .f32⟩
  | 44 => ⟨S1024, .f32⟩
  | 45 => ⟨S1x1024, .f32⟩
  | 46 => ⟨S8192x1024, .f32⟩
  | 47 => ⟨S8192x1024, .f32⟩
  | 48 => ⟨S_, .f32⟩
  | 49 => ⟨S3x1024, .f32⟩
  | 50 => ⟨S3x1024, .f32⟩
  | 51 => ⟨S_, .f32⟩
  | 52 => ⟨S8194x1024, .f32⟩
  | 53 => ⟨S8194x1024, .f32⟩
  | 54 => ⟨S8192x1024, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S_, .f32⟩
  | 61 => ⟨S3x1024, .f32⟩
  | 62 => ⟨S3x1024, .f32⟩
  | 63 => ⟨S_, .f32⟩
  | 64 => ⟨S8194x1024, .f32⟩
  | 65 => ⟨S8194x1024, .f32⟩
  | 66 => ⟨S2x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S1024, .f32⟩
  | 79 => ⟨S1x1024, .f32⟩
  | 80 => ⟨S8192x1024, .f32⟩
  | 81 => ⟨S8192x1024, .f32⟩
  | 82 => ⟨S8192x4x256, .f32⟩
  | 83 => ⟨S4x256x8192, .f32⟩
  | 84 => ⟨S4x8192x256, .f32⟩
  | 85 => ⟨S8192x4x256, .f32⟩
  | 86 => ⟨S4x256x256, .f32⟩
  | 87 => ⟨S4x256x256, .f32⟩
  | 88 => ⟨S8192x1024, .f32⟩
  | 89 => ⟨S8192x1024, .f32⟩
  | 90 => ⟨S8192x256, .f32⟩
  | 91 => ⟨S8192x256, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8193x256, .f32⟩
  | 99 => ⟨S15x256, .f32⟩
  | 100 => ⟨S8177x256, .f32⟩
  | 101 => ⟨S_, .f32⟩
  | 102 => ⟨S8193x256, .f32⟩
  | 103 => ⟨S8193x256, .f32⟩
  | 104 => ⟨S_, .f32⟩
  | 105 => ⟨S8193x1024, .f32⟩
  | 106 => ⟨S8192x256, .f32⟩
  | 107 => ⟨S8192x256, .f32⟩
  | 108 => ⟨S8192x256, .f32⟩
  | 109 => ⟨S_, .f32⟩
  | 110 => ⟨S8193x256, .f32⟩
  | 111 => ⟨S7x256, .f32⟩
  | 112 => ⟨S8185x256, .f32⟩
  | 113 => ⟨S_, .f32⟩
  | 114 => ⟨S8193x256, .f32⟩
  | 115 => ⟨S8193x256, .f32⟩
  | 116 => ⟨S_, .f32⟩
  | 117 => ⟨S8193x1024, .f32⟩
  | 118 => ⟨S8193x1024, .f32⟩
  | 119 => ⟨S8192x256, .f32⟩
  | 120 => ⟨S8192x256, .f32⟩
  | 121 => ⟨S8192x256, .f32⟩
  | 122 => ⟨S_, .f32⟩
  | 123 => ⟨S8193x256, .f32⟩
  | 124 => ⟨S3x256, .f32⟩
  | 125 => ⟨S8189x256, .f32⟩
  | 126 => ⟨S_, .f32⟩
  | 127 => ⟨S8193x256, .f32⟩
  | _ => ⟨S8192x6144, .f32⟩

abbrev hbmTy0_2 (i : Nat) : BufTy := match i % 128 with
  | 0 => ⟨S8193x256, .f32⟩
  | 1 => ⟨S_, .f32⟩
  | 2 => ⟨S8193x1024, .f32⟩
  | 3 => ⟨S8193x1024, .f32⟩
  | 4 => ⟨S8192x256, .f32⟩
  | 5 => ⟨S8192x256, .f32⟩
  | 6 => ⟨S8192x256, .f32⟩
  | 7 => ⟨S_, .f32⟩
  | 8 => ⟨S8193x256, .f32⟩
  | 9 => ⟨S1x256, .f32⟩
  | 10 => ⟨S8191x256, .f32⟩
  | 11 => ⟨S_, .f32⟩
  | 12 => ⟨S8193x256, .f32⟩
  | 13 => ⟨S8193x256, .f32⟩
  | 14 => ⟨S_, .f32⟩
  | 15 => ⟨S8193x1024, .f32⟩
  | 16 => ⟨S8193x1024, .f32⟩
  | 17 => ⟨S1x1024, .f32⟩
  | 18 => ⟨S8192x1024, .f32⟩
  | 19 => ⟨S_, .f32⟩
  | 20 => ⟨S_, .f32⟩
  | 21 => ⟨S8192x1024, .f32⟩
  | 22 => ⟨S8192x1024, .f32⟩
  | 23 => ⟨S8192x6144, .f32⟩
  | 24 => ⟨S8192x6144, .bf16⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_call0_cst : Ref sig .tc := ⟨.hbm, 12, rfl⟩
abbrev main_call0_call0_v0 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_v69_2 : Ref sig .tc := ⟨.hbm, 99, rfl⟩
abbrev main_call1_cst_1 : Ref sig .tc := ⟨.hbm, 100, rfl⟩
abbrev main_call1_v6 : Ref sig .tc := ⟨.hbm, 101, rfl⟩
abbrev main_call1_v7 : Ref sig .tc := ⟨.hbm, 102, rfl⟩
abbrev main_v69_1 : Ref sig .tc := ⟨.hbm, 103, rfl⟩
abbrev main_v69_0 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_call2_v0 : Ref sig .tc := ⟨.hbm, 132, rfl⟩
abbrev main_call2_v1 : Ref sig .tc := ⟨.hbm, 133, rfl⟩
abbrev main_call2_cst : Ref sig .tc := ⟨.hbm, 134, rfl⟩
abbrev main_call2_v2 : Ref sig .tc := ⟨.hbm, 135, rfl⟩
abbrev main_call2_v3 : Ref sig .tc := ⟨.hbm, 136, rfl⟩
abbrev main_call2_cst_0 : Ref sig .tc := ⟨.hbm, 137, rfl⟩
abbrev main_call2_v4 : Ref sig .tc := ⟨.hbm, 138, rfl⟩
abbrev main_v94_2 : Ref sig .tc := ⟨.hbm, 139, rfl⟩
abbrev main_call2_cst_1 : Ref sig .tc := ⟨.hbm, 140, rfl⟩
abbrev main_call2_v6 : Ref sig .tc := ⟨.hbm, 141, rfl⟩
abbrev main_call2_v7 : Ref sig .tc := ⟨.hbm, 142, rfl⟩
abbrev main_v94_1 : Ref sig .tc := ⟨.hbm, 143, rfl⟩
abbrev main_v94_0 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_cst_17 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_18 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_19 : Ref sig .tc := ⟨.hbm, 166, rfl⟩
abbrev main_v111 : Ref sig .tc := ⟨.hbm, 167, rfl⟩
abbrev main_cst_20 : Ref sig .tc := ⟨.hbm, 168, rfl⟩
abbrev main_v112 : Ref sig .tc := ⟨.hbm, 169, rfl⟩
abbrev main_v113 : Ref sig .tc := ⟨.hbm, 170, rfl⟩
abbrev main_cst_21 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_22 : Ref sig .tc := ⟨.hbm, 176, rfl⟩
abbrev main_v118 : Ref sig .tc := ⟨.hbm, 177, rfl⟩
abbrev main_v119 : Ref sig .tc := ⟨.hbm, 178, rfl⟩
abbrev main_cst_23 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_24 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_25 : Ref sig .tc := ⟨.hbm, 188, rfl⟩
abbrev main_v127 : Ref sig .tc := ⟨.hbm, 189, rfl⟩
abbrev main_v128 : Ref sig .tc := ⟨.hbm, 190, rfl⟩
abbrev main_cst_26 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_call4_v0 : Ref sig .tc := ⟨.hbm, 200, rfl⟩
abbrev main_call4_v1 : Ref sig .tc := ⟨.hbm, 201, rfl⟩
abbrev main_call4_v2 : Ref sig .tc := ⟨.hbm, 202, rfl⟩
abbrev main_v137 : Ref sig .tc := ⟨.hbm, 203, rfl⟩
abbrev main_v138 : Ref sig .tc := ⟨.hbm, 204, rfl⟩
abbrev main_cst_27 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_28 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_29 : Ref sig .tc := ⟨.hbm, 229, rfl⟩
abbrev main_v161 : Ref sig .tc := ⟨.hbm, 230, rfl⟩
abbrev main_v162 : Ref sig .tc := ⟨.hbm, 231, rfl⟩
abbrev main_cst_30 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_cst_31 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_cst_32 : Ref sig .tc := ⟨.hbm, 241, rfl⟩
abbrev main_v170 : Ref sig .tc := ⟨.hbm, 242, rfl⟩
abbrev main_v171 : Ref sig .tc := ⟨.hbm, 243, rfl⟩
abbrev main_cst_33 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_cst_34 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_cst_35 : Ref sig .tc := ⟨.hbm, 254, rfl⟩
abbrev main_v180 : Ref sig .tc := ⟨.hbm, 255, rfl⟩
abbrev main_v181 : Ref sig .tc := ⟨.hbm, 256, rfl⟩
abbrev main_cst_36 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_cst_37 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_cst_38 : Ref sig .tc := ⟨.hbm, 267, rfl⟩
abbrev main_v190 : Ref sig .tc := ⟨.hbm, 268, rfl⟩
abbrev main_v191 : Ref sig .tc := ⟨.hbm, 269, rfl⟩
abbrev main_cst_39 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_call5_call0_cst : Ref sig .tc := ⟨.hbm, 275, rfl⟩
abbrev main_call5_call0_v0 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩

abbrev nD : Nat := 1
abbrev τ : Topo := Topo.v7x

variable {F : FTy → Type} [FloatOps F]
-- ==== Kernel4.lean ====
abbrev S8192x6144 : Shape := ⟨2, ![8192, 6144]⟩
abbrev S1x1024 : Shape := ⟨2, ![1, 1024]⟩
abbrev S4x128x128 : Shape := ⟨3, ![4, 128, 128]⟩
abbrev S4x128 : Shape := ⟨2, ![4, 128]⟩
abbrev S31x1024 : Shape := ⟨2, ![31, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S4x128x1 : Shape := ⟨3, ![4, 128, 1]⟩
abbrev S8192x2048 : Shape := ⟨2, ![8192, 2048]⟩
abbrev S8192x1024 : Shape := ⟨2, ![8192, 1024]⟩
abbrev S512x6144 : Shape := ⟨2, ![512, 6144]⟩
abbrev S512x2048 : Shape := ⟨2, ![512, 2048]⟩
abbrev S512x1024 : Shape := ⟨2, ![512, 1024]⟩
abbrev S544x1024 : Shape := ⟨2, ![544, 1024]⟩
abbrev S7x536x1024 : Shape := ⟨3, ![7, 536, 1024]⟩
abbrev S32x1024 : Shape := ⟨2, ![32, 1024]⟩
abbrev S512 : Shape := ⟨1, ![512]⟩
abbrev S512x1 : Shape := ⟨2, ![512, 1]⟩
abbrev S128x256 : Shape := ⟨2, ![128, 256]⟩
abbrev S1x128x1 : Shape := ⟨3, ![1, 128, 1]⟩
abbrev S536x1024 : Shape := ⟨2, ![536, 1024]⟩
abbrev S1x536x1024 : Shape := ⟨3, ![1, 536, 1024]⟩
abbrev S1x512x1024 : Shape := ⟨3, ![1, 512, 1024]⟩

abbrev nBuf : Space → Nat
  | .hbm => 63
  | .vmem => 16
  | .smem => 0
  | _ => 0

abbrev bufTy : (tb : Table) → Fin (tcTables nBuf tb) → BufTy
  | .hbm, ⟨0, _⟩ => ⟨S8192x6144, .f32⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S4x128, .f32⟩
  | .hbm, ⟨5, _⟩ => ⟨S31x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S128, .i32⟩
  | .hbm, ⟨10, _⟩ => ⟨S1x128, .i32⟩
  | .hbm, ⟨11, _⟩ => ⟨S_, .i32⟩
  | .hbm, ⟨12, _⟩ => ⟨S_, .i32⟩
  | .hbm, ⟨13, _⟩ => ⟨S1x128, .i32⟩
  | .hbm, ⟨14, _⟩ => ⟨S1x128, .i32⟩
  | .hbm, ⟨15, _⟩ => ⟨S1x128, .i32⟩
  | .hbm, ⟨16, _⟩ => ⟨S_, .i32⟩
  | .hbm, ⟨17, _⟩ => ⟨S1x128, .i32⟩
  | .hbm, ⟨18, _⟩ => ⟨S1x128, .i1⟩
  | .hbm, ⟨19, _⟩ => ⟨S1x128, .i32⟩
  | .hbm, ⟨20, _⟩ => ⟨S1x128, .i32⟩
  | .hbm, ⟨21, _⟩ => ⟨S_, .i32⟩
  | .hbm, ⟨22, _⟩ => ⟨S1x128, .i32⟩
  | .hbm, ⟨23, _⟩ => ⟨S1x128, .i1⟩
  | .hbm, ⟨24, _⟩ => ⟨S1x128, .i1⟩
  | .hbm, ⟨25, _⟩ => ⟨S_, .i32⟩
  | .hbm, ⟨26, _⟩ => ⟨S1x128, .i32⟩
  | .hbm, ⟨27, _⟩ => ⟨S1x128, .i32⟩
  | .hbm, ⟨28, _⟩ => ⟨S1x128, .i32⟩
  | .hbm, ⟨29, _⟩ => ⟨S128, .i32⟩
  | .hbm, ⟨30, _⟩ => ⟨S128x1, .i32⟩
  | .hbm, ⟨31, _⟩ => ⟨S_, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S_, .i32⟩
  | .hbm, ⟨37, _⟩ => ⟨S128x1, .i32⟩
  | .hbm, ⟨38, _⟩ => ⟨S128x1, .i1⟩
  | .hbm, ⟨39, _⟩ => ⟨S128x1, .i32⟩
  | .hbm, ⟨40, _⟩ => ⟨S128x1, .i32⟩
  | .hbm, ⟨41, _⟩ => ⟨S_, .i32⟩
  | .hbm, ⟨42, _⟩ => ⟨S128x1, .i32⟩
  | .hbm, ⟨43, _⟩ => ⟨S128x1, .i1⟩
  | .hbm, ⟨44, _⟩ => ⟨S128x1, .i1⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x1, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S1x128x128, .i1⟩
  | .hbm, ⟨53, _⟩ => ⟨S_, .f32⟩
  | .hbm, ⟨54, _⟩ => ⟨S_, .f32⟩
  | .hbm, ⟨55, _⟩ => ⟨S4x128x128, .i1⟩
  | .hbm, ⟨56, _⟩ => ⟨S4x128x128, .f32⟩
  | .hbm, ⟨57, _⟩ => ⟨S4x128x128, .f32⟩
  | .hbm, ⟨58, _⟩ => ⟨S8192x6144, .bf16⟩
  | .hbm, ⟨59, _⟩ => ⟨S4x128x128, .bf16⟩
  | .hbm, ⟨60, _⟩ => ⟨S4x128x1, .f32⟩
  | .hbm, ⟨61, _⟩ => ⟨S8192x2048, .bf16⟩
  | .hbm, ⟨62, _⟩ => ⟨S8192x1024, .f32⟩
  | .local _ .vmem, ⟨0, _⟩ => ⟨S512x6144, .bf16⟩
  | .local _ .vmem, ⟨1, _⟩ => ⟨S512x6144, .bf16⟩
  | .local _ .vmem, ⟨2, _⟩ => ⟨S1x1024, .f32⟩
  | .local _ .vmem, ⟨3, _⟩ => ⟨S1x1024, .f32⟩
  | .local _ .vmem, ⟨4, _⟩ => ⟨S4x128x128, .bf16⟩
  | .local _ .vmem, ⟨5, _⟩ => ⟨S4x128x1, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | .local _ .vmem, ⟨14, _⟩ => ⟨S544x1024, .f32⟩
  | .local _ .vmem, ⟨15, _⟩ => ⟨S7x536x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14_0 : Ref sig .tc := ⟨.hbm, 61, rfl⟩
abbrev main_v14_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8192x6144 : Shape := ⟨2, ![8192, 6144]⟩
abbrev S1x1024 : Shape := ⟨2, ![1, 1024]⟩
abbrev S4x128x128 : Shape := ⟨3, ![4, 128, 128]⟩
abbrev S4x128 : Shape := ⟨2, ![4, 128]⟩
abbrev S31x1024 : Shape := ⟨2, ![31, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S64x128x4x256 : Shape := ⟨4, ![64, 128, 4, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x256x128 : Shape := ⟨4, ![4, 64, 256, 128]⟩
abbrev S128x4 : Shape := ⟨2, ![128, 4]⟩
abbrev S128x4x1 : Shape := ⟨3, ![128, 4, 1]⟩
abbrev S1x128x4x1 : Shape := ⟨4, ![1, 128, 4, 1]⟩
abbrev S30x1024 : Shape := ⟨2, ![30, 1024]⟩
abbrev S8222x1024 : Shape := ⟨2, ![8222, 1024]⟩
abbrev S8192x2048 : Shape := ⟨2, ![8192, 2048]⟩

abbrev nBuf : Space → Nat
  | .hbm => 329
  | .vmem => 0
  | .smem => 0
  | _ => 0

abbrev hbmTy0_0 (i : Nat) : BufTy := match i % 128 with
  | 0 => ⟨S8192x6144, .f32⟩
  | 1 => ⟨S1x1024, .f32⟩
  | 2 => ⟨S1x1024, .f32⟩
  | 3 => ⟨S4x128x128, .f32⟩
  | 4 => ⟨S4x128, .f32⟩
  | 5 => ⟨S31x1024, .f32⟩
  | 6 => ⟨S1x1024, .f32⟩
  | 7 => ⟨S1x1024, .f32⟩
  | 8 => ⟨S1x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S_, .f32⟩
  | 33 => ⟨S8192x1, .f32⟩
  | 34 => ⟨S8192x1, .f32⟩
  | 35 => ⟨S8192x1, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S64x128x4x256, .f32⟩
  | 43 => ⟨S128, .i32⟩
  | 44 => ⟨S1x128, .i32⟩
  | 45 => ⟨S_, .i32⟩
  | 46 => ⟨S_, .i32⟩
  | 47 => ⟨S1x128, .i32⟩
  | 48 => ⟨S1x128, .i32⟩
  | 49 => ⟨S1x128, .i32⟩
  | 50 => ⟨S_, .i32⟩
  | 51 => ⟨S1x128, .i32⟩
  | 52 => ⟨S1x128, .i1⟩
  | 53 => ⟨S1x128, .i32⟩
  | 54 => ⟨S1x128, .i32⟩
  | 55 => ⟨S_, .i32⟩
  | 56 => ⟨S1x128, .i32⟩
  | 57 => ⟨S1x128, .i1⟩
  | 58 => ⟨S1x128, .i1⟩
  | 59 => ⟨S_, .i32⟩
  | 60 => ⟨S1x128, .i32⟩
  | 61 => ⟨S1x128, .i32⟩
  | 62 => ⟨S1x128, .i32⟩
  | 63 => ⟨S128x1, .i32⟩
  | 64 => ⟨S_, .i32⟩
  | 65 => ⟨S_, .i32⟩
  | 66 => ⟨S128x1, .i32⟩
  | 67 => ⟨S128x1, .i32⟩
  | 68 => ⟨S128x1, .i32⟩
  | 69 => ⟨S_, .i32⟩
  | 70 => ⟨S128x1, .i32⟩
  | 71 => ⟨S128x1, .i1⟩
  | 72 => ⟨S128x1, .i32⟩
  | 73 => ⟨S128x1, .i32⟩
  | 74 => ⟨S_, .i32⟩
  | 75 => ⟨S128x1, .i32⟩
  | 76 => ⟨S128x1, .i1⟩
  | 77 => ⟨S128x1, .i1⟩
  | 78 => ⟨S_, .i32⟩
  | 79 => ⟨S128x1, .i32⟩
  | 80 => ⟨S128x1, .i32⟩
  | 81 => ⟨S128x1, .i32⟩
  | 82 => ⟨S128x128, .i32⟩
  | 83 => ⟨S128x128, .i32⟩
  | 84 => ⟨S128x128, .i1⟩
  | 85 => ⟨S1x128x128, .i1⟩
  | 86 => ⟨S_, .f32⟩
  | 87 => ⟨S_, .f32⟩
  | 88 => ⟨S4x128x128, .i1⟩
  | 89 => ⟨S4x128x128, .f32⟩
  | 90 => ⟨S4x128x128, .f32⟩
  | 91 => ⟨S4x64x256x128, .f32⟩
  | 92 => ⟨S64x128x4x256, .f32⟩
  | 93 => ⟨S128x4, .f32⟩
  | 94 => ⟨S128x4x1, .f32⟩
  | 95 => ⟨S1x128x4x1, .f32⟩
  | 96 => ⟨S64x128x4x256, .f32⟩
  | 97 => ⟨S64x128x4x256, .f32⟩
  | 98 => ⟨S8192x1024, .f32⟩
  | 99 => ⟨S8192x1024, .f32⟩
  | 100 => ⟨S8192x1024, .f32⟩
  | 101 => ⟨S8192x1024, .f32⟩
  | 102 => ⟨S_, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S_, .f32⟩
  | 116 => ⟨S8192x1024, .f32⟩
  | 117 => ⟨S8192x1024, .f32⟩
  | 118 => ⟨S8192x1024, .f32⟩
  | 119 => ⟨S_, .f32⟩
  | 120 => ⟨S30x1024, .f32⟩
  | 121 => ⟨S8222x1024, .f32⟩
  | 122 => ⟨S8192x1024, .f32⟩
  | 123 => ⟨S1x1024, .f32⟩
  | 124 => ⟨S8192x1024, .f32⟩
  | 125 => ⟨S8192x1024, .f32⟩
  | 126 => ⟨S_, .f32⟩
  | 127 => ⟨S8192x1024, .f32⟩
  | _ => ⟨S8192x6144, .f32⟩

abbrev hbmTy0_1 (i : Nat) : BufTy := match i % 128 with
  | 0 => ⟨S8192x1024, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | 17 => ⟨S1x1024, .f32⟩
  | 18 => ⟨S8192x1024, .f32⟩
  | 19 => ⟨S8192x1024, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S1x1024, .f32⟩
  | 58 => ⟨S8192x1024, .f32⟩
  | 59 => ⟨S8192x1024, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S1x1024, .f32⟩
  | 68 => ⟨S8192x1024, .f32⟩
  | 69 => ⟨S8192x1024, .f32⟩
  | 70 => ⟨S8192x1024, .f32⟩
  | 71 => ⟨S8192x1024, .f32⟩
  | 72 => ⟨S1x1024, .f32⟩
  | 73 => ⟨S8192x1024, .f32⟩
  | 74 => ⟨S8192x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S1x1024, .f32⟩
  | 83 => ⟨S8192x1024, .f32⟩
  | 84 => ⟨S8192x1024, .f32⟩
  | 85 => ⟨S8192x1024, .f32⟩
  | 86 => ⟨S8192x1024, .f32⟩
  | 87 => ⟨S1x1024, .f32⟩
  | 88 => ⟨S8192x1024, .f32⟩
  | 89 => ⟨S8192x1024, .f32⟩
  | 90 => ⟨S8192x1024, .f32⟩
  | 91 => ⟨S8192x1024, .f32⟩
  | 92 => ⟨S1x1024, .f32⟩
  | 93 => ⟨S8192x1024, .f32⟩
  | 94 => ⟨S8192x1024, .f32⟩
  | 95 => ⟨S8192x1024, .f32⟩
  | 96 => ⟨S8192x1024, .f32⟩
  | 97 => ⟨S1x1024, .f32⟩
  | 98 => ⟨S8192x1024, .f32⟩
  | 99 => ⟨S8192x1024, .f32⟩
  | 100 => ⟨S8192x1024, .f32⟩
  | 101 => ⟨S8192x1024, .f32⟩
  | 102 => ⟨S1x1024, .f32⟩
  | 103 => ⟨S8192x1024, .f32⟩
  | 104 => ⟨S8192x1024, .f32⟩
  | 105 => ⟨S8192x1024, .f32⟩
  | 106 => ⟨S8192x1024, .f32⟩
  | 107 => ⟨S1x1024, .f32⟩
  | 108 => ⟨S8192x1024, .f32⟩
  | 109 => ⟨S8192x1024, .f32⟩
  | 110 => ⟨S8192x1024, .f32⟩
  | 111 => ⟨S8192x1024, .f32⟩
  | 112 => ⟨S1x1024, .f32⟩
  | 113 => ⟨S8192x1024, .f32⟩
  | 114 => ⟨S8192x1024, .f32⟩
  | 115 => ⟨S8192x1024, .f32⟩
  | 116 => ⟨S8192x1024, .f32⟩
  | 117 => ⟨S1x1024, .f32⟩
  | 118 => ⟨S8192x1024, .f32⟩
  | 119 => ⟨S8192x1024, .f32⟩
  | 120 => ⟨S8192x1024, .f32⟩
  | 121 => ⟨S8192x1024, .f32⟩
  | 122 => ⟨S1x1024, .f32⟩
  | 123 => ⟨S8192x1024, .f32⟩
  | 124 => ⟨S8192x1024, .f32⟩
  | 125 => ⟨S8192x1024, .f32⟩
  | 126 => ⟨S8192x1024, .f32⟩
  | 127 => ⟨S1x1024, .f32⟩
  | _ => ⟨S8192x6144, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S1x1024, .f32⟩
  | 15 => ⟨S8192x1024, .f32⟩
  | 16 => ⟨S8192x1024, .f32⟩
  | 17 => ⟨S8192x1024, .f32⟩
  | 18 => ⟨S8192x1024, .f32⟩
  | 19 => ⟨S1x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S_, .f32⟩
  | 43 => ⟨S8192x1, .f32⟩
  | 44 => ⟨S8192x1, .f32⟩
  | 45 => ⟨S8192x1, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S8192x1024, .f32⟩
  | 70 => ⟨S8192x1024, .f32⟩
  | 71 => ⟨S8192x2048, .f32⟩
  | 72 => ⟨S8192x2048, .bf16⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_5 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_6 : Ref sig .tc := ⟨.hbm, 112, rfl⟩
abbrev main_v52 : Ref sig .tc := ⟨.hbm, 113, rfl⟩
abbrev main_v53 : Ref sig .tc := ⟨.hbm, 114, rfl⟩
abbrev main_cst_7 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_cst_8 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_9 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_cst_10 : Ref sig .tc := ⟨.hbm, 281, rfl⟩
abbrev main_v217 : Ref sig .tc := ⟨.hbm, 282, rfl⟩
abbrev main_v218 : Ref sig .tc := ⟨.hbm, 283, rfl⟩
abbrev main_cst_11 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_cst_12 : Ref sig .tc := ⟨.hbm, 290, rfl⟩
abbrev main_v224 : Ref sig .tc := ⟨.hbm, 291, rfl⟩
abbrev main_v225 : Ref sig .tc := ⟨.hbm, 292, rfl⟩
abbrev main_cst_13 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_cst_14 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_call4_v0 : Ref sig .tc := ⟨.hbm, 308, rfl⟩
abbrev main_call4_v1 : Ref sig .tc := ⟨.hbm, 309, rfl⟩
abbrev main_call4_cst : Ref sig .tc := ⟨.hbm, 310, rfl⟩
abbrev main_call4_v2 : Ref sig .tc := ⟨.hbm, 311, rfl⟩
abbrev main_call4_v3 : Ref sig .tc := ⟨.hbm, 312, rfl⟩
abbrev main_call4_cst_0 : Ref sig .tc := ⟨.hbm, 313, rfl⟩
abbrev main_call4_v4 : Ref sig .tc := ⟨.hbm, 314, rfl⟩
abbrev main_call4_v5 : Ref sig .tc := ⟨.hbm, 315, rfl⟩
abbrev main_v239 : Ref sig .tc := ⟨.hbm, 316, rfl⟩
abbrev main_call5_v0 : Ref sig .tc := ⟨.hbm, 317, rfl⟩
abbrev main_call5_v1 : Ref sig .tc := ⟨.hbm, 318, rfl⟩
abbrev main_call5_cst : Ref sig .tc := ⟨.hbm, 319, rfl⟩
abbrev main_call5_v2 : Ref sig .tc := ⟨.hbm, 320, rfl⟩
abbrev main_call5_v3 : Ref sig .tc := ⟨.hbm, 321, rfl⟩
abbrev main_call5_cst_0 : Ref sig .tc := ⟨.hbm, 322, rfl⟩
abbrev main_call5_v4 : Ref sig .tc := ⟨.hbm, 323, rfl⟩
abbrev main_call5_v5 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩

abbrev nD : Nat := 1
abbrev τ : Topo := Topo.v7x

variable {F : FTy → Type} [FloatOps F]
-- ==== Kernel5.lean ====
abbrev S8192x6144 : Shape := ⟨2, ![8192, 6144]⟩
abbrev S4x256x256 : Shape := ⟨3, ![4, 256, 256]⟩
abbrev S1x1024 : Shape := ⟨2, ![1, 1024]⟩
abbrev S3x1024 : Shape := ⟨2, ![3, 1024]⟩
abbrev S8192x2048 : Shape := ⟨2, ![8192, 2048]⟩
abbrev S8192x1024 : Shape := ⟨2, ![8192, 1024]⟩
abbrev S512x6144 : Shape := ⟨2, ![512, 6144]⟩
abbrev S512x2048 : Shape := ⟨2, ![512, 2048]⟩
abbrev S512x1024 : Shape := ⟨2, ![512, 1024]⟩
abbrev S544x1024 : Shape := ⟨2, ![544, 1024]⟩
abbrev S520x1024 : Shape := ⟨2, ![520, 1024]⟩
abbrev S32x1024 : Shape := ⟨2, ![32, 1024]⟩
abbrev S8x1024 : Shape := ⟨2, ![8, 1024]⟩
abbrev S16x1024 : Shape := ⟨2, ![16, 1024]⟩
abbrev S32x768 : Shape := ⟨2, ![32, 768]⟩
abbrev S24x768 : Shape := ⟨2, ![24, 768]⟩
abbrev S32x512 : Shape := ⟨2, ![32, 512]⟩
abbrev S16x512 : Shape := ⟨2, ![16, 512]⟩
abbrev S32x256 : Shape := ⟨2, ![32, 256]⟩
abbrev S8x256 : Shape := ⟨2, ![8, 256]⟩
abbrev S16x1 : Shape := ⟨2, ![16, 1]⟩
abbrev S16x256 : Shape := ⟨2, ![16, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 10
  | .vmem => 17
  | .smem => 0
  | _ => 0

abbrev bufTy : (tb : Table) → Fin (tcTables nBuf tb) → BufTy
  | .hbm, ⟨0, _⟩ => ⟨S8192x6144, .f32⟩
  | .hbm, ⟨1, _⟩ => ⟨S4x256x256, .f32⟩
  | .hbm, ⟨2, _⟩ => ⟨S1x1024, .f32⟩
  | .hbm, ⟨3, _⟩ => ⟨S3x1024, .f32⟩
  | .hbm, ⟨4, _⟩ => ⟨S1x1024, .f32⟩
  | .hbm, ⟨5, _⟩ => ⟨S8192x6144, .bf16⟩
  | .hbm, ⟨6, _⟩ => ⟨S4x256x256, .bf16⟩
  | .hbm, ⟨7, _⟩ => ⟨S8192x2048, .bf16⟩
  | .hbm, ⟨8, _⟩ => ⟨S8192x1024, .bf16⟩
  | .hbm, ⟨9, _⟩ => ⟨S8192x1024, .bf16⟩
  | .local _ .vmem, ⟨0, _⟩ => ⟨S512x6144, .bf16⟩
  | .local _ .vmem, ⟨1, _⟩ => ⟨S512x6144, .bf16⟩
  | .local _ .vmem, ⟨2, _⟩ => ⟨S4x256x256, .bf16⟩
  | .local _ .vmem, ⟨3, _⟩ => ⟨S1x1024, .f32⟩
  | .local _ .vmem, ⟨4, _⟩ => ⟨S3x1024, .f32⟩
  | .local _ .vmem, ⟨5, _⟩ => ⟨S1x1024, .f32⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S544x1024, .f32⟩
  | .local _ .vmem, ⟨13, _⟩ => ⟨S520x1024, .f32⟩
  | .local _ .vmem, ⟨14, _⟩ => ⟨S512x1024, .f32⟩
  | .local _ .vmem, ⟨15, _⟩ => ⟨S544x1024, .f32⟩
  | .local _ .vmem, ⟨16, _⟩ => ⟨S544x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8192x6144 : Shape := ⟨2, ![8192, 6144]⟩
abbrev S4x256x256 : Shape := ⟨3, ![4, 256, 256]⟩
abbrev S1x1024 : Shape := ⟨2, ![1, 1024]⟩
abbrev S3x1024 : Shape := ⟨2, ![3, 1024]⟩
abbrev S8192x1024 : Shape := ⟨2, ![8192, 1024]⟩
abbrev S_ : Shape := ⟨0, ![]⟩
abbrev S8193x1024 : Shape := ⟨2, ![8193, 1024]⟩
abbrev S8192 : Shape := ⟨1, ![8192]⟩
abbrev S8193x256 : Shape := ⟨2, ![8193, 256]⟩
abbrev S8191x256 : Shape := ⟨2, ![8191, 256]⟩
abbrev S1x256 : Shape := ⟨2, ![1, 256]⟩
abbrev S8192x256 : Shape := ⟨2, ![8192, 256]⟩
abbrev S8192x1 : Shape := ⟨2, ![8192, 1]⟩
abbrev S8189x256 : Shape := ⟨2, ![8189, 256]⟩
abbrev S3x256 : Shape := ⟨2, ![3, 256]⟩
abbrev S8185x256 : Shape := ⟨2, ![8185, 256]⟩
abbrev S7x256 : Shape := ⟨2, ![7, 256]⟩
abbrev S8177x256 : Shape := ⟨2, ![8177, 256]⟩
abbrev S15x256 : Shape := ⟨2, ![15, 256]⟩
abbrev S8192x4x256 : Shape := ⟨3, ![8192, 4, 256]⟩
abbrev S4x256x8192 : Shape := ⟨3, ![4, 256, 8192]⟩
abbrev S2x1024 : Shape := ⟨2, ![2, 1024]⟩
abbrev S8194x1024 : Shape := ⟨2, ![8194, 1024]⟩
abbrev S8192x2048 : Shape := ⟨2, ![8192, 2048]⟩

abbrev nBuf : Space → Nat
  | .hbm => 129
  | .vmem => 0
  | .smem => 0
  | _ => 0

abbrev hbmTy0_0 (i : Nat) : BufTy := match i % 128 with
  | 0 => ⟨S8192x6144, .f32⟩
  | 1 => ⟨S4x256x256, .f32⟩
  | 2 => ⟨S1x1024, .f32⟩
  | 3 => ⟨S3x1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S_, .f32⟩
  | 12 => ⟨S_, .f32⟩
  | 13 => ⟨S8192x1024, .f32⟩
  | 14 => ⟨S_, .f32⟩
  | 15 => ⟨S1x1024, .f32⟩
  | 16 => ⟨S8193x1024, .f32⟩
  | 17 => ⟨S8192, .f32⟩
  | 18 => ⟨S_, .f32⟩
  | 19 => ⟨S8192, .f32⟩
  | 20 => ⟨S8192, .f32⟩
  | 21 => ⟨S8193x256, .f32⟩
  | 22 => ⟨S8191x256, .f32⟩
  | 23 => ⟨S_, .f32⟩
  | 24 => ⟨S1x256, .f32⟩
  | 25 => ⟨S8192x256, .f32⟩
  | 26 => ⟨S8192x256, .f32⟩
  | 27 => ⟨S8192x256, .f32⟩
  | 28 => ⟨S_, .f32⟩
  | 29 => ⟨S8192, .f32⟩
  | 30 => ⟨S8192, .f32⟩
  | 31 => ⟨S8192x1, .f32⟩
  | 32 => ⟨S8192x256, .f32⟩
  | 33 => ⟨S8192x256, .f32⟩
  | 34 => ⟨S8193x256, .f32⟩
  | 35 => ⟨S8189x256, .f32⟩
  | 36 => ⟨S_, .f32⟩
  | 37 => ⟨S3x256, .f32⟩
  | 38 => ⟨S8192x256, .f32⟩
  | 39 => ⟨S8192x256, .f32⟩
  | 40 => ⟨S8192x256, .f32⟩
  | 41 => ⟨S_, .f32⟩
  | 42 => ⟨S8192, .f32⟩
  | 43 => ⟨S8192, .f32⟩
  | 44 => ⟨S8192x1, .f32⟩
  | 45 => ⟨S8192x256, .f32⟩
  | 46 => ⟨S8192x256, .f32⟩
  | 47 => ⟨S8193x256, .f32⟩
  | 48 => ⟨S8185x256, .f32⟩
  | 49 => ⟨S_, .f32⟩
  | 50 => ⟨S7x256, .f32⟩
  | 51 => ⟨S8192x256, .f32⟩
  | 52 => ⟨S8192x256, .f32⟩
  | 53 => ⟨S8192x256, .f32⟩
  | 54 => ⟨S_, .f32⟩
  | 55 => ⟨S8192, .f32⟩
  | 56 => ⟨S8192, .f32⟩
  | 57 => ⟨S8192x1, .f32⟩
  | 58 => ⟨S8192x256, .f32⟩
  | 59 => ⟨S8192x256, .f32⟩
  | 60 => ⟨S8193x256, .f32⟩
  | 61 => ⟨S8177x256, .f32⟩
  | 62 => ⟨S_, .f32⟩
  | 63 => ⟨S15x256, .f32⟩
  | 64 => ⟨S8192x256, .f32⟩
  | 65 => ⟨S8192x256, .f32⟩
  | 66 => ⟨S8192x256, .f32⟩
  | 67 => ⟨S_, .f32⟩
  | 68 => ⟨S8192, .f32⟩
  | 69 => ⟨S8192, .f32⟩
  | 70 => ⟨S8192x1, .f32⟩
  | 71 => ⟨S8192x256, .f32⟩
  | 72 => ⟨S8192x256, .f32⟩
  | 73 => ⟨S8192x1024, .f32⟩
  | 74 => ⟨S8192x1024, .f32⟩
  | 75 => ⟨S8192x4x256, .f32⟩
  | 76 => ⟨S4x256x8192, .f32⟩
  | 77 => ⟨S8192x4x256, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S2x1024, .f32⟩
  | 94 => ⟨S8194x1024, .f32⟩
  | 95 => ⟨S8192x1024, .f32⟩
  | 96 => ⟨S1x1024, .f32⟩
  | 97 => ⟨S8192x1024, .f32⟩
  | 98 => ⟨S8192x1024, .f32⟩
  | 99 => ⟨S_, .f32⟩
  | 100 => ⟨S8192x1024, .f32⟩
  | 101 => ⟨S8192x1024, .f32⟩
  | 102 => ⟨S8192x1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S1x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S_, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S8192x1024, .f32⟩
  | 124 => ⟨S8192x1024, .f32⟩
  | 125 => ⟨S8192x2048, .f32⟩
  | 126 => ⟨S8192x2048, .bf16⟩
  | 127 => ⟨S8192x1024, .bf16⟩
  | _ => ⟨S8192x6144, .f32⟩

abbrev hbmTy0_1 (i : Nat) : BufTy := match i % 128 with
  | 0 => ⟨S8192x1024, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_call0_cst : Ref sig .tc := ⟨.hbm, 11, rfl⟩
abbrev main_call0_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_call2_v5 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Kernel6.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S1024x8x768 : Shape := ⟨3, ![1024, 8, 768]⟩
abbrev S8x1024x768 : Shape := ⟨3, ![8, 1024, 768]⟩
abbrev S8x256x1024 : Shape := ⟨3, ![8, 256, 1024]⟩
abbrev S8192x6144 : Shape := ⟨2, ![8192, 6144]⟩
abbrev S512x2048 : Shape := ⟨2, ![512, 2048]⟩
abbrev S512x1024 : Shape := ⟨2, ![512, 1024]⟩
abbrev S512x6144 : Shape := ⟨2, ![512, 6144]⟩
abbrev S512x1 : Shape := ⟨2, ![512, 1]⟩
abbrev S512 : Shape := ⟨1, ![512]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 41
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x6144, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x6144, .bf16⟩
  | .hbm, ⟨32, _⟩ => ⟨S1024x8x768, .bf16⟩
  | .hbm, ⟨33, _⟩ => ⟨S8x1024x768, .bf16⟩
  | .hbm, ⟨34, _⟩ => ⟨S8192x2048, .bf16⟩
  | .hbm, ⟨35, _⟩ => ⟨S2048x1024, .bf16⟩
  | .hbm, ⟨36, _⟩ => ⟨S8x256x1024, .bf16⟩
  | .hbm, ⟨37, _⟩ => ⟨S8192x6144, .bf16⟩
  | .hbm, ⟨38, _⟩ => ⟨S8192x1024, .f32⟩
  | .hbm, ⟨39, _⟩ => ⟨S8192x1, .f32⟩
  | .hbm, ⟨40, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S8x256x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S8x1024x768, .bf16⟩
  | .local _ .vmem, ⟨10, _⟩ => ⟨S512x6144, .bf16⟩
  | .local _ .vmem, ⟨11, _⟩ => ⟨S512x6144, .bf16⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | .local _ .vmem, ⟨16, _⟩ => ⟨S512x1024, .bf16⟩
  | .local _ .vmem, ⟨17, _⟩ => ⟨S512x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 93
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x6144, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x6144, .f32⟩
  | .hbm, ⟨91, _⟩ => ⟨S8192x6144, .bf16⟩
  | .hbm, ⟨92, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_cst_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel7.lean ====
abbrev S8192x2048 : Shape := ⟨2, ![8192, 2048]⟩
abbrev S8192x1024 : Shape := ⟨2, ![8192, 1024]⟩
abbrev S8x256x1024 : Shape := ⟨3, ![8, 256, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S8x256x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S8x256x1024, .bf16⟩
  | .local _ .vmem, ⟨5, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference7Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩
abbrev S8x256x1024 : Shape := ⟨3, ![8, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S8x256x1024, .f32⟩
  | .hbm, ⟨8, _⟩ => ⟨S8x256x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x1024 : Shape := ⟨2, ![8192, 1024]⟩
abbrev S8192x6144 : Shape := ⟨2, ![8192, 6144]⟩
abbrev S8x1024x768 : Shape := ⟨3, ![8, 1024, 768]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S8192x6144, .bf16⟩
  | .hbm, ⟨4, _⟩ => ⟨S8x1024x768, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S6144x1024, .f32⟩
  | .hbm, ⟨6, _⟩ => ⟨S1024x6144, .f32⟩
  | .hbm, ⟨7, _⟩ => ⟨S1024x8x768, .f32⟩
  | .hbm, ⟨8, _⟩ => ⟨S8x1024x768, .f32⟩
  | .hbm, ⟨9, _⟩ => ⟨S8x1024x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x6144 : Shape := ⟨2, ![8192, 6144]⟩
abbrev S1024x6144 : Shape := ⟨2, ![1024, 6144]⟩
abbrev S8192x1024 : Shape := ⟨2, ![8192, 1024]⟩
abbrev S1024x8x768 : Shape := ⟨3, ![1024, 8, 768]⟩
abbrev S8x1024x768 : Shape := ⟨3, ![8, 1024, 768]⟩
abbrev S256x6144 : Shape := ⟨2, ![256, 6144]⟩
abbrev S256x1024 : Shape := ⟨2, ![256, 1024]⟩
abbrev S256x768 : Shape := ⟨2, ![256, 768]⟩
abbrev S1x1024x768 : Shape := ⟨3, ![1, 1024, 768]⟩
abbrev S1024x768 : Shape := ⟨2, ![1024, 768]⟩

abbrev nBuf : Space → Nat
  | .hbm => 8
  | .vmem => 7
  | .smem => 0
  | _ => 0

abbrev bufTy : (tb : Table) → Fin (tcTables nBuf tb) → BufTy
  | .hbm, ⟨0, _⟩ => ⟨S8192x6144, .f32⟩
  | .hbm, ⟨1, _⟩ => ⟨S1024x6144, .f32⟩
  | .hbm, ⟨2, _⟩ => ⟨S8192x1024, .f32⟩
  | .hbm, ⟨3, _⟩ => ⟨S8192x6144, .bf16⟩
  | .hbm, ⟨4, _⟩ => ⟨S1024x6144, .bf16⟩
  | .hbm, ⟨5, _⟩ => ⟨S1024x8x768, .bf16⟩
  | .hbm, ⟨6, _⟩ => ⟨S8x1024x768, .bf16⟩
  | .hbm, ⟨7, _⟩ => ⟨S8192x1024, .f32⟩
  | .local _ .vmem, ⟨0, _⟩ => ⟨S256x6144, .bf16⟩
  | .local _ .vmem, ⟨1, _⟩ => ⟨S256x6144, .bf16⟩
  | .local _ .vmem, ⟨2, _⟩ => ⟨S8x1024x768, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x6144 : Shape := ⟨2, ![8192, 6144]⟩
abbrev S1024x6144 : Shape := ⟨2, ![1024, 6144]⟩
abbrev S8192x1024 : Shape := ⟨2, ![8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1024x6144, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x6144, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Frames.lean ====
/-
  The frames of the two programs read as bits, and of the references, which declare no semaphore. Each program's text is the text of its idealization, whose run is stated
  over any reading of the floats; so that run, read at the bits, is the frame.
-/
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal.Run

@[expose] public section

noncomputable section

namespace Cert.Frames

open Idealize.ShloMosaic Idealize.SL.Sem

theorem kernel : Cert.quiescent_Kernel := by
  have h := fun m ρ (_ : True) => Cert.KernelIdeal.Gen.frame (F := Bits) m ρ
  refine Eq.mp ?_ h
  sl_kernel_rfl

theorem kernel2 : Cert.quiescent_Kernel2 := by
  have h := fun m ρ (_ : True) => Cert.Kernel2Ideal.Gen.frame (F := Bits) m ρ
  refine Eq.mp ?_ h
  sl_kernel_rfl

theorem kernel3 : Cert.quiescent_Kernel3 := by
  have h := fun m ρ (_ : True) => Cert.Kernel3Ideal.Gen.frame (F := Bits) m ρ
  refine Eq.mp ?_ h
  sl_kernel_rfl

theorem kernel4 : Cert.quiescent_Kernel4 := by
  have h := fun m ρ (_ : True) => Cert.Kernel4Ideal.Gen.frame (F := Bits) m ρ
  refine Eq.mp ?_ h
  sl_kernel_rfl

theorem kernel5 : Cert.quiescent_Kernel5 := by
  have h := fun m ρ (_ : True) => Cert.Kernel5Ideal.Gen.frame (F := Bits) m ρ
  refine Eq.mp ?_ h
  sl_kernel_rfl

theorem kernel6 : Cert.quiescent_Kernel6 := by
  have h := fun m ρ (_ : True) => Cert.Kernel6Ideal.Gen.frame (F := Bits) m ρ
  refine Eq.mp ?_ h
  sl_kernel_rfl

theorem kernel7 : Cert.quiescent_Kernel7 := by
  have h := fun m ρ (_ : True) => Cert.Kernel7Ideal.Gen.frame (F := Bits) m ρ
  refine Eq.mp ?_ h
  sl_kernel_rfl

theorem kernel8 : Cert.quiescent_Kernel8 := by
  have h := fun m ρ (_ : True) => Cert.Kernel8Ideal.Gen.frame (F := Bits) m ρ
  refine Eq.mp ?_ h
  sl_kernel_rfl

theorem kernel9 : Cert.quiescent_Kernel9 := by
  have h := fun m ρ (_ : True) => Cert.Kernel9Ideal.Gen.frame (F := Bits) m ρ
  refine Eq.mp ?_ h
  sl_kernel_rfl

theorem reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

theorem reference2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

theorem reference3 : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

theorem reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem reference5 : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Frames

end
-- ==== Proof.Rows.lean ====
/-
  Rows of real numbers: the layer norm of a row, its gradient, and the reading of the extended reals that hold reals.
  Nothing here mentions a program; the value proofs of the calls share these facts.
-/
module

public import Idealize.ShloMosaic.Lib.Pointwise
public import Idealize.ShloMosaic.PureOps.Ideal.Laws

@[expose] public section

noncomputable section

namespace Cert.Rows

open Idealize.ShloMosaic

/-! ## Extended reals that hold reals -/

/-- A finite sum of reals is the real sum. -/
theorem sum_coe {ι : Type} [Fintype ι] (f : ι → ℝ) : (∑ k, ((f k : ℝ) : EReal)) = ((∑ k, f k : ℝ) : EReal) :=
  (map_sum (⟨⟨fun x : ℝ => (x : EReal), EReal.coe_zero⟩, EReal.coe_add⟩ : ℝ →+ EReal) f Finset.univ).symm

/-- The contents that hold the reals `X`. -/
def up {S : Shape} (X : S.Idx → ℝ) : S.Idx → EReal := fun i => ((X i : ℝ) : EReal)

theorem up_apply {S : Shape} (X : S.Idx → ℝ) (i : S.Idx) : up X i = ((X i : ℝ) : EReal) := rfl

/-- The word the finiteness condition compares with is plus infinity. -/
theorem word_top : Ideal.ofBits .f32 0x7F800000#32 = ⊤ := by simp [Ideal.ofBits, Ideal.ieee]

/-- A value whose magnitude is below plus infinity is a real. -/
theorem eq_coe_of_abs_lt {x : EReal}
    (h : BitVec.ofBool (decide ((FloatOps.absf (F := Ideal) (φ := .f32) x : EReal) < Ideal.ofBits .f32 0x7F800000#32)) = 1#1) :
    x = ((x.toReal : ℝ) : EReal) := by
  rw [word_top] at h
  have h' : (FloatOps.absf (F := Ideal) (φ := .f32) x : EReal) < ⊤ := by
    by_contra hn
    rw [decide_eq_false hn] at h
    exact absurd h (by decide)
  have h2 : max x (-x) < ⊤ := h'
  rw [max_lt_iff] at h2
  refine (EReal.coe_toReal h2.1.ne fun hb => ?_).symm
  rw [hb] at h2
  exact absurd h2.2 (by simp)

/-- The residual's weight, the value of the word the programs carry. -/
def alpha : ℝ := 14107901 / 8388608
/-- The small addend under the square root, the value of the word the programs carry. -/
def eps : ℝ := 10995116 / 1099511627776

theorem eps_pos : 0 < eps := by unfold eps; norm_num

theorem word_alpha : Ideal.ofBits .f32 0x3FD744FD#32 = ((alpha : ℝ) : EReal) := by
  simp [Ideal.ofBits, Ideal.ieee, alpha, -EReal.coe_mul]; norm_num
theorem word_eps : Ideal.ofBits .f32 0x3727C5AC#32 = ((eps : ℝ) : EReal) := by
  simp [Ideal.ofBits, Ideal.ieee, eps, -EReal.coe_mul]; norm_num
theorem word_1024 : Ideal.ofBits .f32 0x44800000#32 = ((1024 : ℝ) : EReal) := by
  simp [Ideal.ofBits, Ideal.ieee, -EReal.coe_mul]; norm_num
theorem word_inv1024 : Ideal.ofBits .f32 0x3A800000#32 = ((1 / 1024 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num

/-- Division by a nonzero real. -/
theorem div_real {y : ℝ} (h : y ≠ 0) (x : ℝ) : Ideal.div (x : EReal) (y : EReal) = ((x / y : ℝ) : EReal) := by
  rw [Ideal.div_coe h, ← EReal.coe_mul, mul_one_div]

theorem div_1024 (x : ℝ) : Ideal.div (x : EReal) ((1024 : ℝ) : EReal) = ((x / 1024 : ℝ) : EReal) :=
  div_real (by norm_num) x

/-- The reciprocal square root of a positive real. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-! ## The layer norm of a row -/

/-- The mean of a row of 1024. -/
def mean (f : Fin 1024 → ℝ) : ℝ := (∑ k, f k) / 1024
/-- The mean square distance from the mean. -/
def var (f : Fin 1024 → ℝ) : ℝ := mean fun k => (f k - mean f) * (f k - mean f)
/-- One over the square root of the variance plus `eps`. -/
def rs (f : Fin 1024 → ℝ) : ℝ := (Real.sqrt (var f + eps))⁻¹
/-- The normalized row. -/
def nrm (f : Fin 1024 → ℝ) (k : Fin 1024) : ℝ := (f k - mean f) * rs f
/-- The gradient through the normalization: of a cotangent `d` of the normalized row `x`, with reciprocal deviation `r`. -/
def back (r : ℝ) (x d : Fin 1024 → ℝ) (k : Fin 1024) : ℝ :=
  r * (d k - mean d - x k * mean fun q => d q * x q)

theorem mean_eq (f : Fin 1024 → ℝ) : (∑ k, f k) / 1024 = mean f := rfl

theorem var_eq (f : Fin 1024 → ℝ) : (mean fun k => (f k - mean f) * (f k - mean f)) = var f := rfl

theorem rsqrt_var (f : Fin 1024 → ℝ) : Ideal.rsqrt ((var f + eps : ℝ) : EReal) = ((rs f : ℝ) : EReal) :=
  rsqrt_real (add_pos_of_nonneg_of_pos (div_nonneg (Finset.sum_nonneg fun _ _ => mul_self_nonneg _) (by norm_num)) eps_pos)

theorem var_nonneg (f : Fin 1024 → ℝ) : 0 ≤ var f :=
  div_nonneg (Finset.sum_nonneg fun _ _ => mul_self_nonneg _) (by norm_num)

theorem var_eps_pos (f : Fin 1024 → ℝ) : 0 < var f + eps := add_pos_of_nonneg_of_pos (var_nonneg f) eps_pos

theorem sum_centered (f : Fin 1024 → ℝ) : ∑ k, (f k - mean f) = 0 := by
  rw [Finset.sum_sub_distrib, Finset.sum_const, Finset.card_univ, Fintype.card_fin, nsmul_eq_mul, mean]
  push_cast; ring

/-- The derivative as reverse mode writes it (through the variance, then through the mean) is `back`. -/
theorem back_of_reverse (f d : Fin 1024 → ℝ) (k : Fin 1024) (c : Fin 1024 → ℝ) (hc : c = fun k => f k - mean f) (s w : ℝ)
    (hs : s = ∑ q, c q * d q) (hw : w = s * (-(1 / 2) * (rs f / (var f + eps))) / 1024) :
    d k * rs f + w * (2 * c k) + ((∑ q, -(d q * rs f)) + ∑ q, -(w * (2 * c q))) / 1024 = back (rs f) (nrm f) d k := by
  have h0 : ∑ q, c q = 0 := by subst hc; exact sum_centered f
  have h1 : ∑ q, -(w * (2 * c q)) = 0 := by
    rw [Finset.sum_neg_distrib, ← Finset.mul_sum, ← Finset.mul_sum, h0]; ring
  have h2 : ∑ q, -(d q * rs f) = -((∑ q, d q) * rs f) := by rw [Finset.sum_neg_distrib, Finset.sum_mul]
  have hv := var_eps_pos f
  have h3 : rs f * rs f = 1 / (var f + eps) := by
    unfold rs; rw [← mul_inv, Real.mul_self_sqrt hv.le, one_div]
  have h4 : rs f / (var f + eps) = rs f * (rs f * rs f) := by rw [h3, mul_one_div]
  have h5 : (∑ q, d q * nrm f q) = s * rs f := by
    rw [hs, Finset.sum_mul]
    exact Finset.sum_congr rfl fun q _ => by subst hc; unfold nrm; ring
  have h6 : nrm f k = c k * rs f := by subst hc; rfl
  rw [h1, h2]
  unfold back mean
  rw [h5, h6, hw, h4]
  ring

/-! ## Sums over the rows of an array, tile by tile -/

/-- A row sum grows by one tile of `n` rows. -/
theorem sum_tile (n t : ℕ) (F : ℕ → ℝ) :
    (∑ i ∈ Finset.range (n * t), F i) + ∑ r : Fin n, F (n * t + r.val) = ∑ i ∈ Finset.range (n * (t + 1)), F i := by
  rw [Nat.mul_succ, Finset.sum_range_add, Finset.sum_range (fun r => F (n * t + r))]

end Cert.Rows

end
-- ==== Proof.Finite.lean ====
/-
  What the precondition says of one argument: the contents are reals.
-/
module

public import proofs.«01_k».proof.Proof.Rows

@[expose] public section

noncomputable section

namespace Cert.Rows

open Idealize.ShloMosaic

/-- The reals an array of finite entries holds. -/
def reals {S : Shape} (a : S.Idx → EReal) : S.Idx → ℝ := fun i => (a i).toReal

/-- An array whose magnitudes are all below plus infinity holds its reals. -/
theorem eq_up_reals {S : Shape} (a : FVec Ideal S .f32) (hb : (⟨0, ![]⟩ : Shape).BroadcastsInDim S (![] : Fin 0 → Fin S.rank))
    (H : cmpf .olt (Host.absf a) (broadcastInDim S ![] hb (constant ⟨0, ![]⟩ .f32 0x7F800000#32)) = fun _ => 1#1) :
    a = up (reals a) :=
  funext fun j => eq_coe_of_abs_lt (congrFun H j)

end Cert.Rows

end
-- ==== Proof.Head.lean ====
/-
  The loss head over the real numbers: the forward lines of the last layer, the loss and the gradients of the residual sum.
-/
module

public import proofs.«01_k».proof.Proof.Rows

@[expose] public section

noncomputable section

namespace Cert.Head

open Idealize.ShloMosaic Idealize.ShloMosaic.Pointwise Cert.Rows

/-- A matrix of real numbers. -/
abbrev Mat (p q : ℕ) : Type := (⟨2, ![p, q]⟩ : Shape).Idx → ℝ

variable (Y : Mat 8192 2048) (W : Mat 2048 1024) (Rb : Mat 8192 1024) (gb bb g b : Mat 1 1024) (T : Mat 8192 1024)

/-- The layer norm below the output product: the layer's input. -/
def xs (i : Fin 8192) (k : Fin 1024) : ℝ :=
  nrm (fun q => Rb (ix2 i q)) k * gb (ix2 0 k) + bb (ix2 0 k)
/-- The residual sum before the last layer norm. -/
def res (i : Fin 8192) (k : Fin 1024) : ℝ :=
  alpha * xs Rb gb bb i k + ∑ q : Fin 2048, Y (ix2 i q) * W (ix2 q k)
/-- The prediction less the target. -/
def err (i : Fin 8192) (k : Fin 1024) : ℝ :=
  nrm (res Y W Rb gb bb i) k * g (ix2 0 k) + b (ix2 0 k) - T (ix2 i k)
/-- The cotangent of the last layer norm's result. -/
def dout (i : Fin 8192) (k : Fin 1024) : ℝ := err Y W Rb gb bb g b T i k / 1024
/-- The gradient of the residual sum. -/
def dres (i : Fin 8192) (k : Fin 1024) : ℝ :=
  back (rs (res Y W Rb gb bb i)) (nrm (res Y W Rb gb bb i)) (fun q => dout Y W Rb gb bb g b T i q * g (ix2 0 q)) k

/-! ## The row tiles -/

/-- Row `r` of tile `t`. -/
def row (t : Fin 16) (r : Fin 512) : Fin 8192 := ⟨512 * t.val + r.val, by omega⟩

/-- A matrix of 8192 rows, restricted to the 512 rows of tile `t`. -/
def tile {q : ℕ} (M : Mat 8192 q) (t : Fin 16) : Mat 512 q := fun j => M (ix2 (row t (j 0)) (j 1))

/-- The normalized rows of `R`. -/
def nrms (R : Mat 8192 1024) : Mat 8192 1024 := fun j => nrm (fun q => R (ix2 (j 0) q)) (j 1)

/-- The weights of the output product in eight row blocks of 256. -/
def wblk (W : Mat 2048 1024) : (⟨3, ![8, 256, 1024]⟩ : Shape).Idx → ℝ := fun j =>
  W (ix2 ⟨256 * (j 0).val + (j 1).val, by have h0 : (j 0).val < 8 := (j 0).isLt; have h1 : (j 1).val < 256 := (j 1).isLt; omega⟩ (j 2))

theorem tile_at {q : ℕ} (M : Mat 8192 q) (r : Fin 512) (k : Fin q) (t : Fin 16) : tile M t (ix2 r k) = M (ix2 (row t r) k) := rfl

theorem nrms_at (R : Mat 8192 1024) (i : Fin 8192) (k : Fin 1024) : nrms R (ix2 i k) = nrm (fun q => R (ix2 i q)) k := rfl

theorem wblk_at (q : Fin 2048) (h0 : q.val / 256 < 8) (h1 : q.val % 256 < 256) (k : Fin 1024) :
    wblk W (ix3 ⟨q.val / 256, h0⟩ ⟨q.val % 256, h1⟩ k) = W (ix2 q k) := by
  have h : (⟨256 * (q.val / 256) + q.val % 256, by omega⟩ : Fin 2048) = q := Fin.ext (by dsimp only; omega)
  exact congrArg (fun z => W (ix2 z k)) h

theorem res_eq (i : Fin 8192) (k : Fin 1024) :
    alpha * (nrm (fun q => Rb (ix2 i q)) k * gb (ix2 0 k) + bb (ix2 0 k)) + ∑ q : Fin 2048, Y (ix2 i q) * W (ix2 q k)
      = res Y W Rb gb bb i k := rfl

/-! ## Column sums, tile by tile -/

/-- A sum over the first `512 * n` rows. -/
def upto (f : Fin 8192 → ℝ) (n : ℕ) : ℝ := ∑ i ∈ Finset.range (512 * n), if h : i < 8192 then f ⟨i, h⟩ else 0

theorem upto_zero (f : Fin 8192 → ℝ) : upto f 0 = 0 := by simp [upto]

/-- The next tile's rows extend the sum. -/
theorem upto_succ (f : Fin 8192 → ℝ) (t : Fin 16) : upto f t.val + ∑ r : Fin 512, f (row t r) = upto f (t.val + 1) := by
  unfold upto
  rw [← sum_tile]
  congr 1
  refine Finset.sum_congr rfl fun r _ => ?_
  rw [dif_pos (show 512 * t.val + r.val < 8192 by omega)]
  rfl

/-- The same, over what an accumulator held. -/
theorem upto_next (f : Fin 8192 → ℝ) (s : ℝ) (n : ℕ) (t : Fin 16) (ht : t.val = n) (hs : s = upto f n) :
    s + ∑ r : Fin 512, f (row t r) = upto f (n + 1) := by
  subst ht hs
  exact upto_succ f t

/-- The sum over all sixteen tiles is the sum over the rows. -/
theorem upto_all (f : Fin 8192 → ℝ) : upto f 16 = ∑ i, f i := by
  unfold upto
  rw [show 512 * 16 = 8192 from rfl, Finset.sum_range]
  exact Finset.sum_congr rfl fun i _ => dif_pos i.isLt

end Cert.Head

end
-- ==== Proof.HeadRef.lean ====
/-
  The reference of the loss head, read over real arguments: each value it computes is the real number the mathematics names.
-/
module

public import proofs.«01_k».proof.Proof.Head
public import proofs.«01_k».proof.Proof.Gen.ReferenceIdeal.Read

@[expose] public section

set_option maxRecDepth 16384

noncomputable section

namespace Cert.HeadRef

open Idealize.ShloMosaic Idealize.ShloMosaic.Pointwise Cert.Rows Cert.Head Cert.ReferenceIdeal Cert.ReferenceIdeal.Read

variable (Y : S8192x2048.Idx → ℝ) (W : S2048x1024.Idx → ℝ) (Rb : S8192x1024.Idx → ℝ) (gb bb g b : S1x1024.Idx → ℝ)
  (T : S8192x1024.Idx → ℝ)

theorem at_v3 (i : Fin 8192) : val_main_v3 (F := Ideal) (up Rb) (ix2 i 0) = ((mean (fun q => Rb (ix2 i q)) : ℝ) : EReal) := by
  pointwise [val_main_v3, val_main_v2, val_main_v1, val_main_v0, val_main_cst, val_main_cst_0]
  simp only [word_1024, up_apply, sum_coe, div_1024]
  rfl

theorem at_v5 (i : Fin 8192) (k : Fin 1024) : val_main_v5 (F := Ideal) (up Rb) (ix2 i k)
    = ((Rb (ix2 i k) - mean (fun q => Rb (ix2 i q)) : ℝ) : EReal) := by
  pointwise [val_main_v5, val_main_v4]
  simp only [at_v3, up_apply, ← EReal.coe_sub]

theorem at_v15 (i : Fin 8192) : val_main_v15 (F := Ideal) (up Rb) (ix2 i 0) = ((rs (fun q => Rb (ix2 i q)) : ℝ) : EReal) := by
  pointwise [val_main_v15, val_main_v14, val_main_v13, val_main_v10, val_main_v9, val_main_v8, val_main_v7, val_main_v6,
    val_main_cst_1, val_main_cst_2, val_main_cst_3]
  simp only [at_v5, word_1024, word_eps, ← EReal.coe_mul, sum_coe, div_1024, ← EReal.coe_add]
  exact rsqrt_real (var_eps_pos _)

theorem at_v17 (i : Fin 8192) (k : Fin 1024) : val_main_v17 (F := Ideal) (up Rb) (ix2 i k)
    = ((nrm (fun q => Rb (ix2 i q)) k : ℝ) : EReal) := by
  pointwise [val_main_v17, val_main_v16, val_main_v12, val_main_v11]
  simp only [at_v3, at_v15, up_apply, ← EReal.coe_sub, ← EReal.coe_mul]
  rfl

theorem at_v21 (i : Fin 8192) (k : Fin 1024) : val_main_v21 (F := Ideal) (up Rb) (up gb) (up bb) (ix2 i k)
    = ((xs Rb gb bb i k : ℝ) : EReal) := by
  pointwise [val_main_v21, val_main_v20, val_main_v19, val_main_v18]
  simp only [at_v17, up_apply, ← EReal.coe_mul, ← EReal.coe_add]
  rfl

theorem at_v25 (i : Fin 8192) (k : Fin 1024) : val_main_v25 (F := Ideal) (up Y) (up W) (up Rb) (up gb) (up bb) (ix2 i k)
    = ((res Y W Rb gb bb i k : ℝ) : EReal) := by
  pointwise [val_main_v25, val_main_v24, val_main_v23, val_main_v22, val_main_cst_4]
  simp only [at_v21, word_alpha, up_apply, sum_coe, ← EReal.coe_mul, ← EReal.coe_add]
  rfl

theorem at_v29 (i : Fin 8192) : val_main_v29 (F := Ideal) (up Y) (up W) (up Rb) (up gb) (up bb) (ix2 i 0)
    = ((mean (res Y W Rb gb bb i) : ℝ) : EReal) := by
  pointwise [val_main_v29, val_main_v28, val_main_v27, val_main_v26, val_main_cst_5, val_main_cst_6]
  simp only [at_v25, word_1024, sum_coe, div_1024]
  rfl

theorem at_v31 (i : Fin 8192) (k : Fin 1024) : val_main_v31 (F := Ideal) (up Y) (up W) (up Rb) (up gb) (up bb) (ix2 i k)
    = ((res Y W Rb gb bb i k - mean (res Y W Rb gb bb i) : ℝ) : EReal) := by
  pointwise [val_main_v31, val_main_v30]
  simp only [at_v25, at_v29, ← EReal.coe_sub]

theorem at_v40 (i : Fin 8192) (k : Fin 1024) : val_main_v40 (F := Ideal) (up Y) (up W) (up Rb) (up gb) (up bb) (ix2 i k)
    = ((res Y W Rb gb bb i k - mean (res Y W Rb gb bb i) : ℝ) : EReal) := at_v31 Y W Rb gb bb i k

theorem at_v42 (i : Fin 8192) : val_main_v42 (F := Ideal) (up Y) (up W) (up Rb) (up gb) (up bb) (ix2 i 0)
    = ((var (res Y W Rb gb bb i) + eps : ℝ) : EReal) := by
  pointwise [val_main_v42, val_main_v41, val_main_v38, val_main_v37, val_main_v36, val_main_v35, val_main_v32, val_main_cst_8,
    val_main_cst_9, val_main_cst_10]
  simp only [at_v31, word_1024, word_eps, ← EReal.coe_mul, sum_coe, div_1024, ← EReal.coe_add]
  rfl

theorem at_v43 (i : Fin 8192) : val_main_v43 (F := Ideal) (up Y) (up W) (up Rb) (up gb) (up bb) (ix2 i 0)
    = ((rs (res Y W Rb gb bb i) : ℝ) : EReal) := by
  pointwise [val_main_v43]
  rw [at_v42]
  exact rsqrt_real (var_eps_pos _)

theorem at_v46 (i : Fin 8192) : val_main_v46 (F := Ideal) (up Y) (up W) (up Rb) (up gb) (up bb) (ix2 i 0)
    = ((-(1 / 2) * (rs (res Y W Rb gb bb i) / (var (res Y W Rb gb bb i) + eps)) : ℝ) : EReal) := by
  pointwise [val_main_v46, val_main_v45, val_main_v44, val_main_cst_11]
  simp only [at_v42, at_v43, word_neg_half, div_real (var_eps_pos _).ne', ← EReal.coe_mul]

theorem at_v48 (i : Fin 8192) (k : Fin 1024) : val_main_v48 (F := Ideal) (up Y) (up W) (up Rb) (up gb) (up bb) (ix2 i k)
    = ((nrm (res Y W Rb gb bb i) k : ℝ) : EReal) := by
  pointwise [val_main_v48, val_main_v47]
  simp only [at_v40, at_v43, ← EReal.coe_mul]
  rfl

theorem at_v53 (i : Fin 8192) (k : Fin 1024) :
    val_main_v53 (F := Ideal) (up Y) (up W) (up Rb) (up gb) (up bb) (up g) (up b) (up T) (ix2 i k)
      = ((err Y W Rb gb bb g b T i k : ℝ) : EReal) := by
  pointwise [val_main_v53, val_main_v52, val_main_v51, val_main_v50, val_main_v49]
  simp only [at_v48, up_apply, ← EReal.coe_mul, ← EReal.coe_add, ← EReal.coe_sub]
  rfl

theorem at_v67 (i : Fin 8192) (k : Fin 1024) :
    val_main_v67 (F := Ideal) (up Y) (up W) (up Rb) (up gb) (up bb) (up g) (up b) (up T) (ix2 i k)
      = ((dout Y W Rb gb bb g b T i k : ℝ) : EReal) := by
  pointwise [val_main_v67, val_main_v66, val_main_v65, val_main_v64, val_main_v63, val_main_v62, val_main_v56, val_main_v55,
    val_main_cst_12, val_main_cst_17, val_main_cst_18, val_main_cst_19]
  simp only [at_v53, word_half, word_one, word_two, word_1024, div_1024, ← EReal.coe_mul]
  congr 1
  unfold dout
  ring

/-- The gradient of the last layer norm's offset. -/
theorem at_v69 (k : Fin 1024) :
    val_main_v69 (F := Ideal) (up Y) (up W) (up Rb) (up gb) (up bb) (up g) (up b) (up T) (ix2 0 k)
      = ((∑ i, dout Y W Rb gb bb g b T i k : ℝ) : EReal) := by
  pointwise [val_main_v69, val_main_v68, val_main_cst_20]
  simp only [at_v67, sum_coe]

/-- The gradient of the last layer norm's scale. -/
theorem at_v72 (k : Fin 1024) :
    val_main_v72 (F := Ideal) (up Y) (up W) (up Rb) (up gb) (up bb) (up g) (up b) (up T) (ix2 0 k)
      = ((∑ i, nrm (res Y W Rb gb bb i) k * dout Y W Rb gb bb g b T i k : ℝ) : EReal) := by
  pointwise [val_main_v72, val_main_v71, val_main_v70, val_main_cst_21]
  simp only [at_v67, at_v48, sum_coe, ← EReal.coe_mul]

theorem at_v74 (i : Fin 8192) (k : Fin 1024) :
    val_main_v74 (F := Ideal) (up Y) (up W) (up Rb) (up gb) (up bb) (up g) (up b) (up T) (ix2 i k)
      = ((dout Y W Rb gb bb g b T i k * g (ix2 0 k) : ℝ) : EReal) := by
  pointwise [val_main_v74, val_main_v73]
  simp only [at_v67, up_apply, ← EReal.coe_mul]

theorem at_v79 (i : Fin 8192) (k : Fin 1024) :
    val_main_v79 (F := Ideal) (up Y) (up W) (up Rb) (up gb) (up bb) (up g) (up b) (up T) (ix2 i k)
      = ((dout Y W Rb gb bb g b T i k * g (ix2 0 k) * rs (res Y W Rb gb bb i) : ℝ) : EReal) := by
  pointwise [val_main_v79, val_main_v78]
  simp only [at_v74, at_v43, ← EReal.coe_mul]

theorem at_v88 (i : Fin 8192) (k : Fin 1024) :
    val_main_v88 (F := Ideal) (up Y) (up W) (up Rb) (up gb) (up bb) (up g) (up b) (up T) (ix2 i k)
      = (((∑ q, (res Y W Rb gb bb i q - mean (res Y W Rb gb bb i)) * (dout Y W Rb gb bb g b T i q * g (ix2 0 q)))
          * (-(1 / 2) * (rs (res Y W Rb gb bb i) / (var (res Y W Rb gb bb i) + eps))) / 1024
          * (2 * (res Y W Rb gb bb i k - mean (res Y W Rb gb bb i))) : ℝ) : EReal) := by
  pointwise [val_main_v88, val_main_v87, val_main_v86, val_main_v85, val_main_v84, val_main_v80, val_main_v77, val_main_v76,
    val_main_v75, val_main_v34, val_main_v33, val_main_cst_7, val_main_cst_22, val_main_cst_24, val_main_cst_25]
  simp only [Finset.univ_unique, Fin.default_eq_zero, Finset.sum_singleton, Fin.isValue, at_v74, at_v40, at_v31, at_v46, word_two, word_1024, sum_coe, div_1024, ← EReal.coe_mul]

/-- The gradient of the residual sum. -/
theorem at_v98 (i : Fin 8192) (k : Fin 1024) :
    val_main_v98 (F := Ideal) (up Y) (up W) (up Rb) (up gb) (up bb) (up g) (up b) (up T) (ix2 i k)
      = ((dres Y W Rb gb bb g b T i k : ℝ) : EReal) := by
  pointwise [val_main_v98, val_main_v97, val_main_v96, val_main_v95, val_main_v94, val_main_v93, val_main_v92, val_main_v91,
    val_main_v90, val_main_v89, val_main_v83, val_main_v82, val_main_v81, val_main_cst_23, val_main_cst_26, val_main_cst_27,
    val_main_cst_28]
  simp only [Finset.univ_unique, Fin.default_eq_zero, Finset.sum_singleton, at_v79, at_v88, word_1024, sum_coe, div_1024, ← EReal.coe_mul, ← EReal.coe_neg, ← EReal.coe_add]
  exact congrArg _ (back_of_reverse (res Y W Rb gb bb i) (fun q => dout Y W Rb gb bb g b T i q * g (ix2 0 q)) k _ rfl _ _ rfl rfl)

/-- The gradient of the output product's left side. -/
theorem at_v100 (i : Fin 8192) (q : Fin 2048) :
    val_main_v100 (F := Ideal) (up Y) (up W) (up Rb) (up gb) (up bb) (up g) (up b) (up T) (ix2 i q)
      = ((∑ k : Fin 1024, dres Y W Rb gb bb g b T i k * W (ix2 q k) : ℝ) : EReal) := by
  pointwise [val_main_v100]
  simp only [at_v98, up_apply, sum_coe, ← EReal.coe_mul]

/-- The loss. -/
theorem at_v103 :
    val_main_v103 (F := Ideal) (up Y) (up W) (up Rb) (up gb) (up bb) (up g) (up b) (up T) (ix2 0 0)
      = ((1 / 2 * ∑ i, mean (fun k => err Y W Rb gb bb g b T i k * err Y W Rb gb bb g b T i k) : ℝ) : EReal) := by
  pointwise [val_main_v103, val_main_v61, val_main_v60, val_main_v59, val_main_v58, val_main_v57, val_main_v54, val_main_cst_13,
    val_main_cst_14, val_main_cst_15, val_main_cst_16]
  simp only [at_v53, word_half, word_1024, sum_coe, div_1024, ← EReal.coe_mul]
  rfl

end Cert.HeadRef

end
-- ==== Proof.HeadTile.lean ====
/-
  One grid point of the loss head's kernel, over real blocks: each value the body computes of the 512 rows of tile `t`.
-/
module

public import proofs.«01_k».proof.Proof.Head
public import proofs.«01_k».proof.Proof.Gen.KernelIdeal.Skeleton

@[expose] public section

set_option maxRecDepth 16384

noncomputable section

namespace Cert.HeadTile

open Idealize.ShloMosaic Idealize.ShloMosaic.Pointwise Cert.Rows Cert.Head Cert.KernelIdeal Cert.KernelIdeal.Gen

variable (Y : Mat 8192 2048) (W : Mat 2048 1024) (Rb : Mat 8192 1024) (gb bb g b : Mat 1 1024) (T : Mat 8192 1024)
  (t : Fin 16)

/-- The blocks one grid point reads. -/
abbrev bx : Vec Ideal S512x1024 .f32 := up (tile (nrms Rb) t)
abbrev bt : Vec Ideal S512x1024 .f32 := up (tile T t)
abbrev by_ : Vec Ideal S512x2048 .bf16 := up (tile Y t)
abbrev bw : Vec Ideal S8x256x1024 .bf16 := up (wblk W)
abbrev bg : Vec Ideal S1x1024 .f32 := up g

theorem at_pay7 (r : Fin 512) (k : Fin 1024) : k0_pay7 (F := Ideal) (bx Rb t) (bg gb) (bg bb) (by_ Y t) (bw W) (ix2 r k)
    = ((res Y W Rb gb bb (row t r) k - mean (res Y W Rb gb bb (row t r)) : ℝ) : EReal) := by
  pointwise [k0_pay7]
  simp only [up_apply, word_alpha, word_1024, sum_coe, div_1024, ← EReal.coe_mul, ← EReal.coe_add, ← EReal.coe_sub, tile_at,
    nrms_at, wblk_at, res_eq]
  rw [mean_eq]

theorem at_pay8 (r : Fin 512) : k0_pay8 (F := Ideal) (bx Rb t) (bg gb) (bg bb) (by_ Y t) (bw W) (ix2 r 0)
    = ((rs (res Y W Rb gb bb (row t r)) : ℝ) : EReal) := by
  pointwise [k0_pay8]
  simp only [at_pay7, word_eps, word_1024, sum_coe, div_1024, ← EReal.coe_mul, ← EReal.coe_add]
  rw [mean_eq, var_eq, rsqrt_var]

/-- The normalized rows of the last layer. -/
abbrev vx : FVec Ideal S512x1024 .f32 := k0_pay9 (F := Ideal) (bx Rb t) (bg gb) (bg bb) (by_ Y t) (bw W)
/-- Their reciprocal deviations. -/
abbrev vr : FVec Ideal S512x1 .f32 := k0_pay8 (F := Ideal) (bx Rb t) (bg gb) (bg bb) (by_ Y t) (bw W)

theorem at_vx (r : Fin 512) (k : Fin 1024) : vx Y W Rb gb bb t (ix2 r k)
    = ((nrm (res Y W Rb gb bb (row t r)) k : ℝ) : EReal) := by
  pointwise [k0_pay9]
  simp only [at_pay7, at_pay8, ← EReal.coe_mul]
  rfl

theorem at_pay10 (r : Fin 512) (k : Fin 1024) : k0_pay10 (F := Ideal) (vx Y W Rb gb bb t) (bg g) (bg b) (bt T t) (ix2 r k)
    = ((err Y W Rb gb bb g b T (row t r) k : ℝ) : EReal) := by
  pointwise [k0_pay10]
  simp only [at_vx, up_apply, tile_at, ← EReal.coe_mul, ← EReal.coe_add, ← EReal.coe_sub]
  rfl

/-- The rows' share of the loss, added to what the accumulator holds. -/
theorem at_pay11 (acc : Vec Ideal S1x1 .f32) (s : ℝ) (h : acc (ix2 0 0) = ((s : ℝ) : EReal)) :
    k0_pay11 (F := Ideal) (vx Y W Rb gb bb t) (bg g) (bg b) (bt T t) acc (ix2 0 0)
    = ((s + 1 / 2 * ∑ r, mean (fun k => err Y W Rb gb bb g b T (row t r) k * err Y W Rb gb bb g b T (row t r) k) : ℝ) : EReal) := by
  pointwise [k0_pay11]
  simp only [h, at_pay10, word_half, word_1024, sum_coe, div_1024, ← EReal.coe_mul, ← EReal.coe_add]
  rfl

theorem at_pay12 (r : Fin 512) (k : Fin 1024) : k0_pay12 (F := Ideal) (vx Y W Rb gb bb t) (bg g) (bg b) (bt T t) (ix2 r k)
    = ((dout Y W Rb gb bb g b T (row t r) k : ℝ) : EReal) := by
  pointwise [k0_pay12]
  simp only [at_pay10, word_inv1024, ← EReal.coe_mul, mul_one_div]
  rfl

/-- The rows' share of the scale's gradient, added to what the accumulator holds. -/
theorem at_pay13 (acc : Vec Ideal S1x1024 .f32) (k : Fin 1024) (s : ℝ) (h : acc (ix2 0 k) = ((s : ℝ) : EReal)) :
    k0_pay13 (F := Ideal) (vx Y W Rb gb bb t) (bg g) (bg b) (bt T t) acc (ix2 0 k)
    = ((s + ∑ r, dout Y W Rb gb bb g b T (row t r) k * nrm (res Y W Rb gb bb (row t r)) k : ℝ) : EReal) := by
  pointwise [k0_pay13]
  simp only [h, at_pay12, at_vx, sum_coe, ← EReal.coe_mul, ← EReal.coe_add]

/-- The rows' share of the offset's gradient, added to what the accumulator holds. -/
theorem at_pay14 (acc : Vec Ideal S1x1024 .f32) (k : Fin 1024) (s : ℝ) (h : acc (ix2 0 k) = ((s : ℝ) : EReal)) :
    k0_pay14 (F := Ideal) (vx Y W Rb gb bb t) (bg g) (bg b) (bt T t) acc (ix2 0 k)
    = ((s + ∑ r, dout Y W Rb gb bb g b T (row t r) k : ℝ) : EReal) := by
  pointwise [k0_pay14]
  simp only [h, at_pay12, sum_coe, ← EReal.coe_mul, ← EReal.coe_add]

/-- The cotangents of the rows' layer norm results. -/
abbrev vd : FVec Ideal S512x1024 .f32 := k0_pay12 (F := Ideal) (vx Y W Rb gb bb t) (bg g) (bg b) (bt T t)

/-- The gradients of the rows of the residual sum. -/
theorem at_pay1 (r : Fin 512) (k : Fin 1024) :
    k0_pay1 (F := Ideal) (vr Y W Rb gb bb t) (vx Y W Rb gb bb t) (vd Y W Rb gb bb g b T t) (bg g) (ix2 r k)
    = ((dres Y W Rb gb bb g b T (row t r) k : ℝ) : EReal) := by
  pointwise [k0_pay1]
  simp only [at_pay8, at_pay12, at_vx, up_apply, word_1024, sum_coe, div_1024, ← EReal.coe_mul, ← EReal.coe_sub]
  rfl

/-- The gradients of the rows of the output product's left side. -/
theorem at_pay3 (r : Fin 512) (q : Fin 2048) :
    k0_pay3 (F := Ideal) (vr Y W Rb gb bb t) (vx Y W Rb gb bb t) (vd Y W Rb gb bb g b T t) (bg g) (bw W) (ix2 r q)
    = ((∑ k : Fin 1024, dres Y W Rb gb bb g b T (row t r) k * W (ix2 q k) : ℝ) : EReal) := by
  pointwise [k0_pay3, k0_pay2]
  simp only [at_pay1, up_apply, wblk_at, sum_coe, ← EReal.coe_mul]

end Cert.HeadTile

end
-- ==== Proof.HeadOuts.lean ====
/-
  What the loss head's kernel leaves in its staging buffers after a grid point, as the body's expressions of the point's blocks.
-/
module

public import proofs.«01_k».proof.Proof.Gen.KernelIdeal.Value

@[expose] public section

set_option maxRecDepth 16384

noncomputable section

namespace Cert.HeadOuts

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

/-- The reciprocal deviations, the normalized rows and the layer norm's cotangents of the blocks at point `t`. -/
abbrev xr (t : Fin cfg0.N) : FVec F S512x1 .f32 :=
  k0_pay8 (iblk m c 2 t) (iblk m c 3 t) (iblk m c 4 t) (iblk m c 0 t) (iblk m c 1 t)
abbrev xx (t : Fin cfg0.N) : FVec F S512x1024 .f32 :=
  k0_pay9 (iblk m c 2 t) (iblk m c 3 t) (iblk m c 4 t) (iblk m c 0 t) (iblk m c 1 t)
abbrev xd (t : Fin cfg0.N) : FVec F S512x1024 .f32 :=
  k0_pay12 (xx m c t) (iblk m c 5 t) (iblk m c 6 t) (iblk m c 7 t)

/-- After the first point: the rows' gradients, and the accumulators started from zero. -/
theorem outs_first (t : Fin cfg0.N) (h0 : t.val % 16 = 0) : outsAt0 m c t.val t.isLt =
    (k0_pay1 (xr m c t) (xx m c t) (xd m c t) (iblk m c 5 t), k0_pay2 (xr m c t) (xx m c t) (xd m c t) (iblk m c 5 t),
      k0_pay3 (xr m c t) (xx m c t) (xd m c t) (iblk m c 5 t) (iblk m c 1 t),
      k0_pay13 (xx m c t) (iblk m c 5 t) (iblk m c 6 t) (iblk m c 7 t) k0_pay4,
      k0_pay14 (xx m c t) (iblk m c 5 t) (iblk m c 6 t) (iblk m c 7 t) k0_pay5,
      k0_pay11 (xx m c t) (iblk m c 5 t) (iblk m c 6 t) (iblk m c 7 t) k0_pay6) := by
  rw [outsAt0_A m c t h0]
  simp only [Prod.mk.injEq]
  refine ⟨(View.read_writes_eq_canon _ _ _ fun y => cover0_A_8 ..).trans ?_, (View.read_writes_eq_canon _ _ _ fun y => cover0_A_9 ..).trans ?_, (View.read_writes_eq_canon _ _ _ fun y => cover0_A_10 ..).trans ?_,
    (View.read_writes_eq_canon _ _ _ fun y => cover0_A_11 ..).trans ?_, (View.read_writes_eq_canon _ _ _ fun y => cover0_A_12 ..).trans ?_, (View.read_writes_eq_canon _ _ _ fun y => cover0_A_13 ..).trans ?_⟩
  all_goals
    unfold kernelRun0_A
    dsimp only
    sl_unfold_words
    first
      | rw [View.canon_unit_zero hz]
      | rw [View.canon_cons_unit_zero (S := S1x1024) hz, View.readCov_unit_zero (S := S1x1024) _ hz]
      | rw [View.canon_cons_unit_zero (S := S1x1) hz, View.readCov_unit_zero (S := S1x1) _ hz]
  all_goals simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S512x1024) hz,
    View.ld_unit_zero (S := S1x1024) hz, View.ld_unit_zero (S := S512x2048) hz, View.ld_unit_zero (S := S8x256x1024) hz3]

/-- What the point before left. -/
abbrev prev (t : Fin cfg0.N) := outsAt0 m c (t.val - 1) (Nat.lt_of_le_of_lt (Nat.sub_le _ _) t.isLt)

/-- After a later point: the rows' gradients, and the accumulators continued. -/
theorem outs_next (t : Fin cfg0.N) (h0 : ¬t.val % 16 = 0) : outsAt0 m c t.val t.isLt =
    (k0_pay1 (xr m c t) (xx m c t) (xd m c t) (iblk m c 5 t), k0_pay2 (xr m c t) (xx m c t) (xd m c t) (iblk m c 5 t),
      k0_pay3 (xr m c t) (xx m c t) (xd m c t) (iblk m c 5 t) (iblk m c 1 t),
      k0_pay13 (xx m c t) (iblk m c 5 t) (iblk m c 6 t) (iblk m c 7 t) (prev m c t).2.2.2.1,
      k0_pay14 (xx m c t) (iblk m c 5 t) (iblk m c 6 t) (iblk m c 7 t) (prev m c t).2.2.2.2.1,
      k0_pay11 (xx m c t) (iblk m c 5 t) (iblk m c 6 t) (iblk m c 7 t) (prev m c t).2.2.2.2.2) := by
  rw [outsAt0_B m c t h0]
  simp only [Prod.mk.injEq]
  refine ⟨(View.read_writes_eq_canon _ _ _ fun y => cover0_B_8 ..).trans ?_, (View.read_writes_eq_canon _ _ _ fun y => cover0_B_9 ..).trans ?_, (View.read_writes_eq_canon _ _ _ fun y => cover0_B_10 ..).trans ?_,
    (View.read_writes_eq_canon _ _ _ fun y => cover0_B_11 ..).trans ?_, (View.read_writes_eq_canon _ _ _ fun y => cover0_B_12 ..).trans ?_, (View.read_writes_eq_canon _ _ _ fun y => cover0_B_13 ..).trans ?_⟩
  all_goals
    unfold kernelRun0_B
    dsimp only
    sl_unfold_words
    rw [View.canon_unit_zero hz]
  all_goals simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_11 t).read_unread, (hs0_12 t).read_unread, (hs0_13 t).read_unread, View.ld_unit_zero (S := S512x1024) hz,
    View.ld_unit_zero (S := S1x1024) hz, View.ld_unit_zero (S := S512x2048) hz, View.ld_unit_zero (S := S8x256x1024) hz3, View.ld_unit_zero (S := S1x1) hz]

end Cert.HeadOuts

end
-- ==== Proof.HeadVal.lean ====
/-
  The loss head's kernel, read over real arguments: the blocks it reads, the accumulators point by point, its six results.
-/
module

public import proofs.«01_k».proof.Proof.HeadRef
public import proofs.«01_k».proof.Proof.HeadTile
public import proofs.«01_k».proof.Proof.HeadOuts
public import Idealize.ShloMosaic.Lib.Pipeline.ValueKit

@[expose] public section

set_option maxRecDepth 16384

noncomputable section

namespace Cert.HeadVal

open Idealize.ShloMosaic Idealize.ShloMosaic.Pointwise Idealize.ShloMosaic.TcCoe Idealize.SL.Sem Cert.Rows Cert.Head Cert.HeadTile
  Cert.HeadOuts Cert.KernelIdeal Cert.KernelIdeal.Gen

variable (m : (ℓ : Loc nD τ sig) → Buf (Elt Ideal) ℓ) (c : Dev nD)
variable (Y : Mat 8192 2048) (W : Mat 2048 1024) (Rb : Mat 8192 1024) (gb bb g b : Mat 1 1024) (T : Mat 8192 1024)

/-- The launch memory holds the real arguments. -/
structure Holds : Prop where
  y : m ((c.tc : Thread nD τ).loc main_arg0) = up Y
  w : m ((c.tc : Thread nD τ).loc main_arg1) = up W
  rb : m ((c.tc : Thread nD τ).loc main_arg2) = up Rb
  gb : m ((c.tc : Thread nD τ).loc main_arg3) = up gb
  bb : m ((c.tc : Thread nD τ).loc main_arg4) = up bb
  g : m ((c.tc : Thread nD τ).loc main_arg5) = up g
  b : m ((c.tc : Thread nD τ).loc main_arg6) = up b
  t : m ((c.tc : Thread nD τ).loc main_arg7) = up T

/-- A grid point's number. -/
def pt (t : Fin cfg0.N) : Fin 16 := ⟨t.val, lt_of_lt_of_eq t.isLt N_0⟩

variable {m c Y W Rb gb bb g b T}

theorem V_y (h : Holds m c Y W Rb gb bb g b T) : V m c main_v18 = up Y := by
  unfold V
  after_results
  exact h.y

theorem reshape_w : shapeCast S8x256x1024 (truncf (F := Ideal) .bf16 (up W : Vec Ideal S2048x1024 .f32) bitsLt_bf16_f32)
    shapeCasts_S2048x1024_S8x256x1024 = (up (wblk W) : Vec Ideal S8x256x1024 .bf16) := by
  funext j
  idx_vars j
  pointwise
  exact congrArg (fun z => up W (ix2 z j2)) (Fin.ext (by dsimp only [ix3]; omega))

theorem V_w (h : Holds m c Y W Rb gb bb g b T) : V m c main_v20 = up (wblk W) := by
  have e : V m c main_v20 = shapeCast S8x256x1024
      (truncf (F := Ideal) .bf16 (m ((c.tc : Thread nD τ).loc main_arg1) : Vec Ideal S2048x1024 .f32) bitsLt_bf16_f32)
      shapeCasts_S2048x1024_S8x256x1024 := by
    unfold V
    after_results
    rfl
  rw [e, h.w]
  exact reshape_w

theorem V_x (h : Holds m c Y W Rb gb bb g b T) : V m c main_v17 = up (nrms Rb) := by
  have e : V m c main_v17 = Cert.ReferenceIdeal.Read.val_main_v17 (F := Ideal) (m ((c.tc : Thread nD τ).loc main_arg2)) := by
    unfold V
    after_results
    rfl
  rw [e, h.rb]
  funext j
  idx_vars j
  exact Cert.HeadRef.at_v17 Rb _ _

theorem blk_0 (h : Holds m c Y W Rb gb bb g b T) (t : Fin cfg0.N) : iblk m c 0 t = up (tile Y (pt t)) := by
  have hi : ∀ t : Fin grid0.N, win0_0.index t 0 = t.val ∧ win0_0.index t 1 = 0 := by decide +kernel
  funext j
  unfold iblk
  rw [View.read_apply]
  show V m c main_v18 _ = _
  rw [V_y h]
  refine congrArg (fun z : S8192x2048.Idx => ((Y z : ℝ) : EReal)) (funext fun a => Fin.ext ?_)
  match a with
  | ⟨0, _⟩ => show win0_0.index t 0 * 512 + 1 * (j 0).val = 512 * t.val + (j 0).val; rw [(hi t).1]; omega
  | ⟨1, _⟩ => show win0_0.index t 1 * 2048 + 1 * (j 1).val = (j 1).val; rw [(hi t).2]; omega

theorem blk_1 (h : Holds m c Y W Rb gb bb g b T) (t : Fin cfg0.N) : iblk m c 1 t = up (wblk W) := by
  have hi : ∀ t : Fin grid0.N, win0_1.index t 0 = 0 ∧ win0_1.index t 1 = 0 ∧ win0_1.index t 2 = 0 := by decide +kernel
  funext j
  unfold iblk
  rw [View.read_apply]
  show V m c main_v20 _ = _
  rw [V_w h]
  refine congrArg (fun z : S8x256x1024.Idx => ((wblk W z : ℝ) : EReal)) (funext fun a => Fin.ext ?_)
  match a with
  | ⟨0, _⟩ => show win0_1.index t 0 * 8 + 1 * (j 0).val = (j 0).val; rw [(hi t).1]; omega
  | ⟨1, _⟩ => show win0_1.index t 1 * 256 + 1 * (j 1).val = (j 1).val; rw [(hi t).2.1]; omega
  | ⟨2, _⟩ => show win0_1.index t 2 * 1024 + 1 * (j 2).val = (j 2).val; rw [(hi t).2.2]; omega

theorem blk_2 (h : Holds m c Y W Rb gb bb g b T) (t : Fin cfg0.N) : iblk m c 2 t = up (tile (nrms Rb) (pt t)) := by
  have hi : ∀ t : Fin grid0.N, win0_2.index t 0 = t.val ∧ win0_2.index t 1 = 0 := by decide +kernel
  funext j
  unfold iblk
  rw [View.read_apply]
  show V m c main_v17 _ = _
  rw [V_x h]
  refine congrArg (fun z : S8192x1024.Idx => (((nrms Rb) z : ℝ) : EReal)) (funext fun a => Fin.ext ?_)
  match a with
  | ⟨0, _⟩ => show win0_2.index t 0 * 512 + 1 * (j 0).val = 512 * t.val + (j 0).val; rw [(hi t).1]; omega
  | ⟨1, _⟩ => show win0_2.index t 1 * 1024 + 1 * (j 1).val = (j 1).val; rw [(hi t).2]; omega

theorem blk_3 (h : Holds m c Y W Rb gb bb g b T) (t : Fin cfg0.N) : iblk m c 3 t = up gb := by
  have hi : ∀ t : Fin grid0.N, win0_3.index t 0 = 0 ∧ win0_3.index t 1 = 0 := by decide +kernel
  funext j
  unfold iblk
  rw [View.read_apply]
  show V m c main_arg3 _ = _
  rw [show V m c main_arg3 = up gb from by unfold V; after_results; exact h.gb]
  refine congrArg (fun z : S1x1024.Idx => ((gb z : ℝ) : EReal)) (funext fun a => Fin.ext ?_)
  match a with
  | ⟨0, _⟩ => show win0_3.index t 0 * 1 + 1 * (j 0).val = (j 0).val; rw [(hi t).1]; omega
  | ⟨1, _⟩ => show win0_3.index t 1 * 1024 + 1 * (j 1).val = (j 1).val; rw [(hi t).2]; omega

theorem blk_4 (h : Holds m c Y W Rb gb bb g b T) (t : Fin cfg0.N) : iblk m c 4 t = up bb := by
  have hi : ∀ t : Fin grid0.N, win0_4.index t 0 = 0 ∧ win0_4.index t 1 = 0 := by decide +kernel
  funext j
  unfold iblk
  rw [View.read_apply]
  show V m c main_arg4 _ = _
  rw [show V m c main_arg4 = up bb from by unfold V; after_results; exact h.bb]
  refine congrArg (fun z : S1x1024.Idx => ((bb z : ℝ) : EReal)) (funext fun a => Fin.ext ?_)
  match a with
  | ⟨0, _⟩ => show win0_4.index t 0 * 1 + 1 * (j 0).val = (j 0).val; rw [(hi t).1]; omega
  | ⟨1, _⟩ => show win0_4.index t 1 * 1024 + 1 * (j 1).val = (j 1).val; rw [(hi t).2]; omega

theorem blk_5 (h : Holds m c Y W Rb gb bb g b T) (t : Fin cfg0.N) : iblk m c 5 t = up g := by
  have hi : ∀ t : Fin grid0.N, win0_5.index t 0 = 0 ∧ win0_5.index t 1 = 0 := by decide +kernel
  funext j
  unfold iblk
  rw [View.read_apply]
  show V m c main_arg5 _ = _
  rw [show V m c main_arg5 = up g from by unfold V; after_results; exact h.g]
  refine congrArg (fun z : S1x1024.Idx => ((g z : ℝ) : EReal)) (funext fun a => Fin.ext ?_)
  match a with
  | ⟨0, _⟩ => show win0_5.index t 0 * 1 + 1 * (j 0).val = (j 0).val; rw [(hi t).1]; omega
  | ⟨1, _⟩ => show win0_5.index t 1 * 1024 + 1 * (j 1).val = (j 1).val; rw [(hi t).2]; omega

theorem blk_6 (h : Holds m c Y W Rb gb bb g b T) (t : Fin cfg0.N) : iblk m c 6 t = up b := by
  have hi : ∀ t : Fin grid0.N, win0_6.index t 0 = 0 ∧ win0_6.index t 1 = 0 := by decide +kernel
  funext j
  unfold iblk
  rw [View.read_apply]
  show V m c main_arg6 _ = _
  rw [show V m c main_arg6 = up b from by unfold V; after_results; exact h.b]
  refine congrArg (fun z : S1x1024.Idx => ((b z : ℝ) : EReal)) (funext fun a => Fin.ext ?_)
  match a with
  | ⟨0, _⟩ => show win0_6.index t 0 * 1 + 1 * (j 0).val = (j 0).val; rw [(hi t).1]; omega
  | ⟨1, _⟩ => show win0_6.index t 1 * 1024 + 1 * (j 1).val = (j 1).val; rw [(hi t).2]; omega

theorem blk_7 (h : Holds m c Y W Rb gb bb g b T) (t : Fin cfg0.N) : iblk m c 7 t = up (tile T (pt t)) := by
  have hi : ∀ t : Fin grid0.N, win0_7.index t 0 = t.val ∧ win0_7.index t 1 = 0 := by decide +kernel
  funext j
  unfold iblk
  rw [View.read_apply]
  show V m c main_arg7 _ = _
  rw [show V m c main_arg7 = up T from by unfold V; after_results; exact h.t]
  refine congrArg (fun z : S8192x1024.Idx => ((T z : ℝ) : EReal)) (funext fun a => Fin.ext ?_)
  match a with
  | ⟨0, _⟩ => show win0_7.index t 0 * 512 + 1 * (j 0).val = 512 * t.val + (j 0).val; rw [(hi t).1]; omega
  | ⟨1, _⟩ => show win0_7.index t 1 * 1024 + 1 * (j 1).val = (j 1).val; rw [(hi t).2]; omega

/-! ## The accumulators -/

theorem first_11 (k : Fin 1024) : (k0_pay4 : FVec Ideal S1x1024 .f32) (ix2 0 k) = ((0 : ℝ) : EReal) := by pointwise [k0_pay4]; rfl
theorem first_12 (k : Fin 1024) : (k0_pay5 : FVec Ideal S1x1024 .f32) (ix2 0 k) = ((0 : ℝ) : EReal) := by pointwise [k0_pay5]; rfl
theorem first_13 : (k0_pay6 : FVec Ideal S1x1 .f32) (ix2 0 0) = ((0 : ℝ) : EReal) := by pointwise [k0_pay6]; rfl

/-- The rows' terms of the three column sums. -/
def scaleTerm (Y : Mat 8192 2048) (W : Mat 2048 1024) (Rb : Mat 8192 1024) (gb bb g b : Mat 1 1024) (T : Mat 8192 1024)
    (k : Fin 1024) (i : Fin 8192) : ℝ := dout Y W Rb gb bb g b T i k * nrm (res Y W Rb gb bb i) k
def offsetTerm (Y : Mat 8192 2048) (W : Mat 2048 1024) (Rb : Mat 8192 1024) (gb bb g b : Mat 1 1024) (T : Mat 8192 1024)
    (k : Fin 1024) (i : Fin 8192) : ℝ := dout Y W Rb gb bb g b T i k
def lossTerm (Y : Mat 8192 2048) (W : Mat 2048 1024) (Rb : Mat 8192 1024) (gb bb g b : Mat 1 1024) (T : Mat 8192 1024)
    (i : Fin 8192) : ℝ := mean fun k => err Y W Rb gb bb g b T i k * err Y W Rb gb bb g b T i k

/-- After point `n` the accumulators hold the sums over the rows of the tiles up to `n`. -/
theorem acc (h : Holds m c Y W Rb gb bb g b T) : ∀ (n : ℕ) (hn : n < cfg0.N),
    (∀ k, (outsAt0 m c n hn).2.2.2.1 (ix2 0 k) = ((upto (scaleTerm Y W Rb gb bb g b T k) (n + 1) : ℝ) : EReal))
    ∧ (∀ k, (outsAt0 m c n hn).2.2.2.2.1 (ix2 0 k) = ((upto (offsetTerm Y W Rb gb bb g b T k) (n + 1) : ℝ) : EReal))
    ∧ (outsAt0 m c n hn).2.2.2.2.2 (ix2 0 0) = ((1 / 2 * upto (lossTerm Y W Rb gb bb g b T) (n + 1) : ℝ) : EReal)
  | 0, hn => by
    rw [outs_first m c ⟨0, hn⟩ rfl]
    unfold xx
    simp only [blk_0 h, blk_1 h, blk_2 h, blk_3 h, blk_4 h, blk_5 h, blk_6 h, blk_7 h]
    refine ⟨fun k => (at_pay13 Y W Rb gb bb g b T _ _ k 0 (first_11 k)).trans ?_,
      fun k => (at_pay14 Y W Rb gb bb g b T _ _ k 0 (first_12 k)).trans ?_,
      (at_pay11 Y W Rb gb bb g b T _ _ 0 first_13).trans ?_⟩
    · exact congrArg Real.toEReal (upto_next (scaleTerm Y W Rb gb bb g b T k) 0 0 (pt ⟨0, hn⟩) rfl (upto_zero _).symm)
    · exact congrArg Real.toEReal (upto_next (offsetTerm Y W Rb gb bb g b T k) 0 0 (pt ⟨0, hn⟩) rfl (upto_zero _).symm)
    · rw [← upto_next (lossTerm Y W Rb gb bb g b T) 0 0 (pt ⟨0, hn⟩) rfl (upto_zero _).symm, zero_add, zero_add]; rfl
  | n + 1, hn => by
    have hN : cfg0.N = 16 := N_0
    obtain ⟨i1, i2, i3⟩ := acc h n (Nat.lt_of_succ_lt hn)
    rw [outs_next m c ⟨n + 1, hn⟩ (by dsimp only; omega)]
    unfold xx
    simp only [blk_0 h, blk_1 h, blk_2 h, blk_3 h, blk_4 h, blk_5 h, blk_6 h, blk_7 h]
    refine ⟨fun k => (at_pay13 Y W Rb gb bb g b T _ _ k _ (i1 k)).trans ?_,
      fun k => (at_pay14 Y W Rb gb bb g b T _ _ k _ (i2 k)).trans ?_,
      (at_pay11 Y W Rb gb bb g b T _ _ _ i3).trans ?_⟩
    · exact congrArg Real.toEReal (upto_next (scaleTerm Y W Rb gb bb g b T k) _ (n + 1) (pt ⟨n + 1, hn⟩) rfl rfl)
    · exact congrArg Real.toEReal (upto_next (offsetTerm Y W Rb gb bb g b T k) _ (n + 1) (pt ⟨n + 1, hn⟩) rfl rfl)
    · rw [← upto_next (lossTerm Y W Rb gb bb g b T) _ (n + 1) (pt ⟨n + 1, hn⟩) rfl rfl, mul_add]; rfl

/-! ## The rows' gradients at a point -/

theorem outs_8 (h : Holds m c Y W Rb gb bb g b T) (t : Fin cfg0.N) (r : Fin 512) (k : Fin 1024) :
    (outsAt0 m c t.val t.isLt).1 (ix2 r k) = ((dres Y W Rb gb bb g b T (row (pt t) r) k : ℝ) : EReal) := by
  have e : (outsAt0 m c t.val t.isLt).1 = k0_pay1 (xr m c t) (xx m c t) (xd m c t) (iblk m c 5 t) := by
    by_cases h0 : t.val % 16 = 0
    · rw [outs_first m c t h0]
    · rw [outs_next m c t h0]
  rw [e]
  unfold xr xd xx
  simp only [blk_0 h, blk_1 h, blk_2 h, blk_3 h, blk_4 h, blk_5 h, blk_6 h, blk_7 h]
  exact at_pay1 Y W Rb gb bb g b T (pt t) r k

theorem outs_9 (h : Holds m c Y W Rb gb bb g b T) (t : Fin cfg0.N) (r : Fin 512) (k : Fin 1024) :
    (outsAt0 m c t.val t.isLt).2.1 (ix2 r k) = ((dres Y W Rb gb bb g b T (row (pt t) r) k : ℝ) : EReal) := by
  have e : (outsAt0 m c t.val t.isLt).2.1 = (outsAt0 m c t.val t.isLt).1 := by
    by_cases h0 : t.val % 16 = 0
    · rw [outs_first m c t h0]; rfl
    · rw [outs_next m c t h0]; rfl
  rw [e, outs_8 h]

theorem outs_10 (h : Holds m c Y W Rb gb bb g b T) (t : Fin cfg0.N) (r : Fin 512) (q : Fin 2048) :
    (outsAt0 m c t.val t.isLt).2.2.1 (ix2 r q)
      = ((∑ k : Fin 1024, dres Y W Rb gb bb g b T (row (pt t) r) k * W (ix2 q k) : ℝ) : EReal) := by
  have e : (outsAt0 m c t.val t.isLt).2.2.1 = k0_pay3 (xr m c t) (xx m c t) (xd m c t) (iblk m c 5 t) (iblk m c 1 t) := by
    by_cases h0 : t.val % 16 = 0
    · rw [outs_first m c t h0]
    · rw [outs_next m c t h0]
  rw [e]
  unfold xr xd xx
  simp only [blk_0 h, blk_1 h, blk_2 h, blk_3 h, blk_4 h, blk_5 h, blk_6 h, blk_7 h]
  exact at_pay3 Y W Rb gb bb g b T (pt t) r q

end Cert.HeadVal

end
-- ==== Proof.HeadFinal.lean ====
/-
  The loss head's kernel, read over real arguments: its six result arrays.
-/
module

public import proofs.«01_k».proof.Proof.HeadVal
public import Idealize.ShloMosaic.Lib.Pipeline.ValueKit

@[expose] public section

set_option maxRecDepth 16384

noncomputable section

namespace Cert.HeadVal

open Idealize.ShloMosaic Idealize.ShloMosaic.Pointwise Idealize.ShloMosaic.TcCoe Idealize.SL.Sem Cert.Rows Cert.Head Cert.HeadTile
  Cert.HeadOuts Cert.KernelIdeal Cert.KernelIdeal.Gen

variable (m : (ℓ : Loc nD τ sig) → Buf (Elt Ideal) ℓ) (c : Dev nD)
variable (Y : Mat 8192 2048) (W : Mat 2048 1024) (Rb : Mat 8192 1024) (gb bb g b : Mat 1 1024) (T : Mat 8192 1024)

variable {m c Y W Rb gb bb g b T}

/-- The last grid point. -/
def lastPt : Fin cfg0.N := ⟨15, by rw [show cfg0.N = 16 from N_0]; decide⟩

/-! ## The result arrays -/

/-- The residual sum's gradient. -/
theorem final_8 (h : Holds m c Y W Rb gb bb g b T) : (dats m 0 c).arrAt 8 cfg0.N
    = fun j : (⟨2, ![8192, 1024]⟩ : Shape).Idx => ((dres Y W Rb gb bb g b T (j 0) (j 1) : ℝ) : EReal) := by
  have hi : ∀ t : Fin cfg0.N, win0_8.index t 0 = t.val ∧ win0_8.index t 1 = 0 :=
    (by decide +kernel : ∀ t : Fin grid0.N, _)
  refine (dats m 0 c).arrAt_eq_of_covers 8 _ (by decide +kernel) fun t hf y => ?_
  blk_simp
  rw [after0_8]
  idx_vars y
  refine (outs_8 h t y0 y1).trans (congrArg Real.toEReal (congrArg₂ (dres Y W Rb gb bb g b T) (Fin.ext ?_) (Fin.ext ?_)))
  · show 512 * t.val + y0.val = _
    blk_simp [(hi t).1]
    omega
  · show y1.val = _
    blk_simp [(hi t).2]

/-- Its rounded copy. -/
theorem final_9 (h : Holds m c Y W Rb gb bb g b T) : (dats m 0 c).arrAt 9 cfg0.N
    = fun j : (⟨2, ![8192, 1024]⟩ : Shape).Idx => ((dres Y W Rb gb bb g b T (j 0) (j 1) : ℝ) : EReal) := by
  have hi : ∀ t : Fin cfg0.N, win0_9.index t 0 = t.val ∧ win0_9.index t 1 = 0 :=
    (by decide +kernel : ∀ t : Fin grid0.N, _)
  refine (dats m 0 c).arrAt_eq_of_covers 9 _ (by decide +kernel) fun t hf y => ?_
  blk_simp
  rw [after0_9]
  idx_vars y
  refine (outs_9 h t y0 y1).trans (congrArg Real.toEReal (congrArg₂ (dres Y W Rb gb bb g b T) (Fin.ext ?_) (Fin.ext ?_)))
  · show 512 * t.val + y0.val = _
    blk_simp [(hi t).1]
    omega
  · show y1.val = _
    blk_simp [(hi t).2]

/-- The gradient of the output product's left side. -/
theorem final_10 (h : Holds m c Y W Rb gb bb g b T) : (dats m 0 c).arrAt 10 cfg0.N
    = fun j : (⟨2, ![8192, 2048]⟩ : Shape).Idx => ((∑ k : Fin 1024, dres Y W Rb gb bb g b T (j 0) k * W (ix2 (j 1) k) : ℝ) : EReal) := by
  have hi : ∀ t : Fin cfg0.N, win0_10.index t 0 = t.val ∧ win0_10.index t 1 = 0 :=
    (by decide +kernel : ∀ t : Fin grid0.N, _)
  refine (dats m 0 c).arrAt_eq_of_covers 10 _ (by decide +kernel) fun t hf y => ?_
  blk_simp
  rw [after0_10]
  idx_vars y
  refine (outs_10 h t y0 y1).trans (congrArg Real.toEReal (congrArg₂ (fun i q => ∑ k : Fin 1024, dres Y W Rb gb bb g b T i k * W (ix2 q k)) (Fin.ext ?_) (Fin.ext ?_)))
  · show 512 * t.val + y0.val = _
    blk_simp [(hi t).1]
    omega
  · show y1.val = _
    blk_simp [(hi t).2]

/-- The scale's gradient. -/
theorem final_11 (h : Holds m c Y W Rb gb bb g b T) : (dats m 0 c).arrAt 11 cfg0.N
    = fun j : (⟨2, ![1, 1024]⟩ : Shape).Idx => ((∑ i, scaleTerm Y W Rb gb bb g b T (j 1) i : ℝ) : EReal) := by
  refine (dats m 0 c).arrAt_eq_of_after_last 11 lastPt (by decide +kernel) _ fun j => ?_
  blk_simp
  rw [after0_11]
  idx_vars j
  obtain rfl : j0 = 0 := Subsingleton.elim _ _
  refine ((acc h 15 lastPt.isLt).1 j1).trans ?_
  rw [show (15 + 1 : ℕ) = 16 from rfl, upto_all]

/-- The offset's gradient. -/
theorem final_12 (h : Holds m c Y W Rb gb bb g b T) : (dats m 0 c).arrAt 12 cfg0.N
    = fun j : (⟨2, ![1, 1024]⟩ : Shape).Idx => ((∑ i, offsetTerm Y W Rb gb bb g b T (j 1) i : ℝ) : EReal) := by
  refine (dats m 0 c).arrAt_eq_of_after_last 12 lastPt (by decide +kernel) _ fun j => ?_
  blk_simp
  rw [after0_12]
  idx_vars j
  obtain rfl : j0 = 0 := Subsingleton.elim _ _
  refine ((acc h 15 lastPt.isLt).2.1 j1).trans ?_
  rw [show (15 + 1 : ℕ) = 16 from rfl, upto_all]

/-- The loss. -/
theorem final_13 (h : Holds m c Y W Rb gb bb g b T) : (dats m 0 c).arrAt 13 cfg0.N
    = fun _ : (⟨2, ![1, 1]⟩ : Shape).Idx => ((1 / 2 * ∑ i, lossTerm Y W Rb gb bb g b T i : ℝ) : EReal) := by
  refine (dats m 0 c).arrAt_eq_of_after_last 13 lastPt (by decide +kernel) _ fun j => ?_
  blk_simp
  rw [after0_13]
  idx_vars j
  obtain rfl : j0 = 0 := Subsingleton.elim _ _
  obtain rfl : j1 = 0 := Subsingleton.elim _ _
  refine ((acc h 15 lastPt.isLt).2.2).trans ?_
  rw [show (15 + 1 : ℕ) = 16 from rfl, upto_all]

end Cert.HeadVal

end
-- ==== Proof.HeadClaim.lean ====
/-
  The loss head's value claim: on finite arguments the kernel and the reference leave the same six results.
-/
module

public import proofs.«01_k».proof.Defs
public import proofs.«01_k».proof.Proof.Gen.Pre_finite
public import proofs.«01_k».proof.Proof.Gen.ReferenceIdeal
public import proofs.«01_k».proof.Proof.Gen.ReferenceIdeal.Run
public import proofs.«01_k».proof.Proof.Finite
public import proofs.«01_k».proof.Proof.HeadFinal

@[expose] public section

set_option maxRecDepth 16384

noncomputable section

namespace Cert.HeadClaim

open Idealize.ShloMosaic Idealize.ShloMosaic.Pointwise Idealize.ShloMosaic.StableHlo Idealize.SL.Sem Cert.Rows Cert.Head
  Cert.HeadVal Cert.HeadRef

/-! ## The precondition -/

section
open Cert.KernelIdeal
variable (m : (ℓ : Loc nD τ sig) → Buf (Elt Ideal) ℓ) (c : Dev nD)

/-- On finite arguments the launch memory holds their reals. -/
theorem holds (hp : Cert.Pre_KernelIdeal_finite m) :
    Holds m c (reals (m ((c.tc : Thread nD τ).loc main_arg0))) (reals (m ((c.tc : Thread nD τ).loc main_arg1)))
      (reals (m ((c.tc : Thread nD τ).loc main_arg2))) (reals (m ((c.tc : Thread nD τ).loc main_arg3)))
      (reals (m ((c.tc : Thread nD τ).loc main_arg4))) (reals (m ((c.tc : Thread nD τ).loc main_arg5)))
      (reals (m ((c.tc : Thread nD τ).loc main_arg6))) (reals (m ((c.tc : Thread nD τ).loc main_arg7))) := by
  obtain ⟨h0, h1, h2, h3, h4, h5, h6, h7⟩ := hp c
  exact ⟨eq_up_reals _ _ h0, eq_up_reals _ _ h1, eq_up_reals _ _ h2, eq_up_reals _ _ h3, eq_up_reals _ _ h4,
    eq_up_reals _ _ h5, eq_up_reals _ _ h6, eq_up_reals _ _ h7⟩

end

/-! ## The reference's results -/

section
open Cert.ReferenceIdeal Cert.ReferenceIdeal.Read
variable {a0 : S8192x2048.Idx → EReal} {a1 : S2048x1024.Idx → EReal} {a2 a7 : S8192x1024.Idx → EReal}
  {a3 a4 a5 a6 : S1x1024.Idx → EReal}
variable {Y : Mat 8192 2048} {W : Mat 2048 1024} {Rb : Mat 8192 1024} {gb bb g b : Mat 1 1024} {T : Mat 8192 1024}

theorem ref_dr (h0 : a0 = up Y) (h1 : a1 = up W) (h2 : a2 = up Rb) (h3 : a3 = up gb) (h4 : a4 = up bb) (h5 : a5 = up g)
    (h6 : a6 = up b) (h7 : a7 = up T) : val_main_v98 (F := Ideal) a0 a1 a2 a3 a4 a5 a6 a7
      = fun j => ((dres Y W Rb gb bb g b T (j 0) (j 1) : ℝ) : EReal) := by
  subst h0 h1 h2 h3 h4 h5 h6 h7
  funext j
  idx_vars j
  exact at_v98 Y W Rb gb bb g b T j0 j1

theorem ref_dr_low (h0 : a0 = up Y) (h1 : a1 = up W) (h2 : a2 = up Rb) (h3 : a3 = up gb) (h4 : a4 = up bb) (h5 : a5 = up g)
    (h6 : a6 = up b) (h7 : a7 = up T) : val_main_v101 (F := Ideal) a0 a1 a2 a3 a4 a5 a6 a7
      = fun j => ((dres Y W Rb gb bb g b T (j 0) (j 1) : ℝ) : EReal) :=
  (ref_dr h0 h1 h2 h3 h4 h5 h6 h7 :)

theorem ref_dy (h0 : a0 = up Y) (h1 : a1 = up W) (h2 : a2 = up Rb) (h3 : a3 = up gb) (h4 : a4 = up bb) (h5 : a5 = up g)
    (h6 : a6 = up b) (h7 : a7 = up T) : val_main_v102 (F := Ideal) a0 a1 a2 a3 a4 a5 a6 a7
      = fun j => ((∑ k : Fin 1024, dres Y W Rb gb bb g b T (j 0) k * W (ix2 (j 1) k) : ℝ) : EReal) := by
  subst h0 h1 h2 h3 h4 h5 h6 h7
  funext j
  idx_vars j
  exact at_v100 Y W Rb gb bb g b T j0 j1

theorem ref_dg (h0 : a0 = up Y) (h1 : a1 = up W) (h2 : a2 = up Rb) (h3 : a3 = up gb) (h4 : a4 = up bb) (h5 : a5 = up g)
    (h6 : a6 = up b) (h7 : a7 = up T) : val_main_v72 (F := Ideal) a0 a1 a2 a3 a4 a5 a6 a7
      = fun j => ((∑ i, scaleTerm Y W Rb gb bb g b T (j 1) i : ℝ) : EReal) := by
  subst h0 h1 h2 h3 h4 h5 h6 h7
  funext j
  idx_vars j
  obtain rfl : j0 = 0 := Subsingleton.elim _ _
  refine (at_v72 Y W Rb gb bb g b T j1).trans (congrArg Real.toEReal ?_)
  exact Finset.sum_congr rfl fun i _ => mul_comm _ _

theorem ref_db (h0 : a0 = up Y) (h1 : a1 = up W) (h2 : a2 = up Rb) (h3 : a3 = up gb) (h4 : a4 = up bb) (h5 : a5 = up g)
    (h6 : a6 = up b) (h7 : a7 = up T) : val_main_v69 (F := Ideal) a0 a1 a2 a3 a4 a5 a6 a7
      = fun j => ((∑ i, offsetTerm Y W Rb gb bb g b T (j 1) i : ℝ) : EReal) := by
  subst h0 h1 h2 h3 h4 h5 h6 h7
  funext j
  idx_vars j
  obtain rfl : j0 = 0 := Subsingleton.elim _ _
  exact at_v69 Y W Rb gb bb g b T j1

theorem ref_loss (h0 : a0 = up Y) (h1 : a1 = up W) (h2 : a2 = up Rb) (h3 : a3 = up gb) (h4 : a4 = up bb) (h5 : a5 = up g)
    (h6 : a6 = up b) (h7 : a7 = up T) : val_main_v103 (F := Ideal) a0 a1 a2 a3 a4 a5 a6 a7
      = fun _ => ((1 / 2 * ∑ i, lossTerm Y W Rb gb bb g b T i : ℝ) : EReal) := by
  subst h0 h1 h2 h3 h4 h5 h6 h7
  funext j
  idx_vars j
  obtain rfl : j0 = 0 := Subsingleton.elim _ _
  obtain rfl : j1 = 0 := Subsingleton.elim _ _
  exact at_v103 Y W Rb gb bb g b T

end

/-! ## The claim -/

theorem algebraic : Cert.algebraic_KernelIdeal_ReferenceIdeal_pre_finite := by
  intro m ρ m' ρ' hp hagree
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks (F := Ideal) m ρ, ?_⟩
  refine (θ_run Cert.ReferenceIdeal.defs _ _).mono (fun r h c => ?_) (Cert.ReferenceIdeal.Value.run (F := Ideal) m' ρ')
  have H := holds m c hp
  obtain ⟨g0, g1, g2, g3, g4, g5, g6, g7⟩ := hagree c
  obtain ⟨r0, r1, r2, r3, r4, r5, kept⟩ := h c
  refine ⟨?_, ?_, ?_, ?_, ?_, ?_, kept⟩
  · exact (r0.trans (Cert.ReferenceIdeal.Read.val_main_v98_eq _)).trans ((ref_dr (g0.trans H.y) (g1.trans H.w) (g2.trans H.rb)
      (g3.trans H.gb) (g4.trans H.bb) (g5.trans H.g) (g6.trans H.b) (g7.trans H.t)).trans (final_8 H).symm)
  · exact (r1.trans (Cert.ReferenceIdeal.Read.val_main_v101_eq _)).trans ((ref_dr_low (g0.trans H.y) (g1.trans H.w)
      (g2.trans H.rb) (g3.trans H.gb) (g4.trans H.bb) (g5.trans H.g) (g6.trans H.b) (g7.trans H.t)).trans (final_9 H).symm)
  · exact (r2.trans (Cert.ReferenceIdeal.Read.val_main_v102_eq _)).trans ((ref_dy (g0.trans H.y) (g1.trans H.w) (g2.trans H.rb)
      (g3.trans H.gb) (g4.trans H.bb) (g5.trans H.g) (g6.trans H.b) (g7.trans H.t)).trans (final_10 H).symm)
  · exact (r3.trans (Cert.ReferenceIdeal.Read.val_main_v72_eq _)).trans ((ref_dg (g0.trans H.y) (g1.trans H.w) (g2.trans H.rb)
      (g3.trans H.gb) (g4.trans H.bb) (g5.trans H.g) (g6.trans H.b) (g7.trans H.t)).trans (final_11 H).symm)
  · exact (r4.trans (Cert.ReferenceIdeal.Read.val_main_v69_eq _)).trans ((ref_db (g0.trans H.y) (g1.trans H.w) (g2.trans H.rb)
      (g3.trans H.gb) (g4.trans H.bb) (g5.trans H.g) (g6.trans H.b) (g7.trans H.t)).trans (final_12 H).symm)
  · exact (r5.trans (Cert.ReferenceIdeal.Read.val_main_v103_eq _)).trans ((ref_loss (g0.trans H.y) (g1.trans H.w) (g2.trans H.rb)
      (g3.trans H.gb) (g4.trans H.bb) (g5.trans H.g) (g6.trans H.b) (g7.trans H.t)).trans (final_13 H).symm)

end Cert.HeadClaim

end
-- ==== Proof.Lnb.lean ====
/-
  The backward layer norm between two layers, over the reals: the residual sum, the cotangent of its layer norm's
  result (through the next layer's input product and through the residual connection), the residual sum's gradient.
-/
module

public import proofs.«01_k».proof.Proof.Head

@[expose] public section

noncomputable section

namespace Cert.Lnb

open Idealize.ShloMosaic Idealize.ShloMosaic.Pointwise Cert.Rows Cert.Head

variable (X : Mat 8192 1024) (Y : Mat 8192 2048) (W : Mat 2048 1024) (g : Mat 1 1024) (WI : Mat 1024 6144)
  (DZ : Mat 8192 6144) (DU : Mat 8192 1024)

/-- The residual sum before the layer norm. -/
def res (i : Fin 8192) (k : Fin 1024) : ℝ := alpha * X (ix2 i k) + ∑ q : Fin 2048, Y (ix2 i q) * W (ix2 q k)
/-- The cotangent of the layer norm's result. -/
def dout (i : Fin 8192) (k : Fin 1024) : ℝ := alpha * DU (ix2 i k) + ∑ q : Fin 6144, DZ (ix2 i q) * WI (ix2 k q)
/-- The gradient of the residual sum. -/
def dres (i : Fin 8192) (k : Fin 1024) : ℝ :=
  back (rs (res X Y W i)) (nrm (res X Y W i)) (fun q => dout WI DZ DU i q * g (ix2 0 q)) k

/-- The rows' terms of the scale's and the offset's gradients. -/
def scaleTerm (k : Fin 1024) (i : Fin 8192) : ℝ := dout WI DZ DU i k * nrm (res X Y W i) k
def offsetTerm (k : Fin 1024) (i : Fin 8192) : ℝ := dout WI DZ DU i k

/-- The normalized rows and their reciprocal deviations, as matrices. -/
def xhat : Mat 8192 1024 := fun j => nrm (res X Y W (j 0)) (j 1)
def rstd : Mat 8192 1 := fun j => rs (res X Y W (j 0))

theorem xhat_at (i : Fin 8192) (k : Fin 1024) : xhat X Y W (ix2 i k) = nrm (res X Y W i) k := rfl
theorem rstd_at (i : Fin 8192) : rstd X Y W (ix2 i 0) = rs (res X Y W i) := rfl

/-- Column `j` of the `o`th block of 768 columns. -/
def col (o : Fin 8) (j : Fin 768) : Fin 6144 := ⟨768 * o.val + j.val, by omega⟩

/-- The input product's weights in eight column blocks of 768. -/
def wcol : (⟨3, ![8, 1024, 768]⟩ : Shape).Idx → ℝ := fun j => WI (ix2 (j 1) (col (j 0) (j 2)))

/-- A sum over the columns is the sum of the eight blocks' sums. -/
theorem sum_cols (f : Fin 6144 → ℝ) : ∑ o : Fin 8, ∑ j : Fin 768, f (col o j) = ∑ q, f q := by
  rw [← Fintype.sum_prod_type']
  refine Fintype.sum_equiv (finProdFinEquiv (m := 8) (n := 768)) _ _ fun p => congrArg f (Fin.ext ?_)
  show 768 * p.1.val + p.2.val = p.2.val + 768 * p.1.val
  omega

/-- The cotangent as the eight blocks' products added one after the other. -/
theorem dout_eq (i : Fin 8192) (k : Fin 1024) (p : Fin 8 → ℝ)
    (hp : ∀ o, p o = ∑ j : Fin 768, DZ (ix2 i (col o j)) * WI (ix2 k (col o j))) :
    alpha * DU (ix2 i k) + p 0 + p 1 + p 2 + p 3 + p 4 + p 5 + p 6 + p 7 = dout WI DZ DU i k := by
  unfold dout
  rw [← sum_cols fun q => DZ (ix2 i q) * WI (ix2 k q)]
  simp only [← hp]
  rw [Fin.sum_univ_eight]
  ring

end Cert.Lnb

end
-- ==== Proof.LnbRef.lean ====
/-
  The reference of the backward layer norm between two layers, read over real arguments.
-/
module

public import proofs.«01_k».proof.Proof.Gen.Reference2Ideal.Read
public import proofs.«01_k».proof.Proof.Lnb

@[expose] public section

noncomputable section

namespace Cert.LnbRef

open Idealize.ShloMosaic Idealize.ShloMosaic.Pointwise Cert.Reference2Ideal Cert.Reference2Ideal.Read Cert.Rows Cert.Lnb

variable (X : S8192x1024.Idx → ℝ) (Y : S8192x2048.Idx → ℝ) (W : S2048x1024.Idx → ℝ) (g : S1x1024.Idx → ℝ)
  (WI : S1024x6144.Idx → ℝ) (DZ : S8192x6144.Idx → ℝ) (DU : S8192x1024.Idx → ℝ)

theorem at_v3 (i : Fin 8192) (k : Fin 1024) : val_main_v3 (F := Ideal) (up X) (up Y) (up W) (ix2 i k)
    = ((res X Y W i k : ℝ) : EReal) := by
  pointwise [val_main_v3, val_main_v2, val_main_v1, val_main_v0, val_main_cst]
  simp only [word_alpha, up_apply, sum_coe, ← EReal.coe_mul, ← EReal.coe_add]
  rfl

theorem at_v7 (i : Fin 8192) : val_main_v7 (F := Ideal) (up X) (up Y) (up W) (ix2 i 0)
    = ((mean (res X Y W i) : ℝ) : EReal) := by
  pointwise [val_main_v7, val_main_v6, val_main_v5, val_main_v4, val_main_cst_0, val_main_cst_1]
  simp only [at_v3, word_1024, sum_coe, div_1024]
  rfl

theorem at_v9 (i : Fin 8192) (k : Fin 1024) : val_main_v9 (F := Ideal) (up X) (up Y) (up W) (ix2 i k)
    = ((res X Y W i k - mean (res X Y W i) : ℝ) : EReal) := by
  pointwise [val_main_v9, val_main_v8]
  simp only [at_v3, at_v7, ← EReal.coe_sub]

theorem at_v18 (i : Fin 8192) (k : Fin 1024) : val_main_v18 (F := Ideal) (up X) (up Y) (up W) (ix2 i k)
    = ((res X Y W i k - mean (res X Y W i) : ℝ) : EReal) := at_v9 X Y W i k

theorem at_v20 (i : Fin 8192) : val_main_v20 (F := Ideal) (up X) (up Y) (up W) (ix2 i 0)
    = ((var (res X Y W i) + eps : ℝ) : EReal) := by
  pointwise [val_main_v20, val_main_v19, val_main_v16, val_main_v15, val_main_v14, val_main_v13, val_main_v10, val_main_cst_3,
    val_main_cst_4, val_main_cst_5]
  simp only [at_v9, word_1024, word_eps, ← EReal.coe_mul, sum_coe, div_1024, ← EReal.coe_add]
  rfl

theorem at_v21 (i : Fin 8192) : val_main_v21 (F := Ideal) (up X) (up Y) (up W) (ix2 i 0)
    = ((rs (res X Y W i) : ℝ) : EReal) := by
  pointwise [val_main_v21]
  rw [at_v20]
  exact rsqrt_real (var_eps_pos _)

theorem at_v24 (i : Fin 8192) : val_main_v24 (F := Ideal) (up X) (up Y) (up W) (ix2 i 0)
    = ((-(1 / 2) * (rs (res X Y W i) / (var (res X Y W i) + eps)) : ℝ) : EReal) := by
  pointwise [val_main_v24, val_main_v23, val_main_v22, val_main_cst_6]
  simp only [at_v20, at_v21, word_neg_half, div_real (var_eps_pos _).ne', ← EReal.coe_mul]

theorem at_v26 (i : Fin 8192) (k : Fin 1024) : val_main_v26 (F := Ideal) (up X) (up Y) (up W) (ix2 i k)
    = ((nrm (res X Y W i) k : ℝ) : EReal) := by
  pointwise [val_main_v26, val_main_v25]
  simp only [at_v18, at_v21, ← EReal.coe_mul]
  rfl

theorem at_v37 (i : Fin 8192) (k : Fin 1024) : val_main_v37 (F := Ideal) (up WI) (up DZ) (up DU) (ix2 i k)
    = ((dout WI DZ DU i k : ℝ) : EReal) := by
  pointwise [val_main_v37, val_main_v36, val_main_v35, val_main_v34, val_main_cst_8]
  simp only [up_apply, word_alpha, sum_coe, ← EReal.coe_mul, ← EReal.coe_add]
  rfl

/-- The gradient of the offset. -/
theorem at_v39 (k : Fin 1024) : val_main_v39 (F := Ideal) (up WI) (up DZ) (up DU) (ix2 0 k)
    = ((∑ i, offsetTerm WI DZ DU k i : ℝ) : EReal) := by
  pointwise [val_main_v39, val_main_v38, val_main_cst_9]
  simp only [at_v37, sum_coe]
  rfl

/-- The gradient of the scale. -/
theorem at_v42 (k : Fin 1024) : val_main_v42 (F := Ideal) (up X) (up Y) (up W) (up WI) (up DZ) (up DU) (ix2 0 k)
    = ((∑ i, scaleTerm X Y W WI DZ DU k i : ℝ) : EReal) := by
  pointwise [val_main_v42, val_main_v41, val_main_v40, val_main_cst_10]
  simp only [at_v37, at_v26, sum_coe, ← EReal.coe_mul]
  exact congrArg Real.toEReal (Finset.sum_congr rfl fun i _ => mul_comm _ _)

theorem at_v44 (i : Fin 8192) (k : Fin 1024) : val_main_v44 (F := Ideal) (up g) (up WI) (up DZ) (up DU) (ix2 i k)
    = ((dout WI DZ DU i k * g (ix2 0 k) : ℝ) : EReal) := by
  pointwise [val_main_v44, val_main_v43]
  simp only [at_v37, up_apply, ← EReal.coe_mul]

theorem at_v49 (i : Fin 8192) (k : Fin 1024) :
    val_main_v49 (F := Ideal) (up X) (up Y) (up W) (up g) (up WI) (up DZ) (up DU) (ix2 i k)
      = ((dout WI DZ DU i k * g (ix2 0 k) * rs (res X Y W i) : ℝ) : EReal) := by
  pointwise [val_main_v49, val_main_v48]
  simp only [at_v44, at_v21, ← EReal.coe_mul]

theorem at_v58 (i : Fin 8192) (k : Fin 1024) :
    val_main_v58 (F := Ideal) (up X) (up Y) (up W) (up g) (up WI) (up DZ) (up DU) (ix2 i k)
      = (((∑ q, (res X Y W i q - mean (res X Y W i)) * (dout WI DZ DU i q * g (ix2 0 q)))
          * (-(1 / 2) * (rs (res X Y W i) / (var (res X Y W i) + eps))) / 1024
          * (2 * (res X Y W i k - mean (res X Y W i))) : ℝ) : EReal) := by
  pointwise [val_main_v58, val_main_v57, val_main_v56, val_main_v55, val_main_v54, val_main_v50, val_main_v47, val_main_v46,
    val_main_v45, val_main_v12, val_main_v11, val_main_cst_2, val_main_cst_11, val_main_cst_13, val_main_cst_14]
  simp only [Finset.univ_unique, Fin.default_eq_zero, Finset.sum_singleton, Fin.isValue, at_v44, at_v18, at_v9, at_v24, word_two,
    word_1024, sum_coe, div_1024, ← EReal.coe_mul]

/-- The gradient of the residual sum. -/
theorem at_v68 (i : Fin 8192) (k : Fin 1024) :
    val_main_v68 (F := Ideal) (up X) (up Y) (up W) (up g) (up WI) (up DZ) (up DU) (ix2 i k)
      = ((dres X Y W g WI DZ DU i k : ℝ) : EReal) := by
  pointwise [val_main_v68, val_main_v67, val_main_v66, val_main_v65, val_main_v64, val_main_v63, val_main_v62, val_main_v61,
    val_main_v60, val_main_v59, val_main_v53, val_main_v52, val_main_v51, val_main_cst_12, val_main_cst_15, val_main_cst_16,
    val_main_cst_17]
  simp only [Finset.univ_unique, Fin.default_eq_zero, Finset.sum_singleton, at_v49, at_v58, word_1024, sum_coe, div_1024,
    ← EReal.coe_mul, ← EReal.coe_neg, ← EReal.coe_add]
  exact congrArg _ (back_of_reverse (res X Y W i) (fun q => dout WI DZ DU i q * g (ix2 0 q)) k _ rfl _ _ rfl rfl)

/-- The gradient of the output product's left side. -/
theorem at_v70 (i : Fin 8192) (q : Fin 2048) :
    val_main_v70 (F := Ideal) (up X) (up Y) (up W) (up g) (up WI) (up DZ) (up DU) (ix2 i q)
      = ((∑ k : Fin 1024, dres X Y W g WI DZ DU i k * W (ix2 q k) : ℝ) : EReal) := by
  pointwise [val_main_v70]
  simp only [at_v68, up_apply, sum_coe, ← EReal.coe_mul]

end Cert.LnbRef

end
-- ==== Proof.LnbVal.lean ====
/-
  The kernel of the backward layer norm between two layers, read over real arguments.
-/
module

public import proofs.«01_k».proof.Proof.Gen.Kernel2Ideal.Value
public import proofs.«01_k».proof.Proof.LnbRef
public import Idealize.ShloMosaic.Lib.Pipeline.ValueKit

@[expose] public section

set_option maxRecDepth 16384

noncomputable section

namespace Cert.LnbVal

open Idealize.ShloMosaic Idealize.ShloMosaic.Pointwise Idealize.ShloMosaic.TcCoe Idealize.SL.Sem Cert.Rows Cert.Lnb
  Cert.Kernel2Ideal Cert.Kernel2Ideal.Gen
open Cert.Head (Mat tile row wblk tile_at wblk_at upto upto_next upto_zero upto_all)

/-! ## The body's values over real blocks -/

section
variable (X : Mat 8192 1024) (Y : Mat 8192 2048) (W : Mat 2048 1024) (g : Mat 1 1024) (WI : Mat 1024 6144)
  (DZ : Mat 8192 6144) (DU : Mat 8192 1024) (t : Fin 16)

/-- The blocks one grid point reads. -/
abbrev bz : Vec Ideal S512x6144 .bf16 := up (tile DZ t)
abbrev bi : Vec Ideal S8x1024x768 .bf16 := up (wcol WI)
abbrev bu : Vec Ideal S512x1024 .f32 := up (tile DU t)
abbrev bx : Vec Ideal S512x1024 .f32 := up (tile (xhat X Y W) t)
abbrev br : Vec Ideal S512x1 .f32 := up (tile (rstd X Y W) t)
abbrev bg : Vec Ideal S1x1024 .f32 := up g
abbrev bw : Vec Ideal S8x256x1024 .bf16 := up (wblk W)

/-- The cotangents of the rows' layer norm results, from the blocks the body loads them from. -/
def vd {F : FTy → Type} [FloatOps F] (z : Vec F S512x6144 .bf16) (w : Vec F S8x1024x768 .bf16) (u : Vec F S512x1024 .f32) :
    FVec F S512x1024 .f32 :=
  k0_pay6 (k0_pay4 u (View.ld z (Rect.unit ![0, 0] ![512, 768] inb_S512x6144_S512x768_0_0))
      (View.ld w (Rect.unit ![0, 0, 0] ![1, 1024, 768] inb_S8x1024x768_S1x1024x768_0_0_0))
      (View.ld z (Rect.unit ![0, 768] ![512, 768] inb_S512x6144_S512x768_0_768))
      (View.ld w (Rect.unit ![1, 0, 0] ![1, 1024, 768] inb_S8x1024x768_S1x1024x768_1_0_0))
      (View.ld z (Rect.unit ![0, 1536] ![512, 768] inb_S512x6144_S512x768_0_1536))
      (View.ld w (Rect.unit ![2, 0, 0] ![1, 1024, 768] inb_S8x1024x768_S1x1024x768_2_0_0)))
    (k0_pay5 (View.ld z (Rect.unit ![0, 2304] ![512, 768] inb_S512x6144_S512x768_0_2304))
      (View.ld w (Rect.unit ![3, 0, 0] ![1, 1024, 768] inb_S8x1024x768_S1x1024x768_3_0_0)))
    (View.ld z (Rect.unit ![0, 3072] ![512, 768] inb_S512x6144_S512x768_0_3072))
    (View.ld w (Rect.unit ![4, 0, 0] ![1, 1024, 768] inb_S8x1024x768_S1x1024x768_4_0_0))
    (View.ld z (Rect.unit ![0, 3840] ![512, 768] inb_S512x6144_S512x768_0_3840))
    (View.ld w (Rect.unit ![5, 0, 0] ![1, 1024, 768] inb_S8x1024x768_S1x1024x768_5_0_0))
    (View.ld z (Rect.unit ![0, 4608] ![512, 768] inb_S512x6144_S512x768_0_4608))
    (View.ld w (Rect.unit ![6, 0, 0] ![1, 1024, 768] inb_S8x1024x768_S1x1024x768_6_0_0))
    (View.ld z (Rect.unit ![0, 5376] ![512, 768] inb_S512x6144_S512x768_0_5376))
    (View.ld w (Rect.unit ![7, 0, 0] ![1, 1024, 768] inb_S8x1024x768_S1x1024x768_7_0_0))

/-- A block of 768 columns of the rows' tile. -/
theorem ld_z (o : Fin 8) (n : ℕ) (hn : n = 768 * o.val) (inb) (r : Fin 512) (j : Fin 768) :
    View.ld (bz DZ t) (Rect.unit (s := S512x6144) ![0, n] ![512, 768] inb) (ix2 r j) = ((DZ (ix2 (row t r) (col o j)) : ℝ) : EReal) := by
  refine (View.ld_unit_apply_of (bz DZ t) _ _ _ _ (ix2 r (col o j)) fun a => ?_).trans rfl
  subst hn
  match a with
  | ⟨0, _⟩ => exact (Nat.zero_add _).symm
  | ⟨1, _⟩ => rfl

/-- A block of 768 columns of the weights. -/
theorem ld_w (o : Fin 8) (n : ℕ) (hn : n = o.val) (inb) (k : Fin 1024) (j : Fin 768) :
    View.ld (bi WI) (Rect.unit (s := S8x1024x768) ![n, 0, 0] ![1, 1024, 768] inb) (ix3 0 k j)
      = ((WI (ix2 k (col o j)) : ℝ) : EReal) := by
  refine (View.ld_unit_apply_of (bi WI) _ _ _ _ (ix3 o k j) fun a => ?_).trans rfl
  subst hn
  match a with
  | ⟨0, _⟩ => rfl
  | ⟨1, _⟩ => exact (Nat.zero_add _).symm
  | ⟨2, _⟩ => exact (Nat.zero_add _).symm

theorem at_vd (r : Fin 512) (k : Fin 1024) : vd (F := Ideal) (bz DZ t) (bi WI) (bu DU t) (ix2 r k)
    = ((dout WI DZ DU (row t r) k : ℝ) : EReal) := by
  unfold vd
  pointwise [k0_pay6, k0_pay5, k0_pay4]
  simp only [ld_z DZ t 0 0 rfl, ld_z DZ t 1 768 rfl, ld_z DZ t 2 1536 rfl, ld_z DZ t 3 2304 rfl, ld_z DZ t 4 3072 rfl,
    ld_z DZ t 5 3840 rfl, ld_z DZ t 6 4608 rfl, ld_z DZ t 7 5376 rfl, ld_w WI 0 0 rfl, ld_w WI 1 1 rfl, ld_w WI 2 2 rfl,
    ld_w WI 3 3 rfl, ld_w WI 4 4 rfl, ld_w WI 5 5 rfl, ld_w WI 6 6 rfl, ld_w WI 7 7 rfl, up_apply, word_alpha, tile_at, sum_coe,
    ← EReal.coe_mul, ← EReal.coe_add]
  exact congrArg Real.toEReal (dout_eq WI DZ DU (row t r) k _ fun o => rfl)

/-- The rows' share of the scale's gradient, added to what the accumulator holds. -/
theorem at_pay9 (acc : Vec Ideal S1x1024 .f32) (k : Fin 1024) (s : ℝ) (h : acc (ix2 0 k) = ((s : ℝ) : EReal)) :
    k0_pay9 (F := Ideal) (vd (bz DZ t) (bi WI) (bu DU t)) (k0_pay7 (bx X Y W t)) acc (ix2 0 k)
    = ((s + ∑ r, scaleTerm X Y W WI DZ DU k (row t r) : ℝ) : EReal) := by
  pointwise [k0_pay9, k0_pay7]
  simp only [h, at_vd, up_apply, tile_at, xhat_at, sum_coe, ← EReal.coe_mul, ← EReal.coe_add]
  rfl

/-- The rows' share of the offset's gradient, added to what the accumulator holds. -/
theorem at_pay10 (acc : Vec Ideal S1x1024 .f32) (k : Fin 1024) (s : ℝ) (h : acc (ix2 0 k) = ((s : ℝ) : EReal)) :
    k0_pay10 (F := Ideal) (vd (bz DZ t) (bi WI) (bu DU t)) acc (ix2 0 k)
    = ((s + ∑ r, offsetTerm WI DZ DU k (row t r) : ℝ) : EReal) := by
  pointwise [k0_pay10]
  simp only [h, at_vd, sum_coe, ← EReal.coe_mul, ← EReal.coe_add]
  rfl

/-- The gradients of the rows of the residual sum. -/
theorem at_pay11 (r : Fin 512) (k : Fin 1024) :
    k0_pay11 (F := Ideal) (vd (bz DZ t) (bi WI) (bu DU t)) (k0_pay7 (bx X Y W t)) (k0_pay8 (br X Y W t)) (bg g) (ix2 r k)
    = ((dres X Y W g WI DZ DU (row t r) k : ℝ) : EReal) := by
  pointwise [k0_pay11, k0_pay7, k0_pay8]
  simp only [at_vd, up_apply, tile_at, xhat_at, rstd_at, word_1024, sum_coe, div_1024, ← EReal.coe_mul, ← EReal.coe_sub]
  rfl

/-- The gradients of the rows of the output product's left side. -/
theorem at_pay1 (r : Fin 512) (q : Fin 2048) :
    k0_pay1 (F := Ideal) (k0_pay12 (vd (bz DZ t) (bi WI) (bu DU t)) (k0_pay7 (bx X Y W t)) (k0_pay8 (br X Y W t)) (bg g))
      (bw W) (ix2 r q)
    = ((∑ k : Fin 1024, dres X Y W g WI DZ DU (row t r) k * W (ix2 q k) : ℝ) : EReal) := by
  pointwise [k0_pay1, k0_pay12]
  simp only [at_pay11, up_apply, wblk_at, sum_coe, ← EReal.coe_mul]

end

/-! ## What a point leaves -/

section
variable {F : FTy → Type} [FloatOps F]
variable (m : (ℓ : Loc nD τ sig) → Buf (Elt F) ℓ) (c : Dev nD)

/-- The cotangents, of the blocks at point `t`. -/
abbrev xd (t : Fin cfg0.N) : FVec F S512x1024 .f32 := vd (iblk m c 0 t) (iblk m c 1 t) (iblk m c 2 t)

theorem out_dr (t : Fin cfg0.N) : (outsAt0 m c t.val t.isLt).1
    = k0_pay11 (xd m c t) (k0_pay7 (iblk m c 3 t)) (k0_pay8 (iblk m c 4 t)) (iblk m c 5 t) := by
  funext j
  by_cases h0 : t.val % 16 = 0
  · rw [outsAt0_A m c t h0]; frame_out; rfl
  · rw [outsAt0_B m c t h0]; frame_out; rfl

theorem out_dr_low (t : Fin cfg0.N) : (outsAt0 m c t.val t.isLt).2.1
    = k0_pay12 (xd m c t) (k0_pay7 (iblk m c 3 t)) (k0_pay8 (iblk m c 4 t)) (iblk m c 5 t) := by
  funext j
  by_cases h0 : t.val % 16 = 0
  · rw [outsAt0_A m c t h0]; frame_out; rfl
  · rw [outsAt0_B m c t h0]; frame_out; rfl

theorem out_dy (t : Fin cfg0.N) : (outsAt0 m c t.val t.isLt).2.2.1
    = k0_pay1 (k0_pay12 (xd m c t) (k0_pay7 (iblk m c 3 t)) (k0_pay8 (iblk m c 4 t)) (iblk m c 5 t)) (iblk m c 6 t) := by
  funext j
  by_cases h0 : t.val % 16 = 0
  · rw [outsAt0_A m c t h0]; frame_out; rfl
  · rw [outsAt0_B m c t h0]; frame_out; rfl

theorem first_dg (t : Fin cfg0.N) (h0 : t.val % 16 = 0) : (outsAt0 m c t.val t.isLt).2.2.2.1
    = k0_pay9 (xd m c t) (k0_pay7 (iblk m c 3 t)) k0_pay2 := by
  funext j
  rw [outsAt0_A m c t h0]; frame_out; rfl

theorem first_db (t : Fin cfg0.N) (h0 : t.val % 16 = 0) : (outsAt0 m c t.val t.isLt).2.2.2.2
    = k0_pay10 (xd m c t) k0_pay3 := by
  funext j
  rw [outsAt0_A m c t h0]; frame_out; rfl

/-- What the point before left. -/
abbrev prev (t : Fin cfg0.N) := outsAt0 m c (t.val - 1) (Nat.lt_of_le_of_lt (Nat.sub_le _ _) t.isLt)

theorem next_dg (t : Fin cfg0.N) (h0 : ¬t.val % 16 = 0) : (outsAt0 m c t.val t.isLt).2.2.2.1
    = k0_pay9 (xd m c t) (k0_pay7 (iblk m c 3 t)) (prev m c t).2.2.2.1 := by
  funext j
  rw [outsAt0_B m c t h0]; frame_out; rfl

theorem next_db (t : Fin cfg0.N) (h0 : ¬t.val % 16 = 0) : (outsAt0 m c t.val t.isLt).2.2.2.2
    = k0_pay10 (xd m c t) (prev m c t).2.2.2.2 := by
  funext j
  rw [outsAt0_B m c t h0]; frame_out; rfl

end

end Cert.LnbVal

end
-- ==== Proof.LnbFinal.lean ====
/-
  The kernel of the backward layer norm between two layers: the blocks it reads from the launch memory, the accumulators
  point by point, its five results.
-/
module

public import proofs.«01_k».proof.Proof.LnbVal

@[expose] public section

set_option maxRecDepth 16384

noncomputable section

namespace Cert.LnbVal

open Idealize.ShloMosaic Idealize.ShloMosaic.Pointwise Idealize.ShloMosaic.TcCoe Idealize.SL.Sem Cert.Rows Cert.Lnb
  Cert.Kernel2Ideal Cert.Kernel2Ideal.Gen
open Cert.Head (Mat tile row wblk tile_at wblk_at upto upto_next upto_zero upto_all)

variable (m : (ℓ : Loc nD τ sig) → Buf (Elt Ideal) ℓ) (c : Dev nD)
variable (X : Mat 8192 1024) (Y : Mat 8192 2048) (W : Mat 2048 1024) (g : Mat 1 1024) (WI : Mat 1024 6144)
  (DZ : Mat 8192 6144) (DU : Mat 8192 1024)

/-- The launch memory holds the real arguments. -/
structure Holds : Prop where
  x : m ((c.tc : Thread nD τ).loc main_arg0) = up X
  y : m ((c.tc : Thread nD τ).loc main_arg1) = up Y
  w : m ((c.tc : Thread nD τ).loc main_arg2) = up W
  g : m ((c.tc : Thread nD τ).loc main_arg3) = up g
  wi : m ((c.tc : Thread nD τ).loc main_arg5) = up WI
  dz : m ((c.tc : Thread nD τ).loc main_arg6) = up DZ
  du : m ((c.tc : Thread nD τ).loc main_arg7) = up DU

/-- A grid point's number. -/
def pt (t : Fin cfg0.N) : Fin 16 := ⟨t.val, lt_of_lt_of_eq t.isLt N_0⟩

variable {m c X Y W g WI DZ DU}

/-! ## What the host lines prepare -/

theorem V_dz (h : Holds m c X Y W g WI DZ DU) : V m c main_v27 = up DZ := by
  unfold V
  after_results
  exact h.dz

theorem V_du (h : Holds m c X Y W g WI DZ DU) : V m c main_arg7 = up DU := by
  unfold V
  after_results
  exact h.du

theorem V_g (h : Holds m c X Y W g WI DZ DU) : V m c main_arg3 = up g := by
  unfold V
  after_results
  exact h.g

theorem wi_blocks : transpose S8x1024x768 [1, 0, 2] (shapeCast S1024x8x768 (truncf (F := Ideal) .bf16
    (up WI : Vec Ideal S1024x6144 .f32) bitsLt_bf16_f32) shapeCasts_S1024x6144_S1024x8x768)
    transposes_S1024x8x768_S8x1024x768_1_0_2 = (up (wcol WI) : Vec Ideal S8x1024x768 .bf16) := by
  funext j
  idx_vars j
  pointwise
  refine congrArg (fun q => up WI (ix2 j1 q)) (Fin.ext ?_)
  show _ = 768 * j0.val + j2.val
  dsimp only
  omega

theorem V_wi (h : Holds m c X Y W g WI DZ DU) : V m c main_v24 = up (wcol WI) := by
  have e : V m c main_v24 = transpose S8x1024x768 [1, 0, 2] (shapeCast S1024x8x768 (truncf (F := Ideal) .bf16
      (m ((c.tc : Thread nD τ).loc main_arg5) : Vec Ideal S1024x6144 .f32) bitsLt_bf16_f32) shapeCasts_S1024x6144_S1024x8x768)
      transposes_S1024x8x768_S8x1024x768_1_0_2 := by
    unfold V
    after_results
    rfl
  rw [e, h.wi]
  exact wi_blocks

theorem w_blocks : shapeCast S8x256x1024 (truncf (F := Ideal) .bf16 (up W : Vec Ideal S2048x1024 .f32) bitsLt_bf16_f32)
    shapeCasts_S2048x1024_S8x256x1024 = (up (wblk W) : Vec Ideal S8x256x1024 .bf16) := by
  funext j
  idx_vars j
  pointwise
  exact congrArg (fun z => up W (ix2 z j2)) (Fin.ext (by dsimp only [ix3]; omega))

theorem V_w (h : Holds m c X Y W g WI DZ DU) : V m c main_v26 = up (wblk W) := by
  have e : V m c main_v26 = shapeCast S8x256x1024
      (truncf (F := Ideal) .bf16 (m ((c.tc : Thread nD τ).loc main_arg2) : Vec Ideal S2048x1024 .f32) bitsLt_bf16_f32)
      shapeCasts_S2048x1024_S8x256x1024 := by
    unfold V
    after_results
    rfl
  rw [e, h.w]
  exact w_blocks

theorem V_xhat (h : Holds m c X Y W g WI DZ DU) : V m c main_v21 = up (xhat X Y W) := by
  have e : V m c main_v21 = Cert.Reference2Ideal.Read.val_main_v26 (F := Ideal) (m ((c.tc : Thread nD τ).loc main_arg0))
      (m ((c.tc : Thread nD τ).loc main_arg1)) (m ((c.tc : Thread nD τ).loc main_arg2)) := by
    unfold V
    after_results
    rfl
  rw [e, h.x, h.y, h.w]
  funext j
  idx_vars j
  exact Cert.LnbRef.at_v26 X Y W _ _

theorem V_rstd (h : Holds m c X Y W g WI DZ DU) : V m c main_v17 = up (rstd X Y W) := by
  have e : V m c main_v17 = Cert.Reference2Ideal.Read.val_main_v21 (F := Ideal) (m ((c.tc : Thread nD τ).loc main_arg0))
      (m ((c.tc : Thread nD τ).loc main_arg1)) (m ((c.tc : Thread nD τ).loc main_arg2)) := by
    unfold V
    after_results
    rfl
  rw [e, h.x, h.y, h.w]
  funext j
  idx_vars j
  obtain rfl : j1 = 0 := Subsingleton.elim _ _
  exact Cert.LnbRef.at_v21 X Y W _

/-! ## The blocks -/

theorem blk_0 (h : Holds m c X Y W g WI DZ DU) (t : Fin cfg0.N) : iblk m c 0 t = up (tile DZ (pt t)) := by
  have hi : ∀ t : Fin grid0.N, win0_0.index t 0 = t.val ∧ win0_0.index t 1 = 0 := by decide +kernel
  funext j
  unfold iblk
  rw [View.read_apply]
  show V m c main_v27 _ = _
  rw [V_dz h]
  refine congrArg (fun z : S8192x6144.Idx => ((DZ z : ℝ) : EReal)) (funext fun a => Fin.ext ?_)
  match a with
  | ⟨0, _⟩ => show win0_0.index t 0 * 512 + 1 * (j 0).val = 512 * t.val + (j 0).val; rw [(hi t).1]; omega
  | ⟨1, _⟩ => show win0_0.index t 1 * 6144 + 1 * (j 1).val = (j 1).val; rw [(hi t).2]; omega

theorem blk_1 (h : Holds m c X Y W g WI DZ DU) (t : Fin cfg0.N) : iblk m c 1 t = up (wcol WI) := by
  have hi : ∀ t : Fin grid0.N, win0_1.index t 0 = 0 ∧ win0_1.index t 1 = 0 ∧ win0_1.index t 2 = 0 := by decide +kernel
  funext j
  unfold iblk
  rw [View.read_apply]
  show V m c main_v24 _ = _
  rw [V_wi h]
  refine congrArg (fun z : S8x1024x768.Idx => ((wcol WI z : ℝ) : EReal)) (funext fun a => Fin.ext ?_)
  match a with
  | ⟨0, _⟩ => show win0_1.index t 0 * 8 + 1 * (j 0).val = (j 0).val; rw [(hi t).1]; omega
  | ⟨1, _⟩ => show win0_1.index t 1 * 1024 + 1 * (j 1).val = (j 1).val; rw [(hi t).2.1]; omega
  | ⟨2, _⟩ => show win0_1.index t 2 * 768 + 1 * (j 2).val = (j 2).val; rw [(hi t).2.2]; omega

theorem blk_2 (h : Holds m c X Y W g WI DZ DU) (t : Fin cfg0.N) : iblk m c 2 t = up (tile DU (pt t)) := by
  have hi : ∀ t : Fin grid0.N, win0_2.index t 0 = t.val ∧ win0_2.index t 1 = 0 := by decide +kernel
  funext j
  unfold iblk
  rw [View.read_apply]
  show V m c main_arg7 _ = _
  rw [V_du h]
  refine congrArg (fun z : S8192x1024.Idx => ((DU z : ℝ) : EReal)) (funext fun a => Fin.ext ?_)
  match a with
  | ⟨0, _⟩ => show win0_2.index t 0 * 512 + 1 * (j 0).val = 512 * t.val + (j 0).val; rw [(hi t).1]; omega
  | ⟨1, _⟩ => show win0_2.index t 1 * 1024 + 1 * (j 1).val = (j 1).val; rw [(hi t).2]; omega

theorem blk_3 (h : Holds m c X Y W g WI DZ DU) (t : Fin cfg0.N) : iblk m c 3 t = up (tile (xhat X Y W) (pt t)) := by
  have hi : ∀ t : Fin grid0.N, win0_3.index t 0 = t.val ∧ win0_3.index t 1 = 0 := by decide +kernel
  funext j
  unfold iblk
  rw [View.read_apply]
  show V m c main_v21 _ = _
  rw [V_xhat h]
  refine congrArg (fun z : S8192x1024.Idx => ((xhat X Y W z : ℝ) : EReal)) (funext fun a => Fin.ext ?_)
  match a with
  | ⟨0, _⟩ => show win0_3.index t 0 * 512 + 1 * (j 0).val = 512 * t.val + (j 0).val; rw [(hi t).1]; omega
  | ⟨1, _⟩ => show win0_3.index t 1 * 1024 + 1 * (j 1).val = (j 1).val; rw [(hi t).2]; omega

theorem blk_4 (h : Holds m c X Y W g WI DZ DU) (t : Fin cfg0.N) : iblk m c 4 t = up (tile (rstd X Y W) (pt t)) := by
  have hi : ∀ t : Fin grid0.N, win0_4.index t 0 = t.val ∧ win0_4.index t 1 = 0 := by decide +kernel
  funext j
  unfold iblk
  rw [View.read_apply]
  show V m c main_v17 _ = _
  rw [V_rstd h]
  refine congrArg (fun z : S8192x1.Idx => ((rstd X Y W z : ℝ) : EReal)) (funext fun a => Fin.ext ?_)
  match a with
  | ⟨0, _⟩ => show win0_4.index t 0 * 512 + 1 * (j 0).val = 512 * t.val + (j 0).val; rw [(hi t).1]; omega
  | ⟨1, _⟩ => show win0_4.index t 1 * 1 + 1 * (j 1).val = (j 1).val; rw [(hi t).2]; omega

theorem blk_5 (h : Holds m c X Y W g WI DZ DU) (t : Fin cfg0.N) : iblk m c 5 t = up (g) := by
  have hi : ∀ t : Fin grid0.N, win0_5.index t 0 = 0 ∧ win0_5.index t 1 = 0 := by decide +kernel
  funext j
  unfold iblk
  rw [View.read_apply]
  show V m c main_arg3 _ = _
  rw [V_g h]
  refine congrArg (fun z : S1x1024.Idx => ((g z : ℝ) : EReal)) (funext fun a => Fin.ext ?_)
  match a with
  | ⟨0, _⟩ => show win0_5.index t 0 * 1 + 1 * (j 0).val = (j 0).val; rw [(hi t).1]; omega
  | ⟨1, _⟩ => show win0_5.index t 1 * 1024 + 1 * (j 1).val = (j 1).val; rw [(hi t).2]; omega

theorem blk_6 (h : Holds m c X Y W g WI DZ DU) (t : Fin cfg0.N) : iblk m c 6 t = up (wblk W) := by
  have hi : ∀ t : Fin grid0.N, win0_6.index t 0 = 0 ∧ win0_6.index t 1 = 0 ∧ win0_6.index t 2 = 0 := by decide +kernel
  funext j
  unfold iblk
  rw [View.read_apply]
  show V m c main_v26 _ = _
  rw [V_w h]
  refine congrArg (fun z : S8x256x1024.Idx => ((wblk W z : ℝ) : EReal)) (funext fun a => Fin.ext ?_)
  match a with
  | ⟨0, _⟩ => show win0_6.index t 0 * 8 + 1 * (j 0).val = (j 0).val; rw [(hi t).1]; omega
  | ⟨1, _⟩ => show win0_6.index t 1 * 256 + 1 * (j 1).val = (j 1).val; rw [(hi t).2.1]; omega
  | ⟨2, _⟩ => show win0_6.index t 2 * 1024 + 1 * (j 2).val = (j 2).val; rw [(hi t).2.2]; omega

/-! ## The accumulators -/

theorem start_dg (k : Fin 1024) : (k0_pay2 : FVec Ideal S1x1024 .f32) (ix2 0 k) = ((0 : ℝ) : EReal) := by pointwise [k0_pay2]; rfl
theorem start_db (k : Fin 1024) : (k0_pay3 : FVec Ideal S1x1024 .f32) (ix2 0 k) = ((0 : ℝ) : EReal) := by pointwise [k0_pay3]; rfl

/-- After point `n` the scale's accumulator holds the sum over the rows of the tiles up to `n`. -/
theorem acc_dg (h : Holds m c X Y W g WI DZ DU) (k : Fin 1024) : ∀ (n : ℕ) (hn : n < cfg0.N),
    (outsAt0 m c n hn).2.2.2.1 (ix2 0 k) = ((upto (scaleTerm X Y W WI DZ DU k) (n + 1) : ℝ) : EReal)
  | 0, hn => by
    rw [first_dg m c ⟨0, hn⟩ rfl]
    unfold xd
    simp only [blk_0 h, blk_1 h, blk_2 h, blk_3 h]
    exact (at_pay9 X Y W WI DZ DU _ _ k 0 (start_dg k)).trans (congrArg Real.toEReal
      (upto_next (scaleTerm X Y W WI DZ DU k) 0 0 (pt ⟨0, hn⟩) rfl (upto_zero _).symm))
  | n + 1, hn => by
    have hN : cfg0.N = 16 := N_0
    have i := acc_dg h k n (Nat.lt_of_succ_lt hn)
    rw [next_dg m c ⟨n + 1, hn⟩ (by dsimp only; omega)]
    unfold xd
    simp only [blk_0 h, blk_1 h, blk_2 h, blk_3 h]
    exact (at_pay9 X Y W WI DZ DU _ _ k _ i).trans (congrArg Real.toEReal
      (upto_next (scaleTerm X Y W WI DZ DU k) _ (n + 1) (pt ⟨n + 1, hn⟩) rfl rfl))

/-- The same of the offset's accumulator. -/
theorem acc_db (h : Holds m c X Y W g WI DZ DU) (k : Fin 1024) : ∀ (n : ℕ) (hn : n < cfg0.N),
    (outsAt0 m c n hn).2.2.2.2 (ix2 0 k) = ((upto (offsetTerm WI DZ DU k) (n + 1) : ℝ) : EReal)
  | 0, hn => by
    rw [first_db m c ⟨0, hn⟩ rfl]
    unfold xd
    simp only [blk_0 h, blk_1 h, blk_2 h]
    exact (at_pay10 WI DZ DU _ _ k 0 (start_db k)).trans (congrArg Real.toEReal
      (upto_next (offsetTerm WI DZ DU k) 0 0 (pt ⟨0, hn⟩) rfl (upto_zero _).symm))
  | n + 1, hn => by
    have hN : cfg0.N = 16 := N_0
    have i := acc_db h k n (Nat.lt_of_succ_lt hn)
    rw [next_db m c ⟨n + 1, hn⟩ (by dsimp only; omega)]
    unfold xd
    simp only [blk_0 h, blk_1 h, blk_2 h]
    exact (at_pay10 WI DZ DU _ _ k _ i).trans (congrArg Real.toEReal
      (upto_next (offsetTerm WI DZ DU k) _ (n + 1) (pt ⟨n + 1, hn⟩) rfl rfl))

/-! ## The rows' gradients at a point -/

theorem outs_7 (h : Holds m c X Y W g WI DZ DU) (t : Fin cfg0.N) (r : Fin 512) (k : Fin 1024) :
    (outsAt0 m c t.val t.isLt).1 (ix2 r k) = ((dres X Y W g WI DZ DU (row (pt t) r) k : ℝ) : EReal) := by
  rw [out_dr]
  unfold xd
  simp only [blk_0 h, blk_1 h, blk_2 h, blk_3 h, blk_4 h, blk_5 h]
  exact at_pay11 X Y W g WI DZ DU (pt t) r k

theorem outs_8 (h : Holds m c X Y W g WI DZ DU) (t : Fin cfg0.N) (r : Fin 512) (k : Fin 1024) :
    (outsAt0 m c t.val t.isLt).2.1 (ix2 r k) = ((dres X Y W g WI DZ DU (row (pt t) r) k : ℝ) : EReal) := by
  rw [← outs_7 h, out_dr, out_dr_low]
  rfl

theorem outs_9 (h : Holds m c X Y W g WI DZ DU) (t : Fin cfg0.N) (r : Fin 512) (q : Fin 2048) :
    (outsAt0 m c t.val t.isLt).2.2.1 (ix2 r q)
      = ((∑ k : Fin 1024, dres X Y W g WI DZ DU (row (pt t) r) k * W (ix2 q k) : ℝ) : EReal) := by
  rw [out_dy]
  unfold xd
  simp only [blk_0 h, blk_1 h, blk_2 h, blk_3 h, blk_4 h, blk_5 h, blk_6 h]
  exact at_pay1 X Y W g WI DZ DU (pt t) r q

/-! ## The result arrays -/

/-- The last grid point. -/
def lastPt : Fin cfg0.N := ⟨15, by rw [show cfg0.N = 16 from N_0]; decide⟩

/-- The gradient of the residual sum. -/
theorem final_7 (h : Holds m c X Y W g WI DZ DU) : (dats m 0 c).arrAt 7 cfg0.N
    = fun j : (⟨2, ![8192, 1024]⟩ : Shape).Idx => ((dres X Y W g WI DZ DU (j 0) (j 1) : ℝ) : EReal) := by
  have hi : ∀ t : Fin cfg0.N, win0_7.index t 0 = t.val ∧ win0_7.index t 1 = 0 :=
    (by decide +kernel : ∀ t : Fin grid0.N, _)
  refine (dats m 0 c).arrAt_eq_of_covers 7 _ (by decide +kernel) fun t hf y => ?_
  blk_simp
  rw [after0_7]
  idx_vars y
  refine (outs_7 h t y0 y1).trans (congrArg Real.toEReal (congrArg₂ (dres X Y W g WI DZ DU) (Fin.ext ?_) (Fin.ext ?_)))
  · show 512 * t.val + y0.val = _
    blk_simp [(hi t).1]
    omega
  · show y1.val = _
    blk_simp [(hi t).2]

/-- Its rounded copy. -/
theorem final_8 (h : Holds m c X Y W g WI DZ DU) : (dats m 0 c).arrAt 8 cfg0.N
    = fun j : (⟨2, ![8192, 1024]⟩ : Shape).Idx => ((dres X Y W g WI DZ DU (j 0) (j 1) : ℝ) : EReal) := by
  have hi : ∀ t : Fin cfg0.N, win0_8.index t 0 = t.val ∧ win0_8.index t 1 = 0 :=
    (by decide +kernel : ∀ t : Fin grid0.N, _)
  refine (dats m 0 c).arrAt_eq_of_covers 8 _ (by decide +kernel) fun t hf y => ?_
  blk_simp
  rw [after0_8]
  idx_vars y
  refine (outs_8 h t y0 y1).trans (congrArg Real.toEReal (congrArg₂ (dres X Y W g WI DZ DU) (Fin.ext ?_) (Fin.ext ?_)))
  · show 512 * t.val + y0.val = _
    blk_simp [(hi t).1]
    omega
  · show y1.val = _
    blk_simp [(hi t).2]

/-- The gradient of the output product's left side. -/
theorem final_9 (h : Holds m c X Y W g WI DZ DU) : (dats m 0 c).arrAt 9 cfg0.N
    = fun j : (⟨2, ![8192, 2048]⟩ : Shape).Idx => ((∑ k : Fin 1024, dres X Y W g WI DZ DU (j 0) k * W (ix2 (j 1) k) : ℝ) : EReal) := by
  have hi : ∀ t : Fin cfg0.N, win0_9.index t 0 = t.val ∧ win0_9.index t 1 = 0 :=
    (by decide +kernel : ∀ t : Fin grid0.N, _)
  refine (dats m 0 c).arrAt_eq_of_covers 9 _ (by decide +kernel) fun t hf y => ?_
  blk_simp
  rw [after0_9]
  idx_vars y
  refine (outs_9 h t y0 y1).trans (congrArg Real.toEReal (congrArg₂ (fun p q => ∑ k : Fin 1024, dres X Y W g WI DZ DU p k * W (ix2 q k)) (Fin.ext ?_) (Fin.ext ?_)))
  · show 512 * t.val + y0.val = _
    blk_simp [(hi t).1]
    omega
  · show y1.val = _
    blk_simp [(hi t).2]

/-- The gradient of the scale. -/
theorem final_10 (h : Holds m c X Y W g WI DZ DU) : (dats m 0 c).arrAt 10 cfg0.N
    = fun j : (⟨2, ![1, 1024]⟩ : Shape).Idx => ((∑ i, scaleTerm X Y W WI DZ DU (j 1) i : ℝ) : EReal) := by
  refine (dats m 0 c).arrAt_eq_of_after_last 10 lastPt (by decide +kernel) _ fun j => ?_
  blk_simp
  rw [after0_10]
  idx_vars j
  obtain rfl : j0 = 0 := Subsingleton.elim _ _
  refine (acc_dg h j1 15 lastPt.isLt).trans ?_
  rw [show (15 + 1 : ℕ) = 16 from rfl, upto_all]

/-- The gradient of the offset. -/
theorem final_11 (h : Holds m c X Y W g WI DZ DU) : (dats m 0 c).arrAt 11 cfg0.N
    = fun j : (⟨2, ![1, 1024]⟩ : Shape).Idx => ((∑ i, offsetTerm WI DZ DU (j 1) i : ℝ) : EReal) := by
  refine (dats m 0 c).arrAt_eq_of_after_last 11 lastPt (by decide +kernel) _ fun j => ?_
  blk_simp
  rw [after0_11]
  idx_vars j
  obtain rfl : j0 = 0 := Subsingleton.elim _ _
  refine (acc_db h j1 15 lastPt.isLt).trans ?_
  rw [show (15 + 1 : ℕ) = 16 from rfl, upto_all]

end Cert.LnbVal

end
-- ==== Proof.LnbClaim.lean ====
/-
  The value claim of the backward layer norm between two layers: on finite arguments the kernel and the reference leave
  the same five results.
-/
module

public import proofs.«01_k».proof.Defs
public import proofs.«01_k».proof.Proof.Gen.Pre_finite2
public import proofs.«01_k».proof.Proof.Gen.Reference2Ideal
public import proofs.«01_k».proof.Proof.Gen.Reference2Ideal.Run
public import proofs.«01_k».proof.Proof.Finite
public import proofs.«01_k».proof.Proof.LnbFinal

@[expose] public section

set_option maxRecDepth 16384

noncomputable section

namespace Cert.LnbClaim

open Idealize.ShloMosaic Idealize.ShloMosaic.Pointwise Idealize.ShloMosaic.StableHlo Idealize.SL.Sem Cert.Rows Cert.Lnb
  Cert.LnbVal Cert.LnbRef
open Cert.Head (Mat)

/-! ## The precondition -/

section
open Cert.Kernel2Ideal
variable (m : (ℓ : Loc nD τ sig) → Buf (Elt Ideal) ℓ) (c : Dev nD)

/-- On finite arguments the launch memory holds their reals. -/
theorem holds (hp : Cert.Pre_Kernel2Ideal_finite2 m) :
    Holds m c (reals (m ((c.tc : Thread nD τ).loc main_arg0))) (reals (m ((c.tc : Thread nD τ).loc main_arg1)))
      (reals (m ((c.tc : Thread nD τ).loc main_arg2))) (reals (m ((c.tc : Thread nD τ).loc main_arg3)))
      (reals (m ((c.tc : Thread nD τ).loc main_arg5))) (reals (m ((c.tc : Thread nD τ).loc main_arg6)))
      (reals (m ((c.tc : Thread nD τ).loc main_arg7))) := by
  obtain ⟨h0, h1, h2, h3, h5, h6, h7⟩ := hp c
  exact ⟨eq_up_reals _ _ h0, eq_up_reals _ _ h1, eq_up_reals _ _ h2, eq_up_reals _ _ h3, eq_up_reals _ _ h5,
    eq_up_reals _ _ h6, eq_up_reals _ _ h7⟩

end

/-! ## The reference's results -/

section
open Cert.Reference2Ideal Cert.Reference2Ideal.Read
variable {a0 a7 : S8192x1024.Idx → EReal} {a1 : S8192x2048.Idx → EReal} {a2 : S2048x1024.Idx → EReal}
  {a3 : S1x1024.Idx → EReal} {a5 : S1024x6144.Idx → EReal} {a6 : S8192x6144.Idx → EReal}
variable {X : Mat 8192 1024} {Y : Mat 8192 2048} {W : Mat 2048 1024} {g : Mat 1 1024} {WI : Mat 1024 6144}
  {DZ : Mat 8192 6144} {DU : Mat 8192 1024}

theorem ref_dr (h0 : a0 = up X) (h1 : a1 = up Y) (h2 : a2 = up W) (h3 : a3 = up g) (h5 : a5 = up WI) (h6 : a6 = up DZ)
    (h7 : a7 = up DU) : val_main_v68 (F := Ideal) a0 a1 a2 a3 a5 a6 a7
      = fun j => ((dres X Y W g WI DZ DU (j 0) (j 1) : ℝ) : EReal) := by
  subst h0 h1 h2 h3 h5 h6 h7
  funext j
  idx_vars j
  exact at_v68 X Y W g WI DZ DU j0 j1

theorem ref_dr_low (h0 : a0 = up X) (h1 : a1 = up Y) (h2 : a2 = up W) (h3 : a3 = up g) (h5 : a5 = up WI) (h6 : a6 = up DZ)
    (h7 : a7 = up DU) : val_main_v71 (F := Ideal) a0 a1 a2 a3 a5 a6 a7
      = fun j => ((dres X Y W g WI DZ DU (j 0) (j 1) : ℝ) : EReal) :=
  (ref_dr h0 h1 h2 h3 h5 h6 h7 :)

theorem ref_dy (h0 : a0 = up X) (h1 : a1 = up Y) (h2 : a2 = up W) (h3 : a3 = up g) (h5 : a5 = up WI) (h6 : a6 = up DZ)
    (h7 : a7 = up DU) : val_main_v72 (F := Ideal) a0 a1 a2 a3 a5 a6 a7
      = fun j => ((∑ k : Fin 1024, dres X Y W g WI DZ DU (j 0) k * W (ix2 (j 1) k) : ℝ) : EReal) := by
  subst h0 h1 h2 h3 h5 h6 h7
  funext j
  idx_vars j
  exact at_v70 X Y W g WI DZ DU j0 j1

theorem ref_dg (h0 : a0 = up X) (h1 : a1 = up Y) (h2 : a2 = up W) (h5 : a5 = up WI) (h6 : a6 = up DZ) (h7 : a7 = up DU) :
    val_main_v42 (F := Ideal) a0 a1 a2 a5 a6 a7 = fun j => ((∑ i, scaleTerm X Y W WI DZ DU (j 1) i : ℝ) : EReal) := by
  subst h0 h1 h2 h5 h6 h7
  funext j
  idx_vars j
  obtain rfl : j0 = 0 := Subsingleton.elim _ _
  exact at_v42 X Y W WI DZ DU j1

theorem ref_db (h5 : a5 = up WI) (h6 : a6 = up DZ) (h7 : a7 = up DU) :
    val_main_v39 (F := Ideal) a5 a6 a7 = fun j => ((∑ i, offsetTerm WI DZ DU (j 1) i : ℝ) : EReal) := by
  subst h5 h6 h7
  funext j
  idx_vars j
  obtain rfl : j0 = 0 := Subsingleton.elim _ _
  exact at_v39 WI DZ DU j1

end

/-! ## The claim -/

theorem algebraic : Cert.algebraic_Kernel2Ideal_Reference2Ideal_pre_finite2 := by
  intro m ρ m' ρ' hp hagree
  refine ⟨fun c => (Cert.Kernel2Ideal.Gen.dats m 0 c).arrAt 7 Cert.Kernel2Ideal.cfg0.N,
    fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    Cert.Kernel2Ideal.Value.run_blocks (F := Ideal) m ρ, ?_⟩
  refine (θ_run Cert.Reference2Ideal.defs _ _).mono (fun r h c => ?_) (Cert.Reference2Ideal.Value.run (F := Ideal) m' ρ')
  have H := holds m c hp
  obtain ⟨g0, g1, g2, g3, _, g5, g6, g7⟩ := hagree c
  obtain ⟨r0, r1, r2, r3, r4, kept⟩ := h c
  have e0 := g0.trans H.x
  have e1 := g1.trans H.y
  have e2 := g2.trans H.w
  have e3 := g3.trans H.g
  have e5 := g5.trans H.wi
  have e6 := g6.trans H.dz
  have e7 := g7.trans H.du
  refine ⟨?_, ?_, ?_, ?_, ?_, kept⟩
  · exact (r0.trans (Cert.Reference2Ideal.Read.val_main_v68_eq m' c)).trans
      ((ref_dr e0 e1 e2 e3 e5 e6 e7).trans (final_7 H).symm)
  · exact (r1.trans (Cert.Reference2Ideal.Read.val_main_v71_eq m' c)).trans
      ((ref_dr_low e0 e1 e2 e3 e5 e6 e7).trans (final_8 H).symm)
  · exact (r2.trans (Cert.Reference2Ideal.Read.val_main_v72_eq m' c)).trans
      ((ref_dy e0 e1 e2 e3 e5 e6 e7).trans (final_9 H).symm)
  · exact (r3.trans (Cert.Reference2Ideal.Read.val_main_v42_eq _ _ _ _ _ _)).trans ((ref_dg e0 e1 e2 e5 e6 e7).trans (final_10 H).symm)
  · exact (r4.trans (Cert.Reference2Ideal.Read.val_main_v39_eq _ _ _)).trans ((ref_db e5 e6 e7).trans (final_11 H).symm)

end Cert.LnbClaim

end
-- ==== Proof.EvenOps.lean ====
/-
  The vector expressions of the even mixer's backward kernel: what it stores for one chunk of sixteen rows and 256
  columns, for one pooling group, and for one strip of the running window sums, from what it has loaded.
-/
module

public import proofs.«01_k».proof.Proof.Gen.Kernel3Ideal

@[expose] public section

noncomputable section

namespace Cert.EvenOps

open Idealize.ShloMosaic Idealize.SL.Sem Cert.Kernel3Ideal Cert.Kernel3Ideal.Gen

variable {F : FTy → Type} [FloatOps F]

/-- A chunk widened. -/
def wide (a : Vec F S16x256 .bf16) : FVec F S16x256 .f32 :=
  extf .f32 (shapeCast S16x256 a shapeCasts_S16x256_S16x256) bitsLt_bf16_f32

/-- One word everywhere. -/
def word (w : BitVec 32) : FVec F S16x256 .f32 := broadcast S16x256 (Scalar.ofBits .f32 w)

/-- The logistic function as the kernel writes it. -/
def sig (a : FVec F S16x256 .f32) : FVec F S16x256 .f32 :=
  addf (mulf (word 0x3F000000#32) (tanh (mulf (word 0x3F000000#32) a))) (word 0x3F000000#32)

def silu (a : FVec F S16x256 .f32) : FVec F S16x256 .f32 := mulf a (sig a)

def dsilu (a : FVec F S16x256 .f32) : FVec F S16x256 .f32 :=
  mulf (sig a) (addf (word 0x3F800000#32) (mulf a (subf (word 0x3F800000#32) (sig a))))

/-- A row added to the column sums of a chunk. -/
def addRows (l : Vec F S1x256 .f32) (a : FVec F S16x256 .f32) : FVec F S1x256 .f32 :=
  addf (shapeCast S1x256 l shapeCasts_S1x256_S1x256)
    (shapeCast S1x256 (multiReduction .add [0] S256 a 0x00000000#32 reduces_S16x256_S256 (.inl rfl) rfl) shapeCasts_S256_S1x256)

/-- A pooling group through its weights. -/
def yaOp (pb : Vec F S256x256 .bf16) (w : Vec F S1x256x256 .bf16) : FVec F S256x256 .f32 :=
  shapeCast S256x256 (matmul dot_S256x256_S256x256_S256x256_1_0_0_1_n_n none
    (shapeCast S256x256 pb shapeCasts_S256x256_S256x256 : FVec F S256x256 .bf16)
    (shapeCast S256x256 w shapeCasts_S1x256x256_S256x256 : FVec F S256x256 .bf16)
    (constant S256x256 .f32 0x00000000#32)) shapeCasts_S256x256_S256x256

def dpsOp (ga dy : Vec F S16x256 .bf16) (y0 : Vec F S16x256 .f32) (l : Vec F S1x256 .f32) : FVec F S1x256 .f32 :=
  addRows l (mulf (mulf (wide dy) y0) (silu (wide ga)))

def dgaOp (ga dy : Vec F S16x256 .bf16) (y0 : Vec F S16x256 .f32) (ps : Vec F S1x256 .f32) : FVec F S16x256 .bf16 :=
  truncf .bf16 (mulf (mulf (mulf (wide dy) y0) (broadcastTo S16x256 ps broadcasts_S1x256_S16x256)) (dsilu (wide ga))) bitsLt_bf16_f32

def t1Op (ga dy : Vec F S16x256 .bf16) (ps : Vec F S1x256 .f32) : FVec F S16x256 .bf16 :=
  shapeCast S16x256 (truncf .bf16 (mulf (mulf (wide dy) (broadcastTo S16x256 ps broadcasts_S1x256_S16x256)) (silu (wide ga)))
    bitsLt_bf16_f32) shapeCasts_S16x256_S16x256

def dplOp (t1 : Vec F S256x256 .bf16) (w : Vec F S1x256x256 .bf16) : FVec F S256x256 .f32 :=
  shapeCast S256x256 (matmul dot_S256x256_S256x256_S256x256_1_1_0_0_n_n none (t1 : FVec F S256x256 .bf16)
    (shapeCast S256x256 w shapeCasts_S1x256x256_S256x256 : FVec F S256x256 .bf16)
    (constant S256x256 .f32 0x00000000#32)) shapeCasts_S256x256_S256x256

def dpwOp (l : Vec F S1x256x256 .f32) (pb t1 : Vec F S256x256 .bf16) : FVec F S1x256x256 .f32 :=
  shapeCast S1x256x256 (addf (shapeCast S256x256 l shapeCasts_S1x256x256_S256x256)
    (matmul dot_S256x256_S256x256_S256x256_0_0_1_1_n_n none (shapeCast S256x256 pb shapeCasts_S256x256_S256x256 : FVec F S256x256 .bf16)
      (t1 : FVec F S256x256 .bf16) (constant S256x256 .f32 0x00000000#32))) shapeCasts_S256x256_S1x256x256

/-- The word of a group's window length: 2, 4, 8 and 16. -/
def windowWord : ℕ → BitVec 32
  | 0 => 0x40000000#32
  | 1 => 0x40800000#32
  | 2 => 0x41000000#32
  | _ => 0x41800000#32

/-- The number of rows up to each of sixteen rows of the whole array. -/
def posOp (i : BitVec 32) (r : ℕ) : FVec F S16x1 .f32 :=
  sitofp .f32 (addi (addi (broadcast S16x1 (Scalar.addi (Scalar.muli (Scalar.subi 31#32 i) 256#32) (BitVec.ofNat 32 (16 * r))) : IVec S16x1 32)
    (iota .tc S16x1 32 [0] iota_S16x1_d0_w32)) (broadcast S16x1 1#32))

def edpOp (i : BitVec 32) (r g : ℕ) (d : Vec F S16x256 .f32) : FVec F S16x256 .f32 :=
  shapeCast S16x256 (divf d (broadcastTo S16x256 (minimumf (posOp i r) (broadcast S16x1 (Scalar.ofBits .f32 (windowWord g))))
    broadcasts_S16x1_S16x256)) shapeCasts_S16x256_S16x256

def dxaOp (a b d : Vec F S16x256 .f32) : FVec F S16x256 .bf16 := truncf .bf16 (subf (addf a b) d) bitsLt_bf16_f32

def dbgOp (gb dy cv : Vec F S16x256 .bf16) : FVec F S16x256 .bf16 :=
  truncf .bf16 (mulf (mulf (wide dy) (wide cv)) (silu (wide gb))) bitsLt_bf16_f32

def dgbOp (gb dy cv bg : Vec F S16x256 .bf16) : FVec F S16x256 .bf16 :=
  truncf .bf16 (mulf (mulf (mulf (wide dy) (wide bg)) (wide cv)) (dsilu (wide gb))) bitsLt_bf16_f32

def dcvOp (gb dy bg : Vec F S16x256 .bf16) : FVec F S16x256 .f32 := mulf (mulf (wide dy) (wide bg)) (silu (wide gb))

def edcOp (gb dy bg : Vec F S16x256 .bf16) : FVec F S16x256 .f32 := shapeCast S16x256 (dcvOp gb dy bg) shapeCasts_S16x256_S16x256

def dsbOp (gb dy bg : Vec F S16x256 .bf16) (l : Vec F S1x256 .f32) : FVec F S1x256 .f32 := addRows l (dcvOp gb dy bg)

/-- The convolution's gradient with respect to its input, from three rows of taps and the cotangent at three shifts. -/
def dqOp (w2 w1 w0 : Vec F S1x256 .f32) (d0 d1 d2 : Vec F S16x256 .f32) : FVec F S16x256 .f32 :=
  addf (addf (mulf (broadcastTo S16x256 w2 broadcasts_S1x256_S16x256) d0) (mulf (broadcastTo S16x256 w1 broadcasts_S1x256_S16x256) d1))
    (mulf (broadcastTo S16x256 w0 broadcasts_S1x256_S16x256) d2)

def dswOp (h cg : Vec F S16x256 .bf16) (d : Vec F S16x256 .f32) (l : Vec F S1x256 .f32) : FVec F S1x256 .f32 :=
  addRows l (mulf (mulf (wide cg) (wide h)) d)

def dqTimes (a : Vec F S16x256 .bf16) (dq : FVec F S16x256 .f32) : FVec F S16x256 .bf16 := truncf .bf16 (mulf dq (wide a)) bitsLt_bf16_f32

def level32 (a b : Vec F S32x768 .f32) : FVec F S32x768 .f32 := shapeCast S32x768 (addf a b) shapeCasts_S32x768_S32x768
def level32' (a b : Vec F S32x512 .f32) : FVec F S32x512 .f32 := shapeCast S32x512 (addf a b) shapeCasts_S32x512_S32x512
def level32'' (a b : Vec F S32x256 .f32) : FVec F S32x256 .f32 := shapeCast S32x256 (addf a b) shapeCasts_S32x256_S32x256
def level24 (a b : Vec F S24x768 .f32) : FVec F S24x768 .f32 := shapeCast S24x768 (addf a b) shapeCasts_S24x768_S24x768
def level16 (a b : Vec F S16x512 .f32) : FVec F S16x512 .f32 := shapeCast S16x512 (addf a b) shapeCasts_S16x512_S16x512
def level8 (a b : Vec F S8x256 .f32) : FVec F S8x256 .f32 := shapeCast S8x256 (addf a b) shapeCasts_S8x256_S8x256

def keep32 (a : Vec F S32x1024 .f32) : FVec F S32x1024 .f32 := shapeCast S32x1024 a shapeCasts_S32x1024_S32x1024
def keep8 (a : Vec F S8x1024 .f32) : FVec F S8x1024 .f32 := shapeCast S8x1024 a shapeCasts_S8x1024_S8x1024

/-! The zeros the first point stores. -/
def zero32 : FVec F S32x1024 .f32 := keep32 (broadcast S32x1024 (Scalar.ofBits .f32 0x00000000#32))
def zero8 : FVec F S8x1024 .f32 := keep8 (broadcast S8x1024 (Scalar.ofBits .f32 0x00000000#32))
def zeroPw : FVec F S4x256x256 .f32 := broadcast S4x256x256 (Scalar.ofBits .f32 0x00000000#32)
def zeroRow : FVec F S1x1024 .f32 := broadcast S1x1024 (Scalar.ofBits .f32 0x00000000#32)
def zeroTaps : FVec F S3x1024 .f32 := broadcast S3x1024 (Scalar.ofBits .f32 0x00000000#32)

end Cert.EvenOps

end
-- ==== Proof.EvenPieces.lean ====
/-
  The stores of one grid point of the even mixer's backward kernel, as families: one piece for every chunk of sixteen rows
  and 256 columns, for every pooling group, or for every strip of the running window sums. The lists here are the lists of the
  kernel's run, in the run's order, the last store first.
-/
module

public import proofs.«01_k».proof.Proof.Gen.Kernel3Ideal.Frame.RunA
public import proofs.«01_k».proof.Proof.Gen.Kernel3Ideal.Frame.RunB
public import proofs.«01_k».proof.Proof.EvenOps
public import Idealize.ShloMosaic.Lib.Pipeline.ValueKit

@[expose] public section

set_option maxRecDepth 16384

noncomputable section

namespace Cert.EvenPieces

open Idealize.ShloMosaic Idealize.SL.Sem Idealize.ShloMosaic.TcCoe Idealize.ShloMosaic.Tactic
open Cert.Kernel3Ideal Cert.Kernel3Ideal.Gen Cert.EvenOps

variable {F : FTy → Type} [FloatOps F]

/-- A grid point: its buffers and the blocks its inputs hold. -/
structure Pt (F : FTy → Type) [FloatOps F] where
  c : Dev nD
  i : grid0.Coords
  arg1 : Memref sig .tc .vmem S256x6144 .bf16
  harg1 : arg1.IsWhole
  arg2 : Memref sig .tc .vmem S256x2048 .bf16
  harg2 : arg2.IsWhole
  arg3 : Memref sig .tc .vmem S256x1024 .bf16
  harg3 : arg3.IsWhole
  arg4 : Memref sig .tc .vmem S256x1024 .bf16
  harg4 : arg4.IsWhole
  arg5 : Memref sig .tc .vmem S4x256x256 .bf16
  harg5 : arg5.IsWhole
  arg6 : Memref sig .tc .vmem S1x1024 .f32
  harg6 : arg6.IsWhole
  arg7 : Memref sig .tc .vmem S3x1024 .f32
  harg7 : arg7.IsWhole
  arg8 : Memref sig .tc .vmem S256x6144 .bf16
  harg8 : arg8.IsWhole
  arg9 : Memref sig .tc .vmem S4x256x256 .f32
  harg9 : arg9.IsWhole
  arg10 : Memref sig .tc .vmem S1x1024 .f32
  harg10 : arg10.IsWhole
  arg11 : Memref sig .tc .vmem S3x1024 .f32
  harg11 : arg11.IsWhole
  arg12 : Memref sig .tc .vmem S1x1024 .f32
  harg12 : arg12.IsWhole
  arg13 : Memref sig .tc .vmem S288x1024 .f32
  harg13 : arg13.IsWhole
  arg14 : Memref sig .tc .vmem S264x1024 .f32
  harg14 : arg14.IsWhole
  arg15 : Memref sig .tc .vmem S256x1024 .f32
  harg15 : arg15.IsWhole
  arg16 : Memref sig .tc .vmem S256x1024 .bf16
  harg16 : arg16.IsWhole
  arg17 : Memref sig .tc .vmem S256x1024 .f32
  harg17 : arg17.IsWhole
  arg18 : Memref sig .tc .vmem S288x1024 .f32
  harg18 : arg18.IsWhole
  arg19 : Memref sig .tc .vmem S288x1024 .f32
  harg19 : arg19.IsWhole
  x0 : Vec F S256x6144 .bf16
  x1 : Vec F S256x2048 .bf16
  x2 : Vec F S256x1024 .bf16
  x3 : Vec F S256x1024 .bf16
  x4 : Vec F S4x256x256 .bf16
  x5 : Vec F S1x1024 .f32
  x6 : Vec F S3x1024 .f32

/-- What a later grid point finds in the accumulators and in the rows carried over. -/
structure Carried (F : FTy → Type) [FloatOps F] where
  xo8 : Vec F S4x256x256 .f32
  xo9 : Vec F S1x1024 .f32
  xo10 : Vec F S3x1024 .f32
  xo11 : Vec F S1x1024 .f32
  xs0 : Vec F S288x1024 .f32
  xs1 : Vec F S264x1024 .f32

def runA (p : Pt F) (h : cond0_0 p.i) :=
  kernelRun0_A p.c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.arg19 p.harg19 h p.x0 p.x1 p.x2 p.x3 p.x4 p.x5 p.x6

def runB (p : Pt F) (h : ¬ cond0_0 p.i) (q : Carried F) :=
  kernelRun0_B p.c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 p.arg14 p.harg14 p.arg15 p.harg15 p.arg16 p.harg16 p.arg17 p.harg17 p.arg18 p.harg18 p.arg19 p.harg19 h p.x0 p.x1 p.x2 p.x3 p.x4 p.x5 p.x6 q.xo8 q.xo9 q.xo10 q.xo11 q.xs0 q.xs1

theorem inb {R C r c n m : ℕ} (hr : r + n ≤ R) (hc : c + m ≤ C) : ∀ a : Fin 2, (![r, c] : Fin 2 → ℕ) a + (![n, m] : Fin 2 → ℕ) a ≤ (![R, C] : Fin 2 → ℕ) a := by
  intro a; fin_cases a
  · exact hr
  · exact hc

theorem inb3 (g : Fin 4) : ∀ a : Fin 3, (![g.val, 0, 0] : Fin 3 → ℕ) a + (![1, 256, 256] : Fin 3 → ℕ) a ≤ (![4, 256, 256] : Fin 3 → ℕ) a := by
  intro a; fin_cases a
  · show g.val + 1 ≤ 4; omega
  · show 0 + 256 ≤ 256; omega
  · show 0 + 256 ≤ 256; omega

/-- A store of `n` rows and `m` columns at a row and a column. -/
def pc {e : EltTy} {R C : ℕ} (r c n m : ℕ) (hr : r + n ≤ R) (hc : c + m ≤ C) (w : Vec F ⟨2, ![n, m]⟩ e) : View.Piece (Elt F) ⟨2, ![R, C]⟩ e :=
  ⟨Rect.unit (s := ⟨2, ![R, C]⟩) ![r, c] ![n, m] (inb hr hc), w⟩

/-- The rectangle of a load. -/
def rect {R C : ℕ} (r c n m : ℕ) (hr : r + n ≤ R) (hc : c + m ≤ C) : Rect ⟨2, ![R, C]⟩ :=
  Rect.unit (s := ⟨2, ![R, C]⟩) ![r, c] ![n, m] (inb hr hc)

/-! Chunk `k` of a block: rows `16 (k / 4)` on and columns `256 (k % 4)` on, of the column group `o`. -/

def zc (p : Pt F) (o : Fin 6) (k : Fin 64) : Vec F S16x256 .bf16 :=
  p.arg1.view.readAt (Elt F) (Rect.unit (s := S256x6144) ![16 * (k.val / 4), 1024 * o.val + 256 * (k.val % 4)] S16x256.size
    (inb (by omega) (by omega))).toLoadRect (p.harg1.unread p.x0)

def dyc (p : Pt F) (o : Fin 2) (k : Fin 64) : Vec F S16x256 .bf16 :=
  p.arg2.view.readAt (Elt F) (Rect.unit (s := S256x2048) ![16 * (k.val / 4), 1024 * o.val + 256 * (k.val % 4)] S16x256.size
    (inb (by omega) (by omega))).toLoadRect (p.harg2.unread p.x1)

def cvc (p : Pt F) (k : Fin 64) : Vec F S16x256 .bf16 :=
  p.arg4.view.readAt (Elt F) (Rect.unit (s := S256x1024) ![16 * (k.val / 4), 256 * (k.val % 4)] S16x256.size
    (inb (by omega) (by omega))).toLoadRect (p.harg4.unread p.x3)

def psc (p : Pt F) (k : Fin 64) : Vec F S1x256 .f32 :=
  p.arg6.view.readAt (Elt F) (Rect.unit (s := S1x1024) ![0, 256 * (k.val % 4)] S1x256.size
    (inb (by omega) (by omega))).toLoadRect (p.harg6.unread p.x5)

def swc (p : Pt F) (j : Fin 3) (k : Fin 64) : Vec F S1x256 .f32 :=
  p.arg7.view.readAt (Elt F) (Rect.unit (s := S3x1024) ![j.val, 256 * (k.val % 4)] S1x256.size
    (inb (by omega) (by omega))).toLoadRect (p.harg7.unread p.x6)

def plc (p : Pt F) (g : Fin 4) : Vec F S256x256 .bf16 :=
  p.arg3.view.readAt (Elt F) (Rect.unit (s := S256x1024) ![0, 256 * g.val] S256x256.size
    (inb (by omega) (by omega))).toLoadRect (p.harg3.unread p.x2)

def pwc (p : Pt F) (g : Fin 4) : Vec F S1x256x256 .bf16 :=
  p.arg5.view.readAt (Elt F) (Rect.unit (s := S4x256x256) ![g.val, 0, 0] S1x256x256.size (inb3 g)).toLoadRect (p.harg5.unread p.x4)

/-! The buffers filled within the point. -/

def yaL (p : Pt F) : List (View.Piece (Elt F) S256x1024 .f32) := List.ofFn fun g : Fin 4 =>
  pc 0 (256 * g.rev.val) 256 256 (by omega) (by omega) (yaOp (plc p g.rev) (pwc p g.rev))

def yac (p : Pt F) (k : Fin 64) : Vec F S16x256 .f32 :=
  p.arg15.view.readCov (yaL p) (Rect.unit (s := S256x1024) ![16 * (k.val / 4), 256 * (k.val % 4)] S16x256.size
    (inb (by omega) (by omega))).toLoadRect

def t1L (p : Pt F) : List (View.Piece (Elt F) S256x1024 .bf16) := List.ofFn fun k : Fin 64 =>
  pc (16 * (k.rev.val / 4)) (256 * (k.rev.val % 4)) 16 256 (by omega) (by omega) (t1Op (zc p 1 k.rev) (dyc p 0 k.rev) (psc p k.rev))

def t1g (p : Pt F) (g : Fin 4) : Vec F S256x256 .bf16 :=
  p.arg16.view.readCov (t1L p) (Rect.unit (s := S256x1024) ![0, 256 * g.val] S256x256.size (inb (by omega) (by omega))).toLoadRect

def dplL (p : Pt F) : List (View.Piece (Elt F) S256x1024 .f32) := List.ofFn fun g : Fin 4 =>
  pc 0 (256 * g.rev.val) 256 256 (by omega) (by omega) (dplOp (t1g p g.rev) (pwc p g.rev))

def dplc (p : Pt F) (k : Fin 64) : Vec F S16x256 .f32 :=
  p.arg17.view.readCov (dplL p) (Rect.unit (s := S256x1024) ![16 * (k.val / 4), 256 * (k.val % 4)] S16x256.size
    (inb (by omega) (by omega))).toLoadRect

def gaL (p : Pt F) : List (View.Piece (Elt F) S256x6144 .bf16) := List.ofFn fun k : Fin 64 =>
  pc (16 * (k.rev.val / 4)) (1024 + 256 * (k.rev.val % 4)) 16 256 (by omega) (by omega)
    (dgaOp (zc p 1 k.rev) (dyc p 0 k.rev) (yac p k.rev) (psc p k.rev))

def bgL (p : Pt F) : List (View.Piece (Elt F) S256x6144 .bf16) := List.flatten <| List.ofFn fun k : Fin 64 =>
  [pc (16 * (k.rev.val / 4)) (5120 + 256 * (k.rev.val % 4)) 16 256 (by omega) (by omega)
    (dgbOp (zc p 5 k.rev) (dyc p 1 k.rev) (cvc p k.rev) (zc p 3 k.rev)),
   pc (16 * (k.rev.val / 4)) (3072 + 256 * (k.rev.val % 4)) 16 256 (by omega) (by omega)
    (dbgOp (zc p 5 k.rev) (dyc p 1 k.rev) (cvc p k.rev))]

/-- The rows of the point in the buffer of the pooled gradient divided by its count. -/
def edpL (p : Pt F) : List (View.Piece (Elt F) S288x1024 .f32) := List.ofFn fun k : Fin 64 =>
  pc (16 * (k.rev.val / 4)) (256 * (k.rev.val % 4)) 16 256 (by omega) (by omega)
    (edpOp (BitVec.ofNat 32 (p.i 0).val) (k.rev.val / 4) (k.rev.val % 4) (dplc p k.rev))

/-- The rows of the point in the buffer of the convolution's cotangent. -/
def edcL (p : Pt F) : List (View.Piece (Elt F) S264x1024 .f32) := List.ofFn fun k : Fin 64 =>
  pc (16 * (k.rev.val / 4)) (256 * (k.rev.val % 4)) 16 256 (by omega) (by omega) (edcOp (zc p 5 k.rev) (dyc p 1 k.rev) (zc p 3 k.rev))

/-! Loads of the two buffers with rows carried over: at the first point from its stores, the fill last; later from the
point's stores, from what was carried, or from both. -/

def fillP : List (View.Piece (Elt F) S288x1024 .f32) := [pc 256 0 32 1024 (by omega) (by omega) zero32]
def fillC : List (View.Piece (Elt F) S264x1024 .f32) := [pc 256 0 8 1024 (by omega) (by omega) zero8]

def edpA (p : Pt F) (r c n m : ℕ) (hr : r + n ≤ 288) (hc : c + m ≤ 1024) : Vec F ⟨2, ![n, m]⟩ .f32 :=
  p.arg13.view.readCov (edpL p ++ fillP) (Rect.unit (s := S288x1024) ![r, c] ![n, m] (inb hr hc)).toLoadRect

def edcA (p : Pt F) (r c n m : ℕ) (hr : r + n ≤ 264) (hc : c + m ≤ 1024) : Vec F ⟨2, ![n, m]⟩ .f32 :=
  p.arg14.view.readCov (edcL p ++ fillC) (Rect.unit (s := S264x1024) ![r, c] ![n, m] (inb hr hc)).toLoadRect

def edpB (p : Pt F) (q : Carried F) (r c n m : ℕ) (hr : r + n ≤ 288) (hc : c + m ≤ 1024) : Vec F ⟨2, ![n, m]⟩ .f32 :=
  if r + n ≤ 256 then p.arg13.view.readCov (edpL p) (Rect.unit (s := S288x1024) ![r, c] ![n, m] (inb hr hc)).toLoadRect
  else if 256 ≤ r then
    p.arg13.view.readAt (Elt F) (Rect.unit (s := S288x1024) ![r, c] ![n, m] (inb hr hc)).toLoadRect (p.harg13.unread q.xs0)
  else p.arg13.view.readAt (Elt F) (Rect.unit (s := S288x1024) ![r, c] ![n, m] (inb hr hc)).toLoadRect
    (p.arg13.view.writes (Elt F) (p.harg13.unread q.xs0) (edpL p))

def edcB (p : Pt F) (q : Carried F) (r c n m : ℕ) (hr : r + n ≤ 264) (hc : c + m ≤ 1024) : Vec F ⟨2, ![n, m]⟩ .f32 :=
  if r + n ≤ 256 then p.arg14.view.readCov (edcL p) (Rect.unit (s := S264x1024) ![r, c] ![n, m] (inb hr hc)).toLoadRect
  else if 256 ≤ r then
    p.arg14.view.readAt (Elt F) (Rect.unit (s := S264x1024) ![r, c] ![n, m] (inb hr hc)).toLoadRect (p.harg14.unread q.xs1)
  else p.arg14.view.readAt (Elt F) (Rect.unit (s := S264x1024) ![r, c] ![n, m] (inb hr hc)).toLoadRect
    (p.arg14.view.writes (Elt F) (p.harg14.unread q.xs1) (edcL p))

/-- The loads of a buffer with carried rows. -/
abbrev Ld (F : FTy → Type) [FloatOps F] (R : ℕ) :=
  ∀ r c n m : ℕ, r + n ≤ R → c + m ≤ 1024 → Vec F ⟨2, ![n, m]⟩ .f32

/-! The running window sums: pairs, fours and eights, in strips of 32 rows. -/

def la1L (l : Ld F 288) : List (View.Piece (Elt F) S288x1024 .f32) :=
  pc 256 256 24 768 (by omega) (by omega) (level24 (l 256 256 24 768 (by omega) (by omega)) (l 257 256 24 768 (by omega) (by omega))) ::
  List.ofFn fun j : Fin 8 => pc (32 * j.rev.val) 256 32 768 (by omega) (by omega)
    (level32 (l (32 * j.rev.val) 256 32 768 (by omega) (by omega)) (l (32 * j.rev.val + 1) 256 32 768 (by omega) (by omega)))

def la1c (p : Pt F) (l : Ld F 288) : Ld F 288 := fun r c n m hr hc =>
  p.arg18.view.readCov (la1L l) (Rect.unit (s := S288x1024) ![r, c] ![n, m] (inb hr hc)).toLoadRect

def lbL (p : Pt F) (l : Ld F 288) : List (View.Piece (Elt F) S288x1024 .f32) :=
  pc 256 512 16 512 (by omega) (by omega) (level16 (la1c p l 256 512 16 512 (by omega) (by omega)) (la1c p l 258 512 16 512 (by omega) (by omega))) ::
  List.ofFn fun j : Fin 8 => pc (32 * j.rev.val) 512 32 512 (by omega) (by omega)
    (level32' (la1c p l (32 * j.rev.val) 512 32 512 (by omega) (by omega)) (la1c p l (32 * j.rev.val + 2) 512 32 512 (by omega) (by omega)))

def lbc (p : Pt F) (l : Ld F 288) : Ld F 288 := fun r c n m hr hc =>
  p.arg19.view.readCov (lbL p l) (Rect.unit (s := S288x1024) ![r, c] ![n, m] (inb hr hc)).toLoadRect

def la2L (p : Pt F) (l : Ld F 288) : List (View.Piece (Elt F) S288x1024 .f32) :=
  pc 256 768 8 256 (by omega) (by omega) (level8 (lbc p l 256 768 8 256 (by omega) (by omega)) (lbc p l 260 768 8 256 (by omega) (by omega))) ::
  List.ofFn fun j : Fin 8 => pc (32 * j.rev.val) 768 32 256 (by omega) (by omega)
    (level32'' (lbc p l (32 * j.rev.val) 768 32 256 (by omega) (by omega)) (lbc p l (32 * j.rev.val + 4) 768 32 256 (by omega) (by omega)))

def lac (p : Pt F) (l : Ld F 288) : Ld F 288 := fun r c n m hr hc =>
  p.arg18.view.readCov (la2L p l ++ la1L l) (Rect.unit (s := S288x1024) ![r, c] ![n, m] (inb hr hc)).toLoadRect

/-- The two summands of a window sum, of the group's own level. -/
def xac (p : Pt F) (l : Ld F 288) (k : Fin 64) (s : Fin 2) : Vec F S16x256 .f32 :=
  match k.val % 4 with
  | 0 => l (16 * (k.val / 4) + s.val) (256 * (k.val % 4)) 16 256 (by omega) (by omega)
  | 1 => lac p l (16 * (k.val / 4) + 2 * s.val) (256 * (k.val % 4)) 16 256 (by omega) (by omega)
  | 2 => lbc p l (16 * (k.val / 4) + 4 * s.val) (256 * (k.val % 4)) 16 256 (by omega) (by omega)
  | _ => lac p l (16 * (k.val / 4) + 8 * s.val) (256 * (k.val % 4)) 16 256 (by omega) (by omega)

def xaL (p : Pt F) (l : Ld F 288) : List (View.Piece (Elt F) S256x6144 .bf16) := List.ofFn fun k : Fin 64 =>
  pc (16 * (k.rev.val / 4)) (256 * (k.rev.val % 4)) 16 256 (by omega) (by omega) (dxaOp (xac p l k.rev 0) (xac p l k.rev 1) (dplc p k.rev))

/-- The cotangent of the convolution, `d` rows ahead. -/
def dcc (l : Ld F 264) (d : Fin 3) (k : Fin 64) : Vec F S16x256 .f32 :=
  l (16 * (k.val / 4) + d.val) (256 * (k.val % 4)) 16 256 (by omega) (by omega)

def dqc (p : Pt F) (l : Ld F 264) (k : Fin 64) : FVec F S16x256 .f32 :=
  dqOp (swc p 2 k) (swc p 1 k) (swc p 0 k) (dcc l 0 k) (dcc l 1 k) (dcc l 2 k)

def hcL (p : Pt F) (l : Ld F 264) : List (View.Piece (Elt F) S256x6144 .bf16) := List.flatten <| List.ofFn fun k : Fin 64 =>
  [pc (16 * (k.rev.val / 4)) (2048 + 256 * (k.rev.val % 4)) 16 256 (by omega) (by omega) (dqTimes (zc p 4 k.rev) (dqc p l k.rev)),
   pc (16 * (k.rev.val / 4)) (4096 + 256 * (k.rev.val % 4)) 16 256 (by omega) (by omega) (dqTimes (zc p 2 k.rev) (dqc p l k.rev))]

def dzL (p : Pt F) (lp : Ld F 288) (lc : Ld F 264) : List (View.Piece (Elt F) S256x6144 .bf16) :=
  hcL p lc ++ bgL p ++ xaL p lp ++ gaL p

/-! The accumulators: each store adds to what is loaded of the stores before it. -/

/-- The list of an accumulator after `n` stores of a row of 256 columns. -/
def accL {R : ℕ} (row col : ℕ → ℕ) (hrow : ∀ n, row n + 1 ≤ R) (hcol : ∀ n, col n + 256 ≤ 1024)
    (ld : ℕ → List (View.Piece (Elt F) ⟨2, ![R, 1024]⟩ .f32) → Vec F S1x256 .f32) (w : ℕ → Vec F S1x256 .f32 → Vec F S1x256 .f32)
    (base : List (View.Piece (Elt F) ⟨2, ![R, 1024]⟩ .f32)) : ℕ → List (View.Piece (Elt F) ⟨2, ![R, 1024]⟩ .f32)
  | 0 => base
  | n + 1 => pc (row n) (col n) 1 256 (hrow n) (hcol n) (w n (ld n (accL row col hrow hcol ld w base n))) :: accL row col hrow hcol ld w base n

def ck (n : ℕ) : Fin 64 := ⟨n % 64, Nat.mod_lt _ (by decide)⟩

def colOf (n : ℕ) : ℕ := 256 * (n % 4)
theorem colOf_le (n : ℕ) : colOf n + 256 ≤ 1024 := by unfold colOf; omega
def tapOf (n : ℕ) : ℕ := 2 - n % 3
theorem tapOf_le (n : ℕ) : tapOf n + 1 ≤ 3 := by unfold tapOf; omega
def colOf3 (n : ℕ) : ℕ := 256 * ((n / 3) % 4)
theorem colOf3_le (n : ℕ) : colOf3 n + 256 ≤ 1024 := by unfold colOf3; omega

/-- A later store's load: of the stores before it, at the first point all of them. -/
def ldA {R : ℕ} {b : Memref sig .tc .vmem ⟨2, ![R, 1024]⟩ .f32} (row col : ℕ → ℕ) (hrow : ∀ n, row n + 1 ≤ R) (hcol : ∀ n, col n + 256 ≤ 1024)
    (n : ℕ) (L : List (View.Piece (Elt F) ⟨2, ![R, 1024]⟩ .f32)) : Vec F S1x256 .f32 :=
  b.view.readCov L (Rect.unit (s := ⟨2, ![R, 1024]⟩) ![row n, col n] ![1, 256] (inb (hrow n) (hcol n))).toLoadRect

def ldB {R : ℕ} {b : Memref sig .tc .vmem ⟨2, ![R, 1024]⟩ .f32} (hb : b.IsWhole) (x : Vec F ⟨2, ![R, 1024]⟩ .f32) (first : ℕ) (row col : ℕ → ℕ)
    (hrow : ∀ n, row n + 1 ≤ R) (hcol : ∀ n, col n + 256 ≤ 1024) (n : ℕ) (L : List (View.Piece (Elt F) ⟨2, ![R, 1024]⟩ .f32)) : Vec F S1x256 .f32 :=
  if n < first then
    b.view.readAt (Elt F) (Rect.unit (s := ⟨2, ![R, 1024]⟩) ![row n, col n] ![1, 256] (inb (hrow n) (hcol n))).toLoadRect (hb.unread x)
  else b.view.readCov L (Rect.unit (s := ⟨2, ![R, 1024]⟩) ![row n, col n] ![1, 256] (inb (hrow n) (hcol n))).toLoadRect

theorem zero_le (n : ℕ) : (fun _ : ℕ => 0) n + 1 ≤ 1 := by show 0 + 1 ≤ 1; omega

def dpsW (p : Pt F) (n : ℕ) : Vec F S1x256 .f32 → Vec F S1x256 .f32 := dpsOp (zc p 1 (ck n)) (dyc p 0 (ck n)) (yac p (ck n))
def dsbW (p : Pt F) (n : ℕ) : Vec F S1x256 .f32 → Vec F S1x256 .f32 := dsbOp (zc p 5 (ck n)) (dyc p 1 (ck n)) (zc p 3 (ck n))
def dswW (p : Pt F) (l : Ld F 264) (n : ℕ) : Vec F S1x256 .f32 → Vec F S1x256 .f32 :=
  dswOp (zc p 2 (ck (n / 3))) (zc p 4 (ck (n / 3))) (dcc l ⟨n % 3, Nat.mod_lt _ (by decide)⟩ (ck (n / 3)))

def dpsLA (p : Pt F) : List (View.Piece (Elt F) S1x1024 .f32) :=
  accL (fun _ => 0) colOf zero_le colOf_le (ldA (b := p.arg10) (fun _ => 0) colOf zero_le colOf_le) (dpsW p) [pc 0 0 1 1024 (by omega) (by omega) zeroRow] 64
def dpsLB (p : Pt F) (q : Carried F) : List (View.Piece (Elt F) S1x1024 .f32) :=
  accL (fun _ => 0) colOf zero_le colOf_le (ldB p.harg10 q.xo9 4 (fun _ => 0) colOf zero_le colOf_le) (dpsW p) [] 64
def dsbLA (p : Pt F) : List (View.Piece (Elt F) S1x1024 .f32) :=
  accL (fun _ => 0) colOf zero_le colOf_le (ldA (b := p.arg12) (fun _ => 0) colOf zero_le colOf_le) (dsbW p) [pc 0 0 1 1024 (by omega) (by omega) zeroRow] 64
def dsbLB (p : Pt F) (q : Carried F) : List (View.Piece (Elt F) S1x1024 .f32) :=
  accL (fun _ => 0) colOf zero_le colOf_le (ldB p.harg12 q.xo11 4 (fun _ => 0) colOf zero_le colOf_le) (dsbW p) [] 64
def dswLA (p : Pt F) (l : Ld F 264) : List (View.Piece (Elt F) S3x1024 .f32) :=
  accL tapOf colOf3 tapOf_le colOf3_le (ldA (b := p.arg11) tapOf colOf3 tapOf_le colOf3_le) (dswW p l) [pc 0 0 3 1024 (by omega) (by omega) zeroTaps] 192
def dswLB (p : Pt F) (q : Carried F) (l : Ld F 264) : List (View.Piece (Elt F) S3x1024 .f32) :=
  accL tapOf colOf3 tapOf_le colOf3_le (ldB p.harg11 q.xo10 12 tapOf colOf3 tapOf_le colOf3_le) (dswW p l) [] 192

/-! The gradient of the pooling weights, one group a store. -/

def pwRect (g : Fin 4) : Rect S4x256x256 := Rect.unit (s := S4x256x256) ![g.val, 0, 0] S1x256x256.size (inb3 g)

def dpwLB (p : Pt F) (q : Carried F) : List (View.Piece (Elt F) S4x256x256 .f32) := List.ofFn fun g : Fin 4 =>
  (⟨Rect.unit (s := S4x256x256) ![g.rev.val, 0, 0] S1x256x256.size (inb3 g.rev),
    dpwOp (p.arg9.view.readAt (Elt F) (Rect.unit (s := S4x256x256) ![g.rev.val, 0, 0] S1x256x256.size (inb3 g.rev)).toLoadRect (p.harg9.unread q.xo8))
      (plc p g.rev) (t1g p g.rev)⟩ : View.Piece (Elt F) S4x256x256 .f32)

def gk (n : ℕ) : Fin 4 := ⟨n % 4, Nat.mod_lt _ (by decide)⟩

def dpwLA (p : Pt F) : ℕ → List (View.Piece (Elt F) S4x256x256 .f32)
  | 0 => [(⟨Rect.unit (s := S4x256x256) ![0, 0, 0] S4x256x256.size (by decide), zeroPw⟩ : View.Piece (Elt F) S4x256x256 .f32)]
  | n + 1 => (⟨Rect.unit (s := S4x256x256) ![(gk n).val, 0, 0] S1x256x256.size (inb3 (gk n)),
      dpwOp (p.arg9.view.readCov (dpwLA p n) (Rect.unit (s := S4x256x256) ![(gk n).val, 0, 0] S1x256x256.size (inb3 (gk n))).toLoadRect)
        (plc p (gk n)) (t1g p (gk n))⟩ : View.Piece (Elt F) S4x256x256 .f32) :: dpwLA p n

/-! The carried buffers at the end of a point: the top rows copied below. -/

def tailP (p : Pt F) (B : List (View.Piece (Elt F) S288x1024 .f32)) : List (View.Piece (Elt F) S288x1024 .f32) :=
  pc 256 0 32 1024 (by omega) (by omega) (keep32 (p.arg13.view.readCov (edpL p ++ B)
    (Rect.unit (s := S288x1024) ![0, 0] S32x1024.size (inb (by omega) (by omega))).toLoadRect)) :: (edpL p ++ B)

def tailC (p : Pt F) (B : List (View.Piece (Elt F) S264x1024 .f32)) : List (View.Piece (Elt F) S264x1024 .f32) :=
  pc 256 0 8 1024 (by omega) (by omega) (keep8 (p.arg14.view.readCov (edcL p ++ B)
    (Rect.unit (s := S264x1024) ![0, 0] S8x1024.size (inb (by omega) (by omega))).toLoadRect)) :: (edcL p ++ B)

end Cert.EvenPieces

end
-- ==== Proof.EvenPiecesA.lean ====
/-
  At the first grid point, the stores of the even mixer's backward kernel are the families of `EvenPieces`.
-/
module

public import proofs.«01_k».proof.Proof.EvenPieces

@[expose] public section

set_option maxRecDepth 16384

noncomputable section

namespace Cert.EvenPieces

open Idealize.ShloMosaic Idealize.SL.Sem Idealize.ShloMosaic.TcCoe Idealize.ShloMosaic.Tactic
open Cert.Kernel3Ideal Cert.Kernel3Ideal.Gen Cert.EvenOps

variable {F : FTy → Type} [FloatOps F]

theorem dz_A (p : Pt F) (h : cond0_0 p.i) : (runA p h).1 = dzL p (edpA p) (edcA p) := by sl_kernel_rfl

theorem dpw_A (p : Pt F) (h : cond0_0 p.i) : (runA p h).2.1 = dpwLA p 4 := by sl_kernel_rfl

theorem dps_A (p : Pt F) (h : cond0_0 p.i) : (runA p h).2.2.1 = dpsLA p := by sl_kernel_rfl

theorem dsw_A (p : Pt F) (h : cond0_0 p.i) : (runA p h).2.2.2.1 = dswLA p (edcA p) := by sl_kernel_rfl

theorem dsb_A (p : Pt F) (h : cond0_0 p.i) : (runA p h).2.2.2.2.1 = dsbLA p := by sl_kernel_rfl

theorem edp_A (p : Pt F) (h : cond0_0 p.i) : (runA p h).2.2.2.2.2.1 = tailP p fillP := by sl_kernel_rfl

theorem edc_A (p : Pt F) (h : cond0_0 p.i) : (runA p h).2.2.2.2.2.2.1 = tailC p fillC := by sl_kernel_rfl

end Cert.EvenPieces

end
-- ==== Proof.EvenPiecesB.lean ====
/-
  At a later grid point, the stores of the even mixer's backward kernel are the families of `EvenPieces`.
-/
module

public import proofs.«01_k».proof.Proof.EvenPieces

@[expose] public section

set_option maxRecDepth 16384

noncomputable section

namespace Cert.EvenPieces

open Idealize.ShloMosaic Idealize.SL.Sem Idealize.ShloMosaic.TcCoe Idealize.ShloMosaic.Tactic
open Cert.Kernel3Ideal Cert.Kernel3Ideal.Gen Cert.EvenOps

variable {F : FTy → Type} [FloatOps F]

theorem dz_B (p : Pt F) (h : ¬ cond0_0 p.i) (q : Carried F) : (runB p h q).1 = dzL p (edpB p q) (edcB p q) := by sl_kernel_rfl

theorem dpw_B (p : Pt F) (h : ¬ cond0_0 p.i) (q : Carried F) : (runB p h q).2.1 = dpwLB p q := by sl_kernel_rfl

theorem dps_B (p : Pt F) (h : ¬ cond0_0 p.i) (q : Carried F) : (runB p h q).2.2.1 = dpsLB p q := by sl_kernel_rfl

theorem dsw_B (p : Pt F) (h : ¬ cond0_0 p.i) (q : Carried F) : (runB p h q).2.2.2.1 = dswLB p q (edcB p q) := by sl_kernel_rfl

theorem dsb_B (p : Pt F) (h : ¬ cond0_0 p.i) (q : Carried F) : (runB p h q).2.2.2.2.1 = dsbLB p q := by sl_kernel_rfl

theorem edp_B (p : Pt F) (h : ¬ cond0_0 p.i) (q : Carried F) : (runB p h q).2.2.2.2.2.1 = tailP p [] := by sl_kernel_rfl

theorem edc_B (p : Pt F) (h : ¬ cond0_0 p.i) (q : Carried F) : (runB p h q).2.2.2.2.2.2.1 = tailC p [] := by sl_kernel_rfl

end Cert.EvenPieces

end
-- ==== Proof.EvenPoint.lean ====
/-
  The even mixer's backward kernel: what it leaves at a point of the grid, from the blocks it reads and from what the point before left.
-/
module

public import proofs.«01_k».proof.Proof.Gen.Kernel3Ideal.Frame
public import proofs.«01_k».proof.Proof.EvenPiecesA
public import proofs.«01_k».proof.Proof.EvenPiecesB

@[expose] public section

set_option maxRecDepth 16384

noncomputable section

namespace Cert.EvenPoint

open Idealize.ShloMosaic Idealize.ShloMosaic.Pointwise Idealize.ShloMosaic.TcCoe Idealize.SL.Sem
open Cert.Kernel3Ideal Cert.Kernel3Ideal.Gen Cert.EvenPieces

variable (m : (ℓ : Loc nD τ sig) → Buf (Elt Ideal) ℓ) (c : Dev nD)

/-! ## A point of the grid -/

theorem tuple_A (P : Pt Ideal) (h : cond0_0 P.i) :
    (View.canon (runA P h).1, View.canon (runA P h).2.1, View.canon (runA P h).2.2.1, View.canon (runA P h).2.2.2.1, View.canon (runA P h).2.2.2.2.1, View.canon (runA P h).2.2.2.2.2.1, View.canon (runA P h).2.2.2.2.2.2.1)
    = (View.canon (dzL P (edpA P) (edcA P)), View.canon (dpwLA P 4), View.canon (dpsLA P), View.canon (dswLA P (edcA P)),
      View.canon (dsbLA P), View.canon (tailP P fillP), View.canon (tailC P fillC)) :=
  (congr (congrArg Prod.mk (congrArg View.canon (dz_A P h)))
    (congr (congrArg Prod.mk (congrArg View.canon (dpw_A P h)))
    (congr (congrArg Prod.mk (congrArg View.canon (dps_A P h)))
    (congr (congrArg Prod.mk (congrArg View.canon (dsw_A P h)))
    (congr (congrArg Prod.mk (congrArg View.canon (dsb_A P h)))
    (congr (congrArg Prod.mk (congrArg View.canon (edp_A P h)))
    (congrArg View.canon (edc_A P h))))))))

theorem tuple_B (P : Pt Ideal) (h : ¬ cond0_0 P.i) (Q : Carried Ideal) :
    (View.canon (runB P h Q).1, View.canon (runB P h Q).2.1, View.canon (runB P h Q).2.2.1, View.canon (runB P h Q).2.2.2.1, View.canon (runB P h Q).2.2.2.2.1, View.canon (runB P h Q).2.2.2.2.2.1, View.canon (runB P h Q).2.2.2.2.2.2.1)
    = (View.canon (dzL P (edpB P Q) (edcB P Q)), View.canon (dpwLB P Q),
      View.canon (dpsLB P Q), View.canon (dswLB P Q (edcB P Q)),
      View.canon (dsbLB P Q), View.canon (tailP P []), View.canon (tailC P [])) :=
  (congr (congrArg Prod.mk (congrArg View.canon (dz_B P h Q)))
    (congr (congrArg Prod.mk (congrArg View.canon (dpw_B P h Q)))
    (congr (congrArg Prod.mk (congrArg View.canon (dps_B P h Q)))
    (congr (congrArg Prod.mk (congrArg View.canon (dsw_B P h Q)))
    (congr (congrArg Prod.mk (congrArg View.canon (dsb_B P h Q)))
    (congr (congrArg Prod.mk (congrArg View.canon (edp_B P h Q)))
    (congrArg View.canon (edc_B P h Q))))))))

/-- What the kernel's body is called with at point `t`. -/
def pt (t : Fin cfg0.N) : Pt Ideal where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  arg11 := ms0_10 t
  harg11 := hs0_10 t
  arg12 := ms0_11 t
  harg12 := hs0_11 t
  arg13 := scM0_0
  harg13 := Memref.isWhole_whole _
  arg14 := scM0_1
  harg14 := Memref.isWhole_whole _
  arg15 := scM0_2
  harg15 := Memref.isWhole_whole _
  arg16 := scM0_3
  harg16 := Memref.isWhole_whole _
  arg17 := scM0_4
  harg17 := Memref.isWhole_whole _
  arg18 := scM0_5
  harg18 := Memref.isWhole_whole _
  arg19 := scM0_6
  harg19 := Memref.isWhole_whole _
  x0 := iblk m c 0 t
  x1 := iblk m c 1 t
  x2 := iblk m c 2 t
  x3 := iblk m c 3 t
  x4 := iblk m c 4 t
  x5 := iblk m c 5 t
  x6 := iblk m c 6 t

/-- What the point before `t` left. -/
def carried (t : Fin cfg0.N) : Carried Ideal where
  xo8 := (outsAt0 m c (t.val - 1) (Nat.lt_of_le_of_lt (Nat.sub_le _ _) t.isLt)).2.1
  xo9 := (outsAt0 m c (t.val - 1) (Nat.lt_of_le_of_lt (Nat.sub_le _ _) t.isLt)).2.2.1
  xo10 := (outsAt0 m c (t.val - 1) (Nat.lt_of_le_of_lt (Nat.sub_le _ _) t.isLt)).2.2.2.1
  xo11 := (outsAt0 m c (t.val - 1) (Nat.lt_of_le_of_lt (Nat.sub_le _ _) t.isLt)).2.2.2.2.1
  xs0 := (outsAt0 m c (t.val - 1) (Nat.lt_of_le_of_lt (Nat.sub_le _ _) t.isLt)).2.2.2.2.2.1
  xs1 := (outsAt0 m c (t.val - 1) (Nat.lt_of_le_of_lt (Nat.sub_le _ _) t.isLt)).2.2.2.2.2.2

theorem outs_first (t : Fin cfg0.N) (h0 : t.val % 32 = 0) : outsAt0 m c t.val t.isLt
    = (View.canon (dzL (pt m c t) (edpA (pt m c t)) (edcA (pt m c t))), View.canon (dpwLA (pt m c t) 4), View.canon (dpsLA (pt m c t)), View.canon (dswLA (pt m c t) (edcA (pt m c t))),
      View.canon (dsbLA (pt m c t)), View.canon (tailP (pt m c t) fillP), View.canon (tailC (pt m c t) fillC)) := by
  refine (outsAt0_A m c t h0).trans ?_
  unfold out0_A_7 out0_A_8 out0_A_9 out0_A_10 out0_A_11 sout0_A_0 sout0_A_1
  simp only [View.read_writes_junk_eq_canon]
  refine Eq.trans ?_ (tuple_A (pt m c t) ((hcond0_0 t).mpr h0))
  sl_kernel_rfl

theorem outs_later (t : Fin cfg0.N) (h0 : ¬ t.val % 32 = 0) : outsAt0 m c t.val t.isLt
    = (View.canon (dzL (pt m c t) (edpB (pt m c t) (carried m c t)) (edcB (pt m c t) (carried m c t))), View.canon (dpwLB (pt m c t) (carried m c t)),
      View.canon (dpsLB (pt m c t) (carried m c t)), View.canon (dswLB (pt m c t) (carried m c t) (edcB (pt m c t) (carried m c t))),
      View.canon (dsbLB (pt m c t) (carried m c t)), View.canon (tailP (pt m c t) []), View.canon (tailC (pt m c t) [])) := by
  refine (outsAt0_B m c t h0).trans ?_
  unfold out0_B_7 out0_B_8 out0_B_9 out0_B_10 out0_B_11 sout0_B_0 sout0_B_1
  simp only [View.read_writes_junk_eq_canon]
  refine Eq.trans ?_ (tuple_B (pt m c t) (fun h => h0 ((hcond0_0 t).mp h)) (carried m c t))
  sl_kernel_rfl

end Cert.EvenPoint

end
-- ==== Proof.Even.lean ====
/-
  The even mixer's gradient over real numbers, by rows and columns counted in the naturals; beyond the arrays every value is zero.
-/
module

public import proofs.«01_k».proof.Proof.Head

@[expose] public section

noncomputable section

namespace Cert.Even

open Idealize.ShloMosaic Idealize.ShloMosaic.Pointwise Cert.Rows
open Cert.Head (Mat)

/-- A matrix by natural row and column, zero outside. -/
def at2 {n m : ℕ} (X : Mat n m) (i k : ℕ) : ℝ := if h : i < n ∧ k < m then X (ix2 ⟨i, h.1⟩ ⟨k, h.2⟩) else 0

theorem at2_fin {n m : ℕ} (X : Mat n m) (i : Fin n) (k : Fin m) : at2 X i.val k.val = X (ix2 i k) := dif_pos ⟨i.isLt, k.isLt⟩

theorem at2_lt {n m : ℕ} (X : Mat n m) {i k : ℕ} (hi : i < n) (hk : k < m) : X (ix2 ⟨i, hi⟩ ⟨k, hk⟩) = at2 X i k :=
  (dif_pos ⟨hi, hk⟩ : at2 X i k = _).symm

theorem at2_ge {n m : ℕ} (X : Mat n m) {i : ℕ} (k : ℕ) (hi : n ≤ i) : at2 X i k = 0 := dif_neg fun h => absurd h.1 (by omega)

/-- The pooling weights by natural indices. -/
def at3 (X : (⟨3, ![4, 256, 256]⟩ : Shape).Idx → ℝ) (g e d : ℕ) : ℝ :=
  if h : g < 4 ∧ e < 256 ∧ d < 256 then X (ix3 ⟨g, h.1⟩ ⟨e, h.2.1⟩ ⟨d, h.2.2⟩) else 0

theorem at3_fin (X : (⟨3, ![4, 256, 256]⟩ : Shape).Idx → ℝ) (g : Fin 4) (e d : Fin 256) : at3 X g.val e.val d.val = X (ix3 g e d) :=
  dif_pos ⟨g.isLt, e.isLt, d.isLt⟩

/-- What the gradient is a function of: the mixer's input, its cotangent, the pooled rows, the convolution, and the parameters. -/
structure Data where
  z : ℕ → ℕ → ℝ
  dy : ℕ → ℕ → ℝ
  pool : ℕ → ℕ → ℝ
  cv : ℕ → ℕ → ℝ
  pw : ℕ → ℕ → ℕ → ℝ
  ps : ℕ → ℝ
  sw : ℕ → ℕ → ℝ
  dy_ge : ∀ i k, 8192 ≤ i → dy i k = 0

/-- The logistic function, as a tangent and as a quotient. -/
def lg (x : ℝ) : ℝ := 1 / (1 + Real.exp (-x))
def silu (x : ℝ) : ℝ := x * lg x
def dsilu (x : ℝ) : ℝ := lg x * (1 + x * (1 - lg x))

theorem lg_pos (x : ℝ) : 0 < 1 + Real.exp (-x) := by positivity

theorem lg_tanh (x : ℝ) : 1 / 2 * Real.tanh (1 / 2 * x) + 1 / 2 = lg x := by
  unfold lg
  rw [Real.tanh_eq_sinh_div_cosh, Real.sinh_eq, Real.cosh_eq]
  have h : Real.exp (-x) = Real.exp (-(1 / 2 * x)) * Real.exp (-(1 / 2 * x)) := by rw [← Real.exp_add]; ring_nf
  have h1 : Real.exp (1 / 2 * x) * Real.exp (-(1 / 2 * x)) = 1 := by rw [← Real.exp_add]; simp
  have ha := Real.exp_pos (1 / 2 * x)
  have hb := Real.exp_pos (-(1 / 2 * x))
  rw [h]
  generalize Real.exp (1 / 2 * x) = a at *
  generalize Real.exp (-(1 / 2 * x)) = b at *
  have hs : a + b ≠ 0 := by positivity
  have ht : 1 + b * b ≠ 0 := by positivity
  field_simp
  linear_combination 2 * b * h1

variable (D : Data)

/-- The length of a column's averaging window. -/
def win (c : ℕ) : ℕ := 2 ^ (c / 256 + 1)

def ya (i c : ℕ) : ℝ := ∑ e : Fin 256, D.pool i (c / 256 * 256 + e.val) * D.pw (c / 256) e.val (c % 256)
def t1 (i c : ℕ) : ℝ := D.dy i c * D.ps c * silu (D.z i (1024 + c))
def dga (i c : ℕ) : ℝ := D.dy i c * ya D i c * D.ps c * dsilu (D.z i (1024 + c))
def scaleTerm (c i : ℕ) : ℝ := D.dy i c * ya D i c * silu (D.z i (1024 + c))
def dpl (i c : ℕ) : ℝ := ∑ d : Fin 256, t1 D i (c / 256 * 256 + d.val) * D.pw (c / 256) (c % 256) d.val
def weightTerm (g e d i : ℕ) : ℝ := D.pool i (g * 256 + e) * t1 D i (g * 256 + d)
def edp (i c : ℕ) : ℝ := dpl D i c / min (i + 1 : ℝ) (win c : ℝ)
def dxa (i c : ℕ) : ℝ := (∑ j ∈ Finset.range (win c), edp D (i + j) c) - dpl D i c
def dcv (i c : ℕ) : ℝ := D.dy i (1024 + c) * D.z i (3072 + c) * silu (D.z i (5120 + c))
def dbg (i c : ℕ) : ℝ := D.dy i (1024 + c) * D.cv i c * silu (D.z i (5120 + c))
def dgb (i c : ℕ) : ℝ := D.dy i (1024 + c) * D.z i (3072 + c) * D.cv i c * dsilu (D.z i (5120 + c))
def dq (i c : ℕ) : ℝ := D.sw 2 c * dcv D i c + D.sw 1 c * dcv D (i + 1) c + D.sw 0 c * dcv D (i + 2) c
def dh (i c : ℕ) : ℝ := dq D i c * D.z i (4096 + c)
def dcg (i c : ℕ) : ℝ := dq D i c * D.z i (2048 + c)
def tapTerm (k c i : ℕ) : ℝ := D.z i (4096 + c) * D.z i (2048 + c) * dcv D (i + (2 - k)) c

/-- The gradient of the mixer's input, by its six groups of 1024 columns. -/
def dz (i c : ℕ) : ℝ :=
  if c < 1024 then dxa D i c else if c < 2048 then dga D i (c - 1024) else if c < 3072 then dh D i (c - 2048)
  else if c < 4096 then dbg D i (c - 3072) else if c < 5120 then dcg D i (c - 4096) else dgb D i (c - 5120)

theorem t1_ge {i : ℕ} (c : ℕ) (h : 8192 ≤ i) : t1 D i c = 0 := by unfold t1; rw [D.dy_ge _ _ h]; ring
theorem dcv_ge {i : ℕ} (c : ℕ) (h : 8192 ≤ i) : dcv D i c = 0 := by unfold dcv; rw [D.dy_ge _ _ h]; ring
theorem dpl_ge {i : ℕ} (c : ℕ) (h : 8192 ≤ i) : dpl D i c = 0 := by
  unfold dpl; exact Finset.sum_eq_zero fun d _ => by rw [t1_ge D _ h, zero_mul]
theorem edp_ge {i : ℕ} (c : ℕ) (h : 8192 ≤ i) : edp D i c = 0 := by unfold edp; rw [dpl_ge D c h, zero_div]

/-- The suffix sum of a difference of two shifts is a window sum. -/
theorem suffix_window (f : ℕ → ℝ) (n w : ℕ) (hf : ∀ i, n ≤ i → f i = 0) (i : ℕ) :
    ∑ s ∈ Finset.range (n - i), (f (i + s) - f (i + s + w)) = ∑ j ∈ Finset.range w, f (i + j) := by
  induction w with
  | zero => simp
  | succ w ih =>
    rw [Finset.sum_range_succ, ← ih]
    have ht : ∑ s ∈ Finset.range (n - i), (f (i + s + w) - f (i + s + (w + 1))) = f (i + w) := by
      have h := Finset.sum_range_sub' (fun s => f (i + s + w)) (n - i)
      have e : ∀ s, f (i + s + (w + 1)) = f (i + (s + 1) + w) := fun s => by congr 1; omega
      simp only [e]
      rw [h]
      have : f (i + (n - i) + w) = 0 := hf _ (by omega)
      rw [this]; simp
    rw [← ht, ← Finset.sum_add_distrib]
    exact Finset.sum_congr rfl fun s _ => by ring

end Cert.Even

end
-- ==== Proof.EvenRef.lean ====
/-
  The reference of the even mixer's gradient, read over real arguments.
-/
module

public import proofs.«01_k».proof.Proof.Gen.Reference3Ideal.Read
public import proofs.«01_k».proof.Proof.Even

@[expose] public section

set_option maxRecDepth 16384

noncomputable section

namespace Cert.EvenRef

open Idealize.ShloMosaic Idealize.ShloMosaic.Pointwise Cert.Reference3Ideal Cert.Reference3Ideal.Read Cert.Rows Cert.Even
open Cert.Head (Mat)

/-! ## Sums along the rows, from one end -/

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A sum over the positions of a window of rows. -/
theorem window_sum {n m lo hi : ℕ} (f : ℕ → ℕ → ℝ) (x : (⟨2, ![n, m]⟩ : Shape).Idx → EReal)
    (hx : ∀ (i : Fin n) (k : Fin m), x (ix2 i k) = ((f i.val k.val : ℝ) : EReal)) (u : (⟨0, ![]⟩ : Shape).Idx → EReal) (hu : ∀ j, u j = 0)
    (h : (⟨2, ![n, m]⟩ : Shape).ReduceWindows ![n, 1] ![1, 1] ![lo, 0] ![hi, 0] ⟨2, ![n, m]⟩) (hpos : 0 < (⟨0, ![]⟩ : Shape).numel)
    (i : Fin n) (k : Fin m) :
    Host.reduceWindowAdd (F := Ideal) (φ := .f32) ![n, 1] ![1, 1] ![lo, 0] ![hi, 0] x u h hpos (ix2 i k)
      = ((∑ s : Fin n, if lo ≤ i.val + s.val ∧ i.val + s.val - lo < n then f (i.val + s.val - lo) k.val else 0 : ℝ) : EReal) := by
  show Host.reduceWindow (· + ·) ![n, 1] ![1, 1] ![lo, 0] ![hi, 0] x (fun _ : (⟨0, ![]⟩ : Shape).Idx => u (Shape.Idx.first hpos)) h hpos (ix2 i k) = _
  unfold Host.reduceWindow
  dsimp only
  rw [foldl_add, hu, zero_add, ← sum_coe, ← Fin.sum_univ_def]
  refine Fintype.sum_equiv ((Shape.rowMajor ⟨2, ![n, 1]⟩).symm.trans ⟨fun w => w 0, fun s => ix2 s 0, fun w => ?_, fun s => rfl⟩) _ _ fun q => ?_
  · funext a
    fin_cases a
    · rfl
    · exact Subsingleton.elim (α := Fin 1) _ _
  show _ = ((if lo ≤ i.val + ((Shape.rowMajor ⟨2, ![n, 1]⟩).symm q 0).val ∧ i.val + ((Shape.rowMajor ⟨2, ![n, 1]⟩).symm q 0).val - lo < n
    then f (i.val + ((Shape.rowMajor ⟨2, ![n, 1]⟩).symm q 0).val - lo) k.val else 0 : ℝ) : EReal)
  have h0 : ((Shape.rowMajor ⟨2, ![n, 1]⟩).symm q 1).val = 0 := by
    have : ((Shape.rowMajor ⟨2, ![n, 1]⟩).symm q 1).val < 1 := ((Shape.rowMajor ⟨2, ![n, 1]⟩).symm q 1).isLt
    omega
  by_cases hc : lo ≤ i.val + ((Shape.rowMajor ⟨2, ![n, 1]⟩).symm q 0).val ∧ i.val + ((Shape.rowMajor ⟨2, ![n, 1]⟩).symm q 0).val - lo < n
  · rw [if_pos hc, dif_pos]
    · refine Eq.trans (congrArg x ?_) (hx ⟨i.val + ((Shape.rowMajor ⟨2, ![n, 1]⟩).symm q 0).val - lo, hc.2⟩ k)
      funext a
      fin_cases a
      · exact Fin.ext (by show i.val * 1 + ((Shape.rowMajor ⟨2, ![n, 1]⟩).symm q 0).val - lo = i.val + ((Shape.rowMajor ⟨2, ![n, 1]⟩).symm q 0).val - lo; omega)
      · exact Fin.ext (by show k.val * 1 + ((Shape.rowMajor ⟨2, ![n, 1]⟩).symm q 1).val - 0 = k.val; omega)
    · intro a
      fin_cases a
      · show lo ≤ i.val * 1 + ((Shape.rowMajor ⟨2, ![n, 1]⟩).symm q 0).val ∧ i.val * 1 + ((Shape.rowMajor ⟨2, ![n, 1]⟩).symm q 0).val - lo < n
        omega
      · show 0 ≤ k.val * 1 + ((Shape.rowMajor ⟨2, ![n, 1]⟩).symm q 1).val ∧ k.val * 1 + ((Shape.rowMajor ⟨2, ![n, 1]⟩).symm q 1).val - 0 < m
        omega
  · rw [if_neg hc, dif_neg]
    · rfl
    · intro hall
      have h1 : lo ≤ i.val * 1 + ((Shape.rowMajor ⟨2, ![n, 1]⟩).symm q 0).val ∧ i.val * 1 + ((Shape.rowMajor ⟨2, ![n, 1]⟩).symm q 0).val - lo < n := hall 0
      exact hc (by omega)

/-! ## Reading -/

theorem up_mat {n m : ℕ} (X : Mat n m) (i : Fin n) (k : Fin m) : up X (ix2 i k) = ((at2 X i.val k.val : ℝ) : EReal) := by
  rw [at2_fin]; rfl

theorem up_cube (X : S4x256x256.Idx → ℝ) (g : Fin 4) (e d : Fin 256) : up X (ix3 g e d) = ((at3 X g.val e.val d.val : ℝ) : EReal) := by
  rw [at3_fin]; rfl

theorem ite_coe (p : Prop) [Decidable p] (a : ℝ) : (if p then (a : EReal) else 0) = ((if p then a else 0 : ℝ) : EReal) := by
  split_ifs <;> rfl

theorem min_coe (a b : ℝ) : min (a : EReal) (b : EReal) = ((min a b : ℝ) : EReal) := (EReal.coe_strictMono.monotone.map_min).symm

theorem exp_neg_coe (x : ℝ) : Ideal.exp (-(x : EReal)) = ((Real.exp (-x) : ℝ) : EReal) := by rw [← EReal.coe_neg]; rfl

theorem word_four : Ideal.ofBits .f32 0x40800000#32 = ((4 : ℝ) : EReal) := by
  simp [Ideal.ofBits, Ideal.ieee, -EReal.coe_mul]; norm_num
theorem word_eight : Ideal.ofBits .f32 0x41000000#32 = ((8 : ℝ) : EReal) := by
  simp [Ideal.ofBits, Ideal.ieee, -EReal.coe_mul]; norm_num
theorem word_sixteen : Ideal.ofBits .f32 0x41800000#32 = ((16 : ℝ) : EReal) := by
  simp [Ideal.ofBits, Ideal.ieee, -EReal.coe_mul]; norm_num

theorem one_eq : (1 : EReal) = ((1 : ℝ) : EReal) := rfl

/-- The number of rows up to a row. -/
theorem count (i : Fin 8192) : (1 : EReal) + FloatOps.sitofp (F := Ideal) .f32 (BitVec.ofNat 32 i.val) = ((i.val + 1 : ℝ) : EReal) := by
  have h : (BitVec.ofNat 32 i.val).toInt = (i.val : ℤ) := by
    rw [BitVec.toInt_ofNat', Int.bmod_eq_of_le] <;> omega
  show (1 : EReal) + (((BitVec.ofNat 32 i.val).toInt : ℝ) : EReal) = _
  rw [h, one_eq, ← EReal.coe_add]
  push_cast
  rw [add_comm]

theorem quotient (i : ℕ) (w a : ℝ) (hw : 0 < w) : Ideal.div (a : EReal) ((min (i + 1 : ℝ) w : ℝ) : EReal) = ((a / min (i + 1 : ℝ) w : ℝ) : EReal) :=
  div_real (by have : (0 : ℝ) < min (i + 1 : ℝ) w := lt_min (by positivity) hw
               exact this.ne') a

variable (Z : Mat 8192 6144) (PW : S4x256x256.Idx → ℝ) (PS : Mat 1 1024) (SW : Mat 3 1024) (SB : Mat 1 1024) (DY : Mat 8192 2048)

/-! ## The pooled rows and the convolution hold reals -/

def prefixSum (i k : ℕ) : ℝ := ∑ s : Fin 8192, if 8191 ≤ i + s.val ∧ i + s.val - 8191 < 8192 then at2 Z (i + s.val - 8191) k else 0

theorem at_v6 (i : Fin 8192) (k : Fin 1024) : val_main_v6 (F := Ideal) (up Z) (ix2 i k) = ((prefixSum Z i.val k.val : ℝ) : EReal) := by
  refine window_sum (at2 Z) _ (fun i k => ?_) _ (fun j => ?_) _ _ i k
  · pointwise [val_main_v0]
    simp only [up_mat]
  · pointwise [val_main_call0_call0_v0, val_main_call0_call0_cst]

theorem at_v8 (i : Fin 8193) (k : Fin 1024) : ∃ r : ℝ, val_main_v8 (F := Ideal) (up Z) (ix2 i k) = (r : EReal) := by
  pointwise [val_main_v8, val_main_v7, val_main_cst]
  by_cases h : i.val < 1
  · rw [dif_pos h]; exact ⟨0, rfl⟩
  · rw [dif_neg h]; exact ⟨_, at_v6 Z ⟨i.val - 1, by omega⟩ k⟩

def run (i k : ℕ) : ℝ := if h : i < 8193 ∧ k < 1024 then (at_v8 Z ⟨i, h.1⟩ ⟨k, h.2⟩).choose else 0

theorem at_v8' (i : Fin 8193) (k : Fin 1024) : val_main_v8 (F := Ideal) (up Z) (ix2 i k) = ((run Z i.val k.val : ℝ) : EReal) := by
  unfold run
  rw [dif_pos ⟨i.isLt, k.isLt⟩]
  exact (at_v8 Z i k).choose_spec

theorem at_v24 (i : Fin 8192) (k : Fin 256) : ∃ r : ℝ, val_main_v24 (F := Ideal) (up Z) (ix2 i k) = (r : EReal) := by
  pointwise [val_main_v24, val_main_v23, val_main_v22, val_main_v21, val_main_v20, val_main_cst_4, val_main_v12, val_main_v11, val_main_v10,
    val_main_cst_1, val_main_v19, val_main_v18, val_main_v16, val_main_v15, val_main_v14, val_main_v13, val_main_cst_2]
  simp only [at_v8', count, word_two, min_coe]
  split_ifs
  · rw [sub_zero, quotient _ _ _ (by norm_num)]; exact ⟨_, rfl⟩
  · rw [← EReal.coe_sub, quotient _ _ _ (by norm_num)]; exact ⟨_, rfl⟩

theorem at_v36 (i : Fin 8192) (k : Fin 256) : ∃ r : ℝ, val_main_v36 (F := Ideal) (up Z) (ix2 i k) = (r : EReal) := by
  pointwise [val_main_v36, val_main_v35, val_main_v34, val_main_v33, val_main_v32, val_main_cst_7, val_main_v12, val_main_v11, val_main_v10,
    val_main_cst_1, val_main_v31, val_main_v30, val_main_v28, val_main_v27, val_main_v26, val_main_v25, val_main_cst_5]
  simp only [at_v8', count, word_four, min_coe]
  split_ifs
  · rw [sub_zero, quotient _ _ _ (by norm_num)]; exact ⟨_, rfl⟩
  · rw [← EReal.coe_sub, quotient _ _ _ (by norm_num)]; exact ⟨_, rfl⟩

theorem at_v48 (i : Fin 8192) (k : Fin 256) : ∃ r : ℝ, val_main_v48 (F := Ideal) (up Z) (ix2 i k) = (r : EReal) := by
  pointwise [val_main_v48, val_main_v47, val_main_v46, val_main_v45, val_main_v44, val_main_cst_10, val_main_v12, val_main_v11, val_main_v10,
    val_main_cst_1, val_main_v43, val_main_v42, val_main_v40, val_main_v39, val_main_v38, val_main_v37, val_main_cst_8]
  simp only [at_v8', count, word_eight, min_coe]
  split_ifs
  · rw [sub_zero, quotient _ _ _ (by norm_num)]; exact ⟨_, rfl⟩
  · rw [← EReal.coe_sub, quotient _ _ _ (by norm_num)]; exact ⟨_, rfl⟩

theorem at_v60 (i : Fin 8192) (k : Fin 256) : ∃ r : ℝ, val_main_v60 (F := Ideal) (up Z) (ix2 i k) = (r : EReal) := by
  pointwise [val_main_v60, val_main_v59, val_main_v58, val_main_v57, val_main_v56, val_main_cst_13, val_main_v12, val_main_v11, val_main_v10,
    val_main_cst_1, val_main_v55, val_main_v54, val_main_v52, val_main_v51, val_main_v50, val_main_v49, val_main_cst_11]
  simp only [at_v8', count, word_sixteen, min_coe]
  split_ifs
  · rw [sub_zero, quotient _ _ _ (by norm_num)]; exact ⟨_, rfl⟩
  · rw [← EReal.coe_sub, quotient _ _ _ (by norm_num)]; exact ⟨_, rfl⟩

theorem sub_isReal {a b : EReal} (ha : ∃ r : ℝ, a = r) (hb : ∃ r : ℝ, b = r) : ∃ r : ℝ, a - b = (r : EReal) := by
  obtain ⟨x, rfl⟩ := ha
  obtain ⟨y, rfl⟩ := hb
  exact ⟨x - y, rfl⟩

theorem at_v62 (i : Fin 8192) (k : Fin 1024) : ∃ r : ℝ, val_main_v62 (F := Ideal) (up Z) (ix2 i k) = (r : EReal) := by
  pointwise [val_main_v62, val_main_v61, val_main_v0]
  refine sub_isReal ?_ ⟨_, rfl⟩
  by_cases h1 : k.val < 256
  · rw [dif_pos h1]; exact at_v24 Z i ⟨k.val, h1⟩
  rw [dif_neg h1]
  by_cases h2 : k.val - 256 < 256
  · rw [dif_pos h2]; exact at_v36 Z i ⟨k.val - 256, h2⟩
  rw [dif_neg h2]
  by_cases h3 : k.val - 256 - 256 < 256
  · rw [dif_pos h3]; exact at_v48 Z i ⟨k.val - 256 - 256, h3⟩
  rw [dif_neg h3]
  exact at_v60 Z i ⟨k.val - 256 - 256 - 256, by omega⟩

/-- The pooled rows, less the rows. -/
def pooled : Mat 8192 1024 := fun j => (val_main_v62 (F := Ideal) (up Z) j).toReal

theorem eq_toReal {a : EReal} (h : ∃ r : ℝ, a = r) : a = ((a.toReal : ℝ) : EReal) := by
  obtain ⟨x, rfl⟩ := h
  rfl

theorem v62_eq : val_main_v62 (F := Ideal) (up Z) = up (pooled Z) := by
  funext j
  idx_vars j
  exact eq_toReal (at_v62 Z j0 j1)

/-- The convolution's input. -/
def gated (i k : ℕ) : ℝ := at2 Z i (4096 + k) * at2 Z i (2048 + k)

theorem at_v71 (i : Fin 8192) (k : Fin 1024) : val_main_v71 (F := Ideal) (up Z) (ix2 i k) = ((gated Z i.val k.val : ℝ) : EReal) := by
  pointwise [val_main_v71, val_main_v4, val_main_v2]
  simp only [up_mat, ← EReal.coe_mul]
  rfl

def delayed (i k : ℕ) : ℝ := if i < 2 then 0 else gated Z (i - 2) k

theorem at_v73 (i : Fin 8194) (k : Fin 1024) : val_main_v73 (F := Ideal) (up Z) (ix2 i k) = ((delayed Z i.val k.val : ℝ) : EReal) := by
  pointwise [val_main_v73, val_main_v72, val_main_cst_14]
  unfold delayed
  by_cases h : i.val < 2
  · rw [dif_pos h, if_pos h]; rfl
  · rw [dif_neg h, if_neg h]; exact at_v71 Z ⟨i.val - 2, by omega⟩ k

theorem at_v92 (i : Fin 8192) (k : Fin 1024) : ∃ r : ℝ, val_main_v92 (F := Ideal) (up Z) (up SW) (up SB) (ix2 i k) = (r : EReal) := by
  pointwise [val_main_v92, val_main_v91, val_main_v90, val_main_v89, val_main_v88, val_main_v87, val_main_v86, val_main_v85, val_main_v84,
    val_main_v83, val_main_v82, val_main_v81, val_main_v80, val_main_v79, val_main_v78, val_main_v77, val_main_v76, val_main_v75, val_main_cst_16]
  simp only [at_v73, up_mat, ← EReal.coe_mul, ← EReal.coe_add, zero_add]
  exact ⟨_, rfl⟩

/-- The convolution. -/
def convolved : Mat 8192 1024 := fun j => (val_main_v92 (F := Ideal) (up Z) (up SW) (up SB) j).toReal

theorem v92_eq : val_main_v92 (F := Ideal) (up Z) (up SW) (up SB) = up (convolved Z SW SB) := by
  funext j
  idx_vars j
  exact eq_toReal (at_v92 Z SW SB j0 j1)

/-- What the gradient is a function of. -/
def data : Data where
  z := at2 Z
  dy := at2 DY
  pool := at2 (pooled Z)
  cv := at2 (convolved Z SW SB)
  pw := at3 PW
  ps k := at2 PS 0 k
  sw := at2 SW
  dy_ge _ k h := at2_ge DY k h

/-! ## The gates -/

theorem at_v69_2 (i : Fin 8192) (k : Fin 1024) : val_main_v69_2 (F := Ideal) (up Z) (ix2 i k) = ((lg (at2 Z i.val (1024 + k.val)) : ℝ) : EReal) := by
  pointwise [val_main_v69_2, val_main_call1_v4, val_main_call1_cst_0, val_main_call1_v3, val_main_call1_v2, val_main_call1_v1,
    val_main_call1_v0, val_main_call1_cst, val_main_v1]
  simp only [up_mat, exp_neg_coe, one_eq, ← EReal.coe_add]
  exact div_real (lg_pos _).ne' 1

theorem at_v69_1 (i : Fin 8192) (k : Fin 1024) : val_main_v69_1 (F := Ideal) (up Z) (ix2 i k)
    = ((lg (at2 Z i.val (1024 + k.val)) * (1 - lg (at2 Z i.val (1024 + k.val))) : ℝ) : EReal) := by
  pointwise [val_main_v69_1, val_main_call1_v7, val_main_call1_v6, val_main_call1_cst_1]
  simp only [at_v69_2, one_eq, ← EReal.coe_sub, ← EReal.coe_mul]

theorem at_v69_0 (i : Fin 8192) (k : Fin 1024) : val_main_v69_0 (F := Ideal) (up Z) (ix2 i k) = ((silu (at2 Z i.val (1024 + k.val)) : ℝ) : EReal) := by
  pointwise [val_main_v69_0, val_main_v1]
  simp only [at_v69_2, up_mat, ← EReal.coe_mul]
  rfl

theorem at_v94_2 (i : Fin 8192) (k : Fin 1024) : val_main_v94_2 (F := Ideal) (up Z) (ix2 i k) = ((lg (at2 Z i.val (5120 + k.val)) : ℝ) : EReal) := by
  pointwise [val_main_v94_2, val_main_call2_v4, val_main_call2_cst_0, val_main_call2_v3, val_main_call2_v2, val_main_call2_v1,
    val_main_call2_v0, val_main_call2_cst, val_main_v5]
  simp only [up_mat, exp_neg_coe, one_eq, ← EReal.coe_add]
  exact div_real (lg_pos _).ne' 1

theorem at_v94_1 (i : Fin 8192) (k : Fin 1024) : val_main_v94_1 (F := Ideal) (up Z) (ix2 i k)
    = ((lg (at2 Z i.val (5120 + k.val)) * (1 - lg (at2 Z i.val (5120 + k.val))) : ℝ) : EReal) := by
  pointwise [val_main_v94_1, val_main_call2_v7, val_main_call2_v6, val_main_call2_cst_1]
  simp only [at_v94_2, one_eq, ← EReal.coe_sub, ← EReal.coe_mul]

theorem at_v94_0 (i : Fin 8192) (k : Fin 1024) : val_main_v94_0 (F := Ideal) (up Z) (ix2 i k) = ((silu (at2 Z i.val (5120 + k.val)) : ℝ) : EReal) := by
  pointwise [val_main_v94_0, val_main_v5]
  simp only [at_v94_2, up_mat, ← EReal.coe_mul]
  rfl

/-! ## The convolution's branch -/

theorem ite_tail {p : Prop} [Decidable p] {a b : ℝ} (h : ¬ p → a = 0) : (if p then a * b else 0) = a * b := by
  split_ifs with hp
  · rfl
  · rw [h hp, zero_mul]

/-- A sum against the delayed input is a sum of the input against later rows. -/
theorem delayed_sum (k j : ℕ) (hj : j ≤ 2) (g : ℕ → ℝ) (hg : ∀ i, 8192 ≤ i → g i = 0) :
    ∑ x : Fin 8192, delayed Z (j + x.val) k * g x.val = ∑ i : Fin 8192, at2 Z i.val (4096 + k) * at2 Z i.val (2048 + k) * g (i.val + (2 - j)) := by
  rw [Fin.sum_univ_eq_sum_range (fun x => delayed Z (j + x) k * g x) 8192,
    Fin.sum_univ_eq_sum_range (fun i => at2 Z i (4096 + k) * at2 Z i (2048 + k) * g (i + (2 - j))) 8192]
  have h1 : Finset.range 8192 = Finset.range ((2 - j) + (8192 - (2 - j))) := by congr 1; omega
  have h2 : Finset.range 8192 = Finset.range ((8192 - (2 - j)) + (2 - j)) := by congr 1; omega
  conv_lhs => rw [h1, Finset.sum_range_add]
  conv_rhs => rw [h2, Finset.sum_range_add]
  rw [Finset.sum_eq_zero (s := Finset.range (2 - j)), Finset.sum_eq_zero (s := Finset.range (2 - j)), zero_add, add_zero]
  · refine Finset.sum_congr rfl fun x _ => ?_
    unfold delayed
    rw [if_neg (by omega), show j + (2 - j + x) - 2 = x by omega, add_comm x (2 - j)]
    rfl
  · intro x _
    rw [hg _ (by omega), mul_zero]
  · intro x hx
    have := Finset.mem_range.1 hx
    unfold delayed
    rw [if_pos (by omega), zero_mul]

theorem at_v102 (i : Fin 8192) (k : Fin 1024) : val_main_v102 (F := Ideal) (up Z) (up DY) (ix2 i k)
    = ((dcv (data Z PW PS SW SB DY) i.val k.val : ℝ) : EReal) := by
  pointwise [val_main_v102, val_main_v100, val_main_v98, val_main_v3]
  simp only [at_v94_0, up_mat, ← EReal.coe_mul]
  exact congrArg Real.toEReal (by unfold dcv; dsimp only [data]; ring)

theorem at_v103 (i : Fin 8192) (k : Fin 1024) : val_main_v103 (F := Ideal) (up Z) (up SW) (up SB) (up DY) (ix2 i k)
    = ((dbg (data Z PW PS SW SB DY) i.val k.val : ℝ) : EReal) := by
  pointwise [val_main_v103, val_main_v100, val_main_v98]
  simp only [v92_eq, at_v94_0, up_mat, ← EReal.coe_mul]
  exact congrArg Real.toEReal (by unfold dbg; dsimp only [data]; ring)

theorem at_v101 (i : Fin 8192) (k : Fin 1024) : val_main_v101 (F := Ideal) (up Z) (up SW) (up SB) (up DY) (ix2 i k)
    = ((dgb (data Z PW PS SW SB DY) i.val k.val : ℝ) : EReal) := by
  pointwise [val_main_v101, val_main_call3_v2, val_main_call3_v1, val_main_call3_v0, val_main_v99, val_main_v98, val_main_v93, val_main_v3, val_main_v5]
  simp only [v92_eq, at_v94_1, at_v94_2, up_mat, ← EReal.coe_mul, ← EReal.coe_add]
  exact congrArg Real.toEReal (by unfold dgb dsilu; dsimp only [data]; ring)

/-- The gradient of the convolution's offset. -/
theorem at_v105 (k : Fin 1024) : val_main_v105 (F := Ideal) (up Z) (up DY) (ix2 0 k)
    = ((∑ i : Fin 8192, dcv (data Z PW PS SW SB DY) i.val k.val : ℝ) : EReal) := by
  pointwise [val_main_v105, val_main_v104, val_main_cst_17]
  simp only [at_v102 Z PW PS SW SB DY, sum_coe]

/-- The three taps' sums, of which row `j` holds one. -/
theorem taps_sum (k : ℕ) (g : ℕ → ℝ) (hg : ∀ i, 8192 ≤ i → g i = 0) (j : ℕ) (hj : j < 3) :
    (((if 2 ≤ j ∧ j - 2 < 1 then ∑ x : Fin 8192, delayed Z (2 + x.val) k * g x.val else 0)
      + if 1 ≤ j ∧ j - 1 < 1 then ∑ x : Fin 8192, delayed Z (1 + x.val) k * g x.val else 0)
      + if j < 1 then ∑ x : Fin 8192, delayed Z x.val k * g x.val else 0)
      = ∑ i : Fin 8192, at2 Z i.val (4096 + k) * at2 Z i.val (2048 + k) * g (i.val + (2 - j)) := by
  rw [← delayed_sum Z k j (by omega) g hg]
  rcases (by omega : j = 0 ∨ j = 1 ∨ j = 2) with rfl | rfl | rfl
  · rw [if_neg (by omega), if_neg (by omega), if_pos (by omega), zero_add, zero_add]
    simp only [zero_add]
  · rw [if_neg (by omega), if_pos (by omega), if_neg (by omega), zero_add, add_zero]
  · rw [if_pos (by omega), if_neg (by omega), if_neg (by omega), add_zero, add_zero]

theorem at_v132 (i : Fin 8192) (k : Fin 1024) : val_main_v132 (F := Ideal) (up Z) (up SW) (up DY) (ix2 i k)
    = ((dq (data Z PW PS SW SB DY) i.val k.val : ℝ) : EReal) := by
  pointwise [val_main_v132, val_main_v130, val_main_v129, val_main_v126, val_main_v125, val_main_v121, val_main_v120, val_main_v117,
    val_main_v116, val_main_v112, val_main_v110, val_main_v109, val_main_v87, val_main_v82, val_main_v76, val_main_cst_20, val_main_cst_23, val_main_cst_26]
  simp only [at_v102 Z PW PS SW SB DY, up_mat, ← EReal.coe_mul]
  simp only [dite_eq_ite, ite_coe, ← EReal.coe_add, Fin.val_two, Fin.val_one, Fin.val_zero]
  refine congrArg Real.toEReal ?_
  unfold dq
  rw [show 2 + i.val - 1 = i.val + 1 by omega, show 2 + i.val = i.val + 2 by omega]
  rw [show (if 1 ≤ i.val + 2 ∧ i.val + 1 < 8192 then dcv (data Z PW PS SW SB DY) (i.val + 1) k.val * at2 SW 1 k.val else 0)
      = dcv (data Z PW PS SW SB DY) (i.val + 1) k.val * at2 SW 1 k.val from ite_tail fun h => dcv_ge _ _ (by omega),
    show (if i.val + 2 < 8192 then dcv (data Z PW PS SW SB DY) (i.val + 2) k.val * at2 SW 0 k.val else 0)
      = dcv (data Z PW PS SW SB DY) (i.val + 2) k.val * at2 SW 0 k.val from ite_tail fun h => dcv_ge _ _ (by omega)]
  show _ = at2 SW 2 k.val * _ + at2 SW 1 k.val * _ + at2 SW 0 k.val * _
  ring

theorem at_v128 (j : Fin 3) (k : Fin 1024) : val_main_v128 (F := Ideal) (up Z) (up DY) (ix2 j k)
    = ((∑ i : Fin 8192, tapTerm (data Z PW PS SW SB DY) j.val k.val i.val : ℝ) : EReal) := by
  pointwise [val_main_v128, val_main_v127, val_main_v124, val_main_v123, val_main_v122, val_main_v119, val_main_v118, val_main_v115,
    val_main_v114, val_main_v113, val_main_v111, val_main_v108, val_main_v107, val_main_v106, val_main_v86, val_main_v81, val_main_v75,
    val_main_cst_18, val_main_cst_19, val_main_cst_21, val_main_cst_22, val_main_cst_24, val_main_cst_25]
  simp only [at_v102 Z PW PS SW SB DY, at_v73, up_mat, ← EReal.coe_mul, sum_coe]
  simp only [dite_eq_ite, ite_coe, ← EReal.coe_add]
  refine congrArg Real.toEReal ?_
  exact taps_sum Z k.val (dcv (data Z PW PS SW SB DY) · k.val) (fun i hi => dcv_ge _ _ hi) j.val j.isLt

theorem at_v133 (i : Fin 8192) (k : Fin 1024) : val_main_v133 (F := Ideal) (up Z) (up SW) (up DY) (ix2 i k)
    = ((dh (data Z PW PS SW SB DY) i.val k.val : ℝ) : EReal) := by
  pointwise [val_main_v133, val_main_v4]
  simp only [at_v132 Z PW PS SW SB DY, up_mat, ← EReal.coe_mul]
  exact congrArg Real.toEReal (by unfold dh; dsimp only [data]; exact mul_comm _ _)

theorem at_v134 (i : Fin 8192) (k : Fin 1024) : val_main_v134 (F := Ideal) (up Z) (up SW) (up DY) (ix2 i k)
    = ((dcg (data Z PW PS SW SB DY) i.val k.val : ℝ) : EReal) := by
  pointwise [val_main_v134, val_main_v2]
  simp only [at_v132 Z PW PS SW SB DY, up_mat, ← EReal.coe_mul]
  exact congrArg Real.toEReal (rfl)

/-! ## The pooling branch -/

theorem at_v66 (i : Fin 8192) (k : Fin 1024) : val_main_v66 (F := Ideal) (up Z) (up PW) (ix2 i k)
    = ((ya (data Z PW PS SW SB DY) i.val k.val : ℝ) : EReal) := by
  pointwise [val_main_v66, val_main_v65, val_main_v64, val_main_v63]
  simp only [v62_eq, up_mat, up_cube, ← EReal.coe_mul, sum_coe]
  exact congrArg Real.toEReal (Finset.sum_congr rfl fun e _ => mul_comm _ _)

theorem at_v137 (i : Fin 8192) (k : Fin 1024) : val_main_v137 (F := Ideal) (up Z) (up PW) (up PS) (up DY) (ix2 i k)
    = ((dga (data Z PW PS SW SB DY) i.val k.val : ℝ) : EReal) := by
  pointwise [val_main_v137, val_main_call4_v2, val_main_call4_v1, val_main_call4_v0, val_main_v135, val_main_v97, val_main_v68, val_main_v67, val_main_v1]
  simp only [at_v66 Z PW PS SW SB DY, at_v69_1, at_v69_2, up_mat, Fin.val_eq_zero, ← EReal.coe_mul, ← EReal.coe_add]
  exact congrArg Real.toEReal (by unfold dga dsilu; dsimp only [data]; ring)

/-- The gradient of the pooling branch's scale. -/
theorem at_v140 (k : Fin 1024) : val_main_v140 (F := Ideal) (up Z) (up PW) (up DY) (ix2 0 k)
    = ((∑ i : Fin 8192, scaleTerm (data Z PW PS SW SB DY) k.val i.val : ℝ) : EReal) := by
  pointwise [val_main_v140, val_main_v139, val_main_v138, val_main_v136, val_main_v97, val_main_cst_27]
  simp only [at_v66 Z PW PS SW SB DY, at_v69_0, up_mat, ← EReal.coe_mul, sum_coe]
  exact congrArg Real.toEReal (Finset.sum_congr rfl fun i _ => by unfold scaleTerm; dsimp only [data]; ring)

theorem at_v142 (i : Fin 8192) (k : Fin 1024) : val_main_v142 (F := Ideal) (up Z) (up PS) (up DY) (ix2 i k)
    = ((t1 (data Z PW PS SW SB DY) i.val k.val : ℝ) : EReal) := by
  pointwise [val_main_v142, val_main_v141, val_main_v136, val_main_v97]
  simp only [at_v69_0, up_mat, Fin.val_eq_zero, ← EReal.coe_mul]
  exact congrArg Real.toEReal (by unfold t1; dsimp only [data]; ring)

/-- The gradient of the pooling weights. -/
theorem at_v148 (g : Fin 4) (e d : Fin 256) : val_main_v148 (F := Ideal) (up Z) (up PS) (up DY) (ix3 g e d)
    = ((∑ i : Fin 8192, weightTerm (data Z PW PS SW SB DY) g.val e.val d.val i.val : ℝ) : EReal) := by
  pointwise [val_main_v148, val_main_v147, val_main_v144, val_main_v143, val_main_v63]
  simp only [at_v142 Z PW PS SW SB DY, v62_eq, up_mat, ← EReal.coe_mul, sum_coe]
  exact congrArg Real.toEReal (Finset.sum_congr rfl fun i _ => mul_comm _ _)

theorem at_v149 (i : Fin 8192) (k : Fin 1024) : val_main_v149 (F := Ideal) (up Z) (up PW) (up PS) (up DY) (ix2 i k)
    = ((dpl (data Z PW PS SW SB DY) i.val k.val : ℝ) : EReal) := by
  pointwise [val_main_v149, val_main_v146, val_main_v145, val_main_v144, val_main_v143]
  simp only [at_v142 Z PW PS SW SB DY, up_cube, ← EReal.coe_mul, sum_coe]
  rfl

theorem win_of (g k : ℕ) (h : k < 256) : win (256 * g + k) = 2 ^ (g + 1) := by
  unfold win
  rw [show (256 * g + k) / 256 = g by omega]

theorem at_v156 (i : Fin 8192) (k : Fin 256) : val_main_v156 (F := Ideal) (up Z) (up PW) (up PS) (up DY) (ix2 i k)
    = ((edp (data Z PW PS SW SB DY) i.val (768 + k.val) : ℝ) : EReal) := by
  pointwise [val_main_v156, val_main_v155, val_main_v58, val_main_v57, val_main_v56, val_main_v12, val_main_v11, val_main_v10, val_main_cst_1,
    val_main_cst_13, val_main_v154]
  simp only [at_v149 Z PW PS SW SB DY, count, word_sixteen, min_coe, quotient _ 16 _ (by norm_num)]
  exact congrArg Real.toEReal (by unfold edp; rw [show 768 + k.val = 256 * 3 + k.val by omega, win_of 3 _ k.isLt]; norm_num)

theorem at_v165 (i : Fin 8192) (k : Fin 256) : val_main_v165 (F := Ideal) (up Z) (up PW) (up PS) (up DY) (ix2 i k)
    = ((edp (data Z PW PS SW SB DY) i.val (512 + k.val) : ℝ) : EReal) := by
  pointwise [val_main_v165, val_main_v164, val_main_v46, val_main_v45, val_main_v44, val_main_v12, val_main_v11, val_main_v10, val_main_cst_1,
    val_main_cst_10, val_main_v153]
  simp only [at_v149 Z PW PS SW SB DY, count, word_eight, min_coe, quotient _ 8 _ (by norm_num)]
  exact congrArg Real.toEReal (by unfold edp; rw [show 512 + k.val = 256 * 2 + k.val by omega, win_of 2 _ k.isLt]; norm_num)

theorem at_v175 (i : Fin 8192) (k : Fin 256) : val_main_v175 (F := Ideal) (up Z) (up PW) (up PS) (up DY) (ix2 i k)
    = ((edp (data Z PW PS SW SB DY) i.val (256 + k.val) : ℝ) : EReal) := by
  pointwise [val_main_v175, val_main_v174, val_main_v34, val_main_v33, val_main_v32, val_main_v12, val_main_v11, val_main_v10, val_main_cst_1,
    val_main_cst_7, val_main_v152]
  simp only [at_v149 Z PW PS SW SB DY, count, word_four, min_coe, quotient _ 4 _ (by norm_num)]
  exact congrArg Real.toEReal (by unfold edp; rw [show 256 + k.val = 256 * 1 + k.val by omega, win_of 1 _ k.isLt]; norm_num)

theorem at_v185 (i : Fin 8192) (k : Fin 256) : val_main_v185 (F := Ideal) (up Z) (up PW) (up PS) (up DY) (ix2 i k)
    = ((edp (data Z PW PS SW SB DY) i.val k.val : ℝ) : EReal) := by
  pointwise [val_main_v185, val_main_v184, val_main_v22, val_main_v21, val_main_v20, val_main_v12, val_main_v11, val_main_v10, val_main_cst_1,
    val_main_cst_4, val_main_v151]
  simp only [at_v149 Z PW PS SW SB DY, count, word_two, min_coe, quotient _ 2 _ (by norm_num)]
  exact congrArg Real.toEReal (by unfold edp; have := win_of 0 _ k.isLt; rw [show 256 * 0 + k.val = k.val by omega] at this; rw [this]; norm_num)

/-- One group's columns of the window sum's differences. -/
theorem strip (f : ℕ → ℕ → ℝ) (i k lo w n v : ℕ) (hi : i < 8192) (hf : ∀ r, 8192 ≤ r → f r k = 0) (hn : n + w = 8193) (hv : v + 1 = w) :
    (if 1 + i < 8193 ∧ lo ≤ k ∧ k - lo < 256 then
      (if k - lo < 256 then f i (lo + (k - lo)) else 0) + (if 1 + i < n ∧ k - lo < 256 then -f (v + (1 + i)) (lo + (k - lo)) else 0) else 0)
      = if lo ≤ k ∧ k < lo + 256 then f i k - f (i + w) k else 0 := by
  by_cases h : lo ≤ k ∧ k < lo + 256
  · rw [if_pos h, if_pos (by omega), if_pos (by omega), show lo + (k - lo) = k by omega, show v + (1 + i) = i + w by omega]
    by_cases h2 : 1 + i < n
    · rw [if_pos (by omega)]; ring
    · rw [if_neg (by omega), hf (i + w) (by omega)]; ring
  · rw [if_neg h, if_neg (by omega)]

theorem strip_first (f : ℕ → ℕ → ℝ) (i k : ℕ) (hi : i < 8192) (hf : ∀ r, 8192 ≤ r → f r k = 0) :
    (if 1 + i < 8193 ∧ k < 256 then
      (if k < 256 then f i k else 0) + (if 1 + i < 8191 ∧ k < 256 then -f (1 + (1 + i)) k else 0) else 0)
      = if k < 256 then f i k - f (i + 2) k else 0 := by
  by_cases h : k < 256
  · rw [if_pos h, if_pos ⟨by omega, h⟩, if_pos h, show 1 + (1 + i) = i + 2 by omega]
    by_cases h2 : 1 + i < 8191
    · rw [if_pos (by omega)]; ring
    · rw [if_neg (by omega), hf (i + 2) (by omega)]; ring
  · rw [if_neg (fun hc => h hc.2), if_neg h]

/-- A sum from a row to the last row. -/
theorem suffix_sum (g : ℕ → ℝ) (n i : ℕ) :
    (∑ s : Fin n, if 0 ≤ i + s.val ∧ i + s.val - 0 < n then g (i + s.val - 0) else 0) = ∑ s ∈ Finset.range (n - i), g (i + s) := by
  rw [Fin.sum_univ_eq_sum_range (fun s => if 0 ≤ i + s ∧ i + s - 0 < n then g (i + s - 0) else 0) n]
  rw [← Finset.sum_filter]
  refine Finset.sum_congr ?_ fun _ _ => rfl
  ext s
  simp only [Finset.mem_filter, Finset.mem_range, Nat.zero_le, true_and, Nat.sub_zero]
  omega

theorem at_v195 (i : Fin 8192) (k : Fin 1024) : val_main_v195 (F := Ideal) (up Z) (up PW) (up PS) (up DY) (ix2 i k)
    = ((edp (data Z PW PS SW SB DY) i.val k.val - edp (data Z PW PS SW SB DY) (i.val + win k.val) k.val : ℝ) : EReal) := by
  pointwise [val_main_v195, val_main_v193, val_main_v192, val_main_v191, val_main_v190, val_main_v189, val_main_v187, val_main_v186,
    val_main_v183, val_main_v182, val_main_v181, val_main_v180, val_main_v179, val_main_v177, val_main_v176,
    val_main_v173, val_main_v172, val_main_v171, val_main_v170, val_main_v169, val_main_v167, val_main_v166,
    val_main_v163, val_main_v162, val_main_v161, val_main_v160, val_main_v158, val_main_v157,
    val_main_cst_28, val_main_cst_29, val_main_cst_30, val_main_cst_31, val_main_cst_32, val_main_cst_33,
    val_main_cst_34, val_main_cst_35, val_main_cst_36, val_main_cst_37, val_main_cst_38, val_main_cst_39]
  simp only [at_v156 Z PW PS SW SB DY, at_v165 Z PW PS SW SB DY, at_v175 Z PW PS SW SB DY, at_v185 Z PW PS SW SB DY, ← EReal.coe_neg, dite_eq_ite, ite_coe, ← EReal.coe_add]
  refine congrArg Real.toEReal ?_
  have hE : ∀ r, 8192 ≤ r → edp (data Z PW PS SW SB DY) r k.val = 0 := fun r hr => edp_ge _ _ hr
  rw [strip (edp (data Z PW PS SW SB DY)) i.val k.val 768 16 8177 15 i.isLt hE rfl rfl, strip (edp (data Z PW PS SW SB DY)) i.val k.val 512 8 8185 7 i.isLt hE rfl rfl,
    strip (edp (data Z PW PS SW SB DY)) i.val k.val 256 4 8189 3 i.isLt hE rfl rfl, strip_first (edp (data Z PW PS SW SB DY)) i.val k.val i.isLt hE]
  have hk := k.isLt
  unfold win
  rcases (by omega : k.val / 256 = 0 ∨ k.val / 256 = 1 ∨ k.val / 256 = 2 ∨ k.val / 256 = 3) with h | h | h | h <;> rw [h]
  · rw [if_neg (by omega), if_neg (by omega), if_neg (by omega), if_pos (by omega)]; ring_nf
  · rw [if_neg (by omega), if_neg (by omega), if_pos (by omega), if_neg (by omega)]; ring_nf
  · rw [if_neg (by omega), if_pos (by omega), if_neg (by omega), if_neg (by omega)]; ring_nf
  · rw [if_pos (by omega), if_neg (by omega), if_neg (by omega), if_neg (by omega)]; ring_nf

theorem at_v196 (i : Fin 8192) (k : Fin 1024) : val_main_v196 (F := Ideal) (up Z) (up PW) (up PS) (up DY) (ix2 i k)
    = ((∑ j ∈ Finset.range (win k.val), edp (data Z PW PS SW SB DY) (i.val + j) k.val : ℝ) : EReal) := by
  refine (window_sum (fun r c => edp (data Z PW PS SW SB DY) r c - edp (data Z PW PS SW SB DY) (r + win c) c) _
    (fun r c => at_v195 Z PW PS SW SB DY r c) _ (fun j => ?_) _ _ i k).trans (congrArg Real.toEReal ?_)
  · pointwise [val_main_call5_call0_v0, val_main_call5_call0_cst]
  rw [← suffix_window (fun r => edp (data Z PW PS SW SB DY) r k.val) 8192 (win k.val) (fun r hr => edp_ge _ _ hr) i.val]
  exact suffix_sum (fun r => edp (data Z PW PS SW SB DY) r k.val - edp (data Z PW PS SW SB DY) (r + win k.val) k.val) 8192 i.val

theorem at_v197 (i : Fin 8192) (k : Fin 1024) : val_main_v197 (F := Ideal) (up Z) (up PW) (up PS) (up DY) (ix2 i k)
    = ((dxa (data Z PW PS SW SB DY) i.val k.val : ℝ) : EReal) := by
  pointwise [val_main_v197, val_main_v150]
  simp only [at_v196 Z PW PS SW SB DY, at_v149 Z PW PS SW SB DY, ← EReal.coe_neg, ← EReal.coe_add]
  exact congrArg Real.toEReal (by unfold dxa; ring)

/-- The gradient of the mixer's input. -/
theorem at_v199 (i : Fin 8192) (k : Fin 6144) : val_main_v199 (F := Ideal) (up Z) (up PW) (up PS) (up SW) (up SB) (up DY) (ix2 i k)
    = ((dz (data Z PW PS SW SB DY) i.val k.val : ℝ) : EReal) := by
  pointwise [val_main_v199, val_main_v198]
  simp only [at_v197 Z PW PS SW SB DY, at_v137 Z PW PS SW SB DY, at_v133 Z PW PS SW SB DY, at_v103 Z PW PS SW SB DY, at_v134 Z PW PS SW SB DY,
    at_v101 Z PW PS SW SB DY, dite_eq_ite]
  unfold dz
  by_cases h1 : k.val < 1024
  · rw [if_pos h1, if_pos h1]
  rw [if_neg h1, if_neg h1]
  by_cases h2 : k.val < 2048
  · rw [if_pos h2, if_pos (by omega)]
  rw [if_neg h2, if_neg (by omega)]
  by_cases h3 : k.val < 3072
  · rw [if_pos h3, if_pos (by omega), show k.val - 1024 - 1024 = k.val - 2048 by omega]
  rw [if_neg h3, if_neg (by omega)]
  by_cases h4 : k.val < 4096
  · rw [if_pos h4, if_pos (by omega), show k.val - 1024 - 1024 - 1024 = k.val - 3072 by omega]
  rw [if_neg h4, if_neg (by omega)]
  by_cases h5 : k.val < 5120
  · rw [if_pos h5, if_pos (by omega), show k.val - 1024 - 1024 - 1024 - 1024 = k.val - 4096 by omega]
  rw [if_neg h5, if_neg (by omega), show k.val - 1024 - 1024 - 1024 - 1024 - 1024 = k.val - 5120 by omega]

end Cert.EvenRef

end
-- ==== Proof.EvenAt.lean ====
/-
  The vector expressions of the even mixer's backward kernel, read entry by entry over reals.
-/
module

public import proofs.«01_k».proof.Proof.EvenOps
public import proofs.«01_k».proof.Proof.Even
public import proofs.«01_k».proof.Proof.EvenRef

@[expose] public section

set_option maxRecDepth 16384

noncomputable section

namespace Cert.EvenAt

open Idealize.ShloMosaic Idealize.SL.Sem Idealize.ShloMosaic.Pointwise Cert.Rows
open Cert.Kernel3Ideal Cert.Kernel3Ideal.Gen
open Cert.EvenOps (wide word sig addRows yaOp dpsOp dgaOp t1Op dplOp dpwOp posOp edpOp dxaOp dbgOp dgbOp dcvOp edcOp dsbOp dqOp dswOp dqTimes windowWord level32
  level32' level32'' level24 level16 level8 keep32 keep8 zero32 zero8 zeroRow zeroTaps zeroPw)
open Cert.EvenRef (min_coe quotient word_four word_eight word_sixteen)
open Cert.Even (lg lg_tanh)

theorem sig_at (a : FVec Ideal S16x256 .f32) (i : Fin 16) (k : Fin 256) (x : ℝ) (h : a (ix2 i k) = ((x : ℝ) : EReal)) :
    sig a (ix2 i k) = ((lg x : ℝ) : EReal) := by
  pointwise [EvenOps.sig, word]
  rw [h, word_half, ← lg_tanh]
  simp only [← EReal.coe_mul, ← EReal.coe_add, Ideal.tanh_coe]

theorem silu_at (a : FVec Ideal S16x256 .f32) (i : Fin 16) (k : Fin 256) (x : ℝ) (h : a (ix2 i k) = ((x : ℝ) : EReal)) :
    EvenOps.silu a (ix2 i k) = ((Even.silu x : ℝ) : EReal) := by
  pointwise [EvenOps.silu]
  rw [sig_at a i k x h, h, ← EReal.coe_mul]
  rfl

theorem dsilu_at (a : FVec Ideal S16x256 .f32) (i : Fin 16) (k : Fin 256) (x : ℝ) (h : a (ix2 i k) = ((x : ℝ) : EReal)) :
    EvenOps.dsilu a (ix2 i k) = ((Even.dsilu x : ℝ) : EReal) := by
  pointwise [EvenOps.dsilu, word]
  rw [sig_at a i k x h, h, ← EReal.coe_one]
  simp only [← EReal.coe_mul, ← EReal.coe_add, ← EReal.coe_sub]
  rfl

theorem wide_at (a : Vec Ideal S16x256 .bf16) (i : Fin 16) (k : Fin 256) : wide a (ix2 i k) = a (ix2 i k) := by
  pointwise [wide]

theorem addRows_at (l : Vec Ideal S1x256 .f32) (a : FVec Ideal S16x256 .f32) (k : Fin 256) (s : ℝ) (f : ℕ → ℝ)
    (hl : l (ix2 0 k) = ((s : ℝ) : EReal)) (h : ∀ i : Fin 16, a (ix2 i k) = ((f i.val : ℝ) : EReal)) :
    addRows l a (ix2 0 k) = ((s + ∑ i : Fin 16, f i.val : ℝ) : EReal) := by
  pointwise [addRows]
  simp only [hl, h, sum_coe, ← EReal.coe_add]

variable {ga dy cv bg hh cg : Vec Ideal S16x256 .bf16} {y0 u v w : Vec Ideal S16x256 .f32} {ps w0 w1 w2 : Vec Ideal S1x256 .f32}
variable (i : Fin 16) (k : Fin 256)

theorem t1_at {g d s : ℝ} (hg : ga (ix2 i k) = ((g : ℝ) : EReal)) (hd : dy (ix2 i k) = ((d : ℝ) : EReal)) (hs : ps (ix2 0 k) = ((s : ℝ) : EReal)) :
    t1Op ga dy ps (ix2 i k) = ((d * s * Even.silu g : ℝ) : EReal) := by
  pointwise [t1Op]
  rw [silu_at (wide ga) i k g ((wide_at ga i k).trans hg), wide_at, hd, hs, ← EReal.coe_mul, ← EReal.coe_mul]

theorem dga_at {g d s y : ℝ} (hg : ga (ix2 i k) = ((g : ℝ) : EReal)) (hd : dy (ix2 i k) = ((d : ℝ) : EReal)) (hy : y0 (ix2 i k) = ((y : ℝ) : EReal))
    (hs : ps (ix2 0 k) = ((s : ℝ) : EReal)) : dgaOp ga dy y0 ps (ix2 i k) = ((d * y * s * Even.dsilu g : ℝ) : EReal) := by
  pointwise [dgaOp]
  rw [dsilu_at (wide ga) i k g ((wide_at ga i k).trans hg), wide_at, hd, hs, hy]
  simp only [← EReal.coe_mul]

theorem dps_at {l : Vec Ideal S1x256 .f32} {s : ℝ} {g d y : ℕ → ℝ} (hl : l (ix2 0 k) = ((s : ℝ) : EReal))
    (hg : ∀ i : Fin 16, ga (ix2 i k) = ((g i.val : ℝ) : EReal)) (hd : ∀ i : Fin 16, dy (ix2 i k) = ((d i.val : ℝ) : EReal))
    (hy : ∀ i : Fin 16, y0 (ix2 i k) = ((y i.val : ℝ) : EReal)) :
    dpsOp ga dy y0 l (ix2 0 k) = ((s + ∑ i : Fin 16, d i.val * y i.val * Even.silu (g i.val) : ℝ) : EReal) := by
  refine addRows_at _ _ k s (fun i => d i * y i * Even.silu (g i)) hl fun i => ?_
  pointwise
  rw [silu_at (wide ga) i k _ ((wide_at ga i k).trans (hg i)), wide_at, hd, hy]
  simp only [← EReal.coe_mul]

theorem dbg_at {g d c : ℝ} (hg : ga (ix2 i k) = ((g : ℝ) : EReal)) (hd : dy (ix2 i k) = ((d : ℝ) : EReal)) (hc : cv (ix2 i k) = ((c : ℝ) : EReal)) :
    dbgOp ga dy cv (ix2 i k) = ((d * c * Even.silu g : ℝ) : EReal) := by
  pointwise [dbgOp]
  rw [silu_at (wide ga) i k g ((wide_at ga i k).trans hg), wide_at, wide_at, hd, hc]
  simp only [← EReal.coe_mul]

theorem dgb_at {g d c b : ℝ} (hg : ga (ix2 i k) = ((g : ℝ) : EReal)) (hd : dy (ix2 i k) = ((d : ℝ) : EReal)) (hc : cv (ix2 i k) = ((c : ℝ) : EReal))
    (hb : bg (ix2 i k) = ((b : ℝ) : EReal)) : dgbOp ga dy cv bg (ix2 i k) = ((d * b * c * Even.dsilu g : ℝ) : EReal) := by
  pointwise [dgbOp]
  rw [dsilu_at (wide ga) i k g ((wide_at ga i k).trans hg), wide_at, wide_at, wide_at, hd, hc, hb]
  simp only [← EReal.coe_mul]

theorem dcv_at {g d b : ℝ} (hg : ga (ix2 i k) = ((g : ℝ) : EReal)) (hd : dy (ix2 i k) = ((d : ℝ) : EReal)) (hb : bg (ix2 i k) = ((b : ℝ) : EReal)) :
    dcvOp ga dy bg (ix2 i k) = ((d * b * Even.silu g : ℝ) : EReal) := by
  pointwise [dcvOp]
  rw [silu_at (wide ga) i k g ((wide_at ga i k).trans hg), wide_at, wide_at, hd, hb]
  simp only [← EReal.coe_mul]

theorem edc_at {g d b : ℝ} (hg : ga (ix2 i k) = ((g : ℝ) : EReal)) (hd : dy (ix2 i k) = ((d : ℝ) : EReal)) (hb : bg (ix2 i k) = ((b : ℝ) : EReal)) :
    edcOp ga dy bg (ix2 i k) = ((d * b * Even.silu g : ℝ) : EReal) := by
  pointwise [edcOp]
  exact dcv_at i k hg hd hb

theorem dsb_at {l : Vec Ideal S1x256 .f32} {s : ℝ} {g d b : ℕ → ℝ} (hl : l (ix2 0 k) = ((s : ℝ) : EReal))
    (hg : ∀ i : Fin 16, ga (ix2 i k) = ((g i.val : ℝ) : EReal)) (hd : ∀ i : Fin 16, dy (ix2 i k) = ((d i.val : ℝ) : EReal))
    (hb : ∀ i : Fin 16, bg (ix2 i k) = ((b i.val : ℝ) : EReal)) :
    dsbOp ga dy bg l (ix2 0 k) = ((s + ∑ i : Fin 16, d i.val * b i.val * Even.silu (g i.val) : ℝ) : EReal) :=
  addRows_at _ _ k s (fun i => d i * b i * Even.silu (g i)) hl fun i => dcv_at i k (hg i) (hd i) (hb i)

theorem dsw_at {l : Vec Ideal S1x256 .f32} {s : ℝ} {h c d : ℕ → ℝ} (hl : l (ix2 0 k) = ((s : ℝ) : EReal))
    (hh' : ∀ i : Fin 16, hh (ix2 i k) = ((h i.val : ℝ) : EReal)) (hc : ∀ i : Fin 16, cg (ix2 i k) = ((c i.val : ℝ) : EReal))
    (hd : ∀ i : Fin 16, u (ix2 i k) = ((d i.val : ℝ) : EReal)) :
    dswOp hh cg u l (ix2 0 k) = ((s + ∑ i : Fin 16, c i.val * h i.val * d i.val : ℝ) : EReal) := by
  refine addRows_at _ _ k s (fun i => c i * h i * d i) hl fun i => ?_
  pointwise
  rw [wide_at, wide_at, hh', hc, hd]
  simp only [← EReal.coe_mul]

theorem dq_at {a0 a1 a2 d0 d1 d2 : ℝ} (h0 : w0 (ix2 0 k) = ((a0 : ℝ) : EReal)) (h1 : w1 (ix2 0 k) = ((a1 : ℝ) : EReal)) (h2 : w2 (ix2 0 k) = ((a2 : ℝ) : EReal))
    (hu : u (ix2 i k) = ((d0 : ℝ) : EReal)) (hv : v (ix2 i k) = ((d1 : ℝ) : EReal)) (hw : w (ix2 i k) = ((d2 : ℝ) : EReal)) :
    dqOp w2 w1 w0 u v w (ix2 i k) = ((a2 * d0 + a1 * d1 + a0 * d2 : ℝ) : EReal) := by
  pointwise [dqOp]
  rw [h0, h1, h2, hu, hv, hw]
  simp only [← EReal.coe_mul, ← EReal.coe_add]

theorem dqTimes_at {q : FVec Ideal S16x256 .f32} {x a : ℝ} (hq : q (ix2 i k) = ((x : ℝ) : EReal)) (ha : ga (ix2 i k) = ((a : ℝ) : EReal)) :
    dqTimes ga q (ix2 i k) = ((x * a : ℝ) : EReal) := by
  pointwise [dqTimes]
  rw [wide_at, hq, ha, ← EReal.coe_mul]

theorem dxa_at {a b d : ℝ} (ha : u (ix2 i k) = ((a : ℝ) : EReal)) (hb : v (ix2 i k) = ((b : ℝ) : EReal)) (hd : w (ix2 i k) = ((d : ℝ) : EReal)) :
    dxaOp u v w (ix2 i k) = ((a + b - d : ℝ) : EReal) := by
  pointwise [dxaOp]
  rw [ha, hb, hd, ← EReal.coe_add, ← EReal.coe_sub]

/-! ## The products of a pooling group -/

theorem ya_at {pb : Vec Ideal S256x256 .bf16} {pw : Vec Ideal S1x256x256 .bf16} {p q : ℕ → ℝ} (r d : Fin 256)
    (hp : ∀ e : Fin 256, pb (ix2 r e) = ((p e.val : ℝ) : EReal)) (hq : ∀ e : Fin 256, pw (ix3 0 e d) = ((q e.val : ℝ) : EReal)) :
    yaOp pb pw (ix2 r d) = ((∑ e : Fin 256, p e.val * q e.val : ℝ) : EReal) := by
  pointwise [yaOp]
  simp only [hp, hq, sum_coe, ← EReal.coe_mul]

theorem dpl_at {t : Vec Ideal S256x256 .bf16} {pw : Vec Ideal S1x256x256 .bf16} {p q : ℕ → ℝ} (r e : Fin 256)
    (hp : ∀ d : Fin 256, t (ix2 r d) = ((p d.val : ℝ) : EReal)) (hq : ∀ d : Fin 256, pw (ix3 0 e d) = ((q d.val : ℝ) : EReal)) :
    dplOp t pw (ix2 r e) = ((∑ d : Fin 256, p d.val * q d.val : ℝ) : EReal) := by
  pointwise [dplOp]
  simp only [hp, hq, sum_coe, ← EReal.coe_mul]

theorem dpw_at {l : Vec Ideal S1x256x256 .f32} {pb t : Vec Ideal S256x256 .bf16} {s : ℝ} {p q : ℕ → ℝ} (e d : Fin 256)
    (hl : l (ix3 0 e d) = ((s : ℝ) : EReal))
    (hp : ∀ r : Fin 256, pb (ix2 r e) = ((p r.val : ℝ) : EReal)) (hq : ∀ r : Fin 256, t (ix2 r d) = ((q r.val : ℝ) : EReal)) :
    dpwOp l pb t (ix3 0 e d) = ((s + ∑ r : Fin 256, p r.val * q r.val : ℝ) : EReal) := by
  pointwise [dpwOp]
  simp only [hl, hp, hq, sum_coe, ← EReal.coe_mul, ← EReal.coe_add]

/-! ## The counts of rows -/

theorem pos_at (n r : ℕ) (hn : n < 32) (hr : r < 16) : posOp (F := Ideal) (BitVec.ofNat 32 n) r (ix2 i 0)
    = ((((256 * (31 - n) + (16 * r + i.val) : ℕ) : ℝ) + 1 : ℝ) : EReal) := by
  pointwise [posOp]
  have e : (IntOp.addi (IntOp.addi (Scalar.addi (Scalar.muli (Scalar.subi 31#32 (BitVec.ofNat 32 n)) 256#32) (BitVec.ofNat 32 (16 * r)))
      (BitVec.ofNat 32 i.val)) 1#32 : BitVec 32) = BitVec.ofNat 32 (256 * (31 - n) + (16 * r + i.val) + 1) := by
    have hi := i.isLt
    show ((31#32 - BitVec.ofNat 32 n) * 256#32 + BitVec.ofNat 32 (16 * r)) + BitVec.ofNat 32 i.val + 1#32 = _
    refine BitVec.eq_of_toNat_eq ?_
    simp only [BitVec.toNat_add, BitVec.toNat_mul, BitVec.toNat_sub, BitVec.toNat_ofNat]
    omega
  have hi := i.isLt
  rw [e]
  show (((BitVec.ofNat 32 (256 * (31 - n) + (16 * r + i.val) + 1)).toInt : ℝ) : EReal) = _
  have ht : (BitVec.ofNat 32 (256 * (31 - n) + (16 * r + i.val) + 1)).toInt = ((256 * (31 - n) + (16 * r + i.val) + 1 : ℕ) : ℤ) := by
    rw [BitVec.toInt_eq_toNat_of_lt] <;> rw [BitVec.toNat_ofNat, Nat.mod_eq_of_lt (by omega)]
    omega
  rw [ht]
  push_cast
  rfl

theorem window_word (g : ℕ) (hg : g < 4) : Ideal.ofBits .f32 (windowWord g) = ((((2 ^ (g + 1) : ℕ) : ℝ)) : EReal) := by
  rcases (by omega : g = 0 ∨ g = 1 ∨ g = 2 ∨ g = 3) with rfl | rfl | rfl | rfl
  · exact word_two.trans (by norm_num)
  · exact word_four.trans (by norm_num)
  · exact word_eight.trans (by norm_num)
  · exact word_sixteen.trans (by norm_num)

theorem edp_at (n r g : ℕ) (hn : n < 32) (hr : r < 16) (hg : g < 4) {a : ℝ} (ha : u (ix2 i k) = ((a : ℝ) : EReal)) :
    edpOp (BitVec.ofNat 32 n) r g u (ix2 i k)
      = ((a / min ((((256 * (31 - n) + (16 * r + i.val) : ℕ) : ℝ) + 1 : ℝ)) ((2 ^ (g + 1) : ℕ) : ℝ) : ℝ) : EReal) := by
  pointwise [edpOp]
  rw [pos_at i n r hn hr, window_word g hg, ha, min_coe]
  exact quotient _ _ _ (by positivity)

/-! ## The levels of the running sums, the kept rows and the zeros -/

theorem level32_at {A B : Vec Ideal S32x768 .f32} (i : Fin 32) (k : Fin 768) {a b : ℝ} (ha : A (ix2 i k) = ((a : ℝ) : EReal))
    (hb : B (ix2 i k) = ((b : ℝ) : EReal)) : level32 A B (ix2 i k) = ((a + b : ℝ) : EReal) := by
  pointwise [level32]
  rw [ha, hb, ← EReal.coe_add]

theorem level32'_at {A B : Vec Ideal S32x512 .f32} (i : Fin 32) (k : Fin 512) {a b : ℝ} (ha : A (ix2 i k) = ((a : ℝ) : EReal))
    (hb : B (ix2 i k) = ((b : ℝ) : EReal)) : level32' A B (ix2 i k) = ((a + b : ℝ) : EReal) := by
  pointwise [level32']
  rw [ha, hb, ← EReal.coe_add]

theorem level32''_at {A B : Vec Ideal S32x256 .f32} (i : Fin 32) (k : Fin 256) {a b : ℝ} (ha : A (ix2 i k) = ((a : ℝ) : EReal))
    (hb : B (ix2 i k) = ((b : ℝ) : EReal)) : level32'' A B (ix2 i k) = ((a + b : ℝ) : EReal) := by
  pointwise [level32'']
  rw [ha, hb, ← EReal.coe_add]

theorem level24_at {A B : Vec Ideal S24x768 .f32} (i : Fin 24) (k : Fin 768) {a b : ℝ} (ha : A (ix2 i k) = ((a : ℝ) : EReal))
    (hb : B (ix2 i k) = ((b : ℝ) : EReal)) : level24 A B (ix2 i k) = ((a + b : ℝ) : EReal) := by
  pointwise [level24]
  rw [ha, hb, ← EReal.coe_add]

theorem level16_at {A B : Vec Ideal S16x512 .f32} (i : Fin 16) (k : Fin 512) {a b : ℝ} (ha : A (ix2 i k) = ((a : ℝ) : EReal))
    (hb : B (ix2 i k) = ((b : ℝ) : EReal)) : level16 A B (ix2 i k) = ((a + b : ℝ) : EReal) := by
  pointwise [level16]
  rw [ha, hb, ← EReal.coe_add]

theorem level8_at {A B : Vec Ideal S8x256 .f32} (i : Fin 8) (k : Fin 256) {a b : ℝ} (ha : A (ix2 i k) = ((a : ℝ) : EReal))
    (hb : B (ix2 i k) = ((b : ℝ) : EReal)) : level8 A B (ix2 i k) = ((a + b : ℝ) : EReal) := by
  pointwise [level8]
  rw [ha, hb, ← EReal.coe_add]

theorem keep32_at (A : Vec Ideal S32x1024 .f32) (i : Fin 32) (k : Fin 1024) : keep32 A (ix2 i k) = A (ix2 i k) := by pointwise [keep32]
theorem keep8_at (A : Vec Ideal S8x1024 .f32) (i : Fin 8) (k : Fin 1024) : keep8 A (ix2 i k) = A (ix2 i k) := by pointwise [keep8]
theorem zero32_at (i : Fin 32) (k : Fin 1024) : (zero32 : FVec Ideal S32x1024 .f32) (ix2 i k) = ((0 : ℝ) : EReal) := by pointwise [zero32, keep32]; rfl
theorem zero8_at (i : Fin 8) (k : Fin 1024) : (zero8 : FVec Ideal S8x1024 .f32) (ix2 i k) = ((0 : ℝ) : EReal) := by pointwise [zero8, keep8]; rfl
theorem zeroRow_at (i : Fin 1) (k : Fin 1024) : (zeroRow : FVec Ideal S1x1024 .f32) (ix2 i k) = ((0 : ℝ) : EReal) := by pointwise [zeroRow]; rfl
theorem zeroTaps_at (i : Fin 3) (k : Fin 1024) : (zeroTaps : FVec Ideal S3x1024 .f32) (ix2 i k) = ((0 : ℝ) : EReal) := by pointwise [zeroTaps]; rfl
theorem zeroPw_at (g : Fin 4) (e d : Fin 256) : (zeroPw : FVec Ideal S4x256x256 .f32) (ix3 g e d) = ((0 : ℝ) : EReal) := by pointwise [zeroPw]; rfl

end Cert.EvenAt

end
-- ==== Proof.EvenLists.lean ====
/-
  Lists of stores whose pieces are blocks of one array, read back: every load of the even mixer's backward kernel is a
  block of such a list, of an input block, or of what was carried over.
-/
module

public import proofs.«01_k».proof.Proof.EvenPieces
public import Idealize.ShloMosaic.Lib.Pipeline.CanonAppend

@[expose] public section

set_option maxRecDepth 16384

noncomputable section

namespace Cert.EvenLists

open Idealize.ShloMosaic Idealize.SL.Sem Idealize.ShloMosaic.Pointwise
open Cert.EvenPieces (pc inb accL)

variable {F : FTy → Type} [FloatOps F] {e : EltTy} {R C : ℕ}

/-- A function of natural row and column as an array. -/
def At (G : ℕ → ℕ → Elt F e) : Vec F ⟨2, ![R, C]⟩ e := fun y => G (y 0).val (y 1).val

/-- Every piece is a block of `G`. -/
def Ok (L : List (View.Piece (Elt F) ⟨2, ![R, C]⟩ e)) (G : ℕ → ℕ → Elt F e) : Prop :=
  ∀ p ∈ L, ∀ x : p.1.shape.Idx, p.2 x = (At G : Vec F ⟨2, ![R, C]⟩ e) (p.1.emb x)

/-- Every place that satisfies `P` lies in some piece. -/
def Cov (L : List (View.Piece (Elt F) ⟨2, ![R, C]⟩ e)) (P : ℕ → ℕ → Prop) : Prop :=
  ∀ y : (⟨2, ![R, C]⟩ : Shape).Idx, P (y 0).val (y 1).val → ∃ p ∈ L, y ∈ p.1.set

theorem emb_row (r c n m : ℕ) (hr : r + n ≤ R) (hc : c + m ≤ C) (w : Vec F ⟨2, ![n, m]⟩ e) (x : (pc r c n m hr hc w).1.shape.Idx) :
    ((pc r c n m hr hc w).1.emb x 0).val = r + (x 0).val := Rect.idx_unit_val _ _ (inb hr hc) x 0

theorem emb_col (r c n m : ℕ) (hr : r + n ≤ R) (hc : c + m ≤ C) (w : Vec F ⟨2, ![n, m]⟩ e) (x : (pc r c n m hr hc w).1.shape.Idx) :
    ((pc r c n m hr hc w).1.emb x 1).val = c + (x 1).val := Rect.idx_unit_val _ _ (inb hr hc) x 1

theorem pc_ok {r c n m : ℕ} {hr : r + n ≤ R} {hc : c + m ≤ C} {w : Vec F ⟨2, ![n, m]⟩ e} {G : ℕ → ℕ → Elt F e}
    (h : ∀ (a : Fin n) (b : Fin m), w (ix2 a b) = G (r + a.val) (c + b.val)) (x : (pc r c n m hr hc w).1.shape.Idx) :
    (pc r c n m hr hc w).2 x = (At G : Vec F ⟨2, ![R, C]⟩ e) ((pc r c n m hr hc w).1.emb x) := by
  unfold At
  rw [emb_row, emb_col]
  have hx : x = (ix2 (x 0) (x 1) : (⟨2, ![n, m]⟩ : Shape).Idx) := by funext a; fin_cases a <;> rfl
  exact (congrArg w hx).trans (h (x 0) (x 1))

theorem pc_place {r c n m : ℕ} (hr : r + n ≤ R) (hc : c + m ≤ C) (w : Vec F ⟨2, ![n, m]⟩ e) (y : (⟨2, ![R, C]⟩ : Shape).Idx)
    (h0 : r ≤ (y 0).val) (h1 : (y 0).val < r + n) (h2 : c ≤ (y 1).val) (h3 : (y 1).val < c + m) :
    (pc r c n m hr hc w).1.emb (ix2 (⟨(y 0).val - r, by omega⟩ : Fin n) (⟨(y 1).val - c, by omega⟩ : Fin m)) = y := by
  funext a
  fin_cases a
  · exact Fin.ext ((emb_row r c n m hr hc w _).trans (by show r + ((y 0).val - r) = (y 0).val; omega))
  · exact Fin.ext ((emb_col r c n m hr hc w _).trans (by show c + ((y 1).val - c) = (y 1).val; omega))

theorem pc_mem {r c n m : ℕ} {hr : r + n ≤ R} {hc : c + m ≤ C} {w : Vec F ⟨2, ![n, m]⟩ e} {y : (⟨2, ![R, C]⟩ : Shape).Idx} :
    y ∈ (pc r c n m hr hc w).1.set ↔ (r ≤ (y 0).val ∧ (y 0).val < r + n) ∧ c ≤ (y 1).val ∧ (y 1).val < c + m := by
  constructor
  · intro h
    obtain ⟨x, rfl⟩ := (pc r c n m hr hc w).1.exists_idx_of_mem h
    have e0 := emb_row r c n m hr hc w x
    have e1 := emb_col r c n m hr hc w x
    have l0 : (x 0).val < n := (x 0).isLt
    have l1 : (x 1).val < m := (x 1).isLt
    change ((pc r c n m hr hc w).1.idx x 0).val = _ at e0
    change ((pc r c n m hr hc w).1.idx x 1).val = _ at e1
    omega
  · rintro ⟨⟨h0, h1⟩, h2, h3⟩
    rw [← pc_place hr hc w y h0 h1 h2 h3]
    exact (pc r c n m hr hc w).1.idx_mem _

/-- A family's pieces are blocks when each of its members is. -/
theorem ok_ofFn {N : ℕ} {f : Fin N → View.Piece (Elt F) ⟨2, ![R, C]⟩ e} {G : ℕ → ℕ → Elt F e}
    (h : ∀ k, ∀ x : (f k).1.shape.Idx, (f k).2 x = (At G : Vec F ⟨2, ![R, C]⟩ e) ((f k).1.emb x)) : Ok (List.ofFn f) G := by
  intro p hp
  obtain ⟨k, rfl⟩ := List.mem_ofFn.1 hp
  exact h k

theorem cov_ofFn {N : ℕ} {f : Fin N → View.Piece (Elt F) ⟨2, ![R, C]⟩ e} {P : ℕ → ℕ → Prop}
    (h : ∀ y : (⟨2, ![R, C]⟩ : Shape).Idx, P (y 0).val (y 1).val → ∃ k, y ∈ (f k).1.set) : Cov (List.ofFn f) P := fun y hy => by
  obtain ⟨k, hk⟩ := h y hy
  exact ⟨f k, List.mem_ofFn.2 ⟨k, rfl⟩, hk⟩

theorem ok_append {L L' : List (View.Piece (Elt F) ⟨2, ![R, C]⟩ e)} {G : ℕ → ℕ → Elt F e} (h : Ok L G) (h' : Ok L' G) : Ok (L ++ L') G := by
  intro p hp
  rcases List.mem_append.1 hp with hp | hp
  · exact h p hp
  · exact h' p hp

theorem ok_cons {p : View.Piece (Elt F) ⟨2, ![R, C]⟩ e} {L : List (View.Piece (Elt F) ⟨2, ![R, C]⟩ e)} {G : ℕ → ℕ → Elt F e}
    (h : ∀ x : p.1.shape.Idx, p.2 x = (At G : Vec F ⟨2, ![R, C]⟩ e) (p.1.emb x)) (h' : Ok L G) : Ok (p :: L) G := by
  intro q hq
  rcases List.mem_cons.1 hq with rfl | hq
  · exact h
  · exact h' q hq

theorem ok_pairs {N : ℕ} {f g : Fin N → View.Piece (Elt F) ⟨2, ![R, C]⟩ e} {G : ℕ → ℕ → Elt F e}
    (h : ∀ k, ∀ x : (f k).1.shape.Idx, (f k).2 x = (At G : Vec F ⟨2, ![R, C]⟩ e) ((f k).1.emb x))
    (h' : ∀ k, ∀ x : (g k).1.shape.Idx, (g k).2 x = (At G : Vec F ⟨2, ![R, C]⟩ e) ((g k).1.emb x)) :
    Ok (List.flatten <| List.ofFn fun k => [f k, g k]) G := by
  intro p hp
  obtain ⟨l, hl, hpl⟩ := List.mem_flatten.1 hp
  obtain ⟨k, rfl⟩ := List.mem_ofFn.1 hl
  rcases List.mem_cons.1 hpl with rfl | hq
  · exact h k
  · obtain rfl := List.mem_singleton.1 hq
    exact h' k

theorem cov_pairs {N : ℕ} {f g : Fin N → View.Piece (Elt F) ⟨2, ![R, C]⟩ e} {P : ℕ → ℕ → Prop}
    (h : ∀ y : (⟨2, ![R, C]⟩ : Shape).Idx, P (y 0).val (y 1).val → ∃ k, y ∈ (f k).1.set ∨ y ∈ (g k).1.set) :
    Cov (List.flatten <| List.ofFn fun k => [f k, g k]) P := fun y hy => by
  obtain ⟨k, hk | hk⟩ := h y hy
  · exact ⟨f k, List.mem_flatten.2 ⟨_, List.mem_ofFn.2 ⟨k, rfl⟩, by simp⟩, hk⟩
  · exact ⟨g k, List.mem_flatten.2 ⟨_, List.mem_ofFn.2 ⟨k, rfl⟩, by simp⟩, hk⟩

theorem canon_at {L L' : List (View.Piece (Elt F) ⟨2, ![R, C]⟩ e)} {G : ℕ → ℕ → Elt F e} {P : ℕ → ℕ → Prop} (h : Ok L G) (hc : Cov L P)
    (y : (⟨2, ![R, C]⟩ : Shape).Idx) (hy : P (y 0).val (y 1).val) : View.canon (L ++ L') y = G (y 0).val (y 1).val :=
  View.canon_append_of_pieces (At G : Vec F ⟨2, ![R, C]⟩ e) L' L h y (hc y hy)

theorem canon_at' {L : List (View.Piece (Elt F) ⟨2, ![R, C]⟩ e)} {G : ℕ → ℕ → Elt F e} {P : ℕ → ℕ → Prop} (h : Ok L G) (hc : Cov L P)
    (y : (⟨2, ![R, C]⟩ : Shape).Idx) (hy : P (y 0).val (y 1).val) : View.canon L y = G (y 0).val (y 1).val := by
  have := canon_at (L' := []) h hc y hy
  rwa [List.append_nil] at this

section
variable {sig : RefSig} {κ : Kind} {sp : Space} (b : Memref sig κ sp ⟨2, ![R, C]⟩ e)
variable {r c n m : ℕ} (hr : r + n ≤ R) (hc : c + m ≤ C)

/-- The place a load's entry reads. -/
abbrev place (i : Fin n) (k : Fin m) : (⟨2, ![R, C]⟩ : Shape).Idx := ix2 ⟨r + i.val, by omega⟩ ⟨c + k.val, by omega⟩

theorem idx_place (i : Fin n) (k : Fin m) :
    (Rect.unit (s := ⟨2, ![R, C]⟩) ![r, c] ![n, m] (inb hr hc)).toLoadRect.idx (ix2 i k) = place hr hc i k := by
  funext a
  fin_cases a
  · exact Fin.ext (by show r + 1 * i.val = r + i.val; omega)
  · exact Fin.ext (by show c + 1 * k.val = c + k.val; omega)

/-- A load of a list of stores. -/
theorem readCov_at (L : List (View.Piece (Elt F) ⟨2, ![R, C]⟩ e)) (i : Fin n) (k : Fin m) :
    b.view.readCov L (Rect.unit (s := ⟨2, ![R, C]⟩) ![r, c] ![n, m] (inb hr hc)).toLoadRect (ix2 i k) = View.canon L (place hr hc i k) := by
  rw [View.readCov_eq_canon']
  exact congrArg (View.canon L) (idx_place hr hc i k)

theorem load_at {L L' : List (View.Piece (Elt F) ⟨2, ![R, C]⟩ e)} {G : ℕ → ℕ → Elt F e} {P : ℕ → ℕ → Prop} (h : Ok L G) (hL : Cov L P)
    (i : Fin n) (k : Fin m) (hP : P (r + i.val) (c + k.val)) :
    b.view.readCov (L ++ L') (Rect.unit (s := ⟨2, ![R, C]⟩) ![r, c] ![n, m] (inb hr hc)).toLoadRect (ix2 i k) = G (r + i.val) (c + k.val) :=
  (readCov_at b hr hc _ i k).trans (canon_at h hL _ hP)

theorem load_at' {L : List (View.Piece (Elt F) ⟨2, ![R, C]⟩ e)} {G : ℕ → ℕ → Elt F e} {P : ℕ → ℕ → Prop} (h : Ok L G) (hL : Cov L P)
    (i : Fin n) (k : Fin m) (hP : P (r + i.val) (c + k.val)) :
    b.view.readCov L (Rect.unit (s := ⟨2, ![R, C]⟩) ![r, c] ![n, m] (inb hr hc)).toLoadRect (ix2 i k) = G (r + i.val) (c + k.val) :=
  (readCov_at b hr hc _ i k).trans (canon_at' h hL _ hP)

variable {b}

/-- A load of whole contents. -/
theorem whole_at (hb : b.IsWhole) (x : Vec F ⟨2, ![R, C]⟩ e) (i : Fin n) (k : Fin m) :
    b.view.readAt (Elt F) (Rect.unit (s := ⟨2, ![R, C]⟩) ![r, c] ![n, m] (inb hr hc)).toLoadRect (hb.unread x) (ix2 i k) = x (place hr hc i k) := by
  rw [View.readAt_apply, hb.read_unread]
  exact congrArg x (idx_place hr hc i k)

/-- A load of stores over whole contents. -/
theorem over_at (hb : b.IsWhole) (x : Vec F ⟨2, ![R, C]⟩ e) (L : List (View.Piece (Elt F) ⟨2, ![R, C]⟩ e)) (i : Fin n) (k : Fin m) :
    b.view.readAt (Elt F) (Rect.unit (s := ⟨2, ![R, C]⟩) ![r, c] ![n, m] (inb hr hc)).toLoadRect (b.view.writes (Elt F) (hb.unread x) L) (ix2 i k)
      = b.view.read (Elt F) (b.view.writes (Elt F) (hb.unread x) L) (place hr hc i k) := by
  rw [View.readAt_apply]
  exact congrArg _ (idx_place hr hc i k)

theorem over_in (hb : b.IsWhole) (x : Vec F ⟨2, ![R, C]⟩ e) {L : List (View.Piece (Elt F) ⟨2, ![R, C]⟩ e)} {G : ℕ → ℕ → Elt F e} {P : ℕ → ℕ → Prop}
    (h : Ok L G) (hL : Cov L P) (y : (⟨2, ![R, C]⟩ : Shape).Idx) (hy : P (y 0).val (y 1).val) :
    b.view.read (Elt F) (b.view.writes (Elt F) (hb.unread x) L) y = G (y 0).val (y 1).val :=
  View.read_writes_apply_of_pieces b.view (hb.unread x) (At G : Vec F ⟨2, ![R, C]⟩ e) L h y (hL y hy)

theorem over_out (hb : b.IsWhole) (x : Vec F ⟨2, ![R, C]⟩ e) {L : List (View.Piece (Elt F) ⟨2, ![R, C]⟩ e)} (y : (⟨2, ![R, C]⟩ : Shape).Idx)
    (hy : ∀ p ∈ L, y ∉ p.1.set) : b.view.read (Elt F) (b.view.writes (Elt F) (hb.unread x) L) y = x y := by
  rw [View.read_writes_apply_of_forall_not_mem b.view (hb.unread x) y L hy, hb.read_unread]

end

/-! ## Accumulators -/

/-- What the first `n` stores add at a place. -/
def added (row col : ℕ → ℕ) (part : ℕ → ℕ → ℝ) (n ρ c : ℕ) : ℝ :=
  ∑ k ∈ Finset.range n, if row k = ρ ∧ col k ≤ c ∧ c < col k + 256 then part k c else 0

theorem added_succ (row col : ℕ → ℕ) (part : ℕ → ℕ → ℝ) (n ρ c : ℕ) : added row col part (n + 1) ρ c
    = added row col part n ρ c + if row n = ρ ∧ col n ≤ c ∧ c < col n + 256 then part n c else 0 := Finset.sum_range_succ _ _

variable {row col : ℕ → ℕ} {hrow : ∀ n, row n + 1 ≤ R} {hcol : ∀ n, col n + 256 ≤ 1024}

/-- An accumulator's contents after `n` stores, at every place that its list covers. -/
theorem acc_at (ld : ℕ → List (View.Piece (Elt Ideal) ⟨2, ![R, 1024]⟩ .f32) → Vec Ideal ⟨2, ![1, 256]⟩ .f32)
    (w : ℕ → Vec Ideal ⟨2, ![1, 256]⟩ .f32 → Vec Ideal ⟨2, ![1, 256]⟩ .f32) (base : List (View.Piece (Elt Ideal) ⟨2, ![R, 1024]⟩ .f32))
    (start : ℕ → ℕ → ℝ) (part : ℕ → ℕ → ℝ) (full : Prop)
    (hbase : full → ∀ y : (⟨2, ![R, 1024]⟩ : Shape).Idx, (View.canon base y : EReal) = ((start (y 0).val (y 1).val : ℝ) : EReal))
    (hw : ∀ n l (b : Fin 256) (v : ℝ), (l (ix2 0 b) : EReal) = ((v : ℝ) : EReal) →
      (w n l (ix2 0 b) : EReal) = ((v + part n (col n + b.val) : ℝ) : EReal))
    (hld : ∀ n L (b : Fin 256), ((full ∨ ∃ k < n, row k = row n ∧ col k ≤ col n + b.val ∧ col n + b.val < col k + 256) →
        (View.canon L (place (hrow n) (hcol n) (0 : Fin 1) b) : EReal)
          = ((start (row n) (col n + b.val) + added row col part n (row n) (col n + b.val) : ℝ) : EReal)) →
      (ld n L (ix2 0 b) : EReal) = ((start (row n) (col n + b.val) + added row col part n (row n) (col n + b.val) : ℝ) : EReal)) :
    ∀ (n : ℕ) (y : (⟨2, ![R, 1024]⟩ : Shape).Idx), (full ∨ ∃ k < n, row k = (y 0).val ∧ col k ≤ (y 1).val ∧ (y 1).val < col k + 256) →
      (View.canon (accL row col hrow hcol ld w base n) y : EReal)
        = ((start (y 0).val (y 1).val + added row col part n (y 0).val (y 1).val : ℝ) : EReal)
  | 0, y, hy => by
    have hf : full := hy.resolve_right fun ⟨k, hk, _⟩ => absurd hk (Nat.not_lt_zero k)
    unfold added
    rw [Finset.sum_range_zero, add_zero]
    exact hbase hf y
  | n + 1, y, hy => by
    have ih := acc_at ld w base start part full hbase hw hld n
    by_cases hm : (row n = (y 0).val) ∧ col n ≤ (y 1).val ∧ (y 1).val < col n + 256
    · rw [added_succ, if_pos hm, ← add_assoc]
      have hp := pc_place (hrow n) (hcol n) (w n (ld n (accL row col hrow hcol ld w base n))) y (by omega) (by omega) hm.2.1 hm.2.2
      show View.canon (pc (row n) (col n) 1 256 (hrow n) (hcol n) (w n (ld n (accL row col hrow hcol ld w base n)))
        :: accL row col hrow hcol ld w base n) y = _
      conv_lhs => rw [← hp]
      refine (View.canon_cons_emb _ _ _ _).trans ?_
      have h0 : (⟨(y 0).val - row n, by omega⟩ : Fin 1) = 0 := Subsingleton.elim _ _
      rw [h0]
      have hb : col n + ((y 1).val - col n) = (y 1).val := by omega
      have key := hw n (ld n (accL row col hrow hcol ld w base n)) ⟨(y 1).val - col n, by omega⟩ _
        (hld n (accL row col hrow hcol ld w base n) ⟨(y 1).val - col n, by omega⟩ fun hfull => ?_)
      · refine key.trans ?_
        dsimp only
        rw [hb, hm.1]
      · exact ih _ hfull
    · have hy' : full ∨ ∃ k < n, row k = (y 0).val ∧ col k ≤ (y 1).val ∧ (y 1).val < col k + 256 := by
        rcases hy with hf | ⟨k, hk, hkk⟩
        · exact Or.inl hf
        · refine Or.inr ⟨k, ?_, hkk⟩
          rcases Nat.lt_succ_iff_lt_or_eq.1 hk with h | rfl
          · exact h
          · exact absurd hkk hm
      rw [added_succ, if_neg hm, add_zero]
      refine (View.canon_cons_of_not_mem _ _ fun h => ?_).trans (ih y hy')
      have := pc_mem.1 h
      exact hm ⟨by omega, this.2⟩

end Cert.EvenLists

end
-- ==== Proof.EvenVal.lean ====
/-
  What one grid point of the even mixer's backward kernel stores in the row gradients and the carried rows, over reals:
  the point of the rows `256 T` on.
-/
module

public import proofs.«01_k».proof.Proof.EvenAt
public import proofs.«01_k».proof.Proof.EvenLists

@[expose] public section

set_option maxRecDepth 16384

noncomputable section

namespace Cert.EvenVal

open Idealize.ShloMosaic Idealize.SL.Sem Idealize.ShloMosaic.Pointwise Cert.Rows
open Cert.Kernel3Ideal Cert.Kernel3Ideal.Gen Cert.EvenOps Cert.EvenPieces Cert.EvenLists Cert.EvenAt
open Cert.Even (Data win ya t1 dga scaleTerm dpl weightTerm edp dxa dcv dbg dgb dq dh dcg tapTerm dz dcv_ge edp_ge)

/-- Reals by row and column as a buffer's contents. -/
abbrev re (f : ℕ → ℕ → ℝ) : ℕ → ℕ → EReal := fun r c => ((f r c : ℝ) : EReal)

variable (D : Data) (T : ℕ)

/-- A point's blocks are those of the rows `256 T` on. -/
structure Good (p : Pt Ideal) : Prop where
  hT : T < 32
  i : (p.i 0).val = 31 - T
  x0 : p.x0 = (At (F := Ideal) (e := .bf16) (re fun r c => D.z (256 * T + r) c) : Vec Ideal ⟨2, ![256, 6144]⟩ .bf16)
  x1 : p.x1 = (At (F := Ideal) (e := .bf16) (re fun r c => D.dy (256 * T + r) c) : Vec Ideal ⟨2, ![256, 2048]⟩ .bf16)
  x2 : p.x2 = (At (F := Ideal) (e := .bf16) (re fun r c => D.pool (256 * T + r) c) : Vec Ideal ⟨2, ![256, 1024]⟩ .bf16)
  x3 : p.x3 = (At (F := Ideal) (e := .bf16) (re fun r c => D.cv (256 * T + r) c) : Vec Ideal ⟨2, ![256, 1024]⟩ .bf16)
  x4 : ∀ g e d, p.x4 (ix3 g e d) = ((D.pw g.val e.val d.val : ℝ) : EReal)
  x5 : p.x5 = (At (F := Ideal) (e := .f32) (re fun _ c => D.ps c) : Vec Ideal ⟨2, ![1, 1024]⟩ .f32)
  x6 : p.x6 = (At (F := Ideal) (e := .f32) (re fun j c => D.sw j c) : Vec Ideal ⟨2, ![3, 1024]⟩ .f32)

variable {D T} {p : Pt Ideal} (G : Good D T p)

/-! ## Chunks of the input blocks -/

section
include G
variable (k : Fin 64) (a : Fin 16) (b : Fin 256)

theorem z_at (o : Fin 6) (n : ℕ) (hn : 1024 * o.val = n) :
    zc p o k (ix2 a b) = ((D.z (256 * T + (16 * (k.val / 4) + a.val)) (n + (256 * (k.val % 4) + b.val)) : ℝ) : EReal) := by
  refine (whole_at (b := p.arg1) (by omega) (by omega) p.harg1 p.x0 a b).trans ?_
  rw [G.x0]
  show ((D.z (256 * T + (16 * (k.val / 4) + a.val)) (1024 * o.val + 256 * (k.val % 4) + b.val) : ℝ) : EReal) = _
  rw [hn, Nat.add_assoc]

theorem dy_at (o : Fin 2) (n : ℕ) (hn : 1024 * o.val = n) :
    dyc p o k (ix2 a b) = ((D.dy (256 * T + (16 * (k.val / 4) + a.val)) (n + (256 * (k.val % 4) + b.val)) : ℝ) : EReal) := by
  refine (whole_at (b := p.arg2) (by omega) (by omega) p.harg2 p.x1 a b).trans ?_
  rw [G.x1]
  show ((D.dy (256 * T + (16 * (k.val / 4) + a.val)) (1024 * o.val + 256 * (k.val % 4) + b.val) : ℝ) : EReal) = _
  rw [hn, Nat.add_assoc]

theorem dy0_at : dyc p 0 k (ix2 a b) = ((D.dy (256 * T + (16 * (k.val / 4) + a.val)) (256 * (k.val % 4) + b.val) : ℝ) : EReal) := by
  rw [dy_at G k a b 0 0 rfl, Nat.zero_add]

theorem cv_at : cvc p k (ix2 a b) = ((D.cv (256 * T + (16 * (k.val / 4) + a.val)) (256 * (k.val % 4) + b.val) : ℝ) : EReal) := by
  refine (whole_at (b := p.arg4) (by omega) (by omega) p.harg4 p.x3 a b).trans ?_
  rw [G.x3]
  rfl

theorem ps_at : psc p k (ix2 0 b) = ((D.ps (256 * (k.val % 4) + b.val) : ℝ) : EReal) := by
  refine (whole_at (b := p.arg6) (by omega) (by omega) p.harg6 p.x5 (0 : Fin 1) b).trans ?_
  rw [G.x5]
  rfl

theorem sw_at (j : Fin 3) : swc p j k (ix2 0 b) = ((D.sw j.val (256 * (k.val % 4) + b.val) : ℝ) : EReal) := by
  refine (whole_at (b := p.arg7) (by omega) (by omega) p.harg7 p.x6 (0 : Fin 1) b).trans ?_
  rw [G.x6]
  rfl

theorem pool_at (g : Fin 4) (r e : Fin 256) : plc p g (ix2 r e) = ((D.pool (256 * T + r.val) (256 * g.val + e.val) : ℝ) : EReal) := by
  refine (whole_at (b := p.arg3) (by omega) (by omega) p.harg3 p.x2 r e).trans ?_
  rw [G.x2]
  show ((D.pool (256 * T + (0 + r.val)) (256 * g.val + e.val) : ℝ) : EReal) = _
  rw [Nat.zero_add]

theorem pw_at (g : Fin 4) (e d : Fin 256) : pwc p g (ix3 0 e d) = ((D.pw g.val e.val d.val : ℝ) : EReal) := by
  unfold pwc
  rw [View.readAt_apply, p.harg5.read_unread, ← G.x4 g e d]
  refine congrArg p.x4 (funext fun x => Fin.ext ?_)
  match x with
  | ⟨0, _⟩ => show g.val + 1 * 0 = g.val; omega
  | ⟨1, _⟩ => show 0 + 1 * e.val = e.val; omega
  | ⟨2, _⟩ => show 0 + 1 * d.val = d.val; omega

end

/-! ## The pooling groups -/

/-- The chunk that holds a row and a column. -/
def chunkOf (r c : ℕ) (hr : r < 256) (hc : c < 1024) : Fin 64 := ⟨r / 16 * 4 + c / 256, by omega⟩

theorem ya_block (D : Data) (i g b : ℕ) (hb : b < 256) : ya D i (256 * g + b) = ∑ e : Fin 256, D.pool i (256 * g + e.val) * D.pw g e.val b := by
  unfold ya
  rw [show (256 * g + b) / 256 = g by omega, show (256 * g + b) % 256 = b by omega, Nat.mul_comm g 256]

theorem dpl_block (D : Data) (i g b : ℕ) (hb : b < 256) : dpl D i (256 * g + b) = ∑ d : Fin 256, t1 D i (256 * g + d.val) * D.pw g b d.val := by
  unfold dpl
  rw [show (256 * g + b) / 256 = g by omega, show (256 * g + b) % 256 = b by omega, Nat.mul_comm g 256]

/-- Four groups of 256 columns cover the rows of a block. -/
theorem cov_groups {e : EltTy} {w : Fin 4 → Vec Ideal ⟨2, ![256, 256]⟩ e} : Cov (F := Ideal) (R := 256) (C := 1024) (List.ofFn fun g : Fin 4 =>
    pc 0 (256 * g.rev.val) 256 256 (by omega) (by omega) (w g)) (fun _ _ => True) := cov_ofFn fun y _ => by
  have h0 : (y 0).val < 256 := (y 0).isLt
  have h1 : (y 1).val < 1024 := (y 1).isLt
  refine ⟨Fin.rev ⟨(y 1).val / 256, by omega⟩, pc_mem.2 ?_⟩
  rw [Fin.rev_rev]
  dsimp only
  omega

/-- Sixty-four chunks, from a column on, cover the rows of a block. -/
theorem cov_chunks {e : EltTy} {R C : ℕ} (hR : 256 ≤ R) (o : ℕ) (ho : o + 1024 ≤ C) {w : Fin 64 → Vec Ideal ⟨2, ![16, 256]⟩ e} :
    Cov (F := Ideal) (R := R) (C := C) (List.ofFn fun k : Fin 64 =>
      pc (16 * (k.rev.val / 4)) (o + 256 * (k.rev.val % 4)) 16 256 (by omega) (by omega) (w k)) (fun r c => r < 256 ∧ o ≤ c ∧ c < o + 1024) :=
  cov_ofFn fun y hy => by
    refine ⟨Fin.rev ⟨(y 0).val / 16 * 4 + ((y 1).val - o) / 256, by omega⟩, pc_mem.2 ?_⟩
    rw [Fin.rev_rev]
    dsimp only
    omega

theorem cov_chunks0 {e : EltTy} {R C : ℕ} (hR : 256 ≤ R) (ho : 1024 ≤ C) {w : Fin 64 → Vec Ideal ⟨2, ![16, 256]⟩ e} :
    Cov (F := Ideal) (R := R) (C := C) (List.ofFn fun k : Fin 64 =>
      pc (16 * (k.rev.val / 4)) (256 * (k.rev.val % 4)) 16 256 (by omega) (by omega) (w k)) (fun r c => r < 256 ∧ c < 1024) :=
  cov_ofFn fun y hy => by
    refine ⟨Fin.rev ⟨(y 0).val / 16 * 4 + (y 1).val / 256, by omega⟩, pc_mem.2 ?_⟩
    rw [Fin.rev_rev]
    dsimp only
    omega

section
include G

theorem ya_ok : Ok (yaL p) (re fun r c => ya D (256 * T + r) c) := ok_ofFn fun g => pc_ok fun r d => by
  refine (EvenAt.ya_at (p := fun e => D.pool (256 * T + r.val) (256 * g.rev.val + e)) (q := fun e => D.pw g.rev.val e d.val) r d
    (fun e => pool_at G g.rev r e) (fun e => pw_at G g.rev e d)).trans ?_
  show _ = ((ya D (256 * T + (0 + r.val)) (256 * g.rev.val + d.val) : ℝ) : EReal)
  rw [ya_block D _ _ _ d.isLt, Nat.zero_add]

theorem ya_at (k : Fin 64) (a : Fin 16) (b : Fin 256) :
    yac p k (ix2 a b) = ((ya D (256 * T + (16 * (k.val / 4) + a.val)) (256 * (k.val % 4) + b.val) : ℝ) : EReal) :=
  load_at' p.arg15 (by omega) (by omega) (ya_ok G) cov_groups a b trivial

theorem t1_ok : Ok (t1L p) (re fun r c => t1 D (256 * T + r) c) := ok_ofFn fun k => pc_ok fun a b =>
  EvenAt.t1_at a b (z_at G k.rev a b 1 1024 rfl) (dy0_at G k.rev a b) (ps_at G k.rev b)

theorem t1_at (g : Fin 4) (r d : Fin 256) : t1g p g (ix2 r d) = ((t1 D (256 * T + r.val) (256 * g.val + d.val) : ℝ) : EReal) := by
  refine (load_at' p.arg16 (by omega) (by omega) (t1_ok G) (cov_chunks0 (by omega) (by omega)) r d (by omega)).trans ?_
  show ((t1 D (256 * T + (0 + r.val)) (256 * g.val + d.val) : ℝ) : EReal) = _
  rw [Nat.zero_add]

theorem dpl_ok : Ok (dplL p) (re fun r c => dpl D (256 * T + r) c) := ok_ofFn fun g => pc_ok fun r e => by
  refine (EvenAt.dpl_at (p := fun d => t1 D (256 * T + r.val) (256 * g.rev.val + d)) (q := fun d => D.pw g.rev.val e.val d) r e
    (fun d => t1_at G g.rev r d) (fun d => pw_at G g.rev e d)).trans ?_
  show _ = ((dpl D (256 * T + (0 + r.val)) (256 * g.rev.val + e.val) : ℝ) : EReal)
  rw [dpl_block D _ _ _ e.isLt, Nat.zero_add]

theorem dpl_at (k : Fin 64) (a : Fin 16) (b : Fin 256) :
    dplc p k (ix2 a b) = ((dpl D (256 * T + (16 * (k.val / 4) + a.val)) (256 * (k.val % 4) + b.val) : ℝ) : EReal) :=
  load_at' p.arg17 (by omega) (by omega) (dpl_ok G) cov_groups a b trivial

theorem edp_ok : Ok (edpL p) (re fun r c => edp D (256 * T + r) c) := ok_ofFn fun k => pc_ok fun a b => by
  have hi : (p.i 0).val = 31 - T := G.i
  have hT := G.hT
  refine (EvenAt.edp_at a b (p.i 0).val (k.rev.val / 4) (k.rev.val % 4) (by omega) (by omega) (by omega) (dpl_at G k.rev a b)).trans ?_
  show _ = ((edp D (256 * T + (16 * (k.rev.val / 4) + a.val)) (256 * (k.rev.val % 4) + b.val) : ℝ) : EReal)
  unfold edp win
  rw [show 31 - (p.i 0).val = T by omega, show (256 * (k.rev.val % 4) + b.val) / 256 = k.rev.val % 4 by omega]

theorem edc_ok : Ok (edcL p) (re fun r c => dcv D (256 * T + r) c) := ok_ofFn fun k => pc_ok fun a b =>
  EvenAt.edc_at a b (z_at G k.rev a b 5 5120 rfl) (dy_at G k.rev a b 1 1024 rfl) (z_at G k.rev a b 3 3072 rfl)

end

/-! ## The buffers with carried rows -/

/-- A buffer's loads are blocks of one array. -/
def LdOk {R : ℕ} (l : Ld Ideal R) (f : ℕ → ℕ → ℝ) : Prop :=
  ∀ (r c n m : ℕ) (hr : r + n ≤ R) (hc : c + m ≤ 1024) (a : Fin n) (b : Fin m), l r c n m hr hc (ix2 a b) = ((f (r + a.val) (c + b.val) : ℝ) : EReal)

section
include G

theorem edpA_ok (hT : T = 31) : LdOk (edpA p) (fun r c => edp D (256 * T + r) c) := fun r c n m hr hc a b => by
  have hok : Ok (edpL p ++ fillP) (re fun r c => edp D (256 * T + r) c) := ok_append (edp_ok G) (ok_cons (pc_ok fun a b => by
    refine (EvenAt.zero32_at a b).trans ?_
    show _ = ((edp D (256 * T + (256 + a.val)) (0 + b.val) : ℝ) : EReal)
    rw [edp_ge D _ (by omega)]) fun _ h => absurd h List.not_mem_nil)
  have hcov : Cov (edpL p ++ fillP) (fun _ _ => True) := fun y _ => by
    have h0 : (y 0).val < 288 := (y 0).isLt
    have h1 : (y 1).val < 1024 := (y 1).isLt
    by_cases h : (y 0).val < 256
    · obtain ⟨q, hq, hy⟩ := (cov_chunks0 (by omega) (by omega) : Cov (edpL p) _) y ⟨h, h1⟩
      exact ⟨q, List.mem_append_left _ hq, hy⟩
    · exact ⟨_, List.mem_append_right _ (List.mem_singleton.2 rfl), pc_mem.2 (by omega)⟩
  exact load_at' p.arg13 hr hc hok hcov a b trivial

theorem edcA_ok (hT : T = 31) : LdOk (edcA p) (fun r c => dcv D (256 * T + r) c) := fun r c n m hr hc a b => by
  have hok : Ok (edcL p ++ fillC) (re fun r c => dcv D (256 * T + r) c) := ok_append (edc_ok G) (ok_cons (pc_ok fun a b => by
    refine (EvenAt.zero8_at a b).trans ?_
    show _ = ((dcv D (256 * T + (256 + a.val)) (0 + b.val) : ℝ) : EReal)
    rw [dcv_ge D _ (by omega)]) fun _ h => absurd h List.not_mem_nil)
  have hcov : Cov (edcL p ++ fillC) (fun _ _ => True) := fun y _ => by
    have h0 : (y 0).val < 264 := (y 0).isLt
    have h1 : (y 1).val < 1024 := (y 1).isLt
    by_cases h : (y 0).val < 256
    · obtain ⟨q, hq, hy⟩ := (cov_chunks0 (by omega) (by omega) : Cov (edcL p) _) y ⟨h, h1⟩
      exact ⟨q, List.mem_append_left _ hq, hy⟩
    · exact ⟨_, List.mem_append_right _ (List.mem_singleton.2 rfl), pc_mem.2 (by omega)⟩
  exact load_at' p.arg14 hr hc hok hcov a b trivial

/-- The carried rows of the pooled gradients. -/
def KeptP (D : Data) (T : ℕ) (x : Vec Ideal ⟨2, ![288, 1024]⟩ .f32) : Prop :=
  ∀ y : (⟨2, ![288, 1024]⟩ : Shape).Idx, 256 ≤ (y 0).val → (x y : EReal) = ((edp D (256 * T + (y 0).val) (y 1).val : ℝ) : EReal)

/-- The carried rows of the convolution's cotangents. -/
def KeptC (D : Data) (T : ℕ) (x : Vec Ideal ⟨2, ![264, 1024]⟩ .f32) : Prop :=
  ∀ y : (⟨2, ![264, 1024]⟩ : Shape).Idx, 256 ≤ (y 0).val → (x y : EReal) = ((dcv D (256 * T + (y 0).val) (y 1).val : ℝ) : EReal)

theorem edpB_ok {q : Carried Ideal} (hq : KeptP D T q.xs0) : LdOk (edpB p q) (fun r c => edp D (256 * T + r) c) := fun r c n m hr hc a b => by
  unfold edpB
  split
  · exact load_at' p.arg13 hr hc (edp_ok G) (cov_chunks0 (by omega) (by omega)) a b (by omega)
  · split
    · exact (whole_at hr hc p.harg13 q.xs0 a b).trans (hq _ (by show 256 ≤ r + a.val; omega))
    · refine (over_at hr hc p.harg13 q.xs0 (edpL p) a b).trans ?_
      by_cases h : r + a.val < 256
      · exact over_in p.harg13 q.xs0 (edp_ok G) (cov_chunks0 (by omega) (by omega)) (place hr hc a b) (by show r + a.val < 256 ∧ c + b.val < 1024; omega)
      · refine (over_out p.harg13 q.xs0 (place hr hc a b) fun s hs hm => ?_).trans (hq _ (by show 256 ≤ r + a.val; omega))
        obtain ⟨k, rfl⟩ := List.mem_ofFn.1 hs
        have hm := (pc_mem.1 hm).1.2
        change r + a.val < _ at hm
        have := k.rev.isLt
        omega

theorem edcB_ok {q : Carried Ideal} (hq : KeptC D T q.xs1) : LdOk (edcB p q) (fun r c => dcv D (256 * T + r) c) := fun r c n m hr hc a b => by
  unfold edcB
  split
  · exact load_at' p.arg14 hr hc (edc_ok G) (cov_chunks0 (by omega) (by omega)) a b (by omega)
  · split
    · exact (whole_at hr hc p.harg14 q.xs1 a b).trans (hq _ (by show 256 ≤ r + a.val; omega))
    · refine (over_at hr hc p.harg14 q.xs1 (edcL p) a b).trans ?_
      by_cases h : r + a.val < 256
      · exact over_in p.harg14 q.xs1 (edc_ok G) (cov_chunks0 (by omega) (by omega)) (place hr hc a b) (by show r + a.val < 256 ∧ c + b.val < 1024; omega)
      · refine (over_out p.harg14 q.xs1 (place hr hc a b) fun s hs hm => ?_).trans (hq _ (by show 256 ≤ r + a.val; omega))
        obtain ⟨k, rfl⟩ := List.mem_ofFn.1 hs
        have hm := (pc_mem.1 hm).1.2
        change r + a.val < _ at hm
        have := k.rev.isLt
        omega

/-- What a point leaves below the first buffer's rows is what the point of the rows before needs. -/
theorem tailP_ok {T' : ℕ} (hT : T = T' + 1) (B : List (View.Piece (Elt Ideal) S288x1024 .f32)) : KeptP D T' (View.canon (tailP p B)) := fun y hy => by
  have h0 : (y 0).val < 288 := (y 0).isLt
  have h1 : (y 1).val < 1024 := (y 1).isLt
  have hp := pc_place (F := Ideal) (e := .f32) (R := 288) (C := 1024) (r := 256) (c := 0) (n := 32) (m := 1024) (by omega) (by omega)
    (keep32 (p.arg13.view.readCov (edpL p ++ B) (Rect.unit (s := S288x1024) ![0, 0] S32x1024.size (inb (by omega) (by omega))).toLoadRect))
    y hy (by omega) (by omega) (by omega)
  refine (congrArg (View.canon (tailP p B)) hp.symm).trans ?_
  unfold tailP
  refine (View.canon_cons_emb _ _ _ _).trans ?_
  refine (EvenAt.keep32_at _ _ _).trans ?_
  refine (load_at p.arg13 (by omega) (by omega) (edp_ok G) (cov_chunks0 (by omega) (by omega)) _ _ (by dsimp only; omega)).trans ?_
  show ((edp D (256 * T + (0 + ((y 0).val - 256))) (0 + ((y 1).val - 0)) : ℝ) : EReal) = _
  rw [show 256 * T + (0 + ((y 0).val - 256)) = 256 * T' + (y 0).val by omega, show 0 + ((y 1).val - 0) = (y 1).val by omega]

theorem tailC_ok {T' : ℕ} (hT : T = T' + 1) (B : List (View.Piece (Elt Ideal) S264x1024 .f32)) : KeptC D T' (View.canon (tailC p B)) := fun y hy => by
  have h0 : (y 0).val < 264 := (y 0).isLt
  have h1 : (y 1).val < 1024 := (y 1).isLt
  have hp := pc_place (F := Ideal) (e := .f32) (R := 264) (C := 1024) (r := 256) (c := 0) (n := 8) (m := 1024) (by omega) (by omega)
    (keep8 (p.arg14.view.readCov (edcL p ++ B) (Rect.unit (s := S264x1024) ![0, 0] S8x1024.size (inb (by omega) (by omega))).toLoadRect))
    y hy (by omega) (by omega) (by omega)
  refine (congrArg (View.canon (tailC p B)) hp.symm).trans ?_
  unfold tailC
  refine (View.canon_cons_emb _ _ _ _).trans ?_
  refine (EvenAt.keep8_at _ _ _).trans ?_
  refine (load_at p.arg14 (by omega) (by omega) (edc_ok G) (cov_chunks0 (by omega) (by omega)) _ _ (by dsimp only; omega)).trans ?_
  show ((dcv D (256 * T + (0 + ((y 0).val - 256))) (0 + ((y 1).val - 0)) : ℝ) : EReal) = _
  rw [show 256 * T + (0 + ((y 0).val - 256)) = 256 * T' + (y 0).val by omega, show 0 + ((y 1).val - 0) = (y 1).val by omega]

end

/-! ## The running window sums -/

/-- The sum of a column's entries from a row on. -/
def lev (f : ℕ → ℕ → ℝ) (n r c : ℕ) : ℝ := ∑ j ∈ Finset.range n, f (r + j) c

theorem lev_one (f : ℕ → ℕ → ℝ) (r c : ℕ) : lev f 1 r c = f r c := by unfold lev; rw [Finset.sum_range_one]; rfl

theorem lev_add (f : ℕ → ℕ → ℝ) (n r c : ℕ) : lev f n r c + lev f n (r + n) c = lev f (n + n) r c := by
  unfold lev
  rw [Finset.sum_range_add]
  simp only [Nat.add_assoc]

theorem canon_skip {R C : ℕ} {e : EltTy} (L L' : List (View.Piece (Elt Ideal) ⟨2, ![R, C]⟩ e)) (y : (⟨2, ![R, C]⟩ : Shape).Idx)
    (h : ∀ q ∈ L, y ∉ q.1.set) : View.canon (L ++ L') y = View.canon L' y := by
  induction L with
  | nil => rfl
  | cons q L ih =>
    exact (View.canon_cons_of_not_mem _ _ (h q List.mem_cons_self)).trans (ih fun s hs => h s (List.mem_cons_of_mem _ hs))

section
variable {l : Ld Ideal 288} {f : ℕ → ℕ → ℝ} (hl : LdOk l f)
include hl

theorem la1_ok : Ok (la1L l) (re (lev f 2)) := by
  have key : ∀ r c : ℕ, f r c + f (r + 1) c = lev f 2 r c := fun r c => by rw [← lev_one f r c, ← lev_one f (r + 1) c]; exact lev_add f 1 r c
  refine ok_cons (pc_ok fun a b => ?_) (ok_ofFn fun j => pc_ok fun a b => ?_)
  · refine (EvenAt.level24_at a b (hl _ _ _ _ _ _ a b) (hl _ _ _ _ _ _ a b)).trans ?_
    show _ = ((lev f 2 (256 + a.val) (256 + b.val) : ℝ) : EReal)
    rw [← key, show 257 + a.val = 256 + a.val + 1 by omega]
  · refine (EvenAt.level32_at a b (hl _ _ _ _ _ _ a b) (hl _ _ _ _ _ _ a b)).trans ?_
    show _ = ((lev f 2 (32 * j.rev.val + a.val) (256 + b.val) : ℝ) : EReal)
    rw [← key, show 32 * j.rev.val + 1 + a.val = 32 * j.rev.val + a.val + 1 by omega]

omit hl in
theorem la1_cov : Cov (la1L l) (fun r c => r < 280 ∧ 256 ≤ c) := fun y hy => by
  have h1 : (y 1).val < 1024 := (y 1).isLt
  by_cases h : (y 0).val < 256
  · refine ⟨_, List.mem_cons_of_mem _ (List.mem_ofFn.2 ⟨Fin.rev ⟨(y 0).val / 32, by omega⟩, rfl⟩), pc_mem.2 ?_⟩
    rw [Fin.rev_rev]
    dsimp only
    omega
  · exact ⟨_, List.mem_cons_self, pc_mem.2 (by omega)⟩

theorem la1c_at (p : Pt Ideal) {r c n m : ℕ} (hr : r + n ≤ 288) (hc : c + m ≤ 1024) (a : Fin n) (b : Fin m) (h : r + a.val < 280) (h' : 256 ≤ c + b.val) :
    la1c p l r c n m hr hc (ix2 a b) = ((lev f 2 (r + a.val) (c + b.val) : ℝ) : EReal) :=
  load_at' p.arg18 hr hc (la1_ok hl) la1_cov a b ⟨h, h'⟩

theorem lb_ok (p : Pt Ideal) : Ok (lbL p l) (re (lev f 4)) := by
  refine ok_cons (pc_ok fun a b => ?_) (ok_ofFn fun j => pc_ok fun a b => ?_)
  · refine (EvenAt.level16_at a b (la1c_at hl p _ _ a b (by omega) (by omega)) (la1c_at hl p _ _ a b (by omega) (by omega))).trans ?_
    show _ = ((lev f 4 (256 + a.val) (512 + b.val) : ℝ) : EReal)
    rw [← lev_add f 2, show 258 + a.val = 256 + a.val + 2 by omega]
  · refine (EvenAt.level32'_at a b (la1c_at hl p _ _ a b (by omega) (by omega)) (la1c_at hl p _ _ a b (by omega) (by omega))).trans ?_
    show _ = ((lev f 4 (32 * j.rev.val + a.val) (512 + b.val) : ℝ) : EReal)
    rw [← lev_add f 2, show 32 * j.rev.val + 2 + a.val = 32 * j.rev.val + a.val + 2 by omega]

omit hl in
theorem lb_cov (p : Pt Ideal) : Cov (lbL p l) (fun r c => r < 272 ∧ 512 ≤ c) := fun y hy => by
  have h1 : (y 1).val < 1024 := (y 1).isLt
  by_cases h : (y 0).val < 256
  · refine ⟨_, List.mem_cons_of_mem _ (List.mem_ofFn.2 ⟨Fin.rev ⟨(y 0).val / 32, by omega⟩, rfl⟩), pc_mem.2 ?_⟩
    rw [Fin.rev_rev]
    dsimp only
    omega
  · exact ⟨_, List.mem_cons_self, pc_mem.2 (by omega)⟩

theorem lbc_at (p : Pt Ideal) {r c n m : ℕ} (hr : r + n ≤ 288) (hc : c + m ≤ 1024) (a : Fin n) (b : Fin m) (h : r + a.val < 272) (h' : 512 ≤ c + b.val) :
    lbc p l r c n m hr hc (ix2 a b) = ((lev f 4 (r + a.val) (c + b.val) : ℝ) : EReal) :=
  load_at' p.arg19 hr hc (lb_ok hl p) (lb_cov p) a b ⟨h, h'⟩

theorem la2_ok (p : Pt Ideal) : Ok (la2L p l) (re (lev f 8)) := by
  refine ok_cons (pc_ok fun a b => ?_) (ok_ofFn fun j => pc_ok fun a b => ?_)
  · refine (EvenAt.level8_at a b (lbc_at hl p _ _ a b (by omega) (by omega)) (lbc_at hl p _ _ a b (by omega) (by omega))).trans ?_
    show _ = ((lev f 8 (256 + a.val) (768 + b.val) : ℝ) : EReal)
    rw [← lev_add f 4, show 260 + a.val = 256 + a.val + 4 by omega]
  · refine (EvenAt.level32''_at a b (lbc_at hl p _ _ a b (by omega) (by omega)) (lbc_at hl p _ _ a b (by omega) (by omega))).trans ?_
    show _ = ((lev f 8 (32 * j.rev.val + a.val) (768 + b.val) : ℝ) : EReal)
    rw [← lev_add f 4, show 32 * j.rev.val + 4 + a.val = 32 * j.rev.val + a.val + 4 by omega]

omit hl in
theorem la2_cov (p : Pt Ideal) : Cov (la2L p l) (fun r c => r < 264 ∧ 768 ≤ c) := fun y hy => by
  have h1 : (y 1).val < 1024 := (y 1).isLt
  by_cases h : (y 0).val < 256
  · refine ⟨_, List.mem_cons_of_mem _ (List.mem_ofFn.2 ⟨Fin.rev ⟨(y 0).val / 32, by omega⟩, rfl⟩), pc_mem.2 ?_⟩
    rw [Fin.rev_rev]
    dsimp only
    omega
  · exact ⟨_, List.mem_cons_self, pc_mem.2 (by omega)⟩

/-- The last columns hold sums of eight. -/
theorem lac_eight (p : Pt Ideal) {r c n m : ℕ} (hr : r + n ≤ 288) (hc : c + m ≤ 1024) (a : Fin n) (b : Fin m) (h : r + a.val < 264) (h' : 768 ≤ c + b.val) :
    lac p l r c n m hr hc (ix2 a b) = ((lev f 8 (r + a.val) (c + b.val) : ℝ) : EReal) :=
  load_at p.arg18 hr hc (la2_ok hl p) (la2_cov p) a b ⟨h, h'⟩

/-- The second group's columns still hold sums of two. -/
theorem lac_two (p : Pt Ideal) {r c n m : ℕ} (hr : r + n ≤ 288) (hc : c + m ≤ 1024) (a : Fin n) (b : Fin m) (h : r + a.val < 280)
    (h' : 256 ≤ c + b.val) (h'' : c + b.val < 768) :
    lac p l r c n m hr hc (ix2 a b) = ((lev f 2 (r + a.val) (c + b.val) : ℝ) : EReal) := by
  unfold lac
  refine (readCov_at p.arg18 hr hc _ a b).trans ((canon_skip _ _ _ fun q hq hm => ?_).trans (canon_at' (la1_ok hl) la1_cov (place hr hc a b) ⟨h, h'⟩))
  rcases List.mem_cons.1 hq with rfl | hq
  · have := (pc_mem.1 hm).2.1
    change 768 ≤ c + b.val at this
    omega
  · obtain ⟨j, rfl⟩ := List.mem_ofFn.1 hq
    have := (pc_mem.1 hm).2.1
    change 768 ≤ c + b.val at this
    omega

theorem xac_at (p : Pt Ideal) (k : Fin 64) (s : Fin 2) (a : Fin 16) (b : Fin 256) : xac p l k s (ix2 a b)
    = ((lev f (2 ^ (k.val % 4)) (16 * (k.val / 4) + a.val + 2 ^ (k.val % 4) * s.val) (256 * (k.val % 4) + b.val) : ℝ) : EReal) := by
  have hs := s.isLt
  unfold xac
  rcases (by omega : k.val % 4 = 0 ∨ k.val % 4 = 1 ∨ k.val % 4 = 2 ∨ k.val % 4 = 3) with h | h | h | h <;> simp only [h]
  · refine (hl _ _ _ _ _ _ a b).trans ?_
    rw [pow_zero, lev_one, show 16 * (k.val / 4) + s.val + a.val = 16 * (k.val / 4) + a.val + 1 * s.val by omega]
  · refine (lac_two hl p _ _ a b (by omega) (by omega) (by omega)).trans ?_
    rw [pow_one, show 16 * (k.val / 4) + 2 * s.val + a.val = 16 * (k.val / 4) + a.val + 2 * s.val by omega]
  · refine (lbc_at hl p _ _ a b (by omega) (by omega)).trans ?_
    rw [show (2 ^ 2 : ℕ) = 4 from rfl, show 16 * (k.val / 4) + 4 * s.val + a.val = 16 * (k.val / 4) + a.val + 4 * s.val by omega]
  · refine (lac_eight hl p _ _ a b (by omega) (by omega)).trans ?_
    rw [show (2 ^ 3 : ℕ) = 8 from rfl, show 16 * (k.val / 4) + 8 * s.val + a.val = 16 * (k.val / 4) + a.val + 8 * s.val by omega]

end

/-! ## The gradient of the mixer's input -/

theorem dz_xa (D : Data) (i c : ℕ) (h : c < 1024) : dz D i c = dxa D i c := by unfold dz; rw [if_pos h]
theorem dz_ga (D : Data) (i c : ℕ) (h : c < 1024) : dz D i (1024 + c) = dga D i c := by
  unfold dz; rw [if_neg (by omega), if_pos (by omega), Nat.add_sub_cancel_left]
theorem dz_h (D : Data) (i c : ℕ) (h : c < 1024) : dz D i (2048 + c) = dh D i c := by
  unfold dz; rw [if_neg (by omega), if_neg (by omega), if_pos (by omega), Nat.add_sub_cancel_left]
theorem dz_bg (D : Data) (i c : ℕ) (h : c < 1024) : dz D i (3072 + c) = dbg D i c := by
  unfold dz; rw [if_neg (by omega), if_neg (by omega), if_neg (by omega), if_pos (by omega), Nat.add_sub_cancel_left]
theorem dz_cg (D : Data) (i c : ℕ) (h : c < 1024) : dz D i (4096 + c) = dcg D i c := by
  unfold dz; rw [if_neg (by omega), if_neg (by omega), if_neg (by omega), if_neg (by omega), if_pos (by omega), Nat.add_sub_cancel_left]
theorem dz_gb (D : Data) (i c : ℕ) (h : c < 1024) : dz D i (5120 + c) = dgb D i c := by
  unfold dz; rw [if_neg (by omega), if_neg (by omega), if_neg (by omega), if_neg (by omega), if_neg (by omega), Nat.add_sub_cancel_left]

section
include G

variable {lp : Ld Ideal 288} {lc : Ld Ideal 264} (hp : LdOk lp (fun r c => edp D (256 * T + r) c)) (hc : LdOk lc (fun r c => dcv D (256 * T + r) c))

include hp in
theorem xa_ok : Ok (xaL p lp) (re fun r c => dz D (256 * T + r) c) := ok_ofFn fun k => pc_ok fun a b => by
  refine (EvenAt.dxa_at a b (xac_at hp p k.rev 0 a b) (xac_at hp p k.rev 1 a b) (dpl_at G k.rev a b)).trans ?_
  show _ = ((dz D (256 * T + (16 * (k.rev.val / 4) + a.val)) (256 * (k.rev.val % 4) + b.val) : ℝ) : EReal)
  rw [dz_xa D _ _ (by omega)]
  unfold dxa win
  rw [show (256 * (k.rev.val % 4) + b.val) / 256 = k.rev.val % 4 by omega]
  have h := lev_add (fun r c => edp D (256 * T + r) c) (2 ^ (k.rev.val % 4)) (16 * (k.rev.val / 4) + a.val) (256 * (k.rev.val % 4) + b.val)
  rw [show ((0 : Fin 2) : ℕ) = 0 from rfl, show ((1 : Fin 2) : ℕ) = 1 from rfl, Nat.mul_zero, Nat.mul_one, Nat.add_zero, h, pow_succ, Nat.mul_two]
  unfold lev
  simp only [Nat.add_assoc]

theorem ga_ok : Ok (gaL p) (re fun r c => dz D (256 * T + r) c) := ok_ofFn fun k => pc_ok fun a b => by
  refine (EvenAt.dga_at a b (z_at G k.rev a b 1 1024 rfl) (dy0_at G k.rev a b) (ya_at G k.rev a b) (ps_at G k.rev b)).trans ?_
  show _ = ((dz D (256 * T + (16 * (k.rev.val / 4) + a.val)) (1024 + 256 * (k.rev.val % 4) + b.val) : ℝ) : EReal)
  rw [Nat.add_assoc, dz_ga D _ _ (by omega)]
  rfl

theorem bg_ok : Ok (bgL p) (re fun r c => dz D (256 * T + r) c) := ok_pairs
  (fun k => pc_ok fun a b => by
    refine (EvenAt.dgb_at a b (z_at G k.rev a b 5 5120 rfl) (dy_at G k.rev a b 1 1024 rfl) (cv_at G k.rev a b) (z_at G k.rev a b 3 3072 rfl)).trans ?_
    show _ = ((dz D (256 * T + (16 * (k.rev.val / 4) + a.val)) (5120 + 256 * (k.rev.val % 4) + b.val) : ℝ) : EReal)
    rw [Nat.add_assoc 5120, dz_gb D _ _ (by omega)]
    rfl)
  (fun k => pc_ok fun a b => by
    refine (EvenAt.dbg_at a b (z_at G k.rev a b 5 5120 rfl) (dy_at G k.rev a b 1 1024 rfl) (cv_at G k.rev a b)).trans ?_
    show _ = ((dz D (256 * T + (16 * (k.rev.val / 4) + a.val)) (3072 + 256 * (k.rev.val % 4) + b.val) : ℝ) : EReal)
    rw [Nat.add_assoc 3072, dz_bg D _ _ (by omega)]
    rfl)

omit G in
include hc in
theorem dcc_at (d : Fin 3) (k : Fin 64) (a : Fin 16) (b : Fin 256) : dcc lc d k (ix2 a b)
    = ((dcv D (256 * T + (16 * (k.val / 4) + a.val) + d.val) (256 * (k.val % 4) + b.val) : ℝ) : EReal) := by
  refine (hc _ _ _ _ _ _ a b).trans ?_
  dsimp only
  rw [show 256 * T + (16 * (k.val / 4) + d.val + a.val) = 256 * T + (16 * (k.val / 4) + a.val) + d.val by omega]

include hc in
theorem dqc_at (k : Fin 64) (a : Fin 16) (b : Fin 256) : dqc p lc k (ix2 a b)
    = ((dq D (256 * T + (16 * (k.val / 4) + a.val)) (256 * (k.val % 4) + b.val) : ℝ) : EReal) :=
  EvenAt.dq_at a b (sw_at G k b 0) (sw_at G k b 1) (sw_at G k b 2) (dcc_at hc 0 k a b) (dcc_at hc 1 k a b) (dcc_at hc 2 k a b)

include hc in
theorem hc_ok : Ok (hcL p lc) (re fun r c => dz D (256 * T + r) c) := ok_pairs
  (fun k => pc_ok fun a b => by
    refine (EvenAt.dqTimes_at a b (dqc_at G hc k.rev a b) (z_at G k.rev a b 4 4096 rfl)).trans ?_
    show _ = ((dz D (256 * T + (16 * (k.rev.val / 4) + a.val)) (2048 + 256 * (k.rev.val % 4) + b.val) : ℝ) : EReal)
    rw [Nat.add_assoc 2048, dz_h D _ _ (by omega)]
    rfl)
  (fun k => pc_ok fun a b => by
    refine (EvenAt.dqTimes_at a b (dqc_at G hc k.rev a b) (z_at G k.rev a b 2 2048 rfl)).trans ?_
    show _ = ((dz D (256 * T + (16 * (k.rev.val / 4) + a.val)) (4096 + 256 * (k.rev.val % 4) + b.val) : ℝ) : EReal)
    rw [Nat.add_assoc 4096, dz_cg D _ _ (by omega)]
    rfl)

include hp hc in
/-- The stores of the row gradients hold the gradient's own entries. -/
theorem dz_ok : Ok (dzL p lp lc) (re fun r c => dz D (256 * T + r) c) :=
  ok_append (ok_append (ok_append (hc_ok G hc) (bg_ok G)) (xa_ok G hp)) (ga_ok G)

end

theorem dz_cov (p : Pt Ideal) (lp : Ld Ideal 288) (lc : Ld Ideal 264) : Cov (dzL p lp lc) (fun _ _ => True) := fun y _ => by
  have h0 : (y 0).val < 256 := (y 0).isLt
  have h1 : (y 1).val < 6144 := (y 1).isLt
  by_cases a : (y 1).val < 1024
  · obtain ⟨q, hq, hy⟩ := (cov_chunks0 (by omega) (by omega) : Cov (xaL p lp) _) y ⟨h0, a⟩
    exact ⟨q, List.mem_append_left _ (List.mem_append_right _ hq), hy⟩
  by_cases b : (y 1).val < 2048
  · obtain ⟨q, hq, hy⟩ := (cov_chunks (by omega) 1024 (by omega) : Cov (gaL p) _) y ⟨h0, by omega, by omega⟩
    exact ⟨q, List.mem_append_right _ hq, hy⟩
  have hpair : ∃ o, (o = 2048 ∨ o = 3072 ∨ o = 4096 ∨ o = 5120) ∧ o ≤ (y 1).val ∧ (y 1).val < o + 1024 := by
    rcases (by omega : ((y 1).val < 3072) ∨ (3072 ≤ (y 1).val ∧ (y 1).val < 4096) ∨ (4096 ≤ (y 1).val ∧ (y 1).val < 5120) ∨ 5120 ≤ (y 1).val)
      with h | h | h | h
    · exact ⟨2048, by omega, by omega, by omega⟩
    · exact ⟨3072, by omega, by omega, by omega⟩
    · exact ⟨4096, by omega, by omega, by omega⟩
    · exact ⟨5120, by omega, by omega, by omega⟩
  obtain ⟨o, ho, ha, hb⟩ := hpair
  have hh : Cov (hcL p lc) (fun r c => r < 256 ∧ (2048 ≤ c ∧ c < 3072 ∨ 4096 ≤ c ∧ c < 5120)) := cov_pairs fun y hy => by
    rcases hy.2 with h | h
    · refine ⟨Fin.rev ⟨(y 0).val / 16 * 4 + ((y 1).val - 2048) / 256, by omega⟩, Or.inl (pc_mem.2 ?_)⟩
      rw [Fin.rev_rev]; dsimp only; omega
    · refine ⟨Fin.rev ⟨(y 0).val / 16 * 4 + ((y 1).val - 4096) / 256, by omega⟩, Or.inr (pc_mem.2 ?_)⟩
      rw [Fin.rev_rev]; dsimp only; omega
  have hg : Cov (bgL p) (fun r c => r < 256 ∧ (5120 ≤ c ∧ c < 6144 ∨ 3072 ≤ c ∧ c < 4096)) := cov_pairs fun y hy => by
    rcases hy.2 with h | h
    · refine ⟨Fin.rev ⟨(y 0).val / 16 * 4 + ((y 1).val - 5120) / 256, by omega⟩, Or.inl (pc_mem.2 ?_)⟩
      rw [Fin.rev_rev]; dsimp only; omega
    · refine ⟨Fin.rev ⟨(y 0).val / 16 * 4 + ((y 1).val - 3072) / 256, by omega⟩, Or.inr (pc_mem.2 ?_)⟩
      rw [Fin.rev_rev]; dsimp only; omega
  by_cases e : o = 2048 ∨ o = 4096
  · obtain ⟨q, hq, hy⟩ := hh y ⟨h0, by omega⟩
    exact ⟨q, List.mem_append_left _ (List.mem_append_left _ (List.mem_append_left _ hq)), hy⟩
  · obtain ⟨q, hq, hy⟩ := hg y ⟨h0, by omega⟩
    exact ⟨q, List.mem_append_left _ (List.mem_append_left _ (List.mem_append_right _ hq)), hy⟩

end Cert.EvenVal

end
-- ==== Proof.EvenAcc.lean ====
/-
  What one grid point of the even mixer's backward kernel adds to the parameters' gradients: the sums over its 256 rows.
-/
module

public import proofs.«01_k».proof.Proof.EvenVal

@[expose] public section

set_option maxRecDepth 16384

noncomputable section

namespace Cert.EvenAcc

open Idealize.ShloMosaic Idealize.SL.Sem Idealize.ShloMosaic.Pointwise Cert.Rows
open Cert.Kernel3Ideal Cert.Kernel3Ideal.Gen Cert.EvenOps Cert.EvenPieces Cert.EvenLists Cert.EvenAt Cert.EvenVal
open Cert.Even (Data t1 scaleTerm weightTerm dcv tapTerm)

/-! ## Sums by chunks -/

/-- A sum by blocks of equal length. -/
theorem sum_blocks (g : ℕ → ℝ) (n m : ℕ) :
    ∑ k ∈ Finset.range (n * m), g k = ∑ q ∈ Finset.range n, ∑ j ∈ Finset.range m, g (q * m + j) := by
  induction n with
  | zero => rw [Nat.zero_mul, Finset.sum_range_zero, Finset.sum_range_zero]
  | succ n ih => rw [Nat.succ_mul, Finset.sum_range_add, ih, Finset.sum_range_succ]

/-- The sum of a function over the rows of a block of 256. -/
def rows (f : ℕ → ℝ) (T : ℕ) : ℝ := ∑ r ∈ Finset.range 256, f (256 * T + r)

theorem rows_chunks (f : ℕ → ℝ) (T : ℕ) : rows f T = ∑ q ∈ Finset.range 16, ∑ i : Fin 16, f (256 * T + (16 * q + i.val)) := by
  unfold rows
  rw [show 256 = 16 * 16 from rfl, sum_blocks]
  refine Finset.sum_congr rfl fun q _ => ?_
  rw [Finset.sum_range]
  exact Finset.sum_congr rfl fun i _ => by rw [Nat.mul_comm q 16]

/-- Of the stores of a row of column groups, one chunk of rows after the other, those of a column's own group add its rows. -/
theorem added_groups (part : ℕ → ℕ → ℝ) (f : ℕ → ℝ) (T c : ℕ) (hc : c < 1024)
    (h : ∀ q < 16, part (q * 4 + c / 256) c = ∑ i : Fin 16, f (256 * T + (16 * q + i.val))) :
    added (fun _ => 0) colOf part 64 0 c = rows f T := by
  unfold added
  rw [show 64 = 16 * 4 from rfl, sum_blocks, rows_chunks]
  refine Finset.sum_congr rfl fun q hq => ?_
  rw [Finset.sum_eq_single_of_mem (c / 256) (Finset.mem_range.2 (by omega))]
  · rw [if_pos ⟨rfl, by unfold colOf; omega, by unfold colOf; omega⟩, h q (Finset.mem_range.1 hq)]
  · intro j hj hne
    have := Finset.mem_range.1 hj
    refine if_neg fun hh => ?_
    have := hh.2
    unfold colOf at this
    omega

theorem added_taps (part : ℕ → ℕ → ℝ) (f : ℕ → ℝ) (T ρ c : ℕ) (hρ : ρ < 3) (hc : c < 1024)
    (h : ∀ q < 16, part ((q * 4 + c / 256) * 3 + (2 - ρ)) c = ∑ i : Fin 16, f (256 * T + (16 * q + i.val))) :
    added tapOf colOf3 part 192 ρ c = rows f T := by
  unfold added
  rw [show 192 = (16 * 4) * 3 from rfl, sum_blocks, sum_blocks, rows_chunks]
  refine Finset.sum_congr rfl fun q hq => ?_
  rw [Finset.sum_eq_single_of_mem (c / 256) (Finset.mem_range.2 (by omega)), Finset.sum_eq_single_of_mem (2 - ρ) (Finset.mem_range.2 (by omega))]
  · rw [if_pos (by unfold tapOf colOf3; omega), h q (Finset.mem_range.1 hq)]
  · intro j hj hne
    have := Finset.mem_range.1 hj
    exact if_neg (by unfold tapOf; omega)
  · intro j hj hne
    have := Finset.mem_range.1 hj
    refine Finset.sum_eq_zero fun t ht => ?_
    have := Finset.mem_range.1 ht
    exact if_neg (by unfold colOf3; omega)

/-- Before a place's first store nothing has been added there. -/
theorem added_none (row col : ℕ → ℕ) (part : ℕ → ℕ → ℝ) (n ρ c : ℕ) (h : ∀ k < n, ¬ (row k = ρ ∧ col k ≤ c ∧ c < col k + 256)) :
    added row col part n ρ c = 0 := Finset.sum_eq_zero fun k hk => if_neg (h k (Finset.mem_range.1 hk))

/-! ## Accumulators over rows of column groups -/

section
variable {D : Data} {T : ℕ} {p : Pt Ideal}

variable {b : Memref sig .tc .vmem S1x1024 .f32} {w : ℕ → Vec Ideal S1x256 .f32 → Vec Ideal S1x256 .f32} {part : ℕ → ℕ → ℝ}

/-- An accumulator of one row that starts with zeros. -/
theorem row_first (hw : ∀ n l (b : Fin 256) (v : ℝ), (l (ix2 0 b) : EReal) = ((v : ℝ) : EReal) →
      (w n l (ix2 0 b) : EReal) = ((v + part n (colOf n + b.val) : ℝ) : EReal)) (y : S1x1024.Idx) :
    (View.canon (accL (fun _ => 0) colOf zero_le colOf_le (ldA (b := b) (fun _ => 0) colOf zero_le colOf_le) w
      [pc 0 0 1 1024 (by omega) (by omega) (zeroRow : FVec Ideal S1x1024 .f32)] 64) y : EReal) = ((added (fun _ => 0) colOf part 64 0 (y 1).val : ℝ) : EReal) := by
  have h0 : (y 0).val = 0 := by have : (y 0).val < 1 := (y 0).isLt; omega
  refine (acc_at (ldA (b := b) (fun _ => 0) colOf zero_le colOf_le) w _ (fun _ _ => 0) part True (fun _ z => ?_) hw (fun n L b' hh => ?_) 64 y
    (Or.inl trivial)).trans ?_
  · have hok : Ok (F := Ideal) (e := .f32) (R := 1) (C := 1024) [pc 0 0 1 1024 (by omega) (by omega) (zeroRow : FVec Ideal S1x1024 .f32)] (re fun _ _ => 0) :=
      ok_cons (pc_ok fun a c => by exact zeroRow_at a c) fun _ h => absurd h List.not_mem_nil
    refine canon_at' (P := fun _ _ => True) hok
      (fun z _ => ⟨_, List.mem_cons_self, pc_mem.2 ?_⟩) z trivial
    have z0 : (z 0).val < 1 := (z 0).isLt
    have z1 : (z 1).val < 1024 := (z 1).isLt
    omega
  · exact (readCov_at b (zero_le n) (colOf_le n) L 0 b').trans (hh (Or.inl trivial))
  · rw [h0, zero_add]

/-- An accumulator of one row that starts with carried contents. -/
theorem row_later (hb : b.IsWhole) (x : Vec Ideal S1x1024 .f32) (start : ℕ → ℝ) (hx : ∀ z : S1x1024.Idx, (x z : EReal) = ((start (z 1).val : ℝ) : EReal))
    (hw : ∀ n l (b : Fin 256) (v : ℝ), (l (ix2 0 b) : EReal) = ((v : ℝ) : EReal) →
      (w n l (ix2 0 b) : EReal) = ((v + part n (colOf n + b.val) : ℝ) : EReal)) (y : S1x1024.Idx) :
    (View.canon (accL (fun _ => 0) colOf zero_le colOf_le (ldB hb x 4 (fun _ => 0) colOf zero_le colOf_le) w [] 64) y : EReal)
      = ((start (y 1).val + added (fun _ => 0) colOf part 64 0 (y 1).val : ℝ) : EReal) := by
  have h0 : (y 0).val = 0 := by have : (y 0).val < 1 := (y 0).isLt; omega
  have h1 : (y 1).val < 1024 := (y 1).isLt
  refine (acc_at (ldB hb x 4 (fun _ => 0) colOf zero_le colOf_le) w [] (fun _ c => start c) part False (fun h => h.elim) hw (fun n L b' hh => ?_) 64 y
    (Or.inr ⟨(y 1).val / 256, by omega, h0.symm, by unfold colOf; omega, by unfold colOf; omega⟩)).trans ?_
  · unfold ldB
    split
    · refine (whole_at (zero_le n) (colOf_le n) hb x 0 b').trans ((hx _).trans ?_)
      rw [added_none _ _ _ _ _ _ fun k hk => by unfold colOf; omega, add_zero]
      rfl
    · exact (readCov_at b (zero_le n) (colOf_le n) L 0 b').trans (hh (Or.inr ⟨n - 4, by omega, rfl, by unfold colOf; omega, by unfold colOf; omega⟩))
  · rw [h0]

variable {b3 : Memref sig .tc .vmem S3x1024 .f32}

/-- An accumulator of three rows that starts with zeros. -/
theorem taps_first (hw : ∀ n l (b : Fin 256) (v : ℝ), (l (ix2 0 b) : EReal) = ((v : ℝ) : EReal) →
      (w n l (ix2 0 b) : EReal) = ((v + part n (colOf3 n + b.val) : ℝ) : EReal)) (y : S3x1024.Idx) :
    (View.canon (accL tapOf colOf3 tapOf_le colOf3_le (ldA (b := b3) tapOf colOf3 tapOf_le colOf3_le) w
      [pc 0 0 3 1024 (by omega) (by omega) (zeroTaps : FVec Ideal S3x1024 .f32)] 192) y : EReal) = ((added tapOf colOf3 part 192 (y 0).val (y 1).val : ℝ) : EReal) := by
  refine (acc_at (ldA (b := b3) tapOf colOf3 tapOf_le colOf3_le) w _ (fun _ _ => 0) part True (fun _ z => ?_) hw (fun n L b' hh => ?_) 192 y
    (Or.inl trivial)).trans ?_
  · have hok : Ok (F := Ideal) (e := .f32) (R := 3) (C := 1024) [pc 0 0 3 1024 (by omega) (by omega) (zeroTaps : FVec Ideal S3x1024 .f32)] (re fun _ _ => 0) :=
      ok_cons (pc_ok fun a c => by exact zeroTaps_at a c) fun _ h => absurd h List.not_mem_nil
    refine canon_at' (P := fun _ _ => True) hok
      (fun z _ => ⟨_, List.mem_cons_self, pc_mem.2 ?_⟩) z trivial
    have z0 : (z 0).val < 3 := (z 0).isLt
    have z1 : (z 1).val < 1024 := (z 1).isLt
    omega
  · exact (readCov_at b3 (tapOf_le n) (colOf3_le n) L 0 b').trans (hh (Or.inl trivial))
  · rw [zero_add]

/-- An accumulator of three rows that starts with carried contents. -/
theorem taps_later (hb : b3.IsWhole) (x : Vec Ideal S3x1024 .f32) (start : ℕ → ℕ → ℝ)
    (hx : ∀ z : S3x1024.Idx, (x z : EReal) = ((start (z 0).val (z 1).val : ℝ) : EReal))
    (hw : ∀ n l (b : Fin 256) (v : ℝ), (l (ix2 0 b) : EReal) = ((v : ℝ) : EReal) →
      (w n l (ix2 0 b) : EReal) = ((v + part n (colOf3 n + b.val) : ℝ) : EReal)) (y : S3x1024.Idx) :
    (View.canon (accL tapOf colOf3 tapOf_le colOf3_le (ldB hb x 12 tapOf colOf3 tapOf_le colOf3_le) w [] 192) y : EReal)
      = ((start (y 0).val (y 1).val + added tapOf colOf3 part 192 (y 0).val (y 1).val : ℝ) : EReal) := by
  have h0 : (y 0).val < 3 := (y 0).isLt
  have h1 : (y 1).val < 1024 := (y 1).isLt
  refine acc_at (ldB hb x 12 tapOf colOf3 tapOf_le colOf3_le) w [] start part False (fun h => h.elim) hw (fun n L b' hh => ?_) 192 y
    (Or.inr ⟨(y 1).val / 256 * 3 + (2 - (y 0).val), by omega, by unfold tapOf; omega, by unfold colOf3; omega, by unfold colOf3; omega⟩)
  unfold ldB
  split
  · refine (whole_at (tapOf_le n) (colOf3_le n) hb x 0 b').trans ((hx _).trans ?_)
    rw [added_none _ _ _ _ _ _ fun k hk => by unfold tapOf colOf3; omega, add_zero]
    rfl
  · exact (readCov_at b3 (tapOf_le n) (colOf3_le n) L 0 b').trans
      (hh (Or.inr ⟨n - 12, by omega, by unfold tapOf; omega, by unfold colOf3; omega, by unfold colOf3; omega⟩))

end

/-! ## The parameters' gradients -/

section
variable {D : Data} {T : ℕ} {p : Pt Ideal} (G : Good D T p)

/-- What a store adds to a column: the terms of its sixteen rows. -/
def part16 (f : ℕ → ℕ → ℝ) (T n c : ℕ) : ℝ := ∑ i : Fin 16, f c (256 * T + (16 * (n % 64 / 4) + i.val))

/-- What a tap's store adds. -/
def part48 (f : ℕ → ℕ → ℕ → ℝ) (T n c : ℕ) : ℝ := ∑ i : Fin 16, f (2 - n % 3) c (256 * T + (16 * (n / 3 % 64 / 4) + i.val))

theorem part16_rows (f : ℕ → ℕ → ℝ) (T c : ℕ) (hc : c < 1024) : added (fun _ => 0) colOf (part16 f T) 64 0 c = rows (f c) T :=
  added_groups _ _ T c hc fun q hq => by
    unfold part16
    rw [show (q * 4 + c / 256) % 64 / 4 = q by omega]

theorem part48_rows (f : ℕ → ℕ → ℕ → ℝ) (T ρ c : ℕ) (hρ : ρ < 3) (hc : c < 1024) : added tapOf colOf3 (part48 f T) 192 ρ c = rows (f ρ c) T :=
  added_taps _ _ T ρ c hρ hc fun q hq => by
    unfold part48
    rw [show ((q * 4 + c / 256) * 3 + (2 - ρ)) / 3 % 64 / 4 = q by omega, show 2 - ((q * 4 + c / 256) * 3 + (2 - ρ)) % 3 = ρ by omega]

theorem col_ck (n : ℕ) : colOf n = 256 * ((ck n).val % 4) := by unfold colOf ck; dsimp only; omega
theorem col_ck3 (n : ℕ) : colOf3 n = 256 * ((ck (n / 3)).val % 4) := by unfold colOf3 ck; dsimp only; omega

include G in
theorem dps_store (n : ℕ) (l : Vec Ideal S1x256 .f32) (b : Fin 256) (v : ℝ) (h : (l (ix2 0 b) : EReal) = ((v : ℝ) : EReal)) :
    (dpsW p n l (ix2 0 b) : EReal) = ((v + part16 (scaleTerm D) T n (colOf n + b.val) : ℝ) : EReal) := by
  rw [col_ck]
  exact EvenAt.dps_at b (g := fun i => D.z (256 * T + (16 * ((ck n).val / 4) + i)) (1024 + (256 * ((ck n).val % 4) + b.val)))
    (d := fun i => D.dy (256 * T + (16 * ((ck n).val / 4) + i)) (256 * ((ck n).val % 4) + b.val))
    (y := fun i => Even.ya D (256 * T + (16 * ((ck n).val / 4) + i)) (256 * ((ck n).val % 4) + b.val)) h
    (fun i => z_at G (ck n) i b 1 1024 rfl) (fun i => dy0_at G (ck n) i b) (fun i => EvenVal.ya_at G (ck n) i b)

include G in
theorem dsb_store (n : ℕ) (l : Vec Ideal S1x256 .f32) (b : Fin 256) (v : ℝ) (h : (l (ix2 0 b) : EReal) = ((v : ℝ) : EReal)) :
    (dsbW p n l (ix2 0 b) : EReal) = ((v + part16 (fun c i => dcv D i c) T n (colOf n + b.val) : ℝ) : EReal) := by
  rw [col_ck]
  exact EvenAt.dsb_at b (g := fun i => D.z (256 * T + (16 * ((ck n).val / 4) + i)) (5120 + (256 * ((ck n).val % 4) + b.val)))
    (d := fun i => D.dy (256 * T + (16 * ((ck n).val / 4) + i)) (1024 + (256 * ((ck n).val % 4) + b.val)))
    (b := fun i => D.z (256 * T + (16 * ((ck n).val / 4) + i)) (3072 + (256 * ((ck n).val % 4) + b.val))) h
    (fun i => z_at G (ck n) i b 5 5120 rfl) (fun i => dy_at G (ck n) i b 1 1024 rfl) (fun i => z_at G (ck n) i b 3 3072 rfl)

include G in
theorem dsw_store {lc : Ld Ideal 264} (hc : LdOk lc (fun r c => dcv D (256 * T + r) c)) (n : ℕ) (l : Vec Ideal S1x256 .f32) (b : Fin 256) (v : ℝ)
    (h : (l (ix2 0 b) : EReal) = ((v : ℝ) : EReal)) :
    (dswW p lc n l (ix2 0 b) : EReal) = ((v + part48 (tapTerm D) T n (colOf3 n + b.val) : ℝ) : EReal) := by
  rw [col_ck3]
  refine (EvenAt.dsw_at b (h := fun i => D.z (256 * T + (16 * ((ck (n / 3)).val / 4) + i)) (2048 + (256 * ((ck (n / 3)).val % 4) + b.val)))
    (c := fun i => D.z (256 * T + (16 * ((ck (n / 3)).val / 4) + i)) (4096 + (256 * ((ck (n / 3)).val % 4) + b.val)))
    (d := fun i => dcv D (256 * T + (16 * ((ck (n / 3)).val / 4) + i) + n % 3) (256 * ((ck (n / 3)).val % 4) + b.val)) h
    (fun i => z_at G (ck (n / 3)) i b 2 2048 rfl) (fun i => z_at G (ck (n / 3)) i b 4 4096 rfl)
    (fun i => dcc_at hc ⟨n % 3, Nat.mod_lt _ (by decide)⟩ (ck (n / 3)) i b)).trans ?_
  unfold part48 tapTerm
  rw [show 2 - (2 - n % 3) = n % 3 by omega]
  rfl

include G

theorem dps_first (y : S1x1024.Idx) : (View.canon (dpsLA p) y : EReal) = ((rows (scaleTerm D (y 1).val) T : ℝ) : EReal) := by
  rw [← part16_rows _ _ _ (y 1).isLt]
  exact row_first (dps_store G) y

theorem dps_later (q : Carried Ideal) (start : ℕ → ℝ) (hx : ∀ z : S1x1024.Idx, (q.xo9 z : EReal) = ((start (z 1).val : ℝ) : EReal)) (y : S1x1024.Idx) :
    (View.canon (dpsLB p q) y : EReal) = ((start (y 1).val + rows (scaleTerm D (y 1).val) T : ℝ) : EReal) := by
  rw [← part16_rows _ _ _ (y 1).isLt]
  exact row_later p.harg10 q.xo9 start hx (dps_store G) y

theorem dsb_first (y : S1x1024.Idx) : (View.canon (dsbLA p) y : EReal) = ((rows (fun i => dcv D i (y 1).val) T : ℝ) : EReal) := by
  rw [← part16_rows (fun c i => dcv D i c) _ _ (y 1).isLt]
  exact row_first (dsb_store G) y

theorem dsb_later (q : Carried Ideal) (start : ℕ → ℝ) (hx : ∀ z : S1x1024.Idx, (q.xo11 z : EReal) = ((start (z 1).val : ℝ) : EReal)) (y : S1x1024.Idx) :
    (View.canon (dsbLB p q) y : EReal) = ((start (y 1).val + rows (fun i => dcv D i (y 1).val) T : ℝ) : EReal) := by
  rw [← part16_rows (fun c i => dcv D i c) _ _ (y 1).isLt]
  exact row_later p.harg12 q.xo11 start hx (dsb_store G) y

theorem dsw_first {lc : Ld Ideal 264} (hc : LdOk lc (fun r c => dcv D (256 * T + r) c)) (y : S3x1024.Idx) :
    (View.canon (dswLA p lc) y : EReal) = ((rows (tapTerm D (y 0).val (y 1).val) T : ℝ) : EReal) := by
  rw [← part48_rows _ _ _ _ (y 0).isLt (y 1).isLt]
  exact taps_first (dsw_store G hc) y

theorem dsw_later {lc : Ld Ideal 264} (hc : LdOk lc (fun r c => dcv D (256 * T + r) c)) (q : Carried Ideal) (start : ℕ → ℕ → ℝ)
    (hx : ∀ z : S3x1024.Idx, (q.xo10 z : EReal) = ((start (z 0).val (z 1).val : ℝ) : EReal)) (y : S3x1024.Idx) :
    (View.canon (dswLB p q lc) y : EReal) = ((start (y 0).val (y 1).val + rows (tapTerm D (y 0).val (y 1).val) T : ℝ) : EReal) := by
  rw [← part48_rows _ _ _ _ (y 0).isLt (y 1).isLt]
  exact taps_later p.harg11 q.xo10 start hx (dsw_store G hc) y

end

/-! ## The pooling weights -/

section
variable {D : Data} {T : ℕ} {p : Pt Ideal} (G : Good D T p)

theorem emb3 (g : Fin 4) (e d : Fin 256) (w : Vec Ideal S1x256x256 .f32) :
    (⟨Rect.unit (s := S4x256x256) ![g.val, 0, 0] S1x256x256.size (inb3 g), w⟩ : View.Piece (Elt Ideal) S4x256x256 .f32).1.emb
      (ix3 (0 : Fin 1) e d) = ix3 g e d := by
  funext a
  fin_cases a
  · exact Fin.ext (by show g.val + 1 * 0 = g.val; omega)
  · exact Fin.ext (by show 0 + 1 * e.val = e.val; omega)
  · exact Fin.ext (by show 0 + 1 * d.val = d.val; omega)

theorem mem3 (g g' : Fin 4) (h : g = g') (e d : Fin 256) (w : Vec Ideal S1x256x256 .f32) :
    ix3 g' e d ∈ (⟨Rect.unit (s := S4x256x256) ![g.val, 0, 0] S1x256x256.size (inb3 g), w⟩ : View.Piece (Elt Ideal) S4x256x256 .f32).1.set := by
  subst h
  have hm := (Rect.unit (s := S4x256x256) ![g.val, 0, 0] S1x256x256.size (inb3 g)).idx_mem (ix3 (0 : Fin 1) e d)
  rwa [show (Rect.unit (s := S4x256x256) ![g.val, 0, 0] S1x256x256.size (inb3 g)).idx (ix3 (0 : Fin 1) e d) = ix3 g e d from emb3 g e d w] at hm

theorem not_mem3 (g g' : Fin 4) (h : g ≠ g') (e d : Fin 256) (w : Vec Ideal S1x256x256 .f32) :
    ix3 g' e d ∉ (⟨Rect.unit (s := S4x256x256) ![g.val, 0, 0] S1x256x256.size (inb3 g), w⟩ : View.Piece (Elt Ideal) S4x256x256 .f32).1.set := by
  intro hm
  obtain ⟨x, hx⟩ := (Rect.unit (s := S4x256x256) ![g.val, 0, 0] S1x256x256.size (inb3 g)).exists_idx_of_mem hm
  have e0 := Rect.idx_unit_val (s := S4x256x256) ![g.val, 0, 0] S1x256x256.size (inb3 g) x 0
  rw [hx] at e0
  have l0 : (x 0).val < 1 := (x 0).isLt
  change g'.val = g.val + (x 0).val at e0
  exact h (Fin.ext (by omega))

theorem read3 {b : Memref sig .tc .vmem S4x256x256 .f32} (L : List (View.Piece (Elt Ideal) S4x256x256 .f32)) (g : Fin 4) (e d : Fin 256) :
    b.view.readCov L (Rect.unit (s := S4x256x256) ![g.val, 0, 0] S1x256x256.size (inb3 g)).toLoadRect (ix3 (0 : Fin 1) e d) = View.canon L (ix3 g e d) := by
  rw [View.readCov_eq_canon']
  exact congrArg (View.canon L) (emb3 g e d (fun _ => 0))

theorem weight_sum (D : Data) (T : ℕ) (g e d : ℕ) : ∑ r : Fin 256, D.pool (256 * T + r.val) (256 * g + e) * t1 D (256 * T + r.val) (256 * g + d)
    = rows (weightTerm D g e d) T := by
  unfold rows
  rw [Finset.sum_range]
  exact Finset.sum_congr rfl fun r _ => by unfold weightTerm; rw [Nat.mul_comm g 256]

include G

theorem dpw_store (g : Fin 4) (l : Vec Ideal S1x256x256 .f32) (e d : Fin 256) (v : ℝ) (h : (l (ix3 0 e d) : EReal) = ((v : ℝ) : EReal)) :
    (dpwOp l (plc p g) (t1g p g) (ix3 0 e d) : EReal) = ((v + rows (weightTerm D g.val e.val d.val) T : ℝ) : EReal) := by
  rw [← weight_sum]
  exact EvenAt.dpw_at e d (p := fun r => D.pool (256 * T + r) (256 * g.val + e.val)) (q := fun r => t1 D (256 * T + r) (256 * g.val + d.val)) h
    (fun r => pool_at G g r e) (fun r => EvenVal.t1_at G g r d)

theorem dpw_steps (n : ℕ) (hn : n ≤ 4) (g : Fin 4) (e d : Fin 256) : (View.canon (dpwLA p n) (ix3 g e d) : EReal)
    = (((if g.val < n then rows (weightTerm D g.val e.val d.val) T else 0 : ℝ)) : EReal) := by
  induction n generalizing g with
  | zero =>
    rw [if_neg (Nat.not_lt_zero _)]
    have hx : (⟨Rect.unit (s := S4x256x256) ![0, 0, 0] S4x256x256.size (by decide), (zeroPw : FVec Ideal S4x256x256 .f32)⟩ : View.Piece (Elt Ideal) S4x256x256 .f32).1.emb
        (ix3 g e d) = ix3 g e d := by
      funext a
      fin_cases a
      · exact Fin.ext (by show 0 + 1 * g.val = g.val; omega)
      · exact Fin.ext (by show 0 + 1 * e.val = e.val; omega)
      · exact Fin.ext (by show 0 + 1 * d.val = d.val; omega)
    refine (congrArg (View.canon (dpwLA p 0)) hx.symm).trans ?_
    unfold dpwLA
    exact (View.canon_cons_emb _ _ _ _).trans (zeroPw_at g e d)
  | succ n ih =>
    unfold dpwLA
    by_cases h : gk n = g
    · subst h
      have hg : (gk n).val = n := Nat.mod_eq_of_lt (by omega)
      rw [if_pos (by omega)]
      refine (congrArg _ (emb3 (gk n) e d (fun _ => (0 : EReal))).symm).trans ((View.canon_cons_emb _ _ _ _).trans ?_)
      refine (dpw_store G (gk n) _ e d 0 ((read3 (b := p.arg9) _ _ e d).trans ?_)).trans (by rw [zero_add])
      rw [ih (by omega), if_neg (by omega)]
    · have hg : (gk n).val = n := Nat.mod_eq_of_lt (by omega)
      have hne : g.val ≠ n := fun e => h (Fin.ext (by omega))
      refine (View.canon_cons_of_not_mem _ _ (not_mem3 _ _ h e d _)).trans ((ih (by omega) g).trans ?_)
      by_cases hl : g.val < n
      · rw [if_pos hl, if_pos (by omega)]
      · rw [if_neg hl, if_neg (by omega)]

theorem dpw_first (g : Fin 4) (e d : Fin 256) : (View.canon (dpwLA p 4) (ix3 g e d) : EReal) = ((rows (weightTerm D g.val e.val d.val) T : ℝ) : EReal) := by
  rw [dpw_steps G 4 le_rfl, if_pos g.isLt]

theorem dpw_later (q : Carried Ideal) (start : ℕ → ℕ → ℕ → ℝ) (hx : ∀ (g : Fin 4) (e d : Fin 256), (q.xo8 (ix3 g e d) : EReal) = ((start g.val e.val d.val : ℝ) : EReal))
    (g : Fin 4) (e d : Fin 256) : (View.canon (dpwLB p q) (ix3 g e d) : EReal)
      = ((start g.val e.val d.val + rows (weightTerm D g.val e.val d.val) T : ℝ) : EReal) := by
  have key : ∀ L : List (View.Piece (Elt Ideal) S4x256x256 .f32), (∀ s ∈ L, ∀ x : s.1.shape.Idx, (s.2 x : EReal)
      = (fun y : S4x256x256.Idx => ((start (y 0).val (y 1).val (y 2).val + rows (weightTerm D (y 0).val (y 1).val (y 2).val) T : ℝ) : EReal)) (s.1.emb x)) →
      (∃ s ∈ L, ix3 g e d ∈ s.1.set) → (View.canon L (ix3 g e d) : EReal) = ((start g.val e.val d.val + rows (weightTerm D g.val e.val d.val) T : ℝ) : EReal) := by
    intro L hL hc
    have := View.canon_append_of_pieces (Val := Elt Ideal) (e := .f32)
      (fun y : S4x256x256.Idx => ((start (y 0).val (y 1).val (y 2).val + rows (weightTerm D (y 0).val (y 1).val (y 2).val) T : ℝ) : EReal)) [] L hL (ix3 g e d) hc
    rwa [List.append_nil] at this
  refine key _ (fun s hs => ?_) ⟨_, List.mem_ofFn.2 ⟨g.rev, rfl⟩, ?_⟩
  · obtain ⟨k, rfl⟩ := List.mem_ofFn.1 hs
    intro x
    obtain ⟨a, e', d', rfl⟩ : ∃ (a : Fin 1) (e' d' : Fin 256), x = ix3 a e' d' := ⟨x 0, x 1, x 2, by funext a; fin_cases a <;> rfl⟩
    obtain rfl : a = 0 := Subsingleton.elim _ _
    rw [emb3 k.rev e' d']
    refine dpw_store G k.rev _ e' d' _ ?_
    rw [View.readAt_apply, p.harg9.read_unread]
    exact (congrArg q.xo8 (emb3 k.rev e' d' (fun _ => 0))).trans (hx k.rev e' d')
  · exact mem3 _ g (Fin.rev_rev g) e d _

end

end Cert.EvenAcc

end
-- ==== Proof.EvenHost.lean ====
/-
  The even mixer's backward kernel: the arrays which the host lines prepare for it. The pooled rows and the convolution are
  those of the reference's forward lines.
-/
module

public import proofs.«01_k».proof.Proof.Gen.Kernel3Ideal.Value
public import proofs.«01_k».proof.Proof.EvenRef

@[expose] public section

set_option maxRecDepth 16384

noncomputable section

namespace Cert.EvenHost

open Idealize.ShloMosaic Idealize.ShloMosaic.Pointwise Idealize.ShloMosaic.TcCoe Idealize.SL.Sem Cert.Rows
open Cert.Kernel3Ideal Cert.Kernel3Ideal.Gen
open Cert.Head (Mat)
open Cert.EvenRef (pooled convolved)

variable (m : (ℓ : Loc nD τ sig) → Buf (Elt Ideal) ℓ) (c : Dev nD)
variable (Z : Mat 8192 6144) (PW : S4x256x256.Idx → ℝ) (PS : Mat 1 1024) (SW : Mat 3 1024) (SB : Mat 1 1024) (DY : Mat 8192 2048)

/-- The launch memory holds the real arguments. -/
structure Holds : Prop where
  z : m ((c.tc : Thread nD τ).loc main_arg0) = up Z
  pw : m ((c.tc : Thread nD τ).loc main_arg1) = up PW
  ps : m ((c.tc : Thread nD τ).loc main_arg2) = up PS
  sw : m ((c.tc : Thread nD τ).loc main_arg3) = up SW
  sb : m ((c.tc : Thread nD τ).loc main_arg4) = up SB
  dy : m ((c.tc : Thread nD τ).loc main_arg5) = up DY

variable {m c Z PW PS SW SB DY}

/-! ## What the host lines prepare -/

theorem V_z (h : Holds m c Z PW PS SW SB DY) : V m c main_v79 = up Z := by
  unfold V
  simp only [hostOps0, hostOps0_1, hostOps0_2, List.flatten_cons, List.flatten_nil, List.append_nil, List.cons_append, List.nil_append]
  after_results
  exact h.z

theorem V_dy (h : Holds m c Z PW PS SW SB DY) : V m c main_v80 = up DY := by
  unfold V
  simp only [hostOps0, hostOps0_1, hostOps0_2, List.flatten_cons, List.flatten_nil, List.append_nil, List.cons_append, List.nil_append]
  after_results
  exact h.dy

theorem V_pw (h : Holds m c Z PW PS SW SB DY) : V m c main_v83 = up PW := by
  unfold V
  simp only [hostOps0, hostOps0_1, hostOps0_2, List.flatten_cons, List.flatten_nil, List.append_nil, List.cons_append, List.nil_append]
  after_results
  exact h.pw

theorem V_ps (h : Holds m c Z PW PS SW SB DY) : V m c main_arg2 = up PS := by
  unfold V
  simp only [hostOps0, hostOps0_1, hostOps0_2, List.flatten_cons, List.flatten_nil, List.append_nil, List.cons_append, List.nil_append]
  after_results
  exact h.ps

theorem V_sw (h : Holds m c Z PW PS SW SB DY) : V m c main_arg3 = up SW := by
  unfold V
  simp only [hostOps0, hostOps0_1, hostOps0_2, List.flatten_cons, List.flatten_nil, List.append_nil, List.cons_append, List.nil_append]
  after_results
  exact h.sw

set_option maxHeartbeats 2000000 in
theorem V_pool (h : Holds m c Z PW PS SW SB DY) : V m c main_v81 = up (pooled Z) := by
  have e : V m c main_v81 = Cert.Reference3Ideal.Read.val_main_v62 (F := Ideal) (m ((c.tc : Thread nD τ).loc main_arg0)) := by
    unfold V
    simp only [hostOps0, hostOps0_1, hostOps0_2, List.flatten_cons, List.flatten_nil, List.append_nil, List.cons_append, List.nil_append]
    after_results
    rfl
  rw [e, h.z]
  exact Cert.EvenRef.v62_eq Z

theorem V_cv (h : Holds m c Z PW PS SW SB DY) : V m c main_v82 = up (convolved Z SW SB) := by
  have e : V m c main_v82 = Cert.Reference3Ideal.Read.val_main_v92 (F := Ideal) (m ((c.tc : Thread nD τ).loc main_arg0))
      (m ((c.tc : Thread nD τ).loc main_arg3)) (m ((c.tc : Thread nD τ).loc main_arg4)) := by
    unfold V
    simp only [hostOps0, hostOps0_1, hostOps0_2, List.flatten_cons, List.flatten_nil, List.append_nil, List.cons_append, List.nil_append]
    after_results
    rfl
  rw [e, h.z, h.sw, h.sb]
  exact Cert.EvenRef.v92_eq Z SW SB

end Cert.EvenHost

end
-- ==== Proof.EvenBlocks.lean ====
/-
  The even mixer's backward kernel: the blocks it reads, by natural rows and columns of the arrays. The points run from the
  last block of rows to the first.
-/
module

public import proofs.«01_k».proof.Proof.EvenPoint
public import proofs.«01_k».proof.Proof.EvenAcc
public import proofs.«01_k».proof.Proof.EvenHost

@[expose] public section

set_option maxRecDepth 16384

noncomputable section

namespace Cert.EvenBlocks

open Idealize.ShloMosaic Idealize.ShloMosaic.Pointwise Idealize.ShloMosaic.TcCoe Idealize.SL.Sem Cert.Rows
open Cert.Kernel3Ideal Cert.Kernel3Ideal.Gen Cert.EvenPieces Cert.EvenLists Cert.EvenVal Cert.EvenAcc Cert.EvenHost Cert.EvenPoint
open Cert.Head (Mat)
open Cert.Even (at2 at2_fin at3_fin Data dz scaleTerm weightTerm dcv tapTerm edp)
open Cert.EvenRef (data pooled convolved)

variable (m : (ℓ : Loc nD τ sig) → Buf (Elt Ideal) ℓ) (c : Dev nD)
variable {Z : Mat 8192 6144} {PW : S4x256x256.Idx → ℝ} {PS : Mat 1 1024} {SW : Mat 3 1024} {SB : Mat 1 1024} {DY : Mat 8192 2048}

variable {m c}

/-! ## The blocks -/

theorem at2_of {n q : ℕ} (X : Mat n q) (z : (⟨2, ![n, q]⟩ : Shape).Idx) {i k : ℕ} (hi : (z 0).val = i) (hk : (z 1).val = k) : X z = at2 X i k := by
  subst hi hk
  refine Eq.trans (congrArg X ?_) (at2_fin X (z 0) (z 1)).symm
  funext a
  match a with
  | ⟨0, _⟩ => rfl
  | ⟨1, _⟩ => rfl

theorem blk_0 (h : Holds m c Z PW PS SW SB DY) (t : Fin cfg0.N) : iblk m c 0 t
    = (At (F := Ideal) (e := .bf16) (re fun r k => (data Z PW PS SW SB DY).z (256 * (31 - t.val) + r) k) : Vec Ideal ⟨2, ![256, 6144]⟩ .bf16) := by
  have hi : ∀ t : Fin grid0.N, win0_0.index t 0 = 31 - t.val ∧ win0_0.index t 1 = 0 := by decide +kernel
  funext j
  have h0 : (j 0).val < 256 := (j 0).isLt
  unfold iblk
  rw [View.read_apply]
  show V m c main_v79 _ = _
  rw [V_z h]
  refine congrArg Real.toEReal (at2_of (Z) _ ?_ ?_)
  · show win0_0.index t 0 * 256 + 1 * (j 0).val = 256 * (31 - t.val) + (j 0).val
    rw [(hi t).1]; omega
  · show win0_0.index t 1 * 6144 + 1 * (j 1).val = (j 1).val
    rw [(hi t).2]; omega

theorem blk_1 (h : Holds m c Z PW PS SW SB DY) (t : Fin cfg0.N) : iblk m c 1 t
    = (At (F := Ideal) (e := .bf16) (re fun r k => (data Z PW PS SW SB DY).dy (256 * (31 - t.val) + r) k) : Vec Ideal ⟨2, ![256, 2048]⟩ .bf16) := by
  have hi : ∀ t : Fin grid0.N, win0_1.index t 0 = 31 - t.val ∧ win0_1.index t 1 = 0 := by decide +kernel
  funext j
  have h0 : (j 0).val < 256 := (j 0).isLt
  unfold iblk
  rw [View.read_apply]
  show V m c main_v80 _ = _
  rw [V_dy h]
  refine congrArg Real.toEReal (at2_of (DY) _ ?_ ?_)
  · show win0_1.index t 0 * 256 + 1 * (j 0).val = 256 * (31 - t.val) + (j 0).val
    rw [(hi t).1]; omega
  · show win0_1.index t 1 * 2048 + 1 * (j 1).val = (j 1).val
    rw [(hi t).2]; omega

theorem blk_2 (h : Holds m c Z PW PS SW SB DY) (t : Fin cfg0.N) : iblk m c 2 t
    = (At (F := Ideal) (e := .bf16) (re fun r k => (data Z PW PS SW SB DY).pool (256 * (31 - t.val) + r) k) : Vec Ideal ⟨2, ![256, 1024]⟩ .bf16) := by
  have hi : ∀ t : Fin grid0.N, win0_2.index t 0 = 31 - t.val ∧ win0_2.index t 1 = 0 := by decide +kernel
  funext j
  have h0 : (j 0).val < 256 := (j 0).isLt
  unfold iblk
  rw [View.read_apply]
  show V m c main_v81 _ = _
  rw [V_pool h]
  refine congrArg Real.toEReal (at2_of (pooled Z) _ ?_ ?_)
  · show win0_2.index t 0 * 256 + 1 * (j 0).val = 256 * (31 - t.val) + (j 0).val
    rw [(hi t).1]; omega
  · show win0_2.index t 1 * 1024 + 1 * (j 1).val = (j 1).val
    rw [(hi t).2]; omega

theorem blk_3 (h : Holds m c Z PW PS SW SB DY) (t : Fin cfg0.N) : iblk m c 3 t
    = (At (F := Ideal) (e := .bf16) (re fun r k => (data Z PW PS SW SB DY).cv (256 * (31 - t.val) + r) k) : Vec Ideal ⟨2, ![256, 1024]⟩ .bf16) := by
  have hi : ∀ t : Fin grid0.N, win0_3.index t 0 = 31 - t.val ∧ win0_3.index t 1 = 0 := by decide +kernel
  funext j
  have h0 : (j 0).val < 256 := (j 0).isLt
  unfold iblk
  rw [View.read_apply]
  show V m c main_v82 _ = _
  rw [V_cv h]
  refine congrArg Real.toEReal (at2_of (convolved Z SW SB) _ ?_ ?_)
  · show win0_3.index t 0 * 256 + 1 * (j 0).val = 256 * (31 - t.val) + (j 0).val
    rw [(hi t).1]; omega
  · show win0_3.index t 1 * 1024 + 1 * (j 1).val = (j 1).val
    rw [(hi t).2]; omega

theorem blk_5 (h : Holds m c Z PW PS SW SB DY) (t : Fin cfg0.N) : iblk m c 5 t
    = (At (F := Ideal) (e := .f32) (re fun _ k => (data Z PW PS SW SB DY).ps k) : Vec Ideal ⟨2, ![1, 1024]⟩ .f32) := by
  have hi : ∀ t : Fin grid0.N, win0_5.index t 0 = 0 ∧ win0_5.index t 1 = 0 := by decide +kernel
  funext j
  have h0 : (j 0).val < 1 := (j 0).isLt
  unfold iblk
  rw [View.read_apply]
  show V m c main_arg2 _ = _
  rw [V_ps h]
  refine congrArg Real.toEReal (at2_of (PS) _ ?_ ?_)
  · show win0_5.index t 0 * 1 + 1 * (j 0).val = 0
    rw [(hi t).1]; omega
  · show win0_5.index t 1 * 1024 + 1 * (j 1).val = (j 1).val
    rw [(hi t).2]; omega

theorem blk_6 (h : Holds m c Z PW PS SW SB DY) (t : Fin cfg0.N) : iblk m c 6 t
    = (At (F := Ideal) (e := .f32) (re fun r k => (data Z PW PS SW SB DY).sw r k) : Vec Ideal ⟨2, ![3, 1024]⟩ .f32) := by
  have hi : ∀ t : Fin grid0.N, win0_6.index t 0 = 0 ∧ win0_6.index t 1 = 0 := by decide +kernel
  funext j
  have h0 : (j 0).val < 3 := (j 0).isLt
  unfold iblk
  rw [View.read_apply]
  show V m c main_arg3 _ = _
  rw [V_sw h]
  refine congrArg Real.toEReal (at2_of (SW) _ ?_ ?_)
  · show win0_6.index t 0 * 3 + 1 * (j 0).val = (j 0).val
    rw [(hi t).1]; omega
  · show win0_6.index t 1 * 1024 + 1 * (j 1).val = (j 1).val
    rw [(hi t).2]; omega

theorem blk_4 (h : Holds m c Z PW PS SW SB DY) (t : Fin cfg0.N) (g : Fin 4) (e d : Fin 256) : iblk m c 4 t (ix3 g e d)
    = (((data Z PW PS SW SB DY).pw g.val e.val d.val : ℝ) : EReal) := by
  have hi : ∀ t : Fin grid0.N, win0_4.index t 0 = 0 ∧ win0_4.index t 1 = 0 ∧ win0_4.index t 2 = 0 := by decide +kernel
  unfold iblk
  rw [View.read_apply]
  show V m c main_v83 _ = _
  rw [V_pw h]
  refine congrArg Real.toEReal (Eq.trans (congrArg PW (funext fun a => Fin.ext ?_)) (at3_fin PW g e d).symm)
  match a with
  | ⟨0, _⟩ => show win0_4.index t 0 * 4 + 1 * g.val = g.val; rw [(hi t).1]; omega
  | ⟨1, _⟩ => show win0_4.index t 1 * 256 + 1 * e.val = e.val; rw [(hi t).2.1]; omega
  | ⟨2, _⟩ => show win0_4.index t 2 * 256 + 1 * d.val = d.val; rw [(hi t).2.2]; omega

theorem point_row : ∀ t : Fin grid0.N, (grid0.coords t 0).val = 31 - (31 - t.val) := by decide +kernel

end Cert.EvenBlocks

end
-- ==== Proof.EvenGood.lean ====
/-
  The even mixer's backward kernel: every point of the grid reads the blocks of its rows.
-/
module

public import proofs.«01_k».proof.Proof.EvenPoint
public import proofs.«01_k».proof.Proof.EvenAcc
public import proofs.«01_k».proof.Proof.EvenBlocks

@[expose] public section

set_option maxRecDepth 16384

noncomputable section

namespace Cert.EvenGood

open Cert.EvenBlocks

open Idealize.ShloMosaic Idealize.ShloMosaic.Pointwise Idealize.ShloMosaic.TcCoe Idealize.SL.Sem Cert.Rows
open Cert.Kernel3Ideal Cert.Kernel3Ideal.Gen Cert.EvenPieces Cert.EvenLists Cert.EvenVal Cert.EvenAcc Cert.EvenHost Cert.EvenPoint
open Cert.Head (Mat)
open Cert.Even (at2 at2_fin at3_fin Data dz scaleTerm weightTerm dcv tapTerm edp)
open Cert.EvenRef (data pooled convolved)

variable (m : (ℓ : Loc nD τ sig) → Buf (Elt Ideal) ℓ) (c : Dev nD)
variable {Z : Mat 8192 6144} {PW : S4x256x256.Idx → ℝ} {PS : Mat 1 1024} {SW : Mat 3 1024} {SB : Mat 1 1024} {DY : Mat 8192 2048}

variable {m c}

variable (h : Holds m c Z PW PS SW SB DY) (t : Fin cfg0.N)
include h

set_option maxHeartbeats 2000000 in
theorem good : Good (data Z PW PS SW SB DY) (31 - t.val) (pt m c t) := by
  have hT : 31 - t.val < 32 := by omega
  constructor
  · exact hT
  · dsimp only [pt]; exact point_row t
  · dsimp only [pt]; exact blk_0 h t
  · dsimp only [pt]; exact blk_1 h t
  · dsimp only [pt]; exact blk_2 h t
  · dsimp only [pt]; exact blk_3 h t
  · dsimp only [pt]; exact blk_4 h t
  · dsimp only [pt]; exact blk_5 h t
  · dsimp only [pt]; exact blk_6 h t

end Cert.EvenGood

end
-- ==== Proof.EvenFinal.lean ====
/-
  The even mixer's backward kernel: the accumulators and the carried rows point by point, its five results.
-/
module

public import proofs.«01_k».proof.Proof.EvenGood

@[expose] public section

set_option maxRecDepth 16384

noncomputable section

namespace Cert.EvenFinal

open Idealize.ShloMosaic Idealize.ShloMosaic.Pointwise Idealize.ShloMosaic.TcCoe Idealize.SL.Sem Cert.Rows
open Cert.Kernel3Ideal Cert.Kernel3Ideal.Gen Cert.EvenPieces Cert.EvenLists Cert.EvenVal Cert.EvenAcc Cert.EvenHost Cert.EvenPoint Cert.EvenGood
open Cert.Head (Mat)
open Cert.Even (Data dz scaleTerm weightTerm dcv tapTerm)
open Cert.EvenRef (data)

/-! ## The sums over the points so far -/

/-- The sum of `f` over the rows of the points up to `n`; point `t` reads block `31 - t`. -/
def sofar (f : ℕ → ℝ) (n : ℕ) : ℝ := ∑ t ∈ Finset.range (n + 1), rows f (31 - t)

theorem sofar_zero (f : ℕ → ℝ) : sofar f 0 = rows f 31 := Finset.sum_range_one _

theorem sofar_succ (f : ℕ → ℝ) (n : ℕ) : sofar f (n + 1) = sofar f n + rows f (31 - (n + 1)) := Finset.sum_range_succ _ _

theorem sofar_all (f : ℕ → ℝ) : sofar f 31 = ∑ i : Fin 8192, f i.val := by
  unfold sofar
  rw [← Finset.sum_range f, show 8192 = 32 * 256 from rfl, sum_blocks, ← Finset.sum_range_reflect]
  refine Finset.sum_congr rfl fun t ht => ?_
  have := Finset.mem_range.1 ht
  unfold rows
  refine Finset.sum_congr rfl fun r _ => congrArg f ?_
  omega

variable {m : (ℓ : Loc nD τ sig) → Buf (Elt Ideal) ℓ} {c : Dev nD}
variable {Z : Mat 8192 6144} {PW : S4x256x256.Idx → ℝ} {PS : Mat 1 1024} {SW : Mat 3 1024} {SB : Mat 1 1024} {DY : Mat 8192 2048}

/-- What the points up to `n` leave: the block of the input's gradient, the sums so far, and the rows for the next point. -/
structure Inv (D : Data) (n : ℕ) (oz : Vec Ideal S256x6144 .bf16) (ow : Vec Ideal S4x256x256 .f32) (os : Vec Ideal S1x1024 .f32)
    (ot : Vec Ideal S3x1024 .f32) (ob : Vec Ideal S1x1024 .f32) (kp : Vec Ideal S288x1024 .f32) (kc : Vec Ideal S264x1024 .f32) : Prop where
  dz : ∀ (r : Fin 256) (k : Fin 6144), (oz (ix2 r k) : EReal) = ((dz D (256 * (31 - n) + r.val) k.val : ℝ) : EReal)
  dpw : ∀ (g : Fin 4) (e d : Fin 256), (ow (ix3 g e d) : EReal) = ((sofar (weightTerm D g.val e.val d.val) n : ℝ) : EReal)
  dps : ∀ y : S1x1024.Idx, (os y : EReal) = ((sofar (scaleTerm D (y 1).val) n : ℝ) : EReal)
  dsw : ∀ y : S3x1024.Idx, (ot y : EReal) = ((sofar (tapTerm D (y 0).val (y 1).val) n : ℝ) : EReal)
  dsb : ∀ y : S1x1024.Idx, (ob y : EReal) = ((sofar (fun i => dcv D i (y 1).val) n : ℝ) : EReal)
  edp : ∀ T, 31 - n = T + 1 → KeptP D T kp
  edc : ∀ T, 31 - n = T + 1 → KeptC D T kc

theorem tile_at {D : Data} {T : ℕ} {p : Pt Ideal} (G : Good D T p) {lp : Ld Ideal 288} {lc : Ld Ideal 264}
    (hp : LdOk lp (fun r c => Cert.Even.edp D (256 * T + r) c)) (hc : LdOk lc (fun r c => dcv D (256 * T + r) c)) (r : Fin 256) (k : Fin 6144) :
    (View.canon (dzL p lp lc) (ix2 r k) : EReal) = ((dz D (256 * T + r.val) k.val : ℝ) : EReal) :=
  canon_at' (dz_ok G hp hc) (dz_cov p lp lc) (ix2 r k) trivial

theorem inv_first {D : Data} {p : Pt Ideal} (G : Good D 31 p) : Inv D 0
    (View.canon (dzL p (edpA p) (edcA p))) (View.canon (dpwLA p 4)) (View.canon (dpsLA p)) (View.canon (dswLA p (edcA p)))
      (View.canon (dsbLA p)) (View.canon (tailP p fillP)) (View.canon (tailC p fillC)) where
  dz := tile_at G (edpA_ok G rfl) (edcA_ok G rfl)
  dpw g e d := by rw [sofar_zero]; exact dpw_first G g e d
  dps y := by rw [sofar_zero]; exact dps_first G y
  dsw y := by rw [sofar_zero]; exact dsw_first G (edcA_ok G rfl) y
  dsb y := by rw [sofar_zero]; exact dsb_first G y
  edp T h := tailP_ok G h fillP
  edc T h := tailC_ok G h fillC

theorem inv_later {D : Data} {n : ℕ} (hn : n + 1 < 32) {p : Pt Ideal} (G : Good D (31 - (n + 1)) p) {q : Carried Ideal} {z : Vec Ideal S256x6144 .bf16}
    (I : Inv D n z q.xo8 q.xo9 q.xo10 q.xo11 q.xs0 q.xs1) : Inv D (n + 1)
    (View.canon (dzL p (edpB p q) (edcB p q))) (View.canon (dpwLB p q)) (View.canon (dpsLB p q)) (View.canon (dswLB p q (edcB p q)))
      (View.canon (dsbLB p q)) (View.canon (tailP p [])) (View.canon (tailC p [])) where
  dz := tile_at G (edpB_ok G (I.edp _ (by omega))) (edcB_ok G (I.edc _ (by omega)))
  dpw g e d := by rw [sofar_succ]; exact dpw_later G q (fun g e d => sofar (weightTerm D g e d) n) I.dpw g e d
  dps y := by rw [sofar_succ]; exact dps_later G q (fun k => sofar (scaleTerm D k) n) I.dps y
  dsw y := by rw [sofar_succ]; exact dsw_later G (edcB_ok G (I.edc _ (by omega))) q (fun j k => sofar (tapTerm D j k) n) I.dsw y
  dsb y := by rw [sofar_succ]; exact dsb_later G q (fun k => sofar (fun i => dcv D i k) n) I.dsb y
  edp T h := tailP_ok G h []
  edc T h := tailC_ok G h []

theorem inv (h : Holds m c Z PW PS SW SB DY) : ∀ (n : ℕ) (hn : n < cfg0.N), Inv (data Z PW PS SW SB DY) n
    (outsAt0 m c n hn).1 (outsAt0 m c n hn).2.1 (outsAt0 m c n hn).2.2.1 (outsAt0 m c n hn).2.2.2.1 (outsAt0 m c n hn).2.2.2.2.1 (outsAt0 m c n hn).2.2.2.2.2.1 (outsAt0 m c n hn).2.2.2.2.2.2
  | 0, hn => by
    have e := outs_first m c ⟨0, hn⟩ rfl
    dsimp only at e
    have G : Good (data Z PW PS SW SB DY) 31 (pt m c ⟨0, hn⟩) := good h ⟨0, hn⟩
    rw [e]
    dsimp only
    exact inv_first G
  | n + 1, hn => by
    have hN : cfg0.N = 32 := N_0
    have I : Inv (data Z PW PS SW SB DY) n (outsAt0 m c n (Nat.lt_of_succ_lt hn)).1 (carried m c ⟨n + 1, hn⟩).xo8 (carried m c ⟨n + 1, hn⟩).xo9
        (carried m c ⟨n + 1, hn⟩).xo10 (carried m c ⟨n + 1, hn⟩).xo11 (carried m c ⟨n + 1, hn⟩).xs0 (carried m c ⟨n + 1, hn⟩).xs1 := by
      dsimp only [carried]
      exact inv h n (Nat.lt_of_succ_lt hn)
    have G : Good (data Z PW PS SW SB DY) (31 - (n + 1)) (pt m c ⟨n + 1, hn⟩) := good h ⟨n + 1, hn⟩
    have e := outs_later m c ⟨n + 1, hn⟩ (by dsimp only; omega)
    dsimp only at e
    rw [e]
    dsimp only
    exact inv_later (by omega) G I

/-! ## The result arrays -/

/-- The last grid point. -/
def lastPt : Fin cfg0.N := ⟨31, by rw [show cfg0.N = 32 from N_0]; decide⟩

/-- The gradient of the mixer's input. -/
theorem final_7 (h : Holds m c Z PW PS SW SB DY) : (dats m 0 c).arrAt 7 cfg0.N
    = fun j : (⟨2, ![8192, 6144]⟩ : Shape).Idx => ((dz (data Z PW PS SW SB DY) (j 0).val (j 1).val : ℝ) : EReal) := by
  have hi : ∀ t : Fin cfg0.N, win0_7.index t 0 = 31 - t.val ∧ win0_7.index t 1 = 0 :=
    (by decide +kernel : ∀ t : Fin grid0.N, _)
  refine (dats m 0 c).arrAt_eq_of_covers 7 _ (by decide +kernel) fun t hf y => ?_
  blk_simp
  rw [after0_7]
  idx_vars y
  refine ((inv h t.val t.isLt).dz y0 y1).trans (congrArg Real.toEReal (congrArg₂ (dz (data Z PW PS SW SB DY)) ?_ ?_))
  · blk_simp [(hi t).1]
    omega
  · blk_simp [(hi t).2]

/-- The gradient of the pooling weights. -/
theorem final_8 (h : Holds m c Z PW PS SW SB DY) : (dats m 0 c).arrAt 8 cfg0.N
    = fun j : (⟨3, ![4, 256, 256]⟩ : Shape).Idx => ((∑ i : Fin 8192, weightTerm (data Z PW PS SW SB DY) (j 0).val (j 1).val (j 2).val i.val : ℝ) : EReal) := by
  refine (dats m 0 c).arrAt_eq_of_after_last 8 lastPt (by decide +kernel) _ fun j => ?_
  blk_simp
  rw [after0_8]
  idx_vars j
  refine ((inv h 31 lastPt.isLt).dpw j0 j1 j2).trans ?_
  rw [sofar_all]

/-- The gradient of the pooling scale. -/
theorem final_9 (h : Holds m c Z PW PS SW SB DY) : (dats m 0 c).arrAt 9 cfg0.N
    = fun j : (⟨2, ![1, 1024]⟩ : Shape).Idx => ((∑ i : Fin 8192, scaleTerm (data Z PW PS SW SB DY) (j 1).val i.val : ℝ) : EReal) := by
  refine (dats m 0 c).arrAt_eq_of_after_last 9 lastPt (by decide +kernel) _ fun j => ?_
  blk_simp
  rw [after0_9]
  idx_vars j
  refine ((inv h 31 lastPt.isLt).dps (ix2 j0 j1)).trans ?_
  rw [sofar_all]
  rfl

/-- The gradient of the convolution's taps. -/
theorem final_10 (h : Holds m c Z PW PS SW SB DY) : (dats m 0 c).arrAt 10 cfg0.N
    = fun j : (⟨2, ![3, 1024]⟩ : Shape).Idx => ((∑ i : Fin 8192, tapTerm (data Z PW PS SW SB DY) (j 0).val (j 1).val i.val : ℝ) : EReal) := by
  refine (dats m 0 c).arrAt_eq_of_after_last 10 lastPt (by decide +kernel) _ fun j => ?_
  blk_simp
  rw [after0_10]
  idx_vars j
  refine ((inv h 31 lastPt.isLt).dsw (ix2 j0 j1)).trans ?_
  rw [sofar_all]
  rfl

/-- The gradient of the convolution's offset. -/
theorem final_11 (h : Holds m c Z PW PS SW SB DY) : (dats m 0 c).arrAt 11 cfg0.N
    = fun j : (⟨2, ![1, 1024]⟩ : Shape).Idx => ((∑ i : Fin 8192, dcv (data Z PW PS SW SB DY) i.val (j 1).val : ℝ) : EReal) := by
  refine (dats m 0 c).arrAt_eq_of_after_last 11 lastPt (by decide +kernel) _ fun j => ?_
  blk_simp
  rw [after0_11]
  idx_vars j
  refine ((inv h 31 lastPt.isLt).dsb (ix2 j0 j1)).trans ?_
  rw [sofar_all]
  rfl

end Cert.EvenFinal

end
-- ==== Proof.EvenClaim.lean ====
/-
  The value claim of the even mixer's backward pass: on finite arguments the kernel and the reference leave the same five
  results.
-/
module

public import proofs.«01_k».proof.Defs
public import proofs.«01_k».proof.Proof.Gen.Pre_finite3
public import proofs.«01_k».proof.Proof.Gen.Reference3Ideal
public import proofs.«01_k».proof.Proof.Gen.Reference3Ideal.Run
public import proofs.«01_k».proof.Proof.Finite
public import proofs.«01_k».proof.Proof.EvenFinal

@[expose] public section

set_option maxRecDepth 16384

noncomputable section

namespace Cert.EvenClaim

open Idealize.ShloMosaic Idealize.ShloMosaic.Pointwise Idealize.ShloMosaic.StableHlo Idealize.SL.Sem Cert.Rows
  Cert.EvenHost Cert.EvenFinal Cert.EvenRef
open Cert.Head (Mat)
open Cert.Even (dz scaleTerm weightTerm dcv tapTerm)

/-! ## The precondition -/

section
open Cert.Kernel3Ideal
variable (m : (ℓ : Loc nD τ sig) → Buf (Elt Ideal) ℓ) (c : Dev nD)

/-- On finite arguments the launch memory holds their reals. -/
theorem holds (hp : Cert.Pre_Kernel3Ideal_finite3 m) :
    Holds m c (reals (m ((c.tc : Thread nD τ).loc main_arg0))) (reals (m ((c.tc : Thread nD τ).loc main_arg1)))
      (reals (m ((c.tc : Thread nD τ).loc main_arg2))) (reals (m ((c.tc : Thread nD τ).loc main_arg3)))
      (reals (m ((c.tc : Thread nD τ).loc main_arg4))) (reals (m ((c.tc : Thread nD τ).loc main_arg5))) := by
  obtain ⟨h0, h1, h2, h3, h4, h5⟩ := hp c
  exact ⟨eq_up_reals _ _ h0, eq_up_reals _ _ h1, eq_up_reals _ _ h2, eq_up_reals _ _ h3, eq_up_reals _ _ h4, eq_up_reals _ _ h5⟩

end

/-! ## The reference's results -/

section
open Cert.Reference3Ideal Cert.Reference3Ideal.Read
variable {a0 : S8192x6144.Idx → EReal} {a1 : S4x256x256.Idx → EReal} {a2 a4 : S1x1024.Idx → EReal}
  {a3 : S3x1024.Idx → EReal} {a5 : S8192x2048.Idx → EReal}
variable {Z : Mat 8192 6144} {PW : S4x256x256.Idx → ℝ} {PS : Mat 1 1024} {SW : Mat 3 1024} {SB : Mat 1 1024} {DY : Mat 8192 2048}

theorem ref_dz (h0 : a0 = up Z) (h1 : a1 = up PW) (h2 : a2 = up PS) (h3 : a3 = up SW) (h4 : a4 = up SB) (h5 : a5 = up DY) : val_main_v199 (F := Ideal) a0 a1 a2 a3 a4 a5
    = fun j => ((dz (data Z PW PS SW SB DY) (j 0).val (j 1).val : ℝ) : EReal) := by
  subst h0 h1 h2 h3 h4 h5
  funext j
  idx_vars j
  exact at_v199 Z PW PS SW SB DY j0 j1

theorem ref_dpw (h0 : a0 = up Z) (h2 : a2 = up PS) (h5 : a5 = up DY) : val_main_v148 (F := Ideal) a0 a2 a5
    = fun j => ((∑ i : Fin 8192, weightTerm (data Z PW PS SW SB DY) (j 0).val (j 1).val (j 2).val i.val : ℝ) : EReal) := by
  subst h0 h2 h5
  funext j
  idx_vars j
  exact at_v148 Z PW PS SW SB DY j0 j1 j2

theorem ref_dps (h0 : a0 = up Z) (h1 : a1 = up PW) (h5 : a5 = up DY) : val_main_v140 (F := Ideal) a0 a1 a5
    = fun j => ((∑ i : Fin 8192, scaleTerm (data Z PW PS SW SB DY) (j 1).val i.val : ℝ) : EReal) := by
  subst h0 h1 h5
  funext j
  idx_vars j
  obtain rfl : j0 = 0 := Subsingleton.elim _ _
  exact at_v140 Z PW PS SW SB DY j1

theorem ref_dsw (h0 : a0 = up Z) (h5 : a5 = up DY) : val_main_v128 (F := Ideal) a0 a5
    = fun j => ((∑ i : Fin 8192, tapTerm (data Z PW PS SW SB DY) (j 0).val (j 1).val i.val : ℝ) : EReal) := by
  subst h0 h5
  funext j
  idx_vars j
  exact at_v128 Z PW PS SW SB DY j0 j1

theorem ref_dsb (h0 : a0 = up Z) (h5 : a5 = up DY) : val_main_v105 (F := Ideal) a0 a5
    = fun j => ((∑ i : Fin 8192, dcv (data Z PW PS SW SB DY) i.val (j 1).val : ℝ) : EReal) := by
  subst h0 h5
  funext j
  idx_vars j
  obtain rfl : j0 = 0 := Subsingleton.elim _ _
  exact at_v105 Z PW PS SW SB DY j1

end

/-! ## The claim -/

set_option maxHeartbeats 8000000 in
theorem algebraic : Cert.algebraic_Kernel3Ideal_Reference3Ideal_pre_finite3 := by
  intro m ρ m' ρ' hp hagree
  refine ⟨fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    Cert.Kernel3Ideal.Value.run_blocks (F := Ideal) m ρ, ?_⟩
  refine (θ_run Cert.Reference3Ideal.defs _ _).mono (fun r h c => ?_) (Cert.Reference3Ideal.Value.run (F := Ideal) m' ρ')
  obtain ⟨Z, PW, PS, SW, SB, DY, H⟩ : ∃ Z PW PS SW SB DY, Holds m c Z PW PS SW SB DY := ⟨_, _, _, _, _, _, holds m c hp⟩
  obtain ⟨g0, g1, g2, g3, g4, g5⟩ := hagree c
  obtain ⟨r0, r1, r2, r3, r4, kept⟩ := h c
  have e0 := g0.trans H.z
  have e1 := g1.trans H.pw
  have e2 := g2.trans H.ps
  have e3 := g3.trans H.sw
  have e4 := g4.trans H.sb
  have e5 := g5.trans H.dy
  refine ⟨?_, ?_, ?_, ?_, ?_, kept⟩
  · exact (r0.trans (Cert.Reference3Ideal.Read.val_main_v199_eq (launchContents m' c))).trans ((ref_dz e0 e1 e2 e3 e4 e5).trans (final_7 H).symm)
  · exact (r1.trans (Cert.Reference3Ideal.Read.val_main_v148_eq (launchContents m' c))).trans ((ref_dpw (PW := PW) (SW := SW) (SB := SB) e0 e2 e5).trans (final_8 H).symm)
  · exact (r2.trans (Cert.Reference3Ideal.Read.val_main_v140_eq (launchContents m' c))).trans ((ref_dps (PS := PS) (SW := SW) (SB := SB) e0 e1 e5).trans (final_9 H).symm)
  · exact (r3.trans (Cert.Reference3Ideal.Read.val_main_v128_eq (launchContents m' c))).trans ((ref_dsw (PW := PW) (PS := PS) (SW := SW) (SB := SB) e0 e5).trans (final_10 H).symm)
  · exact (r4.trans (Cert.Reference3Ideal.Read.val_main_v105_eq (launchContents m' c))).trans ((ref_dsb (PW := PW) (PS := PS) (SW := SW) (SB := SB) e0 e5).trans (final_11 H).symm)

end Cert.EvenClaim

end
-- ==== Proof.Odd.lean ====
/-
  The odd mixer over real numbers, by rows and columns counted in the naturals. The gated units' parameters and the
  convolution's may be any extended reals: both programs apply them to the same reals, and a normalized row is real whatever
  the row is.
-/
module

public import proofs.«01_k».proof.Proof.Even

@[expose] public section

noncomputable section

namespace Cert.Odd

open Idealize.ShloMosaic Idealize.ShloMosaic.Pointwise Cert.Rows
open Cert.Head (Mat)
open Cert.Even (lg silu)

/-- What the mixer is a function of: its input, the gated units' gain, bias and mixing weights, the taps, and the norm's gain and bias. -/
structure Data where
  z : ℕ → ℕ → ℝ
  sg : ℕ → EReal
  so : ℕ → EReal
  sw : ℕ → ℕ → ℕ → EReal
  sb : ℕ → ℕ → EReal
  dw : ℕ → ℕ → EReal
  db : ℕ → EReal
  ng : ℕ → ℝ
  nb : ℕ → ℝ

/-- The mean of a row of 1024. -/
def emean (f : Fin 1024 → EReal) : EReal := Ideal.div (∑ k, f k) ((1024 : ℝ) : EReal)

/-- A row over the root of its mean square. -/
def scaled (d : Fin 1024 → EReal) (k : Fin 1024) : EReal := d k * Ideal.rsqrt (emean (fun q => d q * d q) + ((eps : ℝ) : EReal))

/-- It is real: an infinite entry makes the mean square infinite, and then every entry is multiplied by zero. -/
theorem scaled_real (d : Fin 1024 → EReal) (k : Fin 1024) : ∃ r : ℝ, scaled d k = (r : EReal) := by
  unfold scaled
  by_cases h : ∀ q, d q ≠ ⊤ ∧ d q ≠ ⊥
  · obtain ⟨e, rfl⟩ : ∃ e : Fin 1024 → ℝ, d = fun q => ((e q : ℝ) : EReal) :=
      ⟨fun q => (d q).toReal, funext fun q => (EReal.coe_toReal (h q).1 (h q).2).symm⟩
    simp only [emean, ← EReal.coe_mul, sum_coe, div_1024, ← EReal.coe_add]
    rw [rsqrt_real (add_pos_of_nonneg_of_pos (div_nonneg (Finset.sum_nonneg fun _ _ => mul_self_nonneg _) (by norm_num)) eps_pos), ← EReal.coe_mul]
    exact ⟨_, rfl⟩
  · obtain ⟨q, hq⟩ := not_forall.1 h
    have hs : d q * d q = ⊤ := by
      by_cases h1 : d q = ⊤
      · rw [h1]; exact EReal.top_mul_top
      · rw [not_not.1 fun h2 => hq ⟨h1, h2⟩]; exact EReal.bot_mul_bot
    have h0 : ∀ x : EReal, 0 ≤ x * x := fun x => (le_total 0 x).elim (fun h => mul_nonneg h h) fun h => EReal.mul_nonneg_iff.2 (Or.inr ⟨h, h⟩)
    have ht : ∑ q, d q * d q = ⊤ := top_le_iff.1 (hs ▸ Finset.single_le_sum (f := fun q => d q * d q) (fun q _ => h0 _) (Finset.mem_univ q))
    refine ⟨0, ?_⟩
    unfold emean
    rw [ht, Ideal.div_coe (by norm_num), EReal.top_mul_coe_of_pos (by norm_num), EReal.top_add_coe]
    show d k * 0 = _
    rw [mul_zero, EReal.coe_zero]

/-- The distances of a row of 1024 from its mean. -/
def dist (f : ℕ → EReal) (k : Fin 1024) : EReal := f k.val - emean fun q => f q.val

/-- The layer norm of a row of 1024, by natural column. -/
def norm (f : ℕ → EReal) (k : ℕ) : ℝ := if h : k < 1024 then (scaled (dist f) ⟨k, h⟩).toReal else 0

theorem norm_fin (f : ℕ → EReal) (k : Fin 1024) : scaled (dist f) k = ((norm f k.val : ℝ) : EReal) := by
  obtain ⟨r, hr⟩ := scaled_real (dist f) k
  unfold norm
  rw [dif_pos k.isLt, hr, EReal.toReal_coe]

variable (D : Data)

/-- The gated linear unit that the convolution reads. -/
def zg (i c : ℕ) : ℝ := D.z i (3072 + c) * lg (D.z i (4096 + c))

/-- Its rows under 32 rows of zeros. -/
def pad (n c : ℕ) : ℝ := if n < 32 then 0 else zg D (n - 32) c

/-- The first `n` taps of the causal convolution, over its bias. -/
def conv (n i c : ℕ) : EReal := D.db c + ∑ k ∈ Finset.range n, D.dw k c * ((pad D (i + 2 + k) c : ℝ) : EReal)

theorem conv_zero (i c : ℕ) : conv D 0 i c = D.db c := by unfold conv; rw [Finset.sum_range_zero, add_zero]

theorem conv_succ (n i c : ℕ) : conv D (n + 1) i c = conv D n i c + D.dw n c * ((pad D (i + 2 + n) c : ℝ) : EReal) := by
  unfold conv; rw [Finset.sum_range_succ]; exact (add_assoc _ _ _).symm

/-- The causal convolution of a column: thirty-one taps. -/
def cv (i c : ℕ) : EReal := conv D 31 i c

/-- The second half of the mixer's output. -/
def yd (i c : ℕ) : ℝ := silu (norm (cv D i) c * D.ng c + D.nb c) * silu (D.z i (5120 + c))

/-- The normalized rows that the heads mix. -/
def vn (i c : ℕ) : EReal := ((norm (fun k => ((D.z i (1024 + k) : ℝ) : EReal)) c : ℝ) : EReal) * D.sg c + D.so c

/-- The rows mixed: each head mixes the 128 rows of a block. -/
def mix (i c : ℕ) : EReal :=
  (∑ j : Fin 128, D.sw (c / 256) (i % 128) j.val * vn D (i / 128 * 128 + j.val) c) + D.sb (c / 256) (i % 128)

/-- The first half of the mixer's output. -/
def yc (i c : ℕ) : EReal := (D.z i c : EReal) * mix D i c * ((silu (D.z i (2048 + c)) : ℝ) : EReal)

def y (i c : ℕ) : EReal := if c < 1024 then yc D i c else ((yd D i (c - 1024) : ℝ) : EReal)

end Cert.Odd

end
-- ==== Proof.OddRef.lean ====
/-
  The reference of the odd mixer, read on arguments of which those named by reals are finite.
-/
module

public import proofs.«01_k».proof.Proof.Gen.Reference4Ideal.Read
public import proofs.«01_k».proof.Proof.EvenRef
public import proofs.«01_k».proof.Proof.Odd

@[expose] public section

set_option maxRecDepth 16384

noncomputable section

namespace Cert.OddRef

open Idealize.ShloMosaic Idealize.ShloMosaic.Pointwise Cert.Reference4Ideal Cert.Reference4Ideal.Read Cert.Rows
open Cert.Head (Mat)
open Cert.Even (at2 at2_fin lg lg_pos silu)
open Cert.EvenRef (up_mat exp_neg_coe one_eq)
open Cert.Odd (Data norm norm_fin emean dist pad zg cv yd yc mix vn)

/-! ## The data -/

/-- A matrix of extended reals by natural row and column. -/
def ex2 {n m : ℕ} (X : (⟨2, ![n, m]⟩ : Shape).Idx → EReal) (i k : ℕ) : EReal := if h : i < n ∧ k < m then X (ix2 ⟨i, h.1⟩ ⟨k, h.2⟩) else 0

theorem ex2_fin {n m : ℕ} (X : (⟨2, ![n, m]⟩ : Shape).Idx → EReal) (i : Fin n) (k : Fin m) : ex2 X i.val k.val = X (ix2 i k) :=
  dif_pos ⟨i.isLt, k.isLt⟩

/-- The heads' weights by natural indices. -/
def ex3 (X : S4x128x128.Idx → EReal) (g i j : ℕ) : EReal := if h : g < 4 ∧ i < 128 ∧ j < 128 then X (ix3 ⟨g, h.1⟩ ⟨i, h.2.1⟩ ⟨j, h.2.2⟩) else 0

theorem ex3_fin (X : S4x128x128.Idx → EReal) (g : Fin 4) (i j : Fin 128) : ex3 X g.val i.val j.val = X (ix3 g i j) :=
  dif_pos ⟨g.isLt, i.isLt, j.isLt⟩

variable (Z : Mat 8192 6144) (SG SO : S1x1024.Idx → EReal) (SW : S4x128x128.Idx → EReal) (SB : S4x128.Idx → EReal)
variable (DW : S31x1024.Idx → EReal) (DB : S1x1024.Idx → EReal) (NG NB : Mat 1 1024)

/-- The heads' weights under the mask. -/
def masked : S4x128x128.Idx → EReal := val_main_v38 (F := Ideal) SW

def data : Data where
  z := at2 Z
  sg := ex2 SG 0
  so := ex2 SO 0
  sw := ex3 (masked SW)
  sb := ex2 SB
  dw := ex2 DW
  db := ex2 DB 0
  ng := at2 NG 0
  nb := at2 NB 0

/-! ## The gated units -/

theorem at_v9 (i : Fin 8192) : val_main_v9 (F := Ideal) (up Z) (ix2 i 0) = emean fun q => ((at2 Z i.val (1024 + q.val) : ℝ) : EReal) := by
  pointwise [val_main_v9, val_main_v8, val_main_cst_0, val_main_v7, val_main_v6, val_main_cst, val_main_v1]
  simp only [up_mat, word_1024]
  rfl

theorem at_v16 (i : Fin 8192) : val_main_v16 (F := Ideal) (up Z) (ix2 i 0)
    = emean fun q => dist (fun q => ((at2 Z i.val (1024 + q) : ℝ) : EReal)) q * dist (fun q => ((at2 Z i.val (1024 + q) : ℝ) : EReal)) q := by
  pointwise [val_main_v16, val_main_v15, val_main_cst_2, val_main_v14, val_main_v13, val_main_cst_1, val_main_v12, val_main_v11, val_main_v10, val_main_v1]
  simp only [at_v9, up_mat, word_1024]
  rfl

theorem at_v23 (i : Fin 8192) (k : Fin 1024) : val_main_v23 (F := Ideal) (up Z) (ix2 i k)
    = ((norm (fun q => ((at2 Z i.val (1024 + q) : ℝ) : EReal)) k.val : ℝ) : EReal) := by
  rw [← norm_fin]
  pointwise [val_main_v23, val_main_v22, val_main_v21, val_main_v20, val_main_v19, val_main_cst_3, val_main_v18, val_main_v17, val_main_v1]
  simp only [at_v9, at_v16, up_mat, word_eps]
  rfl

theorem at_v27 (i : Fin 8192) (k : Fin 1024) : val_main_v27 (F := Ideal) (up Z) SG SO (ix2 i k) = vn (data Z SG SO SW SB DW DB NG NB) i.val k.val := by
  pointwise [val_main_v27, val_main_v26, val_main_v25, val_main_v24]
  rw [at_v23, ← ex2_fin SG 0 k, ← ex2_fin SO 0 k]
  rfl

theorem at_v46 (i : Fin 8192) (k : Fin 1024) :
    val_main_v46 (F := Ideal) (up Z) SG SO SW SB (ix2 i k) = mix (data Z SG SO SW SB DW DB NG NB) i.val k.val := by
  rw [val_main_v46_apply, val_main_v45_apply, val_main_v40_apply, val_main_v39_apply, val_main_v44_apply, val_main_v43_apply,
    val_main_v42_apply, val_main_v41_apply]
  unfold mix
  have hg : (i.val * 1024 + k.val) / 256 % 4 = k.val / 256 := by omega
  have hr : (i.val * 1024 + k.val) / 1024 % 128 = i.val % 128 := by omega
  refine congrArg₂ (fun u v : EReal => u + v) (Finset.sum_congr rfl fun j _ => ?_) ?_
  · rw [mul_comm, val_main_v28_apply]
    refine congrArg₂ (fun u v : EReal => u * v) ?_ ?_
    · refine Eq.trans (congrArg (val_main_v38 (F := Ideal) SW) ?_) (ex3_fin (masked SW) ⟨k.val / 256, by omega⟩ ⟨i.val % 128, by omega⟩ j).symm
      funext a
      match a with
      | ⟨0, _⟩ => exact Fin.ext hg
      | ⟨1, _⟩ => exact Fin.ext hr
      | ⟨2, _⟩ => rfl
    · refine Eq.trans (congrArg (val_main_v27 (F := Ideal) (up Z) SG SO) ?_)
        (at_v27 Z SG SO SW SB DW DB NG NB ⟨i.val / 128 * 128 + j.val, by omega⟩ k)
      funext a
      match a with
      | ⟨0, _⟩ =>
        refine Fin.ext ?_
        show ((((i.val * 1024 + k.val) / 131072 * 128 + j.val) * 4 + (i.val * 1024 + k.val) / 256 % 4) * 256 + (i.val * 1024 + k.val) % 256) / 1024 = i.val / 128 * 128 + j.val
        omega
      | ⟨1, _⟩ =>
        refine Fin.ext ?_
        show ((((i.val * 1024 + k.val) / 131072 * 128 + j.val) * 4 + (i.val * 1024 + k.val) / 256 % 4) * 256 + (i.val * 1024 + k.val) % 256) % 1024 = k.val
        omega
  · refine Eq.trans (congrArg SB ?_) (ex2_fin SB ⟨k.val / 256, by omega⟩ ⟨i.val % 128, by omega⟩).symm
    funext a
    match a with
    | ⟨0, _⟩ => exact Fin.ext hg
    | ⟨1, _⟩ => exact Fin.ext hr

theorem at_v48 (i : Fin 8192) (k : Fin 1024) : val_main_v48 (F := Ideal) (up Z) (ix2 i k) = ((silu (at2 Z i.val (2048 + k.val)) : ℝ) : EReal) := by
  have h : val_main_call3_v5 (F := Ideal) (up Z) (ix2 i k) = ((lg (at2 Z i.val (2048 + k.val)) : ℝ) : EReal) := by
    pointwise [val_main_call3_v5, val_main_call3_v4, val_main_call3_cst_0, val_main_call3_v3, val_main_call3_v2, val_main_call3_v1,
      val_main_call3_v0, val_main_call3_cst, val_main_v2]
    simp only [up_mat, exp_neg_coe, one_eq, ← EReal.coe_add]
    exact div_real (lg_pos _).ne' 1
  pointwise [val_main_v48, val_main_v2]
  simp only [h, up_mat, ← EReal.coe_mul]
  rfl

theorem at_v49 (i : Fin 8192) (k : Fin 1024) :
    val_main_v49 (F := Ideal) (up Z) SG SO SW SB (ix2 i k) = yc (data Z SG SO SW SB DW DB NG NB) i.val k.val := by
  pointwise [val_main_v49, val_main_v47, val_main_v0]
  rw [at_v46 Z SG SO SW SB DW DB NG NB, at_v48, up_mat]
  rfl

/-! ## The convolution -/

theorem at_v56 (i : Fin 8192) (k : Fin 1024) :
    val_main_v56 (F := Ideal) (up Z) (ix2 i k) = ((zg (data Z SG SO SW SB DW DB NG NB) i.val k.val : ℝ) : EReal) := by
  have h : val_main_v55 (F := Ideal) (up Z) (ix2 i k) = ((lg (at2 Z i.val (4096 + k.val)) : ℝ) : EReal) := by
    pointwise [val_main_v55, val_main_v54, val_main_cst_7, val_main_v53, val_main_v52, val_main_v51, val_main_v50, val_main_cst_6, val_main_v4]
    simp only [up_mat, exp_neg_coe, one_eq, ← EReal.coe_add]
    exact div_real (lg_pos _).ne' 1
  pointwise [val_main_v56, val_main_v3]
  simp only [h, up_mat, ← EReal.coe_mul]
  rfl

theorem at_v58 (i : Fin 8222) (k : Fin 1024) :
    val_main_v58 (F := Ideal) (up Z) (ix2 i k) = ((pad (data Z SG SO SW SB DW DB NG NB) (i.val + 2) k.val : ℝ) : EReal) := by
  pointwise [val_main_v58, val_main_v57, val_main_cst_8]
  unfold Cert.Odd.pad
  by_cases h : i.val < 30
  · rw [dif_pos h, if_pos (by omega)]; rfl
  · have e : i.val + 2 - 32 = i.val - 30 := by omega
    rw [dif_neg h, if_neg (show ¬ i.val + 2 < 32 by omega), e]
    exact at_v56 Z SG SO SW SB DW DB NG NB ⟨i.val - 30, by have := i.isLt; omega⟩ k

theorem slices {R r : ℕ} {n : ℕ} (hr : r + n ≤ R) : (⟨2, ![R, 1024]⟩ : Shape).Slices ![r, 0] ⟨2, ![n, 1024]⟩ := by
  refine ⟨rfl, fun a => ?_⟩
  fin_cases a
  · exact hr
  · exact Nat.le_refl 1024

/-- The first taps of the reference's sum, in its order. -/
def taps (x : FVec Ideal S8222x1024 .f32) (w : FVec Ideal S31x1024 .f32) : (n : ℕ) → n ≤ 31 → FVec Ideal S8192x1024 .f32
  | 0, _ => val_main_v63 (F := Ideal)
  | n + 1, h => addf (taps x w n (by omega)) (mulf (extractStridedSlice S8192x1024 ![n, 0] x (slices (by omega)))
      (broadcastInDim S8192x1024 ![0, 1] Gen.bcast_S1x1024_S8192x1024_0_1 (extractStridedSlice S1x1024 ![n, 0] w (slices (by omega)) : FVec Ideal S1x1024 .f32)))

theorem v214_eq (x0 : S8192x6144.Idx → EReal) (x5 : S31x1024.Idx → EReal) :
    val_main_v214 (F := Ideal) x0 x5 = taps (val_main_v58 (F := Ideal) x0) x5 31 (le_refl _) := rfl

theorem taps_at (n : ℕ) (hn : n ≤ 31) (i : Fin 8192) (k : Fin 1024) :
    taps (val_main_v58 (F := Ideal) (up Z)) DW n hn (ix2 i k)
      = ∑ j ∈ Finset.range n, ex2 DW j k.val * ((pad (data Z SG SO SW SB DW DB NG NB) (i.val + 2 + j) k.val : ℝ) : EReal) := by
  induction n with
  | zero =>
    rw [Finset.sum_range_zero]
    unfold taps
    pointwise [val_main_v63, val_main_cst_9]
  | succ n ih =>
    rw [Finset.sum_range_succ]
    unfold taps
    have e1 : extractStridedSlice S8192x1024 ![n, 0] (val_main_v58 (F := Ideal) (up Z)) (slices (by omega)) (ix2 i k)
        = ((pad (data Z SG SO SW SB DW DB NG NB) (i.val + 2 + n) k.val : ℝ) : EReal) := by
      refine Eq.trans (congrArg (val_main_v58 (F := Ideal) (up Z)) ?_) ((at_v58 Z SG SO SW SB DW DB NG NB ⟨n + i.val, by omega⟩ k).trans ?_)
      · funext a
        match a with
        | ⟨0, _⟩ => exact Fin.ext rfl
        | ⟨1, _⟩ => exact Fin.ext (Nat.zero_add _)
      · exact congrArg (fun q => ((pad (data Z SG SO SW SB DW DB NG NB) q k.val : ℝ) : EReal)) (by dsimp only; omega)
    have e2 : broadcastInDim S8192x1024 ![0, 1] Gen.bcast_S1x1024_S8192x1024_0_1
        (extractStridedSlice S1x1024 ![n, 0] DW (slices (by omega)) : FVec Ideal S1x1024 .f32) (ix2 i k) = ex2 DW n k.val := by
      refine Eq.trans (congrArg DW ?_) (ex2_fin DW ⟨n, by omega⟩ k).symm
      funext a
      match a with
      | ⟨0, _⟩ => exact Fin.ext (Nat.add_zero _)
      | ⟨1, _⟩ => exact Fin.ext (Nat.zero_add _)
    refine (congrArg₂ (fun u v : EReal => u + v) (ih (by omega)) (congrArg₂ (fun u v : EReal => u * v) e1 e2)).trans ?_
    rw [mul_comm (ex2 DW n k.val)]

theorem at_v216 (i : Fin 8192) (k : Fin 1024) :
    val_main_v216 (F := Ideal) (up Z) DW DB (ix2 i k) = cv (data Z SG SO SW SB DW DB NG NB) i.val k.val := by
  pointwise [val_main_v216, val_main_v215]
  rw [v214_eq, taps_at Z SG SO SW SB DW DB NG NB 31 (le_refl _), add_comm, ← ex2_fin DB 0 k]
  rfl

/-! ## The second half of the output -/

theorem at_v220 (i : Fin 8192) : val_main_v220 (F := Ideal) (up Z) DW DB (ix2 i 0)
    = emean fun q => cv (data Z SG SO SW SB DW DB NG NB) i.val q.val := by
  pointwise [val_main_v220, val_main_v219, val_main_cst_11, val_main_v218, val_main_v217, val_main_cst_10]
  simp only [at_v216 Z SG SO SW SB DW DB NG NB, word_1024]
  rfl

theorem at_v227 (i : Fin 8192) : val_main_v227 (F := Ideal) (up Z) DW DB (ix2 i 0)
    = emean fun q => dist (cv (data Z SG SO SW SB DW DB NG NB) i.val) q * dist (cv (data Z SG SO SW SB DW DB NG NB) i.val) q := by
  pointwise [val_main_v227, val_main_v226, val_main_cst_13, val_main_v225, val_main_v224, val_main_cst_12, val_main_v223, val_main_v222, val_main_v221]
  simp only [at_v220 Z SG SO SW SB DW DB NG NB, at_v216 Z SG SO SW SB DW DB NG NB, word_1024]
  rfl

theorem at_v234 (i : Fin 8192) (k : Fin 1024) : val_main_v234 (F := Ideal) (up Z) DW DB (ix2 i k)
    = ((norm (cv (data Z SG SO SW SB DW DB NG NB) i.val) k.val : ℝ) : EReal) := by
  rw [← norm_fin]
  pointwise [val_main_v234, val_main_v233, val_main_v232, val_main_v231, val_main_v230, val_main_cst_14, val_main_v229, val_main_v228]
  simp only [at_v220 Z SG SO SW SB DW DB NG NB, at_v227 Z SG SO SW SB DW DB NG NB, at_v216 Z SG SO SW SB DW DB NG NB, word_eps]
  rfl

theorem at_v238 (i : Fin 8192) (k : Fin 1024) : val_main_v238 (F := Ideal) (up Z) DW DB (up NG) (up NB) (ix2 i k)
    = ((norm (cv (data Z SG SO SW SB DW DB NG NB) i.val) k.val * at2 NG 0 k.val + at2 NB 0 k.val : ℝ) : EReal) := by
  pointwise [val_main_v238, val_main_v237, val_main_v236, val_main_v235]
  rw [at_v234 Z SG SO SW SB DW DB NG NB, up_mat, up_mat, ← EReal.coe_mul, ← EReal.coe_add]
  rfl

theorem at_v239 (i : Fin 8192) (k : Fin 1024) : val_main_v239 (F := Ideal) (up Z) DW DB (up NG) (up NB) (ix2 i k)
    = ((silu (norm (cv (data Z SG SO SW SB DW DB NG NB) i.val) k.val * at2 NG 0 k.val + at2 NB 0 k.val) : ℝ) : EReal) := by
  have h : val_main_call4_v5 (F := Ideal) (up Z) DW DB (up NG) (up NB) (ix2 i k)
      = ((lg (norm (cv (data Z SG SO SW SB DW DB NG NB) i.val) k.val * at2 NG 0 k.val + at2 NB 0 k.val) : ℝ) : EReal) := by
    pointwise [val_main_call4_v5, val_main_call4_v4, val_main_call4_cst_0, val_main_call4_v3, val_main_call4_v2, val_main_call4_v1,
      val_main_call4_v0, val_main_call4_cst]
    simp only [at_v238 Z SG SO SW SB DW DB NG NB, exp_neg_coe, one_eq, ← EReal.coe_add]
    exact div_real (lg_pos _).ne' 1
  pointwise [val_main_v239]
  rw [h, at_v238 Z SG SO SW SB DW DB NG NB, ← EReal.coe_mul]
  rfl

theorem at_v240 (i : Fin 8192) (k : Fin 1024) : val_main_v240 (F := Ideal) (up Z) (ix2 i k) = ((silu (at2 Z i.val (5120 + k.val)) : ℝ) : EReal) := by
  have h : val_main_call5_v5 (F := Ideal) (up Z) (ix2 i k) = ((lg (at2 Z i.val (5120 + k.val)) : ℝ) : EReal) := by
    pointwise [val_main_call5_v5, val_main_call5_v4, val_main_call5_cst_0, val_main_call5_v3, val_main_call5_v2, val_main_call5_v1,
      val_main_call5_v0, val_main_call5_cst, val_main_v5]
    simp only [up_mat, exp_neg_coe, one_eq, ← EReal.coe_add]
    exact div_real (lg_pos _).ne' 1
  pointwise [val_main_v240, val_main_v5]
  simp only [h, up_mat, ← EReal.coe_mul]
  rfl

theorem at_v241 (i : Fin 8192) (k : Fin 1024) : val_main_v241 (F := Ideal) (up Z) DW DB (up NG) (up NB) (ix2 i k)
    = ((yd (data Z SG SO SW SB DW DB NG NB) i.val k.val : ℝ) : EReal) := by
  pointwise [val_main_v241]
  rw [at_v239 Z SG SO SW SB DW DB NG NB, at_v240, ← EReal.coe_mul]
  rfl

theorem at_v243 (i : Fin 8192) (k : Fin 2048) : val_main_v243 (F := Ideal) (up Z) SG SO SW SB DW DB (up NG) (up NB) (ix2 i k)
    = Cert.Odd.y (data Z SG SO SW SB DW DB NG NB) i.val k.val := by
  pointwise [val_main_v243, val_main_v242]
  unfold Cert.Odd.y
  by_cases h : k.val < 1024
  · rw [dif_pos h, if_pos h]
    exact at_v49 Z SG SO SW SB DW DB NG NB i ⟨k.val, h⟩
  · rw [dif_neg h, if_neg h]
    exact at_v241 Z SG SO SW SB DW DB NG NB i ⟨k.val - 1024, by have := k.isLt; omega⟩

end Cert.OddRef

end
-- ==== Proof.OddPieces.lean ====
/-
  The stores of one grid point of the odd mixer's forward kernel: the vector expressions it stores, the gated units as a
  family of one piece for every chunk of 128 rows and 256 columns, and the causal convolution as a chain of thirty-one taps
  read from the padded rows or from their seven shifted copies. The lists here are the lists of the kernel's run, in the
  run's order, the last store first.
-/
module

public import proofs.«01_k».proof.Proof.Gen.Kernel4Ideal.Frame.RunA
public import proofs.«01_k».proof.Proof.Gen.Kernel4Ideal.Frame.RunB
public import proofs.«01_k».proof.Proof.EvenPieces
public import Idealize.ShloMosaic.Lib.Pipeline.ValueKit

@[expose] public section

set_option maxRecDepth 16384

noncomputable section

namespace Cert.OddPieces

open Idealize.ShloMosaic Idealize.SL.Sem Idealize.ShloMosaic.TcCoe Idealize.ShloMosaic.Tactic
open Cert.Kernel4Ideal Cert.Kernel4Ideal.Gen
open Cert.EvenPieces (pc inb)

variable {F : FTy → Type} [FloatOps F]

/-! ## The vector expressions -/

/-- A block of 1024 columns, widened. -/
def wide (a : Vec F S512x1024 .bf16) : FVec F S512x1024 .f32 := extf .f32 (shapeCast S512x1024 a shapeCasts_S512x1024_S512x1024) bitsLt_bf16_f32

def half : FVec F S512x1024 .f32 := broadcast S512x1024 (Scalar.ofBits .f32 0x3F000000#32)

/-- A row under every row of a block. -/
def rowOp (g : Vec F S1x1024 .f32) : FVec F S512x1024 .f32 := broadcastTo S512x1024 g broadcasts_S1x1024_S512x1024

/-- A value times its logistic, from half the value and the tangent of the half. -/
def siluOp (a : FVec F S512x1024 .f32) : FVec F S512x1024 .f32 :=
  addf (mulf half a) (mulf (mulf half a) (tanh (mulf half a)))

/-- The mean of every row. -/
def meanOp (a : FVec F S512x1024 .f32) : FVec F S512x1 .f32 :=
  divf (shapeCast S512x1 (multiReduction .add [1] S512 a 0x00000000#32 reduces_S512x1024_S512 (.inl rfl) rfl) shapeCasts_S512_S512x1)
    (broadcast S512x1 (Scalar.ofBits .f32 0x44800000#32))

def centered (a : FVec F S512x1024 .f32) : FVec F S512x1024 .f32 := subf a (broadcastTo S512x1024 (meanOp a) broadcasts_S512x1_S512x1024)

/-- The layer norm of every row. -/
def normOp (a : FVec F S512x1024 .f32) : FVec F S512x1024 .f32 :=
  mulf (centered a) (broadcastTo S512x1024 (rsqrt (addf (meanOp (mulf (centered a) (centered a)))
    (broadcast S512x1 (Scalar.ofBits .f32 0x3727C5AC#32)))) broadcasts_S512x1_S512x1024)

/-- The layer norm with its gain and bias. -/
def lnOp (a : FVec F S512x1024 .f32) (g b : Vec F S1x1024 .f32) : FVec F S512x1024 .f32 := addf (mulf (normOp a) (rowOp g)) (rowOp b)

def vnOp (a : Vec F S512x1024 .bf16) (g b : Vec F S1x1024 .f32) : FVec F S512x1024 .bf16 := truncf .bf16 (lnOp (wide a) g b) bitsLt_bf16_f32

def wideC (a : Vec F S128x256 .bf16) : FVec F S128x256 .f32 := extf .f32 (shapeCast S128x256 a shapeCasts_S128x256_S128x256) bitsLt_bf16_f32

def halfC : FVec F S128x256 .f32 := broadcast S128x256 (Scalar.ofBits .f32 0x3F000000#32)

def siluC (a : FVec F S128x256 .f32) : FVec F S128x256 .f32 := addf (mulf halfC a) (mulf (mulf halfC a) (tanh (mulf halfC a)))

/-- The mixed rows of one chunk: one head's weights times the chunk, plus the head's bias. -/
def mixOp (w : Vec F S1x128x128 .bf16) (b : Vec F S1x128x1 .f32) (v : FVec F S128x256 .bf16) : FVec F S128x256 .f32 :=
  addf (matmul dot_S128x128_S128x256_S128x256_1_0_0_1_n_n none (shapeCast S128x128 w shapeCasts_S1x128x128_S128x128 : FVec F S128x128 .bf16) v
      (constant S128x256 .f32 0x00000000#32))
    (broadcastTo S128x256 (shapeCast S128x1 b shapeCasts_S1x128x1_S128x1) broadcasts_S128x1_S128x256)

def ycOp (w : Vec F S1x128x128 .bf16) (b : Vec F S1x128x1 .f32) (v : FVec F S128x256 .bf16) (gc u : Vec F S128x256 .bf16) : FVec F S128x256 .bf16 :=
  truncf .bf16 (mulf (mulf (wideC u) (mixOp w b v)) (siluC (wideC gc))) bitsLt_bf16_f32

/-- The gated linear unit that the convolution reads. -/
def zgOp (a b : Vec F S512x1024 .bf16) : FVec F S512x1024 .f32 :=
  shapeCast S512x1024 (mulf (wide a) (addf (mulf half (tanh (mulf half (wide b)))) half)) shapeCasts_S512x1024_S512x1024

def ydOp (cz : FVec F S512x1024 .f32) (g b : Vec F S1x1024 .f32) (gd : Vec F S512x1024 .bf16) : FVec F S512x1024 .bf16 :=
  truncf .bf16 (mulf (siluOp (lnOp cz g b)) (siluOp (wide gd))) bitsLt_bf16_f32

def zero32 : FVec F S32x1024 .f32 := shapeCast S32x1024 (broadcast S32x1024 (Scalar.ofBits .f32 0x00000000#32)) shapeCasts_S32x1024_S32x1024

/-! ## The stores -/

/-- A grid point: its buffers and the blocks its inputs hold. -/
structure Pt (F : FTy → Type) [FloatOps F] where
  c : Dev nD
  i : grid0.Coords
  arg1 : Memref sig .tc .vmem S512x6144 .bf16
  harg1 : arg1.IsWhole
  arg2 : Memref sig .tc .vmem S1x1024 .f32
  harg2 : arg2.IsWhole
  arg3 : Memref sig .tc .vmem S1x1024 .f32
  harg3 : arg3.IsWhole
  arg4 : Memref sig .tc .vmem S4x128x128 .bf16
  harg4 : arg4.IsWhole
  arg5 : Memref sig .tc .vmem S4x128x1 .f32
  harg5 : arg5.IsWhole
  arg6 : Memref sig .tc .vmem S31x1024 .f32
  harg6 : arg6.IsWhole
  arg7 : Memref sig .tc .vmem S1x1024 .f32
  harg7 : arg7.IsWhole
  arg8 : Memref sig .tc .vmem S1x1024 .f32
  harg8 : arg8.IsWhole
  arg9 : Memref sig .tc .vmem S1x1024 .f32
  harg9 : arg9.IsWhole
  arg10 : Memref sig .tc .vmem S512x2048 .bf16
  harg10 : arg10.IsWhole
  arg11 : Memref sig .tc .vmem S512x1024 .f32
  harg11 : arg11.IsWhole
  arg12 : Memref sig .tc .vmem S544x1024 .f32
  harg12 : arg12.IsWhole
  arg13 : Memref sig .tc .vmem S7x536x1024 .f32
  harg13 : arg13.IsWhole
  x0 : Vec F S512x6144 .bf16
  x1 : Vec F S1x1024 .f32
  x2 : Vec F S1x1024 .f32
  x3 : Vec F S4x128x128 .bf16
  x4 : Vec F S4x128x1 .f32
  x5 : Vec F S31x1024 .f32
  x6 : Vec F S1x1024 .f32
  x7 : Vec F S1x1024 .f32
  x8 : Vec F S1x1024 .f32

def runA (p : Pt F) (h : cond0_0 p.i) :=
  kernelRun0_A p.c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 h p.x0 p.x1 p.x2 p.x3 p.x4 p.x5 p.x6 p.x7 p.x8

/-- At a later point, over the padded rows `q` that the point before left. -/
def runB (p : Pt F) (h : ¬ cond0_0 p.i) (q : Vec F S544x1024 .f32) :=
  kernelRun0_B p.c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 h p.x0 p.x1 p.x2 p.x3 p.x4 p.x5 p.x6 p.x7 p.x8 q

theorem inb3 {A B C r s t n m l : ℕ} (hr : r + n ≤ A) (hs : s + m ≤ B) (ht : t + l ≤ C) :
    ∀ a : Fin 3, (![r, s, t] : Fin 3 → ℕ) a + (![n, m, l] : Fin 3 → ℕ) a ≤ (![A, B, C] : Fin 3 → ℕ) a := by
  intro a; fin_cases a
  · exact hr
  · exact hs
  · exact ht

theorem slices {R C r c n m : ℕ} (hr : r + n ≤ R) (hc : c + m ≤ C) : (⟨2, ![R, C]⟩ : Shape).Slices ![r, c] ⟨2, ![n, m]⟩ :=
  ⟨rfl, inb hr hc⟩

/-- Column group `o` of the block of rows. -/
def zcol (p : Pt F) (o : Fin 6) : Vec F S512x1024 .bf16 :=
  p.arg1.view.readAt (Elt F) (Rect.unit (s := S512x6144) ![0, 1024 * o.val] S512x1024.size (inb (by omega) (by omega))).toLoadRect (p.harg1.unread p.x0)

/-- Chunk `k` of a column group: 128 rows from `128 (k / 4)` on, 256 columns from `256 (k % 4)` on. -/
def zc (p : Pt F) (o : Fin 6) (k : Fin 16) : Vec F S128x256 .bf16 :=
  p.arg1.view.readAt (Elt F) (Rect.unit (s := S512x6144) ![128 * (k.val / 4), 1024 * o.val + 256 * (k.val % 4)] S128x256.size
    (inb (by omega) (by omega))).toLoadRect (p.harg1.unread p.x0)

/-! The parameters. -/
def row2 (p : Pt F) : Vec F S1x1024 .f32 :=
  p.arg2.view.readAt (Elt F) (Rect.unit (s := S1x1024) ![0, 0] S1x1024.size (inb (by omega) (by omega))).toLoadRect (p.harg2.unread p.x1)
def row3 (p : Pt F) : Vec F S1x1024 .f32 :=
  p.arg3.view.readAt (Elt F) (Rect.unit (s := S1x1024) ![0, 0] S1x1024.size (inb (by omega) (by omega))).toLoadRect (p.harg3.unread p.x2)
def row7 (p : Pt F) : Vec F S1x1024 .f32 :=
  p.arg7.view.readAt (Elt F) (Rect.unit (s := S1x1024) ![0, 0] S1x1024.size (inb (by omega) (by omega))).toLoadRect (p.harg7.unread p.x6)
def row8 (p : Pt F) : Vec F S1x1024 .f32 :=
  p.arg8.view.readAt (Elt F) (Rect.unit (s := S1x1024) ![0, 0] S1x1024.size (inb (by omega) (by omega))).toLoadRect (p.harg8.unread p.x7)
def row9 (p : Pt F) : Vec F S1x1024 .f32 :=
  p.arg9.view.readAt (Elt F) (Rect.unit (s := S1x1024) ![0, 0] S1x1024.size (inb (by omega) (by omega))).toLoadRect (p.harg9.unread p.x8)

def headW (p : Pt F) (g : Fin 4) : Vec F S1x128x128 .bf16 :=
  p.arg4.view.readAt (Elt F) (Rect.unit (s := S4x128x128) ![g.val, 0, 0] S1x128x128.size (inb3 (by omega) (by omega) (by omega))).toLoadRect (p.harg4.unread p.x3)
def headB (p : Pt F) (g : Fin 4) : Vec F S1x128x1 .f32 :=
  p.arg5.view.readAt (Elt F) (Rect.unit (s := S4x128x1) ![g.val, 0, 0] S1x128x1.size (inb3 (by omega) (by omega) (by omega))).toLoadRect (p.harg5.unread p.x4)

def tapW (p : Pt F) (k : Fin 31) : Vec F S1x1024 .f32 :=
  p.arg6.view.readAt (Elt F) (Rect.unit (s := S31x1024) ![k.val, 0] S1x1024.size (inb (by omega) (by omega))).toLoadRect (p.harg6.unread p.x5)

/-- The layer norm of the second column group. -/
def vn (p : Pt F) : FVec F S512x1024 .bf16 := vnOp (zcol p 1) (row2 p) (row3 p)

def hd (k : Fin 16) : Fin 4 := ⟨k.val % 4, Nat.mod_lt _ (by decide)⟩

def ycV (p : Pt F) (k : Fin 16) : FVec F S128x256 .bf16 :=
  ycOp (headW p (hd k)) (headB p (hd k)) (extractStridedSlice S128x256 ![128 * (k.val / 4), 256 * (k.val % 4)] (vn p) (slices (by omega) (by omega)))
    (zc p 2 k) (zc p 0 k)

/-- The gated units' pieces. -/
def ycL (p : Pt F) : List (View.Piece (Elt F) S512x2048 .bf16) := List.ofFn fun k : Fin 16 =>
  pc (128 * (k.rev.val / 4)) (256 * (k.rev.val % 4)) 128 256 (by omega) (by omega) (ycV p k.rev)

/-! The padded rows: 32 rows carried over, then the point's own. -/

def zgL (p : Pt F) : List (View.Piece (Elt F) S544x1024 .f32) := [pc 32 0 512 1024 (by omega) (by omega) (zgOp (zcol p 3) (zcol p 4))]
def fill : List (View.Piece (Elt F) S544x1024 .f32) := [pc 0 0 32 1024 (by omega) (by omega) zero32]

/-- The loads of the padded rows. -/
abbrev Ld (F : FTy → Type) [FloatOps F] := ∀ r n : ℕ, r + n ≤ 544 → Vec F ⟨2, ![n, 1024]⟩ .f32

def ezA (p : Pt F) : Ld F := fun r n hr =>
  p.arg12.view.readCov (zgL p ++ fill) (Rect.unit (s := S544x1024) ![r, 0] ![n, 1024] (inb hr (by omega))).toLoadRect

def ezB (p : Pt F) (q : Vec F S544x1024 .f32) : Ld F := fun r n hr =>
  if 32 ≤ r then p.arg12.view.readCov (zgL p) (Rect.unit (s := S544x1024) ![r, 0] ![n, 1024] (inb hr (by omega))).toLoadRect
  else p.arg12.view.readAt (Elt F) (Rect.unit (s := S544x1024) ![r, 0] ![n, 1024] (inb hr (by omega))).toLoadRect
    (p.arg12.view.writes (Elt F) (p.harg12.unread q) (zgL p))

/-- The seven copies of the padded rows, shifted by one to seven rows. -/
def shL (l : Ld F) : List (View.Piece (Elt F) S7x536x1024 .f32) := List.ofFn fun s : Fin 7 =>
  (⟨Rect.unit (s := S7x536x1024) ![s.rev.val, 0, 0] S1x536x1024.size (inb3 (by omega) (by omega) (by omega)),
    shapeCast S1x536x1024 (l (s.rev.val + 1) 536 (by omega)) shapeCasts_S536x1024_S1x536x1024⟩ : View.Piece (Elt F) S7x536x1024 .f32)

/-- The 512 rows that tap `k` reads: from row `k + 2` of the padded rows on, by whole groups of eight rows of a copy. -/
def tapX (p : Pt F) (l : Ld F) (k : Fin 31) : FVec F S512x1024 .f32 :=
  if h : (2 + k.val) % 8 = 0 then l ((2 + k.val) / 8 * 8) 512 (by omega)
  else shapeCast S512x1024 (p.arg13.view.readCov (shL l)
    (Rect.unit (s := S7x536x1024) ![(2 + k.val) % 8 - 1, (2 + k.val) / 8 * 8, 0] S1x512x1024.size (inb3 (by omega) (by omega) (by omega))).toLoadRect)
    shapeCasts_S1x512x1024_S512x1024

/-- The first taps of the convolution, over its bias. -/
def convTo (p : Pt F) (l : Ld F) : (n : ℕ) → n ≤ 31 → FVec F S512x1024 .f32
  | 0, _ => addf (broadcast S512x1024 (Scalar.ofBits .f32 0x00000000#32)) (rowOp (row7 p))
  | n + 1, h => addf (convTo p l n (by omega)) (mulf (rowOp (tapW p ⟨n, h⟩)) (tapX p l ⟨n, h⟩))

def conv (p : Pt F) (l : Ld F) : FVec F S512x1024 .f32 := convTo p l 31 (le_refl _)

def czL (p : Pt F) (l : Ld F) : List (View.Piece (Elt F) S512x1024 .f32) := [pc 0 0 512 1024 (by omega) (by omega) (conv p l)]

/-- The mixer's output: the normalized convolution's half, then the gated units' half. -/
def yL (p : Pt F) (l : Ld F) : List (View.Piece (Elt F) S512x2048 .bf16) :=
  pc 0 1024 512 1024 (by omega) (by omega) (ydOp (conv p l) (row8 p) (row9 p) (zcol p 5)) :: ycL p

/-- The padded rows at the end of a point: the last 32 copied to the front. -/
def tailL (p : Pt F) (B : List (View.Piece (Elt F) S544x1024 .f32)) : List (View.Piece (Elt F) S544x1024 .f32) :=
  pc 0 0 32 1024 (by omega) (by omega) (shapeCast S32x1024 (p.arg12.view.readCov (zgL p ++ B)
    (Rect.unit (s := S544x1024) ![512, 0] S32x1024.size (inb (by omega) (by omega))).toLoadRect) shapeCasts_S32x1024_S32x1024) :: (zgL p ++ B)

end Cert.OddPieces

end
-- ==== Proof.OddPiecesAB.lean ====
/-
  The stores of the odd mixer's forward kernel, at the first grid point and at a later one, are the families of `OddPieces`.
-/
module

public import proofs.«01_k».proof.Proof.OddPieces

@[expose] public section

set_option maxRecDepth 16384

noncomputable section

namespace Cert.OddPieces

open Idealize.ShloMosaic Idealize.SL.Sem Idealize.ShloMosaic.TcCoe Idealize.ShloMosaic.Tactic
open Cert.Kernel4Ideal Cert.Kernel4Ideal.Gen

variable {F : FTy → Type} [FloatOps F]

theorem y_A (p : Pt F) (h : cond0_0 p.i) : (runA p h).1 = yL p (ezA p) := by sl_kernel_rfl

theorem cz_A (p : Pt F) (h : cond0_0 p.i) : (runA p h).2.1 = czL p (ezA p) := by sl_kernel_rfl

theorem ez_A (p : Pt F) (h : cond0_0 p.i) : (runA p h).2.2.1 = tailL p fill := by sl_kernel_rfl

theorem y_B (p : Pt F) (h : ¬ cond0_0 p.i) (q : Vec F S544x1024 .f32) : (runB p h q).1 = yL p (ezB p q) := by sl_kernel_rfl

theorem cz_B (p : Pt F) (h : ¬ cond0_0 p.i) (q : Vec F S544x1024 .f32) : (runB p h q).2.1 = czL p (ezB p q) := by sl_kernel_rfl

theorem ez_B (p : Pt F) (h : ¬ cond0_0 p.i) (q : Vec F S544x1024 .f32) : (runB p h q).2.2.1 = tailL p [] := by sl_kernel_rfl

end Cert.OddPieces

end
-- ==== Proof.OddPoint.lean ====
/-
  The odd mixer's forward kernel: what it leaves at a point of the grid, from the blocks it reads and from what the point before left.
-/
module

public import proofs.«01_k».proof.Proof.Gen.Kernel4Ideal.Frame
public import proofs.«01_k».proof.Proof.OddPiecesAB

@[expose] public section

set_option maxRecDepth 16384

noncomputable section

namespace Cert.OddPoint

open Idealize.ShloMosaic Idealize.ShloMosaic.Pointwise Idealize.ShloMosaic.TcCoe Idealize.SL.Sem
open Cert.Kernel4Ideal Cert.Kernel4Ideal.Gen Cert.OddPieces

variable (m : (ℓ : Loc nD τ sig) → Buf (Elt Ideal) ℓ) (c : Dev nD)

theorem tuple_A (P : Pt Ideal) (h : cond0_0 P.i) :
    (View.canon (runA P h).1, View.canon (runA P h).2.1, View.canon (runA P h).2.2.1)
    = (View.canon (yL P (ezA P)), View.canon (czL P (ezA P)), View.canon (tailL P fill)) :=
  congr (congrArg Prod.mk (congrArg View.canon (y_A P h)))
    (congr (congrArg Prod.mk (congrArg View.canon (cz_A P h))) (congrArg View.canon (ez_A P h)))

theorem tuple_B (P : Pt Ideal) (h : ¬ cond0_0 P.i) (q : Vec Ideal S544x1024 .f32) :
    (View.canon (runB P h q).1, View.canon (runB P h q).2.1, View.canon (runB P h q).2.2.1)
    = (View.canon (yL P (ezB P q)), View.canon (czL P (ezB P q)), View.canon (tailL P [])) :=
  congr (congrArg Prod.mk (congrArg View.canon (y_B P h q)))
    (congr (congrArg Prod.mk (congrArg View.canon (cz_B P h q))) (congrArg View.canon (ez_B P h q)))

/-- What the kernel's body is called with at point `t`. -/
def pt (t : Fin cfg0.N) : Pt Ideal where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  arg11 := ms0_10 t
  harg11 := hs0_10 t
  arg12 := scM0_0
  harg12 := Memref.isWhole_whole _
  arg13 := scM0_1
  harg13 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t

/-- The padded rows that the point before `t` left. -/
def carried (t : Fin cfg0.N) : Vec Ideal S544x1024 .f32 :=
  (outsAt0 m c (t.val - 1) (Nat.lt_of_le_of_lt (Nat.sub_le _ _) t.isLt)).2.2

theorem outs_first (t : Fin cfg0.N) (h0 : t.val % 16 = 0) : outsAt0 m c t.val t.isLt
    = (View.canon (yL (pt m c t) (ezA (pt m c t))), View.canon (czL (pt m c t) (ezA (pt m c t))), View.canon (tailL (pt m c t) fill)) := by
  refine (outsAt0_A m c t h0).trans ?_
  unfold out0_A_9 out0_A_10 sout0_A_0
  simp only [View.read_writes_junk_eq_canon]
  refine Eq.trans ?_ (tuple_A (pt m c t) ((hcond0_0 t).mpr h0))
  sl_kernel_rfl

theorem outs_later (t : Fin cfg0.N) (h0 : ¬ t.val % 16 = 0) : outsAt0 m c t.val t.isLt
    = (View.canon (yL (pt m c t) (ezB (pt m c t) (carried m c t))), View.canon (czL (pt m c t) (ezB (pt m c t) (carried m c t))),
      View.canon (tailL (pt m c t) [])) := by
  refine (outsAt0_B m c t h0).trans ?_
  unfold out0_B_9 out0_B_10 sout0_B_0
  simp only [View.read_writes_junk_eq_canon]
  refine Eq.trans ?_ (tuple_B (pt m c t) (fun h => h0 ((hcond0_0 t).mp h)) (carried m c t))
  sl_kernel_rfl

end Cert.OddPoint

end
-- ==== Proof.OddAt.lean ====
/-
  The vector expressions of the odd mixer's forward kernel, read entry by entry.
-/
module

public import proofs.«01_k».proof.Proof.OddPieces
public import proofs.«01_k».proof.Proof.Odd

@[expose] public section

set_option maxRecDepth 16384

noncomputable section

namespace Cert.OddAt

open Idealize.ShloMosaic Idealize.SL.Sem Idealize.ShloMosaic.Pointwise Cert.Rows
open Cert.Kernel4Ideal Cert.Kernel4Ideal.Gen
open Cert.OddPieces (wide half rowOp siluOp meanOp centered normOp lnOp vnOp wideC halfC siluC mixOp ycOp zgOp ydOp zero32)
open Cert.Even (lg lg_tanh silu)
open Cert.Odd (norm norm_fin emean)

theorem half_silu (x : ℝ) : 1 / 2 * x + 1 / 2 * x * Real.tanh (1 / 2 * x) = silu x := by
  unfold silu
  rw [← lg_tanh]
  ring

theorem wide_at (a : Vec Ideal S512x1024 .bf16) (i : Fin 512) (k : Fin 1024) : wide a (ix2 i k) = a (ix2 i k) := by
  pointwise [wide]

theorem wideC_at (a : Vec Ideal S128x256 .bf16) (i : Fin 128) (k : Fin 256) : wideC a (ix2 i k) = a (ix2 i k) := by
  pointwise [wideC]

theorem row_at (g : Vec Ideal S1x1024 .f32) (i : Fin 512) (k : Fin 1024) : rowOp g (ix2 i k) = g (ix2 0 k) := by
  pointwise [rowOp]

theorem silu_at (a : FVec Ideal S512x1024 .f32) (i : Fin 512) (k : Fin 1024) (x : ℝ) (h : a (ix2 i k) = ((x : ℝ) : EReal)) :
    siluOp a (ix2 i k) = ((silu x : ℝ) : EReal) := by
  pointwise [siluOp, half]
  rw [h, word_half, ← half_silu]
  simp only [← EReal.coe_mul, ← EReal.coe_add, Ideal.tanh_coe]

theorem siluC_at (a : FVec Ideal S128x256 .f32) (i : Fin 128) (k : Fin 256) (x : ℝ) (h : a (ix2 i k) = ((x : ℝ) : EReal)) :
    siluC a (ix2 i k) = ((silu x : ℝ) : EReal) := by
  pointwise [siluC, halfC]
  rw [h, word_half, ← half_silu]
  simp only [← EReal.coe_mul, ← EReal.coe_add, Ideal.tanh_coe]

theorem mean_at (a : FVec Ideal S512x1024 .f32) (i : Fin 512) (f : Fin 1024 → EReal) (h : ∀ k, a (ix2 i k) = f k) :
    meanOp a (ix2 i 0) = emean f := by
  pointwise [meanOp]
  simp only [h, word_1024]
  rfl

theorem centered_at (a : FVec Ideal S512x1024 .f32) (i : Fin 512) (f : ℕ → EReal) (h : ∀ k : Fin 1024, a (ix2 i k) = f k.val) (k : Fin 1024) :
    centered a (ix2 i k) = Cert.Odd.dist f k := by
  pointwise [centered]
  rw [mean_at a i (fun q => f q.val) h, h]
  rfl

theorem norm_at (a : FVec Ideal S512x1024 .f32) (i : Fin 512) (f : ℕ → EReal) (h : ∀ k : Fin 1024, a (ix2 i k) = f k.val) (k : Fin 1024) :
    normOp a (ix2 i k) = ((norm f k.val : ℝ) : EReal) := by
  have hm := mean_at (mulf (centered a) (centered a)) i (fun q => Cert.Odd.dist f q * Cert.Odd.dist f q) fun q => by
    pointwise
    rw [centered_at a i f h]
  rw [← norm_fin]
  pointwise [normOp]
  rw [hm, centered_at a i f h, word_eps]
  rfl

theorem ln_at (a : FVec Ideal S512x1024 .f32) (g b : Vec Ideal S1x1024 .f32) (i : Fin 512) (f : ℕ → EReal)
    (h : ∀ k : Fin 1024, a (ix2 i k) = f k.val) (k : Fin 1024) :
    lnOp a g b (ix2 i k) = ((norm f k.val : ℝ) : EReal) * g (ix2 0 k) + b (ix2 0 k) := by
  pointwise [lnOp]
  rw [norm_at a i f h, row_at, row_at]

theorem zg_at (a b : Vec Ideal S512x1024 .bf16) (i : Fin 512) (k : Fin 1024) {x w : ℝ} (ha : a (ix2 i k) = ((x : ℝ) : EReal))
    (hb : b (ix2 i k) = ((w : ℝ) : EReal)) : zgOp a b (ix2 i k) = ((x * lg w : ℝ) : EReal) := by
  pointwise [zgOp, half]
  rw [wide_at, wide_at, ha, hb, word_half, ← lg_tanh]
  simp only [← EReal.coe_mul, ← EReal.coe_add, Ideal.tanh_coe]

theorem yd_at (cz : FVec Ideal S512x1024 .f32) (g b : Vec Ideal S1x1024 .f32) (gd : Vec Ideal S512x1024 .bf16) (i : Fin 512) (f : ℕ → EReal)
    (h : ∀ k : Fin 1024, cz (ix2 i k) = f k.val) (k : Fin 1024) {u v w : ℝ} (hg : g (ix2 0 k) = ((u : ℝ) : EReal))
    (hb : b (ix2 0 k) = ((v : ℝ) : EReal)) (hd : gd (ix2 i k) = ((w : ℝ) : EReal)) :
    ydOp cz g b gd (ix2 i k) = ((silu (norm f k.val * u + v) * silu w : ℝ) : EReal) := by
  have h1 : lnOp cz g b (ix2 i k) = ((norm f k.val * u + v : ℝ) : EReal) := by
    rw [ln_at cz g b i f h k, hg, hb, ← EReal.coe_mul, ← EReal.coe_add]
  pointwise [ydOp]
  rw [silu_at _ i k _ h1, silu_at _ i k _ ((wide_at gd i k).trans hd), ← EReal.coe_mul]

theorem mix_at (w : Vec Ideal S1x128x128 .bf16) (b : Vec Ideal S1x128x1 .f32) (v : FVec Ideal S128x256 .bf16) (i : Fin 128) (k : Fin 256) :
    mixOp w b v (ix2 i k) = (∑ j : Fin 128, (w (ix3 0 i j) : EReal) * v (ix2 j k)) + b (ix3 0 i 0) := by
  pointwise [mixOp]

theorem yc_at (w : Vec Ideal S1x128x128 .bf16) (b : Vec Ideal S1x128x1 .f32) (v : FVec Ideal S128x256 .bf16) (gc u : Vec Ideal S128x256 .bf16)
    (i : Fin 128) (k : Fin 256) {x : ℝ} (hg : gc (ix2 i k) = ((x : ℝ) : EReal)) :
    ycOp w b v gc u (ix2 i k)
      = (u (ix2 i k) : EReal) * ((∑ j : Fin 128, (w (ix3 0 i j) : EReal) * v (ix2 j k)) + b (ix3 0 i 0)) * ((silu x : ℝ) : EReal) := by
  pointwise [ycOp]
  rw [mix_at, wideC_at, siluC_at _ i k _ ((wideC_at gc i k).trans hg)]

theorem zero32_at (i : Fin 32) (k : Fin 1024) : zero32 (F := Ideal) (ix2 i k) = ((0 : ℝ) : EReal) := by
  pointwise [zero32]
  rfl

end Cert.OddAt

end
-- ==== Proof.OddVal.lean ====
/-
  What one grid point of the odd mixer's forward kernel stores, over the data: the point of the rows `512 T` on.
-/
module

public import proofs.«01_k».proof.Proof.OddAt
public import proofs.«01_k».proof.Proof.EvenLists

@[expose] public section

set_option maxRecDepth 16384

noncomputable section

namespace Cert.OddVal

open Idealize.ShloMosaic Idealize.SL.Sem Idealize.ShloMosaic.Pointwise Cert.Rows
open Cert.Kernel4Ideal Cert.Kernel4Ideal.Gen Cert.OddAt
open Cert.OddPieces (Pt Ld zcol zc row2 row3 row7 row8 row9 headW headB tapW hd ycV ycL zgL fill ezA ezB shL tapX convTo czL yL tailL zero32 inb3)
open Cert.EvenPieces (pc inb)
open Cert.EvenLists
open Cert.Odd (Data norm pad zg cv yd yc mix)
open Cert.Even (lg silu)

/-- Reals by row and column as a buffer's contents. -/
abbrev re (f : ℕ → ℕ → ℝ) : ℕ → ℕ → EReal := fun r c => ((f r c : ℝ) : EReal)

variable (D : Data) (T : ℕ)

/-- A point's blocks are those of the rows `512 T` on. -/
structure Good (p : Pt Ideal) : Prop where
  x0 : p.x0 = (At (F := Ideal) (e := .bf16) (re fun r c => D.z (512 * T + r) c) : Vec Ideal ⟨2, ![512, 6144]⟩ .bf16)
  x1 : p.x1 = (At (F := Ideal) (e := .f32) (fun _ c => D.sg c) : Vec Ideal ⟨2, ![1, 1024]⟩ .f32)
  x2 : p.x2 = (At (F := Ideal) (e := .f32) (fun _ c => D.so c) : Vec Ideal ⟨2, ![1, 1024]⟩ .f32)
  x3 : ∀ g i j, (p.x3 (ix3 g i j) : EReal) = D.sw g.val i.val j.val
  x4 : ∀ g i, (p.x4 (ix3 g i 0) : EReal) = D.sb g.val i.val
  x5 : p.x5 = (At (F := Ideal) (e := .f32) D.dw : Vec Ideal ⟨2, ![31, 1024]⟩ .f32)
  x6 : p.x6 = (At (F := Ideal) (e := .f32) (fun _ c => D.db c) : Vec Ideal ⟨2, ![1, 1024]⟩ .f32)
  x7 : p.x7 = (At (F := Ideal) (e := .f32) (re fun _ c => D.ng c) : Vec Ideal ⟨2, ![1, 1024]⟩ .f32)
  x8 : p.x8 = (At (F := Ideal) (e := .f32) (re fun _ c => D.nb c) : Vec Ideal ⟨2, ![1, 1024]⟩ .f32)

variable {D T} {p : Pt Ideal} (G : Good D T p)

/-! ## The loads of the input blocks -/

section
include G

theorem zcol_at (o : Fin 6) (i : Fin 512) (k : Fin 1024) :
    zcol p o (ix2 i k) = ((D.z (512 * T + i.val) (1024 * o.val + k.val) : ℝ) : EReal) := by
  refine (whole_at (b := p.arg1) (by omega) (by omega) p.harg1 p.x0 i k).trans ?_
  rw [G.x0]
  show ((D.z (512 * T + (0 + i.val)) (1024 * o.val + k.val) : ℝ) : EReal) = _
  rw [Nat.zero_add]

theorem zc_at (o : Fin 6) (k : Fin 16) (a : Fin 128) (b : Fin 256) :
    zc p o k (ix2 a b) = ((D.z (512 * T + (128 * (k.val / 4) + a.val)) (1024 * o.val + (256 * (k.val % 4) + b.val)) : ℝ) : EReal) := by
  refine (whole_at (b := p.arg1) (by omega) (by omega) p.harg1 p.x0 a b).trans ?_
  rw [G.x0]
  show ((D.z (512 * T + (128 * (k.val / 4) + a.val)) (1024 * o.val + 256 * (k.val % 4) + b.val) : ℝ) : EReal) = _
  rw [Nat.add_assoc (1024 * o.val)]

theorem row2_at (k : Fin 1024) : row2 p (ix2 0 k) = D.sg k.val := by
  refine (whole_at (b := p.arg2) (by omega) (by omega) p.harg2 p.x1 (0 : Fin 1) k).trans ?_
  rw [G.x1]
  show D.sg (0 + k.val) = _
  rw [Nat.zero_add]

theorem row3_at (k : Fin 1024) : row3 p (ix2 0 k) = D.so k.val := by
  refine (whole_at (b := p.arg3) (by omega) (by omega) p.harg3 p.x2 (0 : Fin 1) k).trans ?_
  rw [G.x2]
  show D.so (0 + k.val) = _
  rw [Nat.zero_add]

theorem row7_at (k : Fin 1024) : row7 p (ix2 0 k) = D.db k.val := by
  refine (whole_at (b := p.arg7) (by omega) (by omega) p.harg7 p.x6 (0 : Fin 1) k).trans ?_
  rw [G.x6]
  show D.db (0 + k.val) = _
  rw [Nat.zero_add]

theorem row8_at (k : Fin 1024) : row8 p (ix2 0 k) = ((D.ng k.val : ℝ) : EReal) := by
  refine (whole_at (b := p.arg8) (by omega) (by omega) p.harg8 p.x7 (0 : Fin 1) k).trans ?_
  rw [G.x7]
  show ((D.ng (0 + k.val) : ℝ) : EReal) = _
  rw [Nat.zero_add]

theorem row9_at (k : Fin 1024) : row9 p (ix2 0 k) = ((D.nb k.val : ℝ) : EReal) := by
  refine (whole_at (b := p.arg9) (by omega) (by omega) p.harg9 p.x8 (0 : Fin 1) k).trans ?_
  rw [G.x8]
  show ((D.nb (0 + k.val) : ℝ) : EReal) = _
  rw [Nat.zero_add]

theorem tapW_at (j : Fin 31) (k : Fin 1024) : tapW p j (ix2 0 k) = D.dw j.val k.val := by
  refine (whole_at (b := p.arg6) (by omega) (by omega) p.harg6 p.x5 (0 : Fin 1) k).trans ?_
  rw [G.x5]
  show D.dw (j.val + 0) (0 + k.val) = _
  rw [Nat.zero_add, Nat.add_zero]

theorem headW_at (g : Fin 4) (i j : Fin 128) : (headW p g (ix3 0 i j) : EReal) = D.sw g.val i.val j.val := by
  unfold headW
  rw [View.readAt_apply, p.harg4.read_unread, ← G.x3 g i j]
  refine congrArg p.x3 (funext fun x => Fin.ext ?_)
  match x with
  | ⟨0, _⟩ => show g.val + 1 * 0 = g.val; omega
  | ⟨1, _⟩ => show 0 + 1 * i.val = i.val; omega
  | ⟨2, _⟩ => show 0 + 1 * j.val = j.val; omega

theorem headB_at (g : Fin 4) (i : Fin 128) : (headB p g (ix3 0 i 0) : EReal) = D.sb g.val i.val := by
  unfold headB
  rw [View.readAt_apply, p.harg5.read_unread, ← G.x4 g i]
  refine congrArg p.x4 (funext fun x => Fin.ext ?_)
  match x with
  | ⟨0, _⟩ => show g.val + 1 * 0 = g.val; omega
  | ⟨1, _⟩ => show 0 + 1 * i.val = i.val; omega
  | ⟨2, _⟩ => show 0 + 1 * 0 = 0; omega

/-! ## The gated units -/

theorem vn_at (i : Fin 512) (k : Fin 1024) : (Cert.OddPieces.vn p (ix2 i k) : EReal) = Cert.Odd.vn D (512 * T + i.val) k.val := by
  have h := ln_at (Cert.OddPieces.wide (zcol p 1)) (row2 p) (row3 p) i (fun q => ((D.z (512 * T + i.val) (1024 + q) : ℝ) : EReal))
    (fun q => (wide_at _ i q).trans (zcol_at G 1 i q)) k
  rw [row2_at G, row3_at G] at h
  exact h

theorem ycV_at (k : Fin 16) (a : Fin 128) (b : Fin 256) :
    (ycV p k (ix2 a b) : EReal) = yc D (512 * T + (128 * (k.val / 4) + a.val)) (256 * (k.val % 4) + b.val) := by
  unfold ycV
  have hr : (512 * T + (128 * (k.val / 4) + a.val)) % 128 = a.val := by omega
  have hq : (512 * T + (128 * (k.val / 4) + a.val)) / 128 * 128 = 512 * T + 128 * (k.val / 4) := by omega
  have hc : (256 * (k.val % 4) + b.val) / 256 = k.val % 4 := by omega
  rw [yc_at _ _ _ _ _ a b (zc_at G 2 k a b), zc_at G 0 k a b]
  unfold yc mix
  rw [hr, hq, hc, headB_at G]
  refine congrArg₂ (fun u v : EReal => u * v) (congrArg₂ (fun u v : EReal => u * v) ?_ (congrArg (· + _) (Finset.sum_congr rfl fun j _ =>
    congrArg₂ (fun u v : EReal => u * v) (headW_at G _ a j) ?_))) ?_
  · exact congrArg (fun n => ((D.z (512 * T + (128 * (k.val / 4) + a.val)) n : ℝ) : EReal)) (by simp)
  · have e := vn_at G ⟨128 * (k.val / 4) + j.val, by omega⟩ ⟨256 * (k.val % 4) + b.val, by omega⟩
    dsimp only at e
    rw [← Nat.add_assoc] at e
    rw [← e]
    pointwise
  · rfl

/-- Sixteen chunks cover the first half of the output's columns. -/
theorem ycL_ok : Ok (F := Ideal) (e := .bf16) (ycL p) (fun r c => Cert.Odd.y D (512 * T + r) c) := ok_ofFn fun k => pc_ok fun a b => by
  refine (ycV_at G k.rev a b).trans ?_
  unfold Cert.Odd.y
  rw [if_pos (by omega)]

omit G in
theorem ycL_cov : Cov (F := Ideal) (ycL p) (fun _ c => c < 1024) := cov_ofFn fun y hy => by
  have h0 : (y 0).val < 512 := (y 0).isLt
  refine ⟨Fin.rev ⟨(y 0).val / 128 * 4 + (y 1).val / 256, by omega⟩, pc_mem.2 ?_⟩
  rw [Fin.rev_rev]
  dsimp only
  omega

/-! ## The padded rows -/

theorem zgL_ok (P : ℕ) (hP : P = T) : Ok (F := Ideal) (e := .f32) (zgL p) (re fun r c => pad D (512 * P + r) c) := by
  subst hP
  refine ok_cons (pc_ok fun a b => ?_) (fun _ h => absurd h (by simp))
  refine (zg_at _ _ a b (zcol_at G 3 a b) (zcol_at G 4 a b)).trans ?_
  refine congrArg Real.toEReal ?_
  unfold Cert.Odd.pad zg
  beta_reduce
  rw [if_neg (by omega), show 512 * P + (32 + a.val) - 32 = 512 * P + a.val by omega, Nat.zero_add]
  rfl

omit G in
theorem zgL_cov : Cov (F := Ideal) (zgL p) (fun r _ => 32 ≤ r) := fun y hy => by
  have h0 : (y 0).val < 544 := (y 0).isLt
  have h1 : (y 1).val < 1024 := (y 1).isLt
  exact ⟨_, List.mem_singleton.2 rfl, pc_mem.2 (by omega)⟩

end

/-- Loads of the padded rows of the point. -/
def LdOk (D : Data) (T : ℕ) (l : Ld Ideal) : Prop :=
  ∀ r n hr (i : Fin n) (k : Fin 1024), l r n hr (ix2 i k) = ((pad D (512 * T + (r + i.val)) k.val : ℝ) : EReal)

theorem fill_ok (hT : T = 0) : Ok (F := Ideal) (e := .f32) fill (re fun r c => pad D (512 * T + r) c) := by
  subst hT
  refine ok_cons (pc_ok fun a b => (zero32_at a b).trans (congrArg Real.toEReal ?_)) (fun _ h => absurd h (by simp))
  unfold Cert.Odd.pad
  beta_reduce
  rw [if_pos (by omega)]

theorem fill_cov : Cov (F := Ideal) fill (fun r _ => r < 32) := fun y hy => by
  have h1 : (y 1).val < 1024 := (y 1).isLt
  exact ⟨_, List.mem_singleton.2 rfl, pc_mem.2 (by omega)⟩

section
include G

theorem ezA_ok (hT : T = 0) : LdOk D T (ezA p) := fun r n hr i k => by
  refine (load_at' p.arg12 hr (by omega) (P := fun _ _ => True) (ok_append (zgL_ok G T rfl) (fill_ok hT)) (fun y _ => ?_) i k trivial).trans ?_
  · by_cases hy : 32 ≤ (y 0).val
    · obtain ⟨q, hq, hm⟩ := zgL_cov (p := p) y hy
      exact ⟨q, List.mem_append_left _ hq, hm⟩
    · obtain ⟨q, hq, hm⟩ := fill_cov y (by omega : (y 0).val < 32)
      exact ⟨q, List.mem_append_right _ hq, hm⟩
  · rw [Nat.zero_add]

theorem ezB_ok (q : Vec Ideal S544x1024 .f32)
    (hq : ∀ (i : Fin 544) (k : Fin 1024), i.val < 32 → q (ix2 i k) = ((pad D (512 * T + i.val) k.val : ℝ) : EReal)) : LdOk D T (ezB p q) := fun r n hr i k => by
  unfold ezB
  split
  · refine (load_at' p.arg12 hr (by omega) (zgL_ok G T rfl) zgL_cov i k (by omega)).trans ?_
    rw [Nat.zero_add]
  · refine (over_at hr (by omega) p.harg12 q (zgL p) i k).trans ?_
    by_cases hm : 32 ≤ r + i.val
    · refine (over_in p.harg12 q (zgL_ok G T rfl) zgL_cov _ hm).trans ?_
      show ((pad D (512 * T + (r + i.val)) (0 + k.val) : ℝ) : EReal) = _
      rw [Nat.zero_add]
    · refine (over_out p.harg12 q _ fun P hP hy => ?_).trans ?_
      · obtain rfl := List.mem_singleton.1 hP
        have := (pc_mem.1 hy).1.1
        exact hm this
      · refine (hq ⟨r + i.val, by omega⟩ ⟨0 + k.val, by omega⟩ (by dsimp only; omega)).trans ?_
        dsimp only
        rw [Nat.zero_add]

/-- The rows that a point leaves for the next. -/
theorem tail_at (B : List (View.Piece (Elt Ideal) S544x1024 .f32)) (i : Fin 544) (k : Fin 1024) (hi : i.val < 32) :
    View.canon (tailL p B) (ix2 i k) = ((pad D (512 * (T + 1) + i.val) k.val : ℝ) : EReal) := by
  have h : Ok (F := Ideal) (e := .f32) (R := 544) (C := 1024)
      [pc 0 0 32 1024 (by omega) (by omega) (shapeCast S32x1024 (p.arg12.view.readCov (zgL p ++ B)
        (Rect.unit (s := S544x1024) ![512, 0] S32x1024.size (inb (by omega) (by omega))).toLoadRect) shapeCasts_S32x1024_S32x1024)]
      (re fun r c => pad D (512 * (T + 1) + r) c) := by
    refine ok_cons (pc_ok fun a b => ?_) (fun _ h => absurd h (by simp))
    have e := load_at p.arg12 (R := 544) (C := 1024) (r := 512) (c := 0) (n := 32) (m := 1024) (by omega) (by omega) (L' := B) (zgL_ok G T rfl) zgL_cov a b (by omega)
    pointwise
    refine e.trans ?_
    show ((pad D (512 * T + (512 + a.val)) (0 + b.val) : ℝ) : EReal) = ((pad D (512 * (T + 1) + a.val) b.val : ℝ) : EReal)
    rw [show 512 * (T + 1) + a.val = 512 * T + (512 + a.val) by omega, Nat.zero_add]
  refine canon_at (L' := zgL p ++ B) h (P := fun r _ => r < 32) (fun y hy => ?_) (ix2 i k) hi
  have h1 : (y 1).val < 1024 := (y 1).isLt
  exact ⟨_, List.mem_singleton.2 rfl, pc_mem.2 (by omega)⟩

end

/-! ## The convolution -/

section
variable {l : Ld Ideal} (hl : LdOk D T l)
include hl

omit hl in
theorem drop_at (w : FVec Ideal S1x512x1024 .f32) (i : Fin 512) (k : Fin 1024) :
    (shapeCast S512x1024 w shapeCasts_S1x512x1024_S512x1024 : FVec Ideal S512x1024 .f32) (ix2 i k) = w (ix3 0 i k) := by
  pointwise

omit hl in
theorem add_at (w : FVec Ideal S536x1024 .f32) (i : Fin 536) (k : Fin 1024) :
    (shapeCast S1x536x1024 w shapeCasts_S536x1024_S1x536x1024 : FVec Ideal S1x536x1024 .f32) (ix3 0 i k) = w (ix2 i k) := by
  pointwise

/-- The shifted copies. -/
theorem sh_at (y : S7x536x1024.Idx) :
    View.canon (shL l) y = ((pad D (512 * T + ((y 0).val + 1 + (y 1).val)) (y 2).val : ℝ) : EReal) := by
  have h := View.canon_append_of_pieces (Val := Elt Ideal) (e := .f32) (fun y : S7x536x1024.Idx => ((pad D (512 * T + ((y 0).val + 1 + (y 1).val)) (y 2).val : ℝ) : EReal))
    [] (shL l) ?_ y ?_
  · rwa [List.append_nil] at h
  · intro P hP x
    obtain ⟨s, rfl⟩ := List.mem_ofFn.1 hP
    have hx : x = (ix3 (0 : Fin 1) (x 1) (x 2) : S1x536x1024.Idx) := by
      funext a; fin_cases a
      · exact Subsingleton.elim (α := Fin 1) _ _
      · rfl
      · rfl
    refine (congrArg (shapeCast S1x536x1024 (l (s.rev.val + 1) 536 (by omega)) shapeCasts_S536x1024_S1x536x1024) hx).trans ?_
    refine (add_at _ (x 1) (x 2)).trans ((hl _ _ _ (x 1) (x 2)).trans ?_)
    have hb := inb3 (A := 7) (B := 536) (C := 1024) (r := s.rev.val) (s := 0) (t := 0) (n := 1) (m := 536) (l := 1024) (by omega) (by omega) (by omega)
    have e0 := Rect.idx_unit_val (s := S7x536x1024) ![s.rev.val, 0, 0] S1x536x1024.size hb x 0
    have e1 := Rect.idx_unit_val (s := S7x536x1024) ![s.rev.val, 0, 0] S1x536x1024.size hb x 1
    have e2 := Rect.idx_unit_val (s := S7x536x1024) ![s.rev.val, 0, 0] S1x536x1024.size hb x 2
    have l0 : (x 0).val < 1 := (x 0).isLt
    change _ = s.rev.val + (x 0).val at e0
    change _ = 0 + (x 1).val at e1
    change _ = 0 + (x 2).val at e2
    refine congrArg Real.toEReal (congrArg₂ (pad D) ?_ ?_)
    · refine Eq.trans ?_ (congrArg (fun n => 512 * T + n) (congrArg₂ (fun a b => a + 1 + b) e0 e1)).symm
      omega
    · exact (e2.trans (Nat.zero_add _)).symm
  · have h0 : (y 0).val < 7 := (y 0).isLt
    refine ⟨_, List.mem_ofFn.2 ⟨Fin.rev ⟨(y 0).val, h0⟩, rfl⟩, ?_⟩
    refine (Rect.mem_set_unit (s := S7x536x1024) (inb := inb3 (A := 7) (B := 536) (C := 1024) (by omega) (by omega) (by omega))).2 fun a => ?_
    rw [Fin.rev_rev]
    have h1 : (y 1).val < 536 := (y 1).isLt
    have h2 : (y 2).val < 1024 := (y 2).isLt
    match a with
    | ⟨0, _⟩ => exact ⟨le_refl _, Nat.lt_succ_self _⟩
    | ⟨1, _⟩ => exact ⟨Nat.zero_le _, by show (y 1).val < 0 + 536; omega⟩
    | ⟨2, _⟩ => exact ⟨Nat.zero_le _, by show (y 2).val < 0 + 1024; omega⟩

/-- The rows that a tap reads. -/
theorem tapX_at (j : Fin 31) (i : Fin 512) (k : Fin 1024) :
    tapX p l j (ix2 i k) = ((pad D (512 * T + i.val + 2 + j.val) k.val : ℝ) : EReal) := by
  unfold tapX
  split
  · rename_i hj
    rw [hl]
    exact congrArg (fun n => ((pad D n k.val : ℝ) : EReal)) (by omega)
  · rename_i hj
    refine (drop_at _ i k).trans ?_
    rw [View.readCov_eq_canon']
    refine (sh_at hl _).trans ?_
    refine congrArg Real.toEReal (congrArg₂ (pad D) ?_ ?_)
    · show 512 * T + ((2 + j.val) % 8 - 1 + 1 * 0 + 1 + ((2 + j.val) / 8 * 8 + 1 * i.val)) = _
      omega
    · show 0 + 1 * k.val = k.val
      omega

include G

theorem convTo_at (n : ℕ) (hn : n ≤ 31) (i : Fin 512) (k : Fin 1024) :
    convTo p l n hn (ix2 i k) = Cert.Odd.conv D n (512 * T + i.val) k.val := by
  induction n with
  | zero =>
    unfold convTo
    pointwise
    rw [row_at, row7_at G, Cert.Odd.conv_zero]
  | succ n ih =>
    unfold convTo
    pointwise
    rw [ih (by omega), row_at, tapW_at G, tapX_at hl, Cert.Odd.conv_succ]

theorem conv_at (i : Fin 512) (k : Fin 1024) : Cert.OddPieces.conv p l (ix2 i k) = cv D (512 * T + i.val) k.val :=
  convTo_at G hl 31 (le_refl _) i k

theorem cz_at (i : Fin 512) (k : Fin 1024) : View.canon (czL p l) (ix2 i k) = cv D (512 * T + i.val) k.val := by
  refine canon_at' (F := Ideal) (e := .f32) (R := 512) (C := 1024) (G := fun r c => cv D (512 * T + r) c) (P := fun _ _ => True)
    (ok_cons (pc_ok fun a b => ?_) (fun _ h => absurd h (by simp))) (fun y _ => ⟨_, List.mem_singleton.2 rfl, pc_mem.2 ?_⟩) (ix2 i k) trivial
  · rw [Nat.zero_add, Nat.zero_add]
    exact conv_at G hl a b
  · have h0 : (y 0).val < 512 := (y 0).isLt
    have h1 : (y 1).val < 1024 := (y 1).isLt
    omega

theorem y_at (i : Fin 512) (k : Fin 2048) : (View.canon (yL p l) (ix2 i k) : EReal) = Cert.Odd.y D (512 * T + i.val) k.val := by
  refine canon_at' (F := Ideal) (e := .bf16) (R := 512) (C := 2048) (G := fun r c => Cert.Odd.y D (512 * T + r) c) (P := fun _ _ => True)
    (ok_cons (pc_ok fun a b => ?_) (ycL_ok G)) (fun y _ => ?_) (ix2 i k) trivial
  · refine (yd_at _ _ _ _ a (cv D (512 * T + a.val)) (fun q => conv_at G hl a q) b (row8_at G b) (row9_at G b) (zcol_at G 5 a b)).trans ?_
    unfold Cert.Odd.y
    rw [if_neg (by omega), Nat.zero_add, show 1024 + b.val - 1024 = b.val by omega]
    rfl
  · have h0 : (y 0).val < 512 := (y 0).isLt
    have h1 : (y 1).val < 2048 := (y 1).isLt
    by_cases hy : (y 1).val < 1024
    · obtain ⟨q, hq, hm⟩ := ycL_cov (p := p) y hy
      exact ⟨q, List.mem_cons_of_mem _ hq, hm⟩
    · exact ⟨_, List.mem_cons_self, pc_mem.2 (by omega)⟩

end

end Cert.OddVal

end
-- ==== Proof.OddHost.lean ====
/-
  The odd mixer's forward kernel: the arrays which the host lines prepare for it, and the blocks of them which a point reads.
-/
module

public import proofs.«01_k».proof.Proof.Gen.Kernel4Ideal.Value
public import proofs.«01_k».proof.Proof.OddRef
public import proofs.«01_k».proof.Proof.OddPoint
public import proofs.«01_k».proof.Proof.OddVal

@[expose] public section

set_option maxRecDepth 16384

noncomputable section

namespace Cert.OddHost

open Idealize.ShloMosaic Idealize.ShloMosaic.Pointwise Idealize.ShloMosaic.TcCoe Idealize.SL.Sem Cert.Rows
open Cert.Kernel4Ideal Cert.Kernel4Ideal.Gen
open Cert.Head (Mat)
open Cert.Even (at2 at2_fin)
open Cert.EvenLists (At)
open Cert.OddRef (data ex2 ex2_fin ex3 ex3_fin masked)
open Cert.OddVal (re Good)
open Cert.OddPoint (pt)

variable (m : (ℓ : Loc nD τ sig) → Buf (Elt Ideal) ℓ) (c : Dev nD)
variable (Z : Mat 8192 6144) (SG SO : S1x1024.Idx → EReal) (SW : S4x128x128.Idx → EReal) (SB : S4x128.Idx → EReal)
variable (DW : S31x1024.Idx → EReal) (DB : S1x1024.Idx → EReal) (NG NB : Mat 1 1024)

/-- The launch memory holds the arguments; those that the precondition names are real. -/
structure Holds : Prop where
  z : m ((c.tc : Thread nD τ).loc main_arg0) = up Z
  sg : m ((c.tc : Thread nD τ).loc main_arg1) = SG
  so : m ((c.tc : Thread nD τ).loc main_arg2) = SO
  sw : m ((c.tc : Thread nD τ).loc main_arg3) = SW
  sb : m ((c.tc : Thread nD τ).loc main_arg4) = SB
  dw : m ((c.tc : Thread nD τ).loc main_arg5) = DW
  db : m ((c.tc : Thread nD τ).loc main_arg6) = DB
  ng : m ((c.tc : Thread nD τ).loc main_arg7) = up NG
  nb : m ((c.tc : Thread nD τ).loc main_arg8) = up NB

variable {m c Z SG SO SW SB DW DB NG NB}

/-! ## What the host lines prepare -/

theorem V_z (h : Holds m c Z SG SO SW SB DW DB NG NB) : V m c main_v11 = up Z := by
  unfold V
  simp only [hostOps0, hostOps0_1, hostOps0_2, hostOps0_3, hostOps0_4, hostOps0_5, hostOps0_6, List.flatten_cons, List.flatten_nil, List.append_nil, List.cons_append,
    List.nil_append]
  after_results
  exact h.z

theorem V_sg (h : Holds m c Z SG SO SW SB DW DB NG NB) : V m c main_arg1 = SG := by
  unfold V
  simp only [hostOps0, hostOps0_1, hostOps0_2, hostOps0_3, hostOps0_4, hostOps0_5, hostOps0_6, List.flatten_cons, List.flatten_nil, List.append_nil, List.cons_append,
    List.nil_append]
  after_results
  exact h.sg

theorem V_so (h : Holds m c Z SG SO SW SB DW DB NG NB) : V m c main_arg2 = SO := by
  unfold V
  simp only [hostOps0, hostOps0_1, hostOps0_2, hostOps0_3, hostOps0_4, hostOps0_5, hostOps0_6, List.flatten_cons, List.flatten_nil, List.append_nil, List.cons_append,
    List.nil_append]
  after_results
  exact h.so

theorem V_dw (h : Holds m c Z SG SO SW SB DW DB NG NB) : V m c main_arg5 = DW := by
  unfold V
  simp only [hostOps0, hostOps0_1, hostOps0_2, hostOps0_3, hostOps0_4, hostOps0_5, hostOps0_6, List.flatten_cons, List.flatten_nil, List.append_nil, List.cons_append,
    List.nil_append]
  after_results
  exact h.dw

theorem V_db (h : Holds m c Z SG SO SW SB DW DB NG NB) : V m c main_arg6 = DB := by
  unfold V
  simp only [hostOps0, hostOps0_1, hostOps0_2, hostOps0_3, hostOps0_4, hostOps0_5, hostOps0_6, List.flatten_cons, List.flatten_nil, List.append_nil, List.cons_append,
    List.nil_append]
  after_results
  exact h.db

theorem V_ng (h : Holds m c Z SG SO SW SB DW DB NG NB) : V m c main_arg7 = up NG := by
  unfold V
  simp only [hostOps0, hostOps0_1, hostOps0_2, hostOps0_3, hostOps0_4, hostOps0_5, hostOps0_6, List.flatten_cons, List.flatten_nil, List.append_nil, List.cons_append,
    List.nil_append]
  after_results
  exact h.ng

theorem V_nb (h : Holds m c Z SG SO SW SB DW DB NG NB) : V m c main_arg8 = up NB := by
  unfold V
  simp only [hostOps0, hostOps0_1, hostOps0_2, hostOps0_3, hostOps0_4, hostOps0_5, hostOps0_6, List.flatten_cons, List.flatten_nil, List.append_nil, List.cons_append,
    List.nil_append]
  after_results
  exact h.nb

theorem V_sw (h : Holds m c Z SG SO SW SB DW DB NG NB) : V m c main_v12 = masked SW := by
  have e : V m c main_v12 = Cert.Reference4Ideal.Read.val_main_v38 (F := Ideal) (m ((c.tc : Thread nD τ).loc main_arg3)) := by
    unfold V
    simp only [hostOps0, hostOps0_1, hostOps0_2, hostOps0_3, hostOps0_4, hostOps0_5, hostOps0_6, List.flatten_cons, List.flatten_nil, List.append_nil, List.cons_append,
    List.nil_append]
    after_results
    rfl
  rw [e, h.sw]
  rfl

theorem V_sb (h : Holds m c Z SG SO SW SB DW DB NG NB) (g : Fin 4) (i : Fin 128) : V m c main_v13 (ix3 g i 0) = SB (ix2 g i) := by
  have e : V m c main_v13 = broadcastInDim S4x128x1 ![0, 1] bcast_S4x128_S4x128x1_0_1 (m ((c.tc : Thread nD τ).loc main_arg4) : FVec Ideal S4x128 .f32) := by
    unfold V
    simp only [hostOps0, hostOps0_1, hostOps0_2, hostOps0_3, hostOps0_4, hostOps0_5, hostOps0_6, List.flatten_cons, List.flatten_nil, List.append_nil, List.cons_append,
    List.nil_append]
    after_results
    try rfl
  rw [e, h.sb]
  refine congrArg SB (funext fun a => ?_)
  match a with
  | ⟨0, _⟩ => rfl
  | ⟨1, _⟩ => rfl

/-! ## The blocks -/

theorem at2_of {n q : ℕ} (X : Mat n q) (z : (⟨2, ![n, q]⟩ : Shape).Idx) {i k : ℕ} (hi : (z 0).val = i) (hk : (z 1).val = k) : X z = at2 X i k := by
  subst hi hk
  refine Eq.trans (congrArg X ?_) (at2_fin X (z 0) (z 1)).symm
  funext a
  match a with
  | ⟨0, _⟩ => rfl
  | ⟨1, _⟩ => rfl

theorem ex2_of {n q : ℕ} (X : (⟨2, ![n, q]⟩ : Shape).Idx → EReal) (z : (⟨2, ![n, q]⟩ : Shape).Idx) {i k : ℕ} (hi : (z 0).val = i) (hk : (z 1).val = k) :
    X z = ex2 X i k := by
  subst hi hk
  refine Eq.trans (congrArg X ?_) (ex2_fin X (z 0) (z 1)).symm
  funext a
  match a with
  | ⟨0, _⟩ => rfl
  | ⟨1, _⟩ => rfl

theorem blk_0 (h : Holds m c Z SG SO SW SB DW DB NG NB) (t : Fin cfg0.N) : iblk m c 0 t
    = (At (F := Ideal) (e := .bf16) (re fun r k => (data Z SG SO SW SB DW DB NG NB).z (512 * t.val + r) k) : Vec Ideal ⟨2, ![512, 6144]⟩ .bf16) := by
  have hi : ∀ t : Fin grid0.N, win0_0.index t 0 = t.val ∧ win0_0.index t 1 = 0 := by decide +kernel
  funext j
  have h0 : (j 0).val < 512 := (j 0).isLt
  unfold iblk
  rw [View.read_apply]
  show V m c main_v11 _ = _
  rw [V_z h]
  refine congrArg Real.toEReal (at2_of Z _ ?_ ?_)
  · show win0_0.index t 0 * 512 + 1 * (j 0).val = 512 * t.val + (j 0).val
    rw [(hi t).1]; omega
  · show win0_0.index t 1 * 6144 + 1 * (j 1).val = (j 1).val
    rw [(hi t).2]; omega

theorem blk_1 (h : Holds m c Z SG SO SW SB DW DB NG NB) (t : Fin cfg0.N) : iblk m c 1 t
    = (At (F := Ideal) (e := .f32) (fun _ k => (data Z SG SO SW SB DW DB NG NB).sg k) : Vec Ideal ⟨2, ![1, 1024]⟩ .f32) := by
  have hi : ∀ t : Fin grid0.N, win0_1.index t 0 = 0 ∧ win0_1.index t 1 = 0 := by decide +kernel
  funext j
  have h0 : (j 0).val < 1 := (j 0).isLt
  unfold iblk
  rw [View.read_apply]
  show V m c main_arg1 _ = _
  rw [V_sg h]
  refine (ex2_of SG _ ?_ ?_)
  · show win0_1.index t 0 * 1 + 1 * (j 0).val = 0
    rw [(hi t).1]; omega
  · show win0_1.index t 1 * 1024 + 1 * (j 1).val = (j 1).val
    rw [(hi t).2]; omega

theorem blk_2 (h : Holds m c Z SG SO SW SB DW DB NG NB) (t : Fin cfg0.N) : iblk m c 2 t
    = (At (F := Ideal) (e := .f32) (fun _ k => (data Z SG SO SW SB DW DB NG NB).so k) : Vec Ideal ⟨2, ![1, 1024]⟩ .f32) := by
  have hi : ∀ t : Fin grid0.N, win0_2.index t 0 = 0 ∧ win0_2.index t 1 = 0 := by decide +kernel
  funext j
  have h0 : (j 0).val < 1 := (j 0).isLt
  unfold iblk
  rw [View.read_apply]
  show V m c main_arg2 _ = _
  rw [V_so h]
  refine (ex2_of SO _ ?_ ?_)
  · show win0_2.index t 0 * 1 + 1 * (j 0).val = 0
    rw [(hi t).1]; omega
  · show win0_2.index t 1 * 1024 + 1 * (j 1).val = (j 1).val
    rw [(hi t).2]; omega

theorem blk_5 (h : Holds m c Z SG SO SW SB DW DB NG NB) (t : Fin cfg0.N) : iblk m c 5 t
    = (At (F := Ideal) (e := .f32) (data Z SG SO SW SB DW DB NG NB).dw : Vec Ideal ⟨2, ![31, 1024]⟩ .f32) := by
  have hi : ∀ t : Fin grid0.N, win0_5.index t 0 = 0 ∧ win0_5.index t 1 = 0 := by decide +kernel
  funext j
  have h0 : (j 0).val < 31 := (j 0).isLt
  unfold iblk
  rw [View.read_apply]
  show V m c main_arg5 _ = _
  rw [V_dw h]
  refine (ex2_of DW _ ?_ ?_)
  · show win0_5.index t 0 * 31 + 1 * (j 0).val = (j 0).val
    rw [(hi t).1]; omega
  · show win0_5.index t 1 * 1024 + 1 * (j 1).val = (j 1).val
    rw [(hi t).2]; omega

theorem blk_6 (h : Holds m c Z SG SO SW SB DW DB NG NB) (t : Fin cfg0.N) : iblk m c 6 t
    = (At (F := Ideal) (e := .f32) (fun _ k => (data Z SG SO SW SB DW DB NG NB).db k) : Vec Ideal ⟨2, ![1, 1024]⟩ .f32) := by
  have hi : ∀ t : Fin grid0.N, win0_6.index t 0 = 0 ∧ win0_6.index t 1 = 0 := by decide +kernel
  funext j
  have h0 : (j 0).val < 1 := (j 0).isLt
  unfold iblk
  rw [View.read_apply]
  show V m c main_arg6 _ = _
  rw [V_db h]
  refine (ex2_of DB _ ?_ ?_)
  · show win0_6.index t 0 * 1 + 1 * (j 0).val = 0
    rw [(hi t).1]; omega
  · show win0_6.index t 1 * 1024 + 1 * (j 1).val = (j 1).val
    rw [(hi t).2]; omega

theorem blk_7 (h : Holds m c Z SG SO SW SB DW DB NG NB) (t : Fin cfg0.N) : iblk m c 7 t
    = (At (F := Ideal) (e := .f32) (re fun _ k => (data Z SG SO SW SB DW DB NG NB).ng k) : Vec Ideal ⟨2, ![1, 1024]⟩ .f32) := by
  have hi : ∀ t : Fin grid0.N, win0_7.index t 0 = 0 ∧ win0_7.index t 1 = 0 := by decide +kernel
  funext j
  have h0 : (j 0).val < 1 := (j 0).isLt
  unfold iblk
  rw [View.read_apply]
  show V m c main_arg7 _ = _
  rw [V_ng h]
  refine congrArg Real.toEReal (at2_of NG _ ?_ ?_)
  · show win0_7.index t 0 * 1 + 1 * (j 0).val = 0
    rw [(hi t).1]; omega
  · show win0_7.index t 1 * 1024 + 1 * (j 1).val = (j 1).val
    rw [(hi t).2]; omega

theorem blk_8 (h : Holds m c Z SG SO SW SB DW DB NG NB) (t : Fin cfg0.N) : iblk m c 8 t
    = (At (F := Ideal) (e := .f32) (re fun _ k => (data Z SG SO SW SB DW DB NG NB).nb k) : Vec Ideal ⟨2, ![1, 1024]⟩ .f32) := by
  have hi : ∀ t : Fin grid0.N, win0_8.index t 0 = 0 ∧ win0_8.index t 1 = 0 := by decide +kernel
  funext j
  have h0 : (j 0).val < 1 := (j 0).isLt
  unfold iblk
  rw [View.read_apply]
  show V m c main_arg8 _ = _
  rw [V_nb h]
  refine congrArg Real.toEReal (at2_of NB _ ?_ ?_)
  · show win0_8.index t 0 * 1 + 1 * (j 0).val = 0
    rw [(hi t).1]; omega
  · show win0_8.index t 1 * 1024 + 1 * (j 1).val = (j 1).val
    rw [(hi t).2]; omega

theorem blk_3 (h : Holds m c Z SG SO SW SB DW DB NG NB) (t : Fin cfg0.N) (g : Fin 4) (i j : Fin 128) : iblk m c 3 t (ix3 g i j)
    = (data Z SG SO SW SB DW DB NG NB).sw g.val i.val j.val := by
  have hi : ∀ t : Fin grid0.N, win0_3.index t 0 = 0 ∧ win0_3.index t 1 = 0 ∧ win0_3.index t 2 = 0 := by decide +kernel
  unfold iblk
  rw [View.read_apply]
  show V m c main_v12 _ = _
  rw [V_sw h]
  refine Eq.trans (congrArg (masked SW) (funext fun a => Fin.ext ?_)) (ex3_fin (masked SW) g i j).symm
  match a with
  | ⟨0, _⟩ => show win0_3.index t 0 * 4 + 1 * g.val = g.val; rw [(hi t).1]; omega
  | ⟨1, _⟩ => show win0_3.index t 1 * 128 + 1 * i.val = i.val; rw [(hi t).2.1]; omega
  | ⟨2, _⟩ => show win0_3.index t 2 * 128 + 1 * j.val = j.val; rw [(hi t).2.2]; omega

theorem blk_4 (h : Holds m c Z SG SO SW SB DW DB NG NB) (t : Fin cfg0.N) (g : Fin 4) (i : Fin 128) : iblk m c 4 t (ix3 g i 0)
    = (data Z SG SO SW SB DW DB NG NB).sb g.val i.val := by
  have hi : ∀ t : Fin grid0.N, win0_4.index t 0 = 0 ∧ win0_4.index t 1 = 0 ∧ win0_4.index t 2 = 0 := by decide +kernel
  unfold iblk
  rw [View.read_apply]
  show V m c main_v13 _ = _
  refine Eq.trans (congrArg (V m c main_v13) (funext fun a => Fin.ext ?_)) ((V_sb h g i).trans (ex2_fin SB g i).symm)
  match a with
  | ⟨0, _⟩ => show win0_4.index t 0 * 4 + 1 * g.val = g.val; rw [(hi t).1]; omega
  | ⟨1, _⟩ => show win0_4.index t 1 * 128 + 1 * i.val = i.val; rw [(hi t).2.1]; omega
  | ⟨2, _⟩ => show win0_4.index t 2 * 1 + 1 * 0 = 0; rw [(hi t).2.2]

theorem good (h : Holds m c Z SG SO SW SB DW DB NG NB) (t : Fin cfg0.N) : Good (data Z SG SO SW SB DW DB NG NB) t.val (pt m c t) := by
  constructor
  · dsimp only [pt]; exact blk_0 h t
  · dsimp only [pt]; exact blk_1 h t
  · dsimp only [pt]; exact blk_2 h t
  · dsimp only [pt]; exact blk_3 h t
  · dsimp only [pt]; exact blk_4 h t
  · dsimp only [pt]; exact blk_5 h t
  · dsimp only [pt]; exact blk_6 h t
  · dsimp only [pt]; exact blk_7 h t
  · dsimp only [pt]; exact blk_8 h t

end Cert.OddHost

end
-- ==== Proof.OddFinal.lean ====
/-
  The odd mixer's forward kernel: its two results. A point after the first finds on top of its rows the thirty-two rows that
  the point before copied there.
-/
module

public import proofs.«01_k».proof.Proof.OddHost

@[expose] public section

set_option maxRecDepth 16384

noncomputable section

namespace Cert.OddFinal

open Idealize.ShloMosaic Idealize.ShloMosaic.Pointwise Idealize.ShloMosaic.TcCoe Idealize.SL.Sem Cert.Rows
open Cert.Kernel4Ideal Cert.Kernel4Ideal.Gen
open Cert.Head (Mat)
open Cert.OddPieces Cert.OddVal Cert.OddHost Cert.OddPoint
open Cert.Odd (Data cv)
open Cert.OddRef (data)

variable {m : (ℓ : Loc nD τ sig) → Buf (Elt Ideal) ℓ} {c : Dev nD}
variable {Z : Mat 8192 6144} {SG SO : S1x1024.Idx → EReal} {SW : S4x128x128.Idx → EReal} {SB : S4x128.Idx → EReal}
variable {DW : S31x1024.Idx → EReal} {DB : S1x1024.Idx → EReal} {NG NB : Mat 1 1024}

/-- What point `T` leaves: its rows of the two results, and on top of the padded rows the last of its own. -/
structure Out (D : Data) (T : ℕ) (oy : Vec Ideal S512x2048 .bf16) (oc : Vec Ideal S512x1024 .f32) (oz : Vec Ideal S544x1024 .f32) : Prop where
  y : ∀ (i : Fin 512) (k : Fin 2048), (oy (ix2 i k) : EReal) = Cert.Odd.y D (512 * T + i.val) k.val
  cv : ∀ (i : Fin 512) (k : Fin 1024), (oc (ix2 i k) : EReal) = cv D (512 * T + i.val) k.val
  top : ∀ (i : Fin 544) (k : Fin 1024), i.val < 32 → (oz (ix2 i k) : EReal) = ((Cert.Odd.pad D (512 * (T + 1) + i.val) k.val : ℝ) : EReal)

theorem out_first {D : Data} {T : ℕ} {p : Pt Ideal} (G : Good D T p) (hT : T = 0) :
    Out D T (View.canon (yL p (ezA p))) (View.canon (czL p (ezA p))) (View.canon (tailL p fill)) where
  y := y_at G (ezA_ok G hT)
  cv := cz_at G (ezA_ok G hT)
  top := tail_at G fill

theorem out_later {D : Data} {T : ℕ} {p : Pt Ideal} (G : Good D T p) (q : Vec Ideal S544x1024 .f32)
    (hq : ∀ (i : Fin 544) (k : Fin 1024), i.val < 32 → (q (ix2 i k) : EReal) = ((Cert.Odd.pad D (512 * T + i.val) k.val : ℝ) : EReal)) :
    Out D T (View.canon (yL p (ezB p q))) (View.canon (czL p (ezB p q))) (View.canon (tailL p [])) where
  y := y_at G (ezB_ok G q hq)
  cv := cz_at G (ezB_ok G q hq)
  top := tail_at G []

theorem out (h : Holds m c Z SG SO SW SB DW DB NG NB) : ∀ (n : ℕ) (hn : n < cfg0.N), Out (data Z SG SO SW SB DW DB NG NB) n
    (outsAt0 m c n hn).1 (outsAt0 m c n hn).2.1 (outsAt0 m c n hn).2.2
  | 0, hn => by
    have e := outs_first m c ⟨0, hn⟩ rfl
    dsimp only at e
    have G : Good (data Z SG SO SW SB DW DB NG NB) 0 (pt m c ⟨0, hn⟩) := good h ⟨0, hn⟩
    rw [e]
    dsimp only
    exact out_first G rfl
  | n + 1, hn => by
    have hN : cfg0.N = 16 := N_0
    have I := (out h n (Nat.lt_of_succ_lt hn)).top
    have G : Good (data Z SG SO SW SB DW DB NG NB) (n + 1) (pt m c ⟨n + 1, hn⟩) := good h ⟨n + 1, hn⟩
    have e := outs_later m c ⟨n + 1, hn⟩ (by dsimp only; omega)
    dsimp only at e
    rw [e]
    dsimp only
    refine out_later G _ ?_
    dsimp only [carried]
    exact I

/-- The mixer's output. -/
theorem final_9 (h : Holds m c Z SG SO SW SB DW DB NG NB) : (dats m 0 c).arrAt 9 cfg0.N
    = fun j : (⟨2, ![8192, 2048]⟩ : Shape).Idx => Cert.Odd.y (data Z SG SO SW SB DW DB NG NB) (j 0).val (j 1).val := by
  have hi : ∀ t : Fin cfg0.N, win0_9.index t 0 = t.val ∧ win0_9.index t 1 = 0 :=
    (by decide +kernel : ∀ t : Fin grid0.N, _)
  refine (dats m 0 c).arrAt_eq_of_covers 9 _ (by decide +kernel) fun t hf y => ?_
  blk_simp
  rw [after0_9]
  idx_vars y
  refine ((out h t.val t.isLt).y y0 y1).trans (congrArg₂ (Cert.Odd.y (data Z SG SO SW SB DW DB NG NB)) ?_ ?_)
  · blk_simp [(hi t).1]; omega
  · blk_simp [(hi t).2]

/-- The convolution. -/
theorem final_10 (h : Holds m c Z SG SO SW SB DW DB NG NB) : (dats m 0 c).arrAt 10 cfg0.N
    = fun j : (⟨2, ![8192, 1024]⟩ : Shape).Idx => cv (data Z SG SO SW SB DW DB NG NB) (j 0).val (j 1).val := by
  have hi : ∀ t : Fin cfg0.N, win0_10.index t 0 = t.val ∧ win0_10.index t 1 = 0 :=
    (by decide +kernel : ∀ t : Fin grid0.N, _)
  refine (dats m 0 c).arrAt_eq_of_covers 10 _ (by decide +kernel) fun t hf y => ?_
  blk_simp
  rw [after0_10]
  idx_vars y
  refine ((out h t.val t.isLt).cv y0 y1).trans (congrArg₂ (cv (data Z SG SO SW SB DW DB NG NB)) ?_ ?_)
  · blk_simp [(hi t).1]; omega
  · blk_simp [(hi t).2]

end Cert.OddFinal

end
-- ==== Proof.OddClaim.lean ====
/-
  The value claim of the odd mixer's forward pass: where the arguments that the precondition names are finite, the kernel and
  the reference leave the same two results.
-/
module

public import proofs.«01_k».proof.Defs
public import proofs.«01_k».proof.Proof.Gen.Pre_finite4
public import proofs.«01_k».proof.Proof.Gen.Reference4Ideal
public import proofs.«01_k».proof.Proof.Gen.Reference4Ideal.Run
public import proofs.«01_k».proof.Proof.Finite
public import proofs.«01_k».proof.Proof.OddFinal

@[expose] public section

set_option maxRecDepth 16384

noncomputable section

namespace Cert.OddClaim

open Idealize.ShloMosaic Idealize.ShloMosaic.Pointwise Idealize.ShloMosaic.StableHlo Idealize.SL.Sem Cert.Rows
  Cert.OddHost Cert.OddFinal Cert.OddRef
open Cert.Head (Mat)
open Cert.Odd (cv)

/-! ## The precondition -/

section
open Cert.Kernel4Ideal
variable (m : (ℓ : Loc nD τ sig) → Buf (Elt Ideal) ℓ) (c : Dev nD)

/-- On finite arguments the launch memory holds their reals. -/
theorem holds (hp : Cert.Pre_Kernel4Ideal_finite4 m) :
    Holds m c (reals (m ((c.tc : Thread nD τ).loc main_arg0))) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (reals (m ((c.tc : Thread nD τ).loc main_arg7)))
      (reals (m ((c.tc : Thread nD τ).loc main_arg8))) := by
  obtain ⟨h0, h7, h8⟩ := hp c
  exact ⟨eq_up_reals _ _ h0, rfl, rfl, rfl, rfl, rfl, rfl, eq_up_reals _ _ h7, eq_up_reals _ _ h8⟩

end

/-! ## The reference's results -/

section
open Cert.Reference4Ideal Cert.Reference4Ideal.Read
variable {a0 : S8192x6144.Idx → EReal} {a1 a2 a6 a7 a8 : S1x1024.Idx → EReal} {a3 : S4x128x128.Idx → EReal} {a4 : S4x128.Idx → EReal}
  {a5 : S31x1024.Idx → EReal}
variable {Z : Mat 8192 6144} {SG SO : S1x1024.Idx → EReal} {SW : S4x128x128.Idx → EReal} {SB : S4x128.Idx → EReal}
variable {DW : S31x1024.Idx → EReal} {DB : S1x1024.Idx → EReal} {NG NB : Mat 1 1024}

theorem ref_y (h0 : a0 = up Z) (h1 : a1 = SG) (h2 : a2 = SO) (h3 : a3 = SW) (h4 : a4 = SB) (h5 : a5 = DW) (h6 : a6 = DB) (h7 : a7 = up NG)
    (h8 : a8 = up NB) : val_main_v243 (F := Ideal) a0 a1 a2 a3 a4 a5 a6 a7 a8
    = fun j => Cert.Odd.y (data Z SG SO SW SB DW DB NG NB) (j 0).val (j 1).val := by
  subst h0 h1 h2 h3 h4 h5 h6 h7 h8
  funext j
  idx_vars j
  exact at_v243 _ _ _ _ _ _ _ _ _ j0 j1

theorem ref_cv (h0 : a0 = up Z) (h5 : a5 = DW) (h6 : a6 = DB) : val_main_v216 (F := Ideal) a0 a5 a6
    = fun j => cv (data Z SG SO SW SB DW DB NG NB) (j 0).val (j 1).val := by
  subst h0 h5 h6
  funext j
  idx_vars j
  exact at_v216 Z SG SO SW SB _ _ NG NB j0 j1

end

/-! ## The claim -/

set_option maxHeartbeats 8000000 in
theorem algebraic : Cert.algebraic_Kernel4Ideal_Reference4Ideal_pre_finite4 := by
  intro m ρ m' ρ' hp hagree
  refine ⟨fun c => (Cert.Kernel4Ideal.Gen.dats m 0 c).arrAt 9 Cert.Kernel4Ideal.cfg0.N,
    fun c => (Cert.Kernel4Ideal.Gen.dats m 0 c).arrAt 10 Cert.Kernel4Ideal.cfg0.N,
    Cert.Kernel4Ideal.Value.run_blocks (F := Ideal) m ρ, ?_⟩
  refine (θ_run Cert.Reference4Ideal.defs _ _).mono (fun r h c => ?_) (Cert.Reference4Ideal.Value.run (F := Ideal) m' ρ')
  obtain ⟨Z, SG, SO, SW, SB, DW, DB, NG, NB, H⟩ : ∃ Z SG SO SW SB DW DB NG NB, Holds m c Z SG SO SW SB DW DB NG NB :=
    ⟨_, _, _, _, _, _, _, _, _, holds m c hp⟩
  obtain ⟨g0, g1, g2, g3, g4, g5, g6, g7, g8⟩ := hagree c
  obtain ⟨r0, r1, kept⟩ := h c
  have e0 := g0.trans H.z
  have e5 := g5.trans H.dw
  have e6 := g6.trans H.db
  refine ⟨?_, ?_, kept⟩
  · exact (r0.trans (Cert.Reference4Ideal.Read.val_main_v243_eq (launchContents m' c))).trans
      ((ref_y e0 (g1.trans H.sg) (g2.trans H.so) (g3.trans H.sw) (g4.trans H.sb) e5 e6 (g7.trans H.ng) (g8.trans H.nb)).trans (final_9 H).symm)
  · exact (r1.trans (Cert.Reference4Ideal.Read.val_main_v216_eq (launchContents m' c))).trans
      ((ref_cv (SG := SG) (SO := SO) (SW := SW) (SB := SB) (NG := NG) (NB := NB) e0 e5 e6).trans (final_10 H).symm)

end Cert.OddClaim

end
-- ==== Proof.Fwd.lean ====
/-
  The even mixer over real numbers, by rows and columns counted in the naturals. Its parameters may be any extended reals.
-/
module

public import proofs.«01_k».proof.Proof.Even

@[expose] public section

noncomputable section

namespace Cert.Fwd

open Cert.Even (win silu)

/-- What the mixer is a function of: its input, the pooling weights and their scale, the taps and the bias of the convolution. -/
structure Data where
  z : ℕ → ℕ → ℝ
  pw : ℕ → ℕ → ℕ → EReal
  ps : ℕ → EReal
  sw : ℕ → ℕ → EReal
  sb : ℕ → EReal

/-- The sum of the `n` rows up to a row. -/
def levb (f : ℕ → ℕ → ℝ) (n r c : ℕ) : ℝ := ∑ j ∈ Finset.range n, f (r - j) c

theorem levb_one (f : ℕ → ℕ → ℝ) (r c : ℕ) : levb f 1 r c = f r c := by simp [levb]

theorem levb_add (f : ℕ → ℕ → ℝ) (n m r c : ℕ) : levb f n r c + levb f m (r - n) c = levb f (n + m) r c := by
  unfold levb
  rw [Finset.sum_range_add]
  exact congrArg _ (Finset.sum_congr rfl fun j _ => by rw [Nat.sub_sub])

/-- The sum does not depend on how rows are counted. -/
theorem levb_shift (f : ℕ → ℕ → ℝ) (n s r c : ℕ) (h : n ≤ r + 1) : levb (fun i k => f (s + i) k) n r c = levb f n (s + r) c :=
  Finset.sum_congr rfl fun j hj => congrArg (f · c) (by have := Finset.mem_range.mp hj; omega)

variable (D : Data)

/-- The rows to be averaged, after 32 rows of zeros. -/
def padX (n c : ℕ) : ℝ := if n < 32 then 0 else D.z (n - 32) c

/-- The convolution's input, after 8 rows of zeros. -/
def padQ (n c : ℕ) : ℝ := if n < 8 then 0 else D.z (n - 8) (4096 + c) * D.z (n - 8) (2048 + c)

/-- The mean of a row's window, less the row. -/
def pool (i c : ℕ) : ℝ := levb (padX D) (win c) (i + 32) c / min (i + 1 : ℝ) (win c : ℝ) - D.z i c

def ya (i c : ℕ) : EReal := ∑ e : Fin 256, ((pool D i (c / 256 * 256 + e.val) : ℝ) : EReal) * D.pw (c / 256) e.val (c % 256)
def yc (i c : ℕ) : EReal := ya D i c * D.ps c * ((silu (D.z i (1024 + c)) : ℝ) : EReal)
def cv (i c : ℕ) : EReal :=
  D.sw 2 c * ((padQ D (i + 8) c : ℝ) : EReal) + D.sw 1 c * ((padQ D (i + 7) c : ℝ) : EReal) + D.sw 0 c * ((padQ D (i + 6) c : ℝ) : EReal) + D.sb c
def yb (i c : ℕ) : EReal := ((D.z i (3072 + c) : ℝ) : EReal) * cv D i c * ((silu (D.z i (5120 + c)) : ℝ) : EReal)

/-- The mixer's result, by its two halves of 1024 columns. -/
def y (i c : ℕ) : EReal := if c < 1024 then yc D i c else yb D i (c - 1024)

end Cert.Fwd

end
-- ==== Proof.FwdRef.lean ====
/-
  The reference of the even mixer, read over real inputs and any parameters.
-/
module

public import proofs.«01_k».proof.Proof.Gen.Reference5Ideal.Read
public import proofs.«01_k».proof.Proof.Fwd
public import proofs.«01_k».proof.Proof.EvenRef
public import proofs.«01_k».proof.Proof.OddRef

@[expose] public section

set_option maxRecDepth 16384

noncomputable section

namespace Cert.FwdRef

open Idealize.ShloMosaic Idealize.ShloMosaic.Pointwise Cert.Reference5Ideal Cert.Reference5Ideal.Read Cert.Rows
open Cert.Head (Mat)
open Cert.Even (at2 at2_fin win silu lg lg_pos)
open Cert.EvenRef (window_sum up_mat min_coe exp_neg_coe word_four word_eight word_sixteen one_eq count quotient prefixSum)
open Cert.OddRef (ex2 ex2_fin)
open Cert.Fwd (Data padX padQ levb ya yc cv yb y)

/-- The pooling weights by natural indices. -/
def ex3 (X : S4x256x256.Idx → EReal) (g e d : ℕ) : EReal := if h : g < 4 ∧ e < 256 ∧ d < 256 then X (ix3 ⟨g, h.1⟩ ⟨e, h.2.1⟩ ⟨d, h.2.2⟩) else 0

theorem ex3_fin (X : S4x256x256.Idx → EReal) (g : Fin 4) (e d : Fin 256) : ex3 X g.val e.val d.val = X (ix3 g e d) :=
  dif_pos ⟨g.isLt, e.isLt, d.isLt⟩

variable (Z : Mat 8192 6144) (PW : S4x256x256.Idx → EReal) (PS : S1x1024.Idx → EReal) (SW : S3x1024.Idx → EReal) (SB : S1x1024.Idx → EReal)

/-- What the mixer is a function of. -/
def data : Data where
  z := at2 Z
  pw := ex3 PW
  ps k := ex2 PS 0 k
  sw := ex2 SW
  sb k := ex2 SB 0 k

/-! ## Window sums as differences of sums from the first row -/

/-- The sum of the rows before a row. -/
def upto (n k : ℕ) : ℝ := ∑ s ∈ Finset.range n, at2 Z s k

theorem prefix_eq (i k : ℕ) (hi : i < 8192) : prefixSum Z i k = upto Z (i + 1) k := by
  unfold prefixSum upto
  rw [Fin.sum_univ_eq_sum_range (fun s => if 8191 ≤ i + s ∧ i + s - 8191 < 8192 then at2 Z (i + s - 8191) k else 0) 8192,
    show Finset.range 8192 = Finset.range ((8191 - i) + (i + 1)) by congr 1; omega, Finset.sum_range_add, Finset.sum_eq_zero, zero_add]
  · refine Finset.sum_congr rfl fun x hx => ?_
    have := Finset.mem_range.1 hx
    rw [if_pos (by omega), show i + (8191 - i + x) - 8191 = x by omega]
  · intro x hx
    have := Finset.mem_range.1 hx
    rw [if_neg (by omega)]

theorem lag (w i k : ℕ) (hw : w ≤ 32) : upto Z (i + 1) k - upto Z (i + 1 - w) k = levb (padX (data Z PW PS SW SB)) w (i + 32) k := by
  induction w with
  | zero => simp [levb]
  | succ w ih =>
    have hs : levb (padX (data Z PW PS SW SB)) (w + 1) (i + 32) k
        = levb (padX (data Z PW PS SW SB)) w (i + 32) k + padX (data Z PW PS SW SB) (i + 32 - w) k := Finset.sum_range_succ _ _
    rw [hs, ← ih (by omega)]
    unfold padX
    by_cases h : w ≤ i
    · have e : upto Z (i + 1 - w) k = upto Z (i + 1 - (w + 1)) k + at2 Z (i - w) k := by
        rw [show i + 1 - w = (i - w) + 1 by omega, show i + 1 - (w + 1) = i - w by omega]
        exact Finset.sum_range_succ _ _
      rw [if_neg (by omega), e, show i + 32 - w - 32 = i - w by omega]
      dsimp only [data]
      ring
    · rw [if_pos (by omega), show i + 1 - w = 0 by omega, show i + 1 - (w + 1) = 0 by omega]
      ring

theorem at_v6 (i : Fin 8192) (k : Fin 1024) : val_main_v6 (F := Ideal) (up Z) (ix2 i k) = ((upto Z (i.val + 1) k.val : ℝ) : EReal) := by
  rw [← prefix_eq Z i.val k.val i.isLt]
  refine window_sum (at2 Z) _ (fun i k => ?_) _ (fun j => ?_) _ _ i k
  · pointwise [val_main_v0]
    simp only [up_mat]
  · pointwise [val_main_call0_call0_v0, val_main_call0_call0_cst]

theorem at_v8 (i : Fin 8193) (k : Fin 1024) : val_main_v8 (F := Ideal) (up Z) (ix2 i k) = ((upto Z i.val k.val : ℝ) : EReal) := by
  pointwise [val_main_v8, val_main_v7, val_main_cst]
  by_cases h : i.val < 1
  · rw [dif_pos h, show i.val = 0 by omega]
    unfold upto
    rw [Finset.sum_range_zero]; rfl
  · rw [dif_neg h]
    refine (at_v6 Z ⟨i.val - 1, by omega⟩ k).trans ?_
    dsimp only
    rw [show i.val - 1 + 1 = i.val by omega]

/-- A window's mean, from the sums up to its last row and before its first. -/
theorem mean (w i k : ℕ) (hw : w ≤ 32) (hp : 0 < w) (v : ℝ) (hv : v = (w : ℝ)) (a b : ℝ) (ha : a = upto Z (i + 1) k) (hb : b = upto Z (i + 1 - w) k) :
    Ideal.div ((a - b : ℝ) : EReal) ((min (i + 1 : ℝ) v : ℝ) : EReal)
      = ((levb (padX (data Z PW PS SW SB)) w (i + 32) k / min (i + 1 : ℝ) (w : ℝ) : ℝ) : EReal) := by
  subst ha hb hv
  rw [quotient _ _ _ (by exact_mod_cast hp), lag Z PW PS SW SB w i k hw]

theorem upto_zero (n k : ℕ) (h : n = 0) : (0 : ℝ) = upto Z n k := by subst h; unfold upto; rw [Finset.sum_range_zero]

theorem at_v22 (i : Fin 8192) (k : Fin 256) : val_main_v22 (F := Ideal) (up Z) (ix2 i k)
    = ((levb (padX (data Z PW PS SW SB)) 2 (i.val + 32) k.val / min (i.val + 1 : ℝ) ((2 : ℕ) : ℝ) : ℝ) : EReal) := by
  pointwise [val_main_v22, val_main_v21, val_main_v20, val_main_v19, val_main_v18, val_main_cst_2, val_main_v17, val_main_v16, val_main_v15, val_main_v14, val_main_cst_1, val_main_v13, val_main_v12, val_main_v11, val_main_v10, val_main_cst_0, val_main_v9]
  simp only [at_v8, count, word_two, min_coe]
  split_ifs with h
  · rw [← EReal.coe_zero, ← EReal.coe_sub]
    exact mean Z PW PS SW SB 2 i.val k.val (by norm_num) (by norm_num) 2 (by norm_num) _ _ (by rw [Nat.add_comm]) (upto_zero Z _ _ (by omega))
  · rw [← EReal.coe_sub]
    exact mean Z PW PS SW SB 2 i.val k.val (by norm_num) (by norm_num) 2 (by norm_num) _ _ (by rw [Nat.add_comm]) (congrArg (upto Z · _) (by omega))

theorem at_v33 (i : Fin 8192) (k : Fin 256) : val_main_v33 (F := Ideal) (up Z) (ix2 i k)
    = ((levb (padX (data Z PW PS SW SB)) 4 (i.val + 32) (256 + k.val) / min (i.val + 1 : ℝ) ((4 : ℕ) : ℝ) : ℝ) : EReal) := by
  pointwise [val_main_v33, val_main_v32, val_main_v31, val_main_v30, val_main_v29, val_main_cst_4, val_main_v28, val_main_v27, val_main_v26, val_main_v25, val_main_cst_3, val_main_v24, val_main_v23, val_main_v11, val_main_v10, val_main_cst_0, val_main_v9]
  simp only [at_v8, count, word_four, min_coe]
  split_ifs with h
  · rw [← EReal.coe_zero, ← EReal.coe_sub]
    exact mean Z PW PS SW SB 4 i.val (256 + k.val) (by norm_num) (by norm_num) 4 (by norm_num) _ _ (by rw [Nat.add_comm]) (upto_zero Z _ _ (by omega))
  · rw [← EReal.coe_sub]
    exact mean Z PW PS SW SB 4 i.val (256 + k.val) (by norm_num) (by norm_num) 4 (by norm_num) _ _ (by rw [Nat.add_comm]) (congrArg (upto Z · _) (by omega))

theorem at_v44 (i : Fin 8192) (k : Fin 256) : val_main_v44 (F := Ideal) (up Z) (ix2 i k)
    = ((levb (padX (data Z PW PS SW SB)) 8 (i.val + 32) (512 + k.val) / min (i.val + 1 : ℝ) ((8 : ℕ) : ℝ) : ℝ) : EReal) := by
  pointwise [val_main_v44, val_main_v43, val_main_v42, val_main_v41, val_main_v40, val_main_cst_6, val_main_v39, val_main_v38, val_main_v37, val_main_v36, val_main_cst_5, val_main_v35, val_main_v34, val_main_v11, val_main_v10, val_main_cst_0, val_main_v9]
  simp only [at_v8, count, word_eight, min_coe]
  split_ifs with h
  · rw [← EReal.coe_zero, ← EReal.coe_sub]
    exact mean Z PW PS SW SB 8 i.val (512 + k.val) (by norm_num) (by norm_num) 8 (by norm_num) _ _ (by rw [Nat.add_comm]) (upto_zero Z _ _ (by omega))
  · rw [← EReal.coe_sub]
    exact mean Z PW PS SW SB 8 i.val (512 + k.val) (by norm_num) (by norm_num) 8 (by norm_num) _ _ (by rw [Nat.add_comm]) (congrArg (upto Z · _) (by omega))

theorem at_v55 (i : Fin 8192) (k : Fin 256) : val_main_v55 (F := Ideal) (up Z) (ix2 i k)
    = ((levb (padX (data Z PW PS SW SB)) 16 (i.val + 32) (768 + k.val) / min (i.val + 1 : ℝ) ((16 : ℕ) : ℝ) : ℝ) : EReal) := by
  pointwise [val_main_v55, val_main_v54, val_main_v53, val_main_v52, val_main_v51, val_main_cst_8, val_main_v50, val_main_v49, val_main_v48, val_main_v47, val_main_cst_7, val_main_v46, val_main_v45, val_main_v11, val_main_v10, val_main_cst_0, val_main_v9]
  simp only [at_v8, count, word_sixteen, min_coe]
  split_ifs with h
  · rw [← EReal.coe_zero, ← EReal.coe_sub]
    exact mean Z PW PS SW SB 16 i.val (768 + k.val) (by norm_num) (by norm_num) 16 (by norm_num) _ _ (by rw [Nat.add_comm]) (upto_zero Z _ _ (by omega))
  · rw [← EReal.coe_sub]
    exact mean Z PW PS SW SB 16 i.val (768 + k.val) (by norm_num) (by norm_num) 16 (by norm_num) _ _ (by rw [Nat.add_comm]) (congrArg (upto Z · _) (by omega))

theorem group (g c i k : ℕ) (h : c / 256 = g) (hk : k = c) (u : EReal)
    (hu : u = ((levb (padX (data Z PW PS SW SB)) (2 ^ (g + 1)) (i + 32) k / min (i + 1 : ℝ) ((2 ^ (g + 1) : ℕ) : ℝ) : ℝ) : EReal)) :
    u - ((at2 Z i c : ℝ) : EReal) = ((Cert.Fwd.pool (data Z PW PS SW SB) i c : ℝ) : EReal) := by
  subst hk hu h
  rw [← EReal.coe_sub]
  rfl

/-- The pooled rows. -/
theorem at_v57 (i : Fin 8192) (k : Fin 1024) : val_main_v57 (F := Ideal) (up Z) (ix2 i k)
    = ((Cert.Fwd.pool (data Z PW PS SW SB) i.val k.val : ℝ) : EReal) := by
  pointwise [val_main_v57, val_main_v56, val_main_v0]
  rw [up_mat]
  by_cases h1 : k.val < 256
  · rw [dif_pos h1]; exact group Z PW PS SW SB 0 k.val i.val k.val (by omega) rfl _ (at_v22 Z PW PS SW SB i ⟨k.val, h1⟩)
  rw [dif_neg h1]
  by_cases h2 : k.val - 256 < 256
  · rw [dif_pos h2]; exact group Z PW PS SW SB 1 k.val i.val (256 + (k.val - 256)) (by omega) (by omega) _ (at_v33 Z PW PS SW SB i ⟨k.val - 256, h2⟩)
  rw [dif_neg h2]
  by_cases h3 : k.val - 256 - 256 < 256
  · rw [dif_pos h3]; exact group Z PW PS SW SB 2 k.val i.val (512 + (k.val - 256 - 256)) (by omega) (by omega) _ (at_v44 Z PW PS SW SB i ⟨k.val - 256 - 256, h3⟩)
  rw [dif_neg h3]
  exact group Z PW PS SW SB 3 k.val i.val (768 + (k.val - 256 - 256 - 256)) (by omega) (by omega) _ (at_v55 Z PW PS SW SB i ⟨k.val - 256 - 256 - 256, by omega⟩)

/-! ## The pooling half -/

theorem at_v61 (i : Fin 8192) (k : Fin 1024) : val_main_v61 (F := Ideal) (up Z) PW (ix2 i k) = ya (data Z PW PS SW SB) i.val k.val := by
  pointwise [val_main_v61, val_main_v60, val_main_v59, val_main_v58]
  unfold ya
  refine Finset.sum_congr rfl fun e _ => ?_
  rw [mul_comm]
  refine congrArg₂ (fun u v : EReal => u * v) (at_v57 Z PW PS SW SB _ _) ?_
  exact (ex3_fin PW _ _ _).symm

theorem at_v64 (i : Fin 8192) (k : Fin 1024) : val_main_v64 (F := Ideal) (up Z) (ix2 i k) = ((silu (at2 Z i.val (1024 + k.val)) : ℝ) : EReal) := by
  pointwise [val_main_v64, val_main_call1_v5, val_main_call1_v4, val_main_call1_cst_0, val_main_call1_v3, val_main_call1_v2, val_main_call1_v1,
    val_main_call1_v0, val_main_call1_cst, val_main_v1]
  simp only [up_mat, exp_neg_coe, one_eq, ← EReal.coe_add]
  rw [div_real (lg_pos _).ne' 1, ← EReal.coe_mul]
  rfl

theorem at_v65 (i : Fin 8192) (k : Fin 1024) : val_main_v65 (F := Ideal) (up Z) PW PS (ix2 i k) = yc (data Z PW PS SW SB) i.val k.val := by
  pointwise [val_main_v65, val_main_v63, val_main_v62]
  rw [at_v61 Z PW PS SW SB, at_v64, ← ex2_fin PS]
  rfl

/-! ## The convolution half -/

theorem at_v66 (i : Fin 8192) (k : Fin 1024) : val_main_v66 (F := Ideal) (up Z) (ix2 i k)
    = ((at2 Z i.val (4096 + k.val) * at2 Z i.val (2048 + k.val) : ℝ) : EReal) := by
  pointwise [val_main_v66, val_main_v4, val_main_v2]
  simp only [up_mat, ← EReal.coe_mul]

theorem at_v68 (i : Fin 8194) (k : Fin 1024) : val_main_v68 (F := Ideal) (up Z) (ix2 i k) = ((padQ (data Z PW PS SW SB) (i.val + 6) k.val : ℝ) : EReal) := by
  pointwise [val_main_v68, val_main_v67, val_main_cst_9]
  unfold padQ
  by_cases h : i.val < 2
  · rw [dif_pos h, if_pos (by omega)]; rfl
  · rw [dif_neg h]
    have e : i.val + 6 - 8 = i.val - 2 := by omega
    exact (at_v66 Z ⟨i.val - 2, by omega⟩ k).trans (by rw [if_neg (show ¬ i.val + 6 < 8 by omega), e]; rfl)

/-- The convolution. -/
theorem at_v86 (i : Fin 8192) (k : Fin 1024) : val_main_v86 (F := Ideal) (up Z) SW SB (ix2 i k) = cv (data Z PW PS SW SB) i.val k.val := by
  pointwise [val_main_v86, val_main_v85, val_main_v84, val_main_v83, val_main_v82, val_main_v81, val_main_v80, val_main_v79, val_main_v78, val_main_v77,
    val_main_v76, val_main_v75, val_main_v74, val_main_v73, val_main_cst_10, val_main_v72, val_main_v71, val_main_v70, val_main_v69]
  simp only [at_v68 Z PW PS SW SB, ← ex2_fin SW, ← ex2_fin SB, zero_add]
  unfold cv
  rw [mul_comm ((data Z PW PS SW SB).sw 2 _), mul_comm ((data Z PW PS SW SB).sw 1 _), mul_comm ((data Z PW PS SW SB).sw 0 _)]
  rw [show 1 + i.val + 6 = i.val + 7 by omega, show 2 + i.val + 6 = i.val + 8 by omega]
  refine congrArg₂ (fun u v : EReal => u + v) ?_ rfl
  rw [add_comm, add_comm (_ * _) (_ * _ : EReal), ← add_assoc]
  rfl

theorem at_v88 (i : Fin 8192) (k : Fin 1024) : val_main_v88 (F := Ideal) (up Z) (ix2 i k) = ((silu (at2 Z i.val (5120 + k.val)) : ℝ) : EReal) := by
  pointwise [val_main_v88, val_main_call2_v5, val_main_call2_v4, val_main_call2_cst_0, val_main_call2_v3, val_main_call2_v2, val_main_call2_v1,
    val_main_call2_v0, val_main_call2_cst, val_main_v5]
  simp only [up_mat, exp_neg_coe, one_eq, ← EReal.coe_add]
  rw [div_real (lg_pos _).ne' 1, ← EReal.coe_mul]
  rfl

theorem at_v89 (i : Fin 8192) (k : Fin 1024) : val_main_v89 (F := Ideal) (up Z) SW SB (ix2 i k) = yb (data Z PW PS SW SB) i.val k.val := by
  pointwise [val_main_v89, val_main_v87, val_main_v3]
  rw [at_v86 Z PW PS SW SB, at_v88, up_mat]
  rfl

/-! ## The results -/

theorem at_v91 (i : Fin 8192) (k : Fin 2048) : val_main_v91 (F := Ideal) (up Z) PW PS SW SB (ix2 i k) = y (data Z PW PS SW SB) i.val k.val := by
  pointwise [val_main_v91, val_main_v90]
  unfold y
  by_cases h : k.val < 1024
  · rw [dif_pos h, if_pos h]; exact at_v65 Z PW PS SW SB i ⟨k.val, h⟩
  · rw [dif_neg h, if_neg h]; exact at_v89 Z PW PS SW SB i ⟨k.val - 1024, by omega⟩

theorem at_v92 (i : Fin 8192) (k : Fin 1024) : val_main_v92 (F := Ideal) (up Z) (ix2 i k)
    = ((Cert.Fwd.pool (data Z PW PS SW SB) i.val k.val : ℝ) : EReal) := by
  pointwise [val_main_v92]
  exact at_v57 Z PW PS SW SB i k

theorem at_v93 (i : Fin 8192) (k : Fin 1024) : val_main_v93 (F := Ideal) (up Z) SW SB (ix2 i k) = cv (data Z PW PS SW SB) i.val k.val := by
  pointwise [val_main_v93]
  exact at_v86 Z PW PS SW SB i k

end Cert.FwdRef

end
-- ==== Proof.FwdOps.lean ====
/-
  The vector expressions of the even mixer's forward kernel: what it stores for a chunk of sixteen rows, for one pooling
  group, and for one strip of the running window sums, from what it has loaded.
-/
module

public import proofs.«01_k».proof.Proof.Gen.Kernel5Ideal
public import proofs.«01_k».proof.Proof.EvenPieces

@[expose] public section

noncomputable section

namespace Cert.FwdOps

open Idealize.ShloMosaic Idealize.SL.Sem Cert.Kernel5Ideal Cert.Kernel5Ideal.Gen
open Cert.EvenOps (windowWord)

variable {F : FTy → Type} [FloatOps F]

/-- Sixteen rows widened. -/
def wide (a : Vec F S16x1024 .bf16) : FVec F S16x1024 .f32 :=
  extf .f32 (shapeCast S16x1024 a shapeCasts_S16x1024_S16x1024) bitsLt_bf16_f32

def half : FVec F S16x1024 .f32 := broadcast S16x1024 (Scalar.ofBits .f32 0x3F000000#32)

/-- A value times its logistic, as the kernel writes it. -/
def silu (a : FVec F S16x1024 .f32) : FVec F S16x1024 .f32 := mulf a (addf (mulf half (tanh (mulf half a))) half)

/-- A row under each of sixteen. -/
def rowOp (g : Vec F S1x1024 .f32) : FVec F S16x1024 .f32 := broadcastTo S16x1024 g broadcasts_S1x1024_S16x1024

def keep16 (a : FVec F S16x1024 .f32) : FVec F S16x1024 .f32 := shapeCast S16x1024 a shapeCasts_S16x1024_S16x1024
def keep32 (a : Vec F S32x1024 .f32) : FVec F S32x1024 .f32 := shapeCast S32x1024 a shapeCasts_S32x1024_S32x1024
def keep8 (a : Vec F S8x1024 .f32) : FVec F S8x1024 .f32 := shapeCast S8x1024 a shapeCasts_S8x1024_S8x1024

/-! The zeros the first point stores. -/
def zero32 : FVec F S32x1024 .f32 := keep32 (broadcast S32x1024 (Scalar.ofBits .f32 0x00000000#32))
def zero8 : FVec F S8x1024 .f32 := keep8 (broadcast S8x1024 (Scalar.ofBits .f32 0x00000000#32))

def level32 (a b : Vec F S32x768 .f32) : FVec F S32x768 .f32 := shapeCast S32x768 (addf a b) shapeCasts_S32x768_S32x768
def level32' (a b : Vec F S32x512 .f32) : FVec F S32x512 .f32 := shapeCast S32x512 (addf a b) shapeCasts_S32x512_S32x512
def level32'' (a b : Vec F S32x256 .f32) : FVec F S32x256 .f32 := shapeCast S32x256 (addf a b) shapeCasts_S32x256_S32x256
def level24 (a b : Vec F S24x768 .f32) : FVec F S24x768 .f32 := shapeCast S24x768 (addf a b) shapeCasts_S24x768_S24x768
def level16 (a b : Vec F S16x512 .f32) : FVec F S16x512 .f32 := shapeCast S16x512 (addf a b) shapeCasts_S16x512_S16x512
def level8 (a b : Vec F S8x256 .f32) : FVec F S8x256 .f32 := shapeCast S8x256 (addf a b) shapeCasts_S8x256_S8x256

/-- The number of rows up to each of sixteen rows of the whole array. -/
def posOp (i : BitVec 32) (r : ℕ) : FVec F S16x1 .f32 :=
  sitofp .f32 (addi (addi (broadcast S16x1 (Scalar.addi (Scalar.muli i 512#32) (BitVec.ofNat 32 (16 * r))) : IVec S16x1 32)
    (iota .tc S16x1 32 [0] iota_S16x1_d0_w32)) (broadcast S16x1 1#32))

/-- Sixteen rows of a pooled group: the window's mean less the row itself. -/
def poolOp (i : BitVec 32) (r g : ℕ) (a b x : Vec F S16x256 .f32) : FVec F S16x256 .bf16 :=
  truncf .bf16 (subf (divf (addf a b) (broadcastTo S16x256 (minimumf (posOp i r) (broadcast S16x1 (Scalar.ofBits .f32 (windowWord g))))
    broadcasts_S16x1_S16x256)) x) bitsLt_bf16_f32

/-- A pooled group through its weights. -/
def yaOp (pb : Vec F S512x256 .bf16) (w : Vec F S1x256x256 .bf16) : FVec F S512x256 .f32 :=
  shapeCast S512x256 (matmul dot_S512x256_S256x256_S512x256_1_0_0_1_n_n none
    (shapeCast S512x256 pb shapeCasts_S512x256_S512x256 : FVec F S512x256 .bf16)
    (shapeCast S256x256 w shapeCasts_S1x256x256_S256x256 : FVec F S256x256 .bf16)
    (constant S512x256 .f32 0x00000000#32)) shapeCasts_S512x256_S512x256

def ycOp (y : Vec F S16x1024 .f32) (ps : Vec F S1x1024 .f32) (ga : Vec F S16x1024 .bf16) : FVec F S16x1024 .bf16 :=
  truncf .bf16 (mulf (mulf y (rowOp ps)) (silu (wide ga))) bitsLt_bf16_f32

/-- Three taps over a row and the two before it, and the bias. -/
def convOp (w2 w1 w0 b : Vec F S1x1024 .f32) (d0 d1 d2 : Vec F S16x1024 .f32) : FVec F S16x1024 .f32 :=
  addf (addf (addf (mulf (rowOp w2) d0) (mulf (rowOp w1) d1)) (mulf (rowOp w0) d2)) (rowOp b)

def ybOp (bg : Vec F S16x1024 .bf16) (cv : FVec F S16x1024 .f32) (gb : Vec F S16x1024 .bf16) : FVec F S16x1024 .bf16 :=
  truncf .bf16 (mulf (mulf (wide bg) cv) (silu (wide gb))) bitsLt_bf16_f32

end Cert.FwdOps

end
-- ==== Proof.FwdPieces.lean ====
/-
  The stores of one grid point of the even mixer's forward kernel: the vector expressions it stores, and its lists of stores as
  families of one piece for every chunk of sixteen rows, for every strip of the running window sums, or for every pooling group.
  The lists here are the lists of the kernel's run, in the run's order, the last store first.
-/
module

public import proofs.«01_k».proof.Proof.Gen.Kernel5Ideal.Frame.RunA
public import proofs.«01_k».proof.Proof.Gen.Kernel5Ideal.Frame.RunB
public import proofs.«01_k».proof.Proof.FwdOps
public import Idealize.ShloMosaic.Lib.Pipeline.ValueKit

@[expose] public section

set_option maxRecDepth 16384

noncomputable section

namespace Cert.FwdPieces

open Idealize.ShloMosaic Idealize.SL.Sem Idealize.ShloMosaic.TcCoe Idealize.ShloMosaic.Tactic
open Cert.Kernel5Ideal Cert.Kernel5Ideal.Gen Cert.FwdOps
open Cert.EvenPieces (pc inb Ld)

variable {F : FTy → Type} [FloatOps F]

/-- A grid point: its buffers and the blocks its inputs hold. -/
structure Pt (F : FTy → Type) [FloatOps F] where
  c : Dev nD
  i : grid0.Coords
  arg1 : Memref sig .tc .vmem S512x6144 .bf16
  harg1 : arg1.IsWhole
  arg2 : Memref sig .tc .vmem S4x256x256 .bf16
  harg2 : arg2.IsWhole
  arg3 : Memref sig .tc .vmem S1x1024 .f32
  harg3 : arg3.IsWhole
  arg4 : Memref sig .tc .vmem S3x1024 .f32
  harg4 : arg4.IsWhole
  arg5 : Memref sig .tc .vmem S1x1024 .f32
  harg5 : arg5.IsWhole
  arg6 : Memref sig .tc .vmem S512x2048 .bf16
  harg6 : arg6.IsWhole
  arg7 : Memref sig .tc .vmem S512x1024 .bf16
  harg7 : arg7.IsWhole
  arg8 : Memref sig .tc .vmem S512x1024 .bf16
  harg8 : arg8.IsWhole
  arg9 : Memref sig .tc .vmem S544x1024 .f32
  harg9 : arg9.IsWhole
  arg10 : Memref sig .tc .vmem S520x1024 .f32
  harg10 : arg10.IsWhole
  arg11 : Memref sig .tc .vmem S512x1024 .f32
  harg11 : arg11.IsWhole
  arg12 : Memref sig .tc .vmem S544x1024 .f32
  harg12 : arg12.IsWhole
  arg13 : Memref sig .tc .vmem S544x1024 .f32
  harg13 : arg13.IsWhole
  x0 : Vec F S512x6144 .bf16
  x1 : Vec F S4x256x256 .bf16
  x2 : Vec F S1x1024 .f32
  x3 : Vec F S3x1024 .f32
  x4 : Vec F S1x1024 .f32

def runA (p : Pt F) (h : cond0_0 p.i) :=
  kernelRun0_A p.c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 h p.x0 p.x1 p.x2 p.x3 p.x4

/-- At a later point, over the padded rows that the point before left. -/
def runB (p : Pt F) (h : ¬ cond0_0 p.i) (q : Vec F S544x1024 .f32) (s : Vec F S520x1024 .f32) :=
  kernelRun0_B p.c p.i p.arg1 p.harg1 p.arg2 p.harg2 p.arg3 p.harg3 p.arg4 p.harg4 p.arg5 p.harg5 p.arg6 p.harg6 p.arg7 p.harg7 p.arg8 p.harg8 p.arg9 p.harg9 p.arg10 p.harg10 p.arg11 p.harg11 p.arg12 p.harg12 p.arg13 p.harg13 h p.x0 p.x1 p.x2 p.x3 p.x4 q s

theorem inbG (g : Fin 4) : ∀ a : Fin 3, (![g.val, 0, 0] : Fin 3 → ℕ) a + (![1, 256, 256] : Fin 3 → ℕ) a ≤ (![4, 256, 256] : Fin 3 → ℕ) a := by
  intro a; fin_cases a
  · show g.val + 1 ≤ 4; omega
  · show 0 + 256 ≤ 256; omega
  · show 0 + 256 ≤ 256; omega

/-- Sixteen rows of column group `o`. -/
def zr (p : Pt F) (o : Fin 6) (k : Fin 32) : Vec F S16x1024 .bf16 :=
  p.arg1.view.readAt (Elt F) (Rect.unit (s := S512x6144) ![16 * k.val, 1024 * o.val] S16x1024.size (inb (by omega) (by omega))).toLoadRect (p.harg1.unread p.x0)

/-! The parameters. -/
def pwG (p : Pt F) (g : Fin 4) : Vec F S1x256x256 .bf16 :=
  p.arg2.view.readAt (Elt F) (Rect.unit (s := S4x256x256) ![g.val, 0, 0] S1x256x256.size (inbG g)).toLoadRect (p.harg2.unread p.x1)
def psR (p : Pt F) : Vec F S1x1024 .f32 :=
  p.arg3.view.readAt (Elt F) (Rect.unit (s := S1x1024) ![0, 0] S1x1024.size (inb (by omega) (by omega))).toLoadRect (p.harg3.unread p.x2)
def swR (p : Pt F) (j : Fin 3) : Vec F S1x1024 .f32 :=
  p.arg4.view.readAt (Elt F) (Rect.unit (s := S3x1024) ![j.val, 0] S1x1024.size (inb (by omega) (by omega))).toLoadRect (p.harg4.unread p.x3)
def sbR (p : Pt F) : Vec F S1x1024 .f32 :=
  p.arg5.view.readAt (Elt F) (Rect.unit (s := S1x1024) ![0, 0] S1x1024.size (inb (by omega) (by omega))).toLoadRect (p.harg5.unread p.x4)

/-! The two buffers with rows carried over, then the point's own rows. -/

def exL (p : Pt F) : List (View.Piece (Elt F) S544x1024 .f32) := List.ofFn fun k : Fin 32 =>
  pc (32 + 16 * k.rev.val) 0 16 1024 (by omega) (by omega) (keep16 (wide (zr p 0 k.rev)))

def eqL (p : Pt F) : List (View.Piece (Elt F) S520x1024 .f32) := List.ofFn fun k : Fin 32 =>
  pc (8 + 16 * k.rev.val) 0 16 1024 (by omega) (by omega) (keep16 (mulf (wide (zr p 4 k.rev)) (wide (zr p 2 k.rev))))

def fillX : List (View.Piece (Elt F) S544x1024 .f32) := [pc 0 0 32 1024 (by omega) (by omega) zero32]
def fillQ : List (View.Piece (Elt F) S520x1024 .f32) := [pc 0 0 8 1024 (by omega) (by omega) zero8]

/-! Loads of the two: at the first point from its stores, the fill last; later from the point's stores, or from them over what
was carried. -/

def exA (p : Pt F) : Ld F 544 := fun r c n m hr hc =>
  p.arg9.view.readCov (exL p ++ fillX) (Rect.unit (s := S544x1024) ![r, c] ![n, m] (inb hr hc)).toLoadRect

def eqA (p : Pt F) : Ld F 520 := fun r c n m hr hc =>
  p.arg10.view.readCov (eqL p ++ fillQ) (Rect.unit (s := S520x1024) ![r, c] ![n, m] (inb hr hc)).toLoadRect

def exB (p : Pt F) (q : Vec F S544x1024 .f32) : Ld F 544 := fun r c n m hr hc =>
  if 32 ≤ r then p.arg9.view.readCov (exL p) (Rect.unit (s := S544x1024) ![r, c] ![n, m] (inb hr hc)).toLoadRect
  else p.arg9.view.readAt (Elt F) (Rect.unit (s := S544x1024) ![r, c] ![n, m] (inb hr hc)).toLoadRect
    (p.arg9.view.writes (Elt F) (p.harg9.unread q) (exL p))

def eqB (p : Pt F) (s : Vec F S520x1024 .f32) : Ld F 520 := fun r c n m hr hc =>
  if 8 ≤ r then p.arg10.view.readCov (eqL p) (Rect.unit (s := S520x1024) ![r, c] ![n, m] (inb hr hc)).toLoadRect
  else p.arg10.view.readAt (Elt F) (Rect.unit (s := S520x1024) ![r, c] ![n, m] (inb hr hc)).toLoadRect
    (p.arg10.view.writes (Elt F) (p.harg10.unread s) (eqL p))

/-! The running window sums: pairs, fours and eights, in strips of 32 rows. -/

def la1L (l : Ld F 544) : List (View.Piece (Elt F) S544x1024 .f32) :=
  pc 520 256 24 768 (by omega) (by omega) (level24 (l 520 256 24 768 (by omega) (by omega)) (l 519 256 24 768 (by omega) (by omega))) ::
  List.ofFn fun j : Fin 16 => pc (8 + 32 * j.rev.val) 256 32 768 (by omega) (by omega)
    (level32 (l (8 + 32 * j.rev.val) 256 32 768 (by omega) (by omega)) (l (7 + 32 * j.rev.val) 256 32 768 (by omega) (by omega)))

def la1c (p : Pt F) (l : Ld F 544) : Ld F 544 := fun r c n m hr hc =>
  p.arg12.view.readCov (la1L l) (Rect.unit (s := S544x1024) ![r, c] ![n, m] (inb hr hc)).toLoadRect

def lbL (p : Pt F) (l : Ld F 544) : List (View.Piece (Elt F) S544x1024 .f32) :=
  pc 528 512 16 512 (by omega) (by omega) (level16 (la1c p l 528 512 16 512 (by omega) (by omega)) (la1c p l 526 512 16 512 (by omega) (by omega))) ::
  List.ofFn fun j : Fin 16 => pc (16 + 32 * j.rev.val) 512 32 512 (by omega) (by omega)
    (level32' (la1c p l (16 + 32 * j.rev.val) 512 32 512 (by omega) (by omega)) (la1c p l (14 + 32 * j.rev.val) 512 32 512 (by omega) (by omega)))

def lbc (p : Pt F) (l : Ld F 544) : Ld F 544 := fun r c n m hr hc =>
  p.arg13.view.readCov (lbL p l) (Rect.unit (s := S544x1024) ![r, c] ![n, m] (inb hr hc)).toLoadRect

def la2L (p : Pt F) (l : Ld F 544) : List (View.Piece (Elt F) S544x1024 .f32) :=
  pc 536 768 8 256 (by omega) (by omega) (level8 (lbc p l 536 768 8 256 (by omega) (by omega)) (lbc p l 532 768 8 256 (by omega) (by omega))) ::
  List.ofFn fun j : Fin 16 => pc (24 + 32 * j.rev.val) 768 32 256 (by omega) (by omega)
    (level32'' (lbc p l (24 + 32 * j.rev.val) 768 32 256 (by omega) (by omega)) (lbc p l (20 + 32 * j.rev.val) 768 32 256 (by omega) (by omega)))

def lac (p : Pt F) (l : Ld F 544) : Ld F 544 := fun r c n m hr hc =>
  p.arg12.view.readCov (la2L p l ++ la1L l) (Rect.unit (s := S544x1024) ![r, c] ![n, m] (inb hr hc)).toLoadRect

/-- The two summands of a window sum, of the group's own level: the later rows, then the earlier. -/
def xc (p : Pt F) (l : Ld F 544) (k : Fin 128) (s : Fin 2) : Vec F S16x256 .f32 :=
  match k.val % 4 with
  | 0 => l (32 + 16 * (k.val / 4) - s.val) (256 * (k.val % 4)) 16 256 (by omega) (by omega)
  | 1 => lac p l (32 + 16 * (k.val / 4) - 2 * s.val) (256 * (k.val % 4)) 16 256 (by omega) (by omega)
  | 2 => lbc p l (32 + 16 * (k.val / 4) - 4 * s.val) (256 * (k.val % 4)) 16 256 (by omega) (by omega)
  | _ => lac p l (32 + 16 * (k.val / 4) - 8 * s.val) (256 * (k.val % 4)) 16 256 (by omega) (by omega)

/-- The pooled rows' pieces, sixteen rows of one group each. -/
def plL (p : Pt F) (l : Ld F 544) : List (View.Piece (Elt F) S512x1024 .bf16) := List.ofFn fun k : Fin 128 =>
  pc (16 * (k.rev.val / 4)) (256 * (k.rev.val % 4)) 16 256 (by omega) (by omega)
    (poolOp (BitVec.ofNat 32 (p.i 0).val) (k.rev.val / 4) (k.rev.val % 4) (xc p l k.rev 0) (xc p l k.rev 1)
      (l (32 + 16 * (k.rev.val / 4)) (256 * (k.rev.val % 4)) 16 256 (by omega) (by omega)))

def plc (p : Pt F) (l : Ld F 544) (g : Fin 4) : Vec F S512x256 .bf16 :=
  p.arg7.view.readCov (plL p l) (Rect.unit (s := S512x1024) ![0, 256 * g.val] S512x256.size (inb (by omega) (by omega))).toLoadRect

/-- The pooled groups through their weights. -/
def yaL (p : Pt F) (l : Ld F 544) : List (View.Piece (Elt F) S512x1024 .f32) := List.ofFn fun g : Fin 4 =>
  pc 0 (256 * g.rev.val) 512 256 (by omega) (by omega) (yaOp (plc p l g.rev) (pwG p g.rev))

def yac (p : Pt F) (l : Ld F 544) (k : Fin 32) : Vec F S16x1024 .f32 :=
  p.arg11.view.readCov (yaL p l) (Rect.unit (s := S512x1024) ![16 * k.val, 0] S16x1024.size (inb (by omega) (by omega))).toLoadRect

/-- Sixteen rows of the convolution. -/
def cvc (p : Pt F) (l : Ld F 520) (k : Fin 32) : FVec F S16x1024 .f32 :=
  convOp (swR p 2) (swR p 1) (swR p 0) (sbR p) (l (8 + 16 * k.val) 0 16 1024 (by omega) (by omega))
    (l (7 + 16 * k.val) 0 16 1024 (by omega) (by omega)) (l (6 + 16 * k.val) 0 16 1024 (by omega) (by omega))

def cvL (p : Pt F) (l : Ld F 520) : List (View.Piece (Elt F) S512x1024 .bf16) := List.ofFn fun k : Fin 32 =>
  pc (16 * k.rev.val) 0 16 1024 (by omega) (by omega) (truncf .bf16 (cvc p l k.rev) bitsLt_bf16_f32)

/-- The mixer's output: for every sixteen rows the convolution's half, and before it the pooling's. -/
def yL (p : Pt F) (l : Ld F 544) (l' : Ld F 520) : List (View.Piece (Elt F) S512x2048 .bf16) := List.flatten <| List.ofFn fun k : Fin 32 =>
  [pc (16 * k.rev.val) 1024 16 1024 (by omega) (by omega) (ybOp (zr p 3 k.rev) (cvc p l' k.rev) (zr p 5 k.rev)),
   pc (16 * k.rev.val) 0 16 1024 (by omega) (by omega) (ycOp (yac p l k.rev) (psR p) (zr p 1 k.rev))]

/-! The two buffers at the end of a point: their last rows copied to the front. -/

def tailX (p : Pt F) (B : List (View.Piece (Elt F) S544x1024 .f32)) : List (View.Piece (Elt F) S544x1024 .f32) :=
  pc 0 0 32 1024 (by omega) (by omega) (keep32 (p.arg9.view.readCov (exL p ++ B)
    (Rect.unit (s := S544x1024) ![512, 0] S32x1024.size (inb (by omega) (by omega))).toLoadRect)) :: (exL p ++ B)

def tailQ (p : Pt F) (B : List (View.Piece (Elt F) S520x1024 .f32)) : List (View.Piece (Elt F) S520x1024 .f32) :=
  pc 0 0 8 1024 (by omega) (by omega) (keep8 (p.arg10.view.readCov (eqL p ++ B)
    (Rect.unit (s := S520x1024) ![512, 0] S8x1024.size (inb (by omega) (by omega))).toLoadRect)) :: (eqL p ++ B)

end Cert.FwdPieces

end
-- ==== Proof.FwdPiecesA.lean ====
/-
  The stores of the even mixer's forward kernel at the first grid point are the families of `FwdPieces`.
-/
module

public import proofs.«01_k».proof.Proof.FwdPieces

@[expose] public section

set_option maxRecDepth 16384

noncomputable section

namespace Cert.FwdPieces

open Idealize.ShloMosaic Idealize.SL.Sem Idealize.ShloMosaic.TcCoe Idealize.ShloMosaic.Tactic
open Cert.Kernel5Ideal Cert.Kernel5Ideal.Gen

variable {F : FTy → Type} [FloatOps F]

theorem ex_A (p : Pt F) (h : cond0_0 p.i) : (runA p h).2.2.2.1 = tailX p fillX := by sl_kernel_rfl

theorem eq_A (p : Pt F) (h : cond0_0 p.i) : (runA p h).2.2.2.2.1 = tailQ p fillQ := by sl_kernel_rfl

theorem cv_A (p : Pt F) (h : cond0_0 p.i) : (runA p h).2.2.1 = cvL p (eqA p) := by sl_kernel_rfl

theorem pl_A (p : Pt F) (h : cond0_0 p.i) : (runA p h).2.1 = plL p (exA p) := by sl_kernel_rfl

theorem y_A (p : Pt F) (h : cond0_0 p.i) : (runA p h).1 = yL p (exA p) (eqA p) := by sl_kernel_rfl

end Cert.FwdPieces

end
-- ==== Proof.FwdPiecesB.lean ====
/-
  The stores of the even mixer's forward kernel at a later grid point are the families of `FwdPieces`.
-/
module

public import proofs.«01_k».proof.Proof.FwdPieces

@[expose] public section

set_option maxRecDepth 16384

noncomputable section

namespace Cert.FwdPieces

open Idealize.ShloMosaic Idealize.SL.Sem Idealize.ShloMosaic.TcCoe Idealize.ShloMosaic.Tactic
open Cert.Kernel5Ideal Cert.Kernel5Ideal.Gen

variable {F : FTy → Type} [FloatOps F]

theorem ex_B (p : Pt F) (h : ¬ cond0_0 p.i) (q : Vec F S544x1024 .f32) (s : Vec F S520x1024 .f32) : (runB p h q s).2.2.2.1 = tailX p [] := by sl_kernel_rfl

theorem eq_B (p : Pt F) (h : ¬ cond0_0 p.i) (q : Vec F S544x1024 .f32) (s : Vec F S520x1024 .f32) : (runB p h q s).2.2.2.2.1 = tailQ p [] := by sl_kernel_rfl

theorem cv_B (p : Pt F) (h : ¬ cond0_0 p.i) (q : Vec F S544x1024 .f32) (s : Vec F S520x1024 .f32) : (runB p h q s).2.2.1 = cvL p (eqB p s) := by sl_kernel_rfl

theorem pl_B (p : Pt F) (h : ¬ cond0_0 p.i) (q : Vec F S544x1024 .f32) (s : Vec F S520x1024 .f32) : (runB p h q s).2.1 = plL p (exB p q) := by sl_kernel_rfl

theorem y_B (p : Pt F) (h : ¬ cond0_0 p.i) (q : Vec F S544x1024 .f32) (s : Vec F S520x1024 .f32) : (runB p h q s).1 = yL p (exB p q) (eqB p s) := by sl_kernel_rfl

end Cert.FwdPieces

end
-- ==== Proof.FwdPoint.lean ====
/-
  The even mixer's forward kernel: what it leaves at a point of the grid, from the blocks it reads and from what the point before left.
-/
module

public import proofs.«01_k».proof.Proof.Gen.Kernel5Ideal.Frame
public import proofs.«01_k».proof.Proof.FwdPiecesA
public import proofs.«01_k».proof.Proof.FwdPiecesB

@[expose] public section

set_option maxRecDepth 16384

noncomputable section

namespace Cert.FwdPoint

open Idealize.ShloMosaic Idealize.ShloMosaic.Pointwise Idealize.ShloMosaic.TcCoe Idealize.SL.Sem
open Cert.Kernel5Ideal Cert.Kernel5Ideal.Gen Cert.FwdPieces

variable (m : (ℓ : Loc nD τ sig) → Buf (Elt Ideal) ℓ) (c : Dev nD)

theorem tuple_A (P : Pt Ideal) (h : cond0_0 P.i) :
    (View.canon (runA P h).1, View.canon (runA P h).2.1, View.canon (runA P h).2.2.1, View.canon (runA P h).2.2.2.1, View.canon (runA P h).2.2.2.2.1)
    = (View.canon (yL P (exA P) (eqA P)), View.canon (plL P (exA P)), View.canon (cvL P (eqA P)), View.canon (tailX P fillX), View.canon (tailQ P fillQ)) :=
  congr (congrArg Prod.mk (congrArg View.canon (y_A P h))) (congr (congrArg Prod.mk (congrArg View.canon (pl_A P h)))
    (congr (congrArg Prod.mk (congrArg View.canon (cv_A P h))) (congr (congrArg Prod.mk (congrArg View.canon (ex_A P h))) (congrArg View.canon (eq_A P h)))))

theorem tuple_B (P : Pt Ideal) (h : ¬ cond0_0 P.i) (q : Vec Ideal S544x1024 .f32) (s : Vec Ideal S520x1024 .f32) :
    (View.canon (runB P h q s).1, View.canon (runB P h q s).2.1, View.canon (runB P h q s).2.2.1, View.canon (runB P h q s).2.2.2.1, View.canon (runB P h q s).2.2.2.2.1)
    = (View.canon (yL P (exB P q) (eqB P s)), View.canon (plL P (exB P q)), View.canon (cvL P (eqB P s)), View.canon (tailX P []), View.canon (tailQ P [])) :=
  congr (congrArg Prod.mk (congrArg View.canon (y_B P h q s))) (congr (congrArg Prod.mk (congrArg View.canon (pl_B P h q s)))
    (congr (congrArg Prod.mk (congrArg View.canon (cv_B P h q s))) (congr (congrArg Prod.mk (congrArg View.canon (ex_B P h q s))) (congrArg View.canon (eq_B P h q s)))))

/-- What the kernel's body is called with at point `t`. -/
def pt (t : Fin cfg0.N) : Pt Ideal where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := scM0_0
  harg9 := Memref.isWhole_whole _
  arg10 := scM0_1
  harg10 := Memref.isWhole_whole _
  arg11 := scM0_2
  harg11 := Memref.isWhole_whole _
  arg12 := scM0_3
  harg12 := Memref.isWhole_whole _
  arg13 := scM0_4
  harg13 := Memref.isWhole_whole _
  x0 := iblk m c 0 t
  x1 := iblk m c 1 t
  x2 := iblk m c 2 t
  x3 := iblk m c 3 t
  x4 := iblk m c 4 t

/-- The rows of the two padded buffers that the point before `t` left. -/
def carriedX (t : Fin cfg0.N) : Vec Ideal S544x1024 .f32 :=
  (outsAt0 m c (t.val - 1) (Nat.lt_of_le_of_lt (Nat.sub_le _ _) t.isLt)).2.2.2.1
def carriedQ (t : Fin cfg0.N) : Vec Ideal S520x1024 .f32 :=
  (outsAt0 m c (t.val - 1) (Nat.lt_of_le_of_lt (Nat.sub_le _ _) t.isLt)).2.2.2.2

theorem outs_first (t : Fin cfg0.N) (h0 : t.val % 16 = 0) : outsAt0 m c t.val t.isLt
    = (View.canon (yL (pt m c t) (exA (pt m c t)) (eqA (pt m c t))), View.canon (plL (pt m c t) (exA (pt m c t))), View.canon (cvL (pt m c t) (eqA (pt m c t))), View.canon (tailX (pt m c t) fillX), View.canon (tailQ (pt m c t) fillQ)) := by
  refine (outsAt0_A m c t h0).trans ?_
  unfold out0_A_5 out0_A_6 out0_A_7 sout0_A_0 sout0_A_1
  simp only [View.read_writes_junk_eq_canon]
  refine Eq.trans ?_ (tuple_A (pt m c t) ((hcond0_0 t).mpr h0))
  sl_kernel_rfl

theorem outs_later (t : Fin cfg0.N) (h0 : ¬ t.val % 16 = 0) : outsAt0 m c t.val t.isLt
    = (View.canon (yL (pt m c t) (exB (pt m c t) (carriedX m c t)) (eqB (pt m c t) (carriedQ m c t))), View.canon (plL (pt m c t) (exB (pt m c t) (carriedX m c t))), View.canon (cvL (pt m c t) (eqB (pt m c t) (carriedQ m c t))), View.canon (tailX (pt m c t) []), View.canon (tailQ (pt m c t) [])) := by
  refine (outsAt0_B m c t h0).trans ?_
  unfold out0_B_5 out0_B_6 out0_B_7 sout0_B_0 sout0_B_1
  simp only [View.read_writes_junk_eq_canon]
  refine Eq.trans ?_ (tuple_B (pt m c t) (fun h => h0 ((hcond0_0 t).mp h)) (carriedX m c t) (carriedQ m c t))
  sl_kernel_rfl

end Cert.FwdPoint

end
-- ==== Proof.FwdAt.lean ====
/-
  The vector expressions of the even mixer's forward kernel, read entry by entry.
-/
module

public import proofs.«01_k».proof.Proof.FwdPieces
public import proofs.«01_k».proof.Proof.Fwd
public import proofs.«01_k».proof.Proof.EvenAt

@[expose] public section

set_option maxRecDepth 16384

noncomputable section

namespace Cert.FwdAt

open Idealize.ShloMosaic Idealize.SL.Sem Idealize.ShloMosaic.Pointwise Cert.Rows
open Cert.Kernel5Ideal Cert.Kernel5Ideal.Gen
open Cert.FwdOps (wide half rowOp keep16 keep32 keep8 zero32 zero8 level32 level32' level32'' level24 level16 level8 posOp poolOp yaOp ycOp convOp ybOp)
open Cert.EvenOps (windowWord)
open Cert.EvenAt (window_word)
open Cert.EvenRef (min_coe quotient)
open Cert.Even (lg lg_tanh)

variable (i : Fin 16)

theorem wide_at (a : Vec Ideal S16x1024 .bf16) (k : Fin 1024) : wide a (ix2 i k) = a (ix2 i k) := by pointwise [wide]

theorem row_at (g : Vec Ideal S1x1024 .f32) (k : Fin 1024) : rowOp g (ix2 i k) = g (ix2 0 k) := by pointwise [rowOp]

theorem silu_at (a : FVec Ideal S16x1024 .f32) (k : Fin 1024) (x : ℝ) (h : a (ix2 i k) = ((x : ℝ) : EReal)) :
    FwdOps.silu a (ix2 i k) = ((Even.silu x : ℝ) : EReal) := by
  pointwise [FwdOps.silu, half]
  rw [h, word_half]
  simp only [← EReal.coe_mul, Ideal.tanh_coe, ← EReal.coe_add, lg_tanh]
  rfl

/-- The padded products. -/
theorem prod_at (a b : Vec Ideal S16x1024 .bf16) (k : Fin 1024) {x y : ℝ} (ha : a (ix2 i k) = ((x : ℝ) : EReal)) (hb : b (ix2 i k) = ((y : ℝ) : EReal)) :
    keep16 (mulf (wide a) (wide b)) (ix2 i k) = ((x * y : ℝ) : EReal) := by
  pointwise [keep16]
  rw [wide_at, wide_at, ha, hb, ← EReal.coe_mul]

theorem keep16_at (a : FVec Ideal S16x1024 .f32) (k : Fin 1024) : keep16 a (ix2 i k) = a (ix2 i k) := by pointwise [keep16]

/-! ## The outputs -/

theorem yc_at {y : Vec Ideal S16x1024 .f32} {ps : Vec Ideal S1x1024 .f32} {ga : Vec Ideal S16x1024 .bf16} (k : Fin 1024) {u s : EReal} {g : ℝ}
    (hy : y (ix2 i k) = u) (hs : ps (ix2 0 k) = s) (hg : ga (ix2 i k) = ((g : ℝ) : EReal)) :
    ycOp y ps ga (ix2 i k) = u * s * ((Even.silu g : ℝ) : EReal) := by
  pointwise [ycOp]
  rw [silu_at i (wide ga) k g ((wide_at i ga k).trans hg), row_at, hy, hs]

theorem yb_at {bg gb : Vec Ideal S16x1024 .bf16} {cv : FVec Ideal S16x1024 .f32} (k : Fin 1024) {c : EReal} {b g : ℝ}
    (hb : bg (ix2 i k) = ((b : ℝ) : EReal)) (hc : cv (ix2 i k) = c) (hg : gb (ix2 i k) = ((g : ℝ) : EReal)) :
    ybOp bg cv gb (ix2 i k) = ((b : ℝ) : EReal) * c * ((Even.silu g : ℝ) : EReal) := by
  pointwise [ybOp]
  rw [silu_at i (wide gb) k g ((wide_at i gb k).trans hg), wide_at, hb, hc]

theorem conv_at {w2 w1 w0 b : Vec Ideal S1x1024 .f32} {d0 d1 d2 : Vec Ideal S16x1024 .f32} (k : Fin 1024) {u v w s x y z : EReal}
    (h2 : w2 (ix2 0 k) = u) (h1 : w1 (ix2 0 k) = v) (h0 : w0 (ix2 0 k) = w) (hb : b (ix2 0 k) = s)
    (e0 : d0 (ix2 i k) = x) (e1 : d1 (ix2 i k) = y) (e2 : d2 (ix2 i k) = z) :
    convOp w2 w1 w0 b d0 d1 d2 (ix2 i k) = u * x + v * y + w * z + s := by
  pointwise [convOp]
  simp only [row_at, h2, h1, h0, hb, e0, e1, e2]

theorem ya_at {pb : Vec Ideal S512x256 .bf16} {pw : Vec Ideal S1x256x256 .bf16} {p q : ℕ → EReal} (r : Fin 512) (d : Fin 256)
    (hp : ∀ e : Fin 256, pb (ix2 r e) = p e.val) (hq : ∀ e : Fin 256, pw (ix3 0 e d) = q e.val) :
    yaOp pb pw (ix2 r d) = ∑ e : Fin 256, p e.val * q e.val := by
  pointwise [yaOp]
  simp only [hp, hq]

/-! ## The window means -/

theorem pos_at (n r : ℕ) (hn : n < 16) (hr : r < 32) : posOp (F := Ideal) (BitVec.ofNat 32 n) r (ix2 i 0)
    = ((((512 * n + (16 * r + i.val) : ℕ) : ℝ) + 1 : ℝ) : EReal) := by
  pointwise [posOp]
  have hi := i.isLt
  have e : (IntOp.addi (IntOp.addi (Scalar.addi (Scalar.muli (BitVec.ofNat 32 n) 512#32) (BitVec.ofNat 32 (16 * r)))
      (BitVec.ofNat 32 i.val)) 1#32 : BitVec 32) = BitVec.ofNat 32 (512 * n + (16 * r + i.val) + 1) := by
    show (BitVec.ofNat 32 n * 512#32 + BitVec.ofNat 32 (16 * r)) + BitVec.ofNat 32 i.val + 1#32 = _
    refine BitVec.eq_of_toNat_eq ?_
    simp only [BitVec.toNat_add, BitVec.toNat_mul, BitVec.toNat_ofNat]
    omega
  rw [e]
  show (((BitVec.ofNat 32 (512 * n + (16 * r + i.val) + 1)).toInt : ℝ) : EReal) = _
  have ht : (BitVec.ofNat 32 (512 * n + (16 * r + i.val) + 1)).toInt = ((512 * n + (16 * r + i.val) + 1 : ℕ) : ℤ) := by
    rw [BitVec.toInt_eq_toNat_of_lt] <;> rw [BitVec.toNat_ofNat, Nat.mod_eq_of_lt (by omega)]
    omega
  rw [ht]
  push_cast
  rfl

theorem pool_at (n r g : ℕ) (hn : n < 16) (hr : r < 32) (hg : g < 4) {u v w : Vec Ideal S16x256 .f32} (k : Fin 256) {a b x : ℝ}
    (ha : u (ix2 i k) = ((a : ℝ) : EReal)) (hb : v (ix2 i k) = ((b : ℝ) : EReal)) (hx : w (ix2 i k) = ((x : ℝ) : EReal)) :
    poolOp (BitVec.ofNat 32 n) r g u v w (ix2 i k)
      = (((a + b) / min ((((512 * n + (16 * r + i.val) : ℕ) : ℝ) + 1 : ℝ)) ((2 ^ (g + 1) : ℕ) : ℝ) - x : ℝ) : EReal) := by
  pointwise [poolOp]
  rw [pos_at i n r hn hr, window_word g hg, ha, hb, hx, min_coe, ← EReal.coe_add, quotient _ _ _ (by positivity), ← EReal.coe_sub]

/-! ## The levels of the running sums, the kept rows and the zeros -/

theorem level32_at {A B : Vec Ideal S32x768 .f32} (i : Fin 32) (k : Fin 768) {a b : ℝ} (ha : A (ix2 i k) = ((a : ℝ) : EReal))
    (hb : B (ix2 i k) = ((b : ℝ) : EReal)) : level32 A B (ix2 i k) = ((a + b : ℝ) : EReal) := by
  pointwise [level32]
  rw [ha, hb, ← EReal.coe_add]

theorem level32'_at {A B : Vec Ideal S32x512 .f32} (i : Fin 32) (k : Fin 512) {a b : ℝ} (ha : A (ix2 i k) = ((a : ℝ) : EReal))
    (hb : B (ix2 i k) = ((b : ℝ) : EReal)) : level32' A B (ix2 i k) = ((a + b : ℝ) : EReal) := by
  pointwise [level32']
  rw [ha, hb, ← EReal.coe_add]

theorem level32''_at {A B : Vec Ideal S32x256 .f32} (i : Fin 32) (k : Fin 256) {a b : ℝ} (ha : A (ix2 i k) = ((a : ℝ) : EReal))
    (hb : B (ix2 i k) = ((b : ℝ) : EReal)) : level32'' A B (ix2 i k) = ((a + b : ℝ) : EReal) := by
  pointwise [level32'']
  rw [ha, hb, ← EReal.coe_add]

theorem level24_at {A B : Vec Ideal S24x768 .f32} (i : Fin 24) (k : Fin 768) {a b : ℝ} (ha : A (ix2 i k) = ((a : ℝ) : EReal))
    (hb : B (ix2 i k) = ((b : ℝ) : EReal)) : level24 A B (ix2 i k) = ((a + b : ℝ) : EReal) := by
  pointwise [level24]
  rw [ha, hb, ← EReal.coe_add]

theorem level16_at {A B : Vec Ideal S16x512 .f32} (i : Fin 16) (k : Fin 512) {a b : ℝ} (ha : A (ix2 i k) = ((a : ℝ) : EReal))
    (hb : B (ix2 i k) = ((b : ℝ) : EReal)) : level16 A B (ix2 i k) = ((a + b : ℝ) : EReal) := by
  pointwise [level16]
  rw [ha, hb, ← EReal.coe_add]

theorem level8_at {A B : Vec Ideal S8x256 .f32} (i : Fin 8) (k : Fin 256) {a b : ℝ} (ha : A (ix2 i k) = ((a : ℝ) : EReal))
    (hb : B (ix2 i k) = ((b : ℝ) : EReal)) : level8 A B (ix2 i k) = ((a + b : ℝ) : EReal) := by
  pointwise [level8]
  rw [ha, hb, ← EReal.coe_add]

theorem keep32_at (A : Vec Ideal S32x1024 .f32) (i : Fin 32) (k : Fin 1024) : keep32 A (ix2 i k) = A (ix2 i k) := by pointwise [keep32]
theorem keep8_at (A : Vec Ideal S8x1024 .f32) (i : Fin 8) (k : Fin 1024) : keep8 A (ix2 i k) = A (ix2 i k) := by pointwise [keep8]
theorem zero32_at (i : Fin 32) (k : Fin 1024) : (zero32 : FVec Ideal S32x1024 .f32) (ix2 i k) = ((0 : ℝ) : EReal) := by pointwise [zero32, keep32]; rfl
theorem zero8_at (i : Fin 8) (k : Fin 1024) : (zero8 : FVec Ideal S8x1024 .f32) (ix2 i k) = ((0 : ℝ) : EReal) := by pointwise [zero8, keep8]; rfl

end Cert.FwdAt

end
-- ==== Proof.FwdVal.lean ====
/-
  What one grid point of the even mixer's forward kernel stores, over the data: the point of the rows `512 T` on.
-/
module

public import proofs.«01_k».proof.Proof.FwdAt
public import proofs.«01_k».proof.Proof.EvenVal

@[expose] public section

set_option maxRecDepth 16384

noncomputable section

namespace Cert.FwdVal

open Idealize.ShloMosaic Idealize.SL.Sem Idealize.ShloMosaic.Pointwise Cert.Rows
open Cert.Kernel5Ideal Cert.Kernel5Ideal.Gen Cert.FwdPieces Cert.EvenLists
open Cert.FwdOps (keep32 keep8)
open Cert.EvenPieces (pc inb Ld)
open Cert.EvenVal (re LdOk canon_skip)
open Cert.Fwd (Data padX padQ levb levb_one levb_add levb_shift ya yc cv yb y)
open Cert.Even (win)

variable (D : Data) (T : ℕ)

/-- A point's blocks are those of the rows `512 T` on. -/
structure Good (p : Pt Ideal) : Prop where
  hT : T < 16
  i : (p.i 0).val = T
  x0 : p.x0 = (At (F := Ideal) (e := .bf16) (re fun r c => D.z (512 * T + r) c) : Vec Ideal ⟨2, ![512, 6144]⟩ .bf16)
  x1 : ∀ g e d, (p.x1 (ix3 g e d) : EReal) = D.pw g.val e.val d.val
  x2 : p.x2 = (At (F := Ideal) (e := .f32) (fun _ c => D.ps c) : Vec Ideal ⟨2, ![1, 1024]⟩ .f32)
  x3 : p.x3 = (At (F := Ideal) (e := .f32) D.sw : Vec Ideal ⟨2, ![3, 1024]⟩ .f32)
  x4 : p.x4 = (At (F := Ideal) (e := .f32) (fun _ c => D.sb c) : Vec Ideal ⟨2, ![1, 1024]⟩ .f32)

variable {D T} {p : Pt Ideal} (G : Good D T p)

/-! ## The loads of the input blocks -/

section
include G

theorem zr_at (o : Fin 6) (k : Fin 32) (a : Fin 16) (b : Fin 1024) (n : ℕ) (hn : 1024 * o.val = n) :
    zr p o k (ix2 a b) = ((D.z (512 * T + (16 * k.val + a.val)) (n + b.val) : ℝ) : EReal) := by
  refine (whole_at (b := p.arg1) (by omega) (by omega) p.harg1 p.x0 a b).trans ?_
  rw [G.x0, ← hn]
  rfl

theorem pwG_at (g : Fin 4) (e d : Fin 256) : (pwG p g (ix3 0 e d) : EReal) = D.pw g.val e.val d.val := by
  unfold pwG
  rw [View.readAt_apply, p.harg2.read_unread, ← G.x1 g e d]
  refine congrArg p.x1 (funext fun x => Fin.ext ?_)
  match x with
  | ⟨0, _⟩ => show g.val + 1 * 0 = g.val; omega
  | ⟨1, _⟩ => show 0 + 1 * e.val = e.val; omega
  | ⟨2, _⟩ => show 0 + 1 * d.val = d.val; omega

theorem psR_at (k : Fin 1024) : psR p (ix2 0 k) = D.ps k.val := by
  refine (whole_at (b := p.arg3) (by omega) (by omega) p.harg3 p.x2 (0 : Fin 1) k).trans ?_
  rw [G.x2]
  show D.ps (0 + k.val) = _
  rw [Nat.zero_add]

theorem swR_at (j : Fin 3) (k : Fin 1024) : swR p j (ix2 0 k) = D.sw j.val k.val := by
  refine (whole_at (b := p.arg4) (by omega) (by omega) p.harg4 p.x3 (0 : Fin 1) k).trans ?_
  rw [G.x3]
  show D.sw (j.val + 0) (0 + k.val) = _
  rw [Nat.zero_add, Nat.add_zero]

theorem sbR_at (k : Fin 1024) : sbR p (ix2 0 k) = D.sb k.val := by
  refine (whole_at (b := p.arg5) (by omega) (by omega) p.harg5 p.x4 (0 : Fin 1) k).trans ?_
  rw [G.x4]
  show D.sb (0 + k.val) = _
  rw [Nat.zero_add]

end

/-! ## A buffer of carried rows and a point's own rows -/

/-- The point's own rows lie from row `h` on. -/
structure Own {R : ℕ} (h : ℕ) (L : List (View.Piece (Elt Ideal) ⟨2, ![R, 1024]⟩ .f32)) (f : ℕ → ℕ → ℝ) : Prop where
  ok : Ok (F := Ideal) (e := .f32) L (re f)
  cov : Cov (F := Ideal) L (fun r _ => h ≤ r)
  from_h : ∀ q ∈ L, ∀ y : (⟨2, ![R, 1024]⟩ : Shape).Idx, y ∈ q.1.set → h ≤ (y 0).val

section
variable {R h : ℕ} {L B : List (View.Piece (Elt Ideal) ⟨2, ![R, 1024]⟩ .f32)} {f : ℕ → ℕ → ℝ} (O : Own h L f)
variable {sig : RefSig} {κ : Kind} {sp : Space} (b : Memref sig κ sp ⟨2, ![R, 1024]⟩ .f32)
include O

/-- Loads over a fill of the rows before. -/
theorem first_ok (hB : Ok (F := Ideal) (e := .f32) B (re f)) (hc : Cov (F := Ideal) B (fun r _ => r < h)) :
    LdOk (R := R) (fun r c n m hr hc => b.view.readCov (L ++ B) (Rect.unit (s := ⟨2, ![R, 1024]⟩) ![r, c] ![n, m] (inb hr hc)).toLoadRect) f :=
  fun r c n m hr hc' i k => load_at' b hr hc' (P := fun _ _ => True) (ok_append O.ok hB) (fun y _ => by
    by_cases hy : h ≤ (y 0).val
    · obtain ⟨q, hq, hm⟩ := O.cov y hy
      exact ⟨q, List.mem_append_left _ hq, hm⟩
    · obtain ⟨q, hq, hm⟩ := hc y (by omega : (y 0).val < h)
      exact ⟨q, List.mem_append_right _ hq, hm⟩) i k trivial

variable {b}

/-- Loads over the rows that were carried. -/
theorem later_ok (hb : b.IsWhole) (x : Vec Ideal ⟨2, ![R, 1024]⟩ .f32)
    (hx : ∀ (i : Fin R) (k : Fin 1024), i.val < h → x (ix2 i k) = ((f i.val k.val : ℝ) : EReal)) :
    LdOk (R := R) (fun r c n m hr hc =>
      if h ≤ r then b.view.readCov L (Rect.unit (s := ⟨2, ![R, 1024]⟩) ![r, c] ![n, m] (inb hr hc)).toLoadRect
      else b.view.readAt (Elt Ideal) (Rect.unit (s := ⟨2, ![R, 1024]⟩) ![r, c] ![n, m] (inb hr hc)).toLoadRect
        (b.view.writes (Elt Ideal) (hb.unread x) L)) f := fun r c n m hr hc i k => by
  beta_reduce
  split
  · exact load_at' b hr hc O.ok O.cov i k (by omega)
  · refine (over_at hr hc hb x L i k).trans ?_
    by_cases hm : h ≤ r + i.val
    · exact over_in hb x O.ok O.cov _ hm
    · refine (over_out hb x _ fun q hq hy => hm (O.from_h q hq _ hy)).trans ?_
      exact hx ⟨r + i.val, by omega⟩ ⟨c + k.val, by omega⟩ (by dsimp only; omega)

end

section
include G

theorem exL_own : Own 32 (exL p) (fun r c => padX D (512 * T + r) c) where
  ok := ok_ofFn fun k => pc_ok fun a b => by
    refine (FwdAt.keep16_at a _ b).trans ((FwdAt.wide_at a _ b).trans ((zr_at G 0 k.rev a b 0 rfl).trans ?_))
    refine congrArg Real.toEReal ?_
    unfold padX
    beta_reduce
    rw [if_neg (by omega), show 512 * T + (32 + 16 * k.rev.val + a.val) - 32 = 512 * T + (16 * k.rev.val + a.val) by omega]
  cov := cov_ofFn fun y hy => by
    have h0 : (y 0).val < 544 := (y 0).isLt
    have h1 : (y 1).val < 1024 := (y 1).isLt
    refine ⟨Fin.rev ⟨((y 0).val - 32) / 16, by omega⟩, pc_mem.2 ?_⟩
    rw [Fin.rev_rev]
    dsimp only
    omega
  from_h q hq y hy := by
    obtain ⟨k, rfl⟩ := List.mem_ofFn.1 hq
    have := (pc_mem.1 hy).1.1
    omega

theorem eqL_own : Own 8 (eqL p) (fun r c => padQ D (512 * T + r) c) where
  ok := ok_ofFn fun k => pc_ok fun a b => by
    refine (FwdAt.prod_at a _ _ b (zr_at G 4 k.rev a b 4096 rfl) (zr_at G 2 k.rev a b 2048 rfl)).trans ?_
    refine congrArg Real.toEReal ?_
    unfold padQ
    beta_reduce
    rw [if_neg (by omega), show 512 * T + (8 + 16 * k.rev.val + a.val) - 8 = 512 * T + (16 * k.rev.val + a.val) by omega, Nat.zero_add]
  cov := cov_ofFn fun y hy => by
    have h0 : (y 0).val < 520 := (y 0).isLt
    have h1 : (y 1).val < 1024 := (y 1).isLt
    refine ⟨Fin.rev ⟨((y 0).val - 8) / 16, by omega⟩, pc_mem.2 ?_⟩
    rw [Fin.rev_rev]
    dsimp only
    omega
  from_h q hq y hy := by
    obtain ⟨k, rfl⟩ := List.mem_ofFn.1 hq
    have := (pc_mem.1 hy).1.1
    omega

theorem exA_ok (hT : T = 0) : LdOk (exA p) (fun r c => padX D (512 * T + r) c) :=
  first_ok (exL_own G) p.arg9 (ok_cons (pc_ok fun a b => (FwdAt.zero32_at a b).trans (congrArg Real.toEReal (by
    unfold padX; beta_reduce; rw [if_pos (by omega)]))) (fun _ h => absurd h (by simp))) fun y hy => by
    have h1 : (y 1).val < 1024 := (y 1).isLt
    exact ⟨_, List.mem_singleton.2 rfl, pc_mem.2 (by omega)⟩

theorem eqA_ok (hT : T = 0) : LdOk (eqA p) (fun r c => padQ D (512 * T + r) c) :=
  first_ok (eqL_own G) p.arg10 (ok_cons (pc_ok fun a b => (FwdAt.zero8_at a b).trans (congrArg Real.toEReal (by
    unfold padQ; beta_reduce; rw [if_pos (by omega)]))) (fun _ h => absurd h (by simp))) fun y hy => by
    have h1 : (y 1).val < 1024 := (y 1).isLt
    exact ⟨_, List.mem_singleton.2 rfl, pc_mem.2 (by omega)⟩

theorem exB_ok (q : Vec Ideal S544x1024 .f32)
    (hq : ∀ (i : Fin 544) (k : Fin 1024), i.val < 32 → q (ix2 i k) = ((padX D (512 * T + i.val) k.val : ℝ) : EReal)) :
    LdOk (exB p q) (fun r c => padX D (512 * T + r) c) := later_ok (exL_own G) p.harg9 q hq

theorem eqB_ok (s : Vec Ideal S520x1024 .f32)
    (hs : ∀ (i : Fin 520) (k : Fin 1024), i.val < 8 → s (ix2 i k) = ((padQ D (512 * T + i.val) k.val : ℝ) : EReal)) :
    LdOk (eqB p s) (fun r c => padQ D (512 * T + r) c) := later_ok (eqL_own G) p.harg10 s hs

/-- The rows that a point leaves for the next. -/
theorem tailX_at (B : List (View.Piece (Elt Ideal) S544x1024 .f32)) (i : Fin 544) (k : Fin 1024) (hi : i.val < 32) :
    View.canon (tailX p B) (ix2 i k) = ((padX D (512 * (T + 1) + i.val) k.val : ℝ) : EReal) := by
  refine canon_at (L := [_]) (L' := exL p ++ B) (P := fun r _ => r < 32) (G := re fun r c => padX D (512 * (T + 1) + r) c)
    (ok_cons (pc_ok fun a b => ?_) (fun _ h => absurd h (by simp))) (fun y hy => ?_) (ix2 i k) hi
  · refine (FwdAt.keep32_at _ a b).trans ((load_at p.arg9 (by omega) (by omega) (exL_own G).ok (exL_own G).cov a b (by omega)).trans ?_)
    show ((padX D (512 * T + (512 + a.val)) (0 + b.val) : ℝ) : EReal) = ((padX D (512 * (T + 1) + (0 + a.val)) (0 + b.val) : ℝ) : EReal)
    rw [show 512 * (T + 1) + (0 + a.val) = 512 * T + (512 + a.val) by omega]
  · have h1 : (y 1).val < 1024 := (y 1).isLt
    exact ⟨_, List.mem_singleton.2 rfl, pc_mem.2 (by omega)⟩

theorem tailQ_at (B : List (View.Piece (Elt Ideal) S520x1024 .f32)) (i : Fin 520) (k : Fin 1024) (hi : i.val < 8) :
    View.canon (tailQ p B) (ix2 i k) = ((padQ D (512 * (T + 1) + i.val) k.val : ℝ) : EReal) := by
  refine canon_at (L := [_]) (L' := eqL p ++ B) (P := fun r _ => r < 8) (G := re fun r c => padQ D (512 * (T + 1) + r) c)
    (ok_cons (pc_ok fun a b => ?_) (fun _ h => absurd h (by simp))) (fun y hy => ?_) (ix2 i k) hi
  · refine (FwdAt.keep8_at _ a b).trans ((load_at p.arg10 (by omega) (by omega) (eqL_own G).ok (eqL_own G).cov a b (by omega)).trans ?_)
    show ((padQ D (512 * T + (512 + a.val)) (0 + b.val) : ℝ) : EReal) = ((padQ D (512 * (T + 1) + (0 + a.val)) (0 + b.val) : ℝ) : EReal)
    rw [show 512 * (T + 1) + (0 + a.val) = 512 * T + (512 + a.val) by omega]
  · have h1 : (y 1).val < 1024 := (y 1).isLt
    exact ⟨_, List.mem_singleton.2 rfl, pc_mem.2 (by omega)⟩

end

/-! ## The running window sums -/

section
variable {l : Ld Ideal 544} {f : ℕ → ℕ → ℝ} (hl : LdOk l f)
include hl

theorem la1_ok : Ok (F := Ideal) (e := .f32) (la1L l) (re (levb f 2)) := by
  have key : ∀ r c : ℕ, f r c + f (r - 1) c = levb f 2 r c := fun r c => by rw [← levb_one f r c, ← levb_one f (r - 1) c]; exact levb_add f 1 1 r c
  refine ok_cons (pc_ok fun a b => ?_) (ok_ofFn fun j => pc_ok fun a b => ?_)
  · refine (FwdAt.level24_at a b (hl _ _ _ _ _ _ a b) (hl _ _ _ _ _ _ a b)).trans ?_
    show _ = ((levb f 2 (520 + a.val) (256 + b.val) : ℝ) : EReal)
    rw [← key, show 519 + a.val = 520 + a.val - 1 by omega]
  · refine (FwdAt.level32_at a b (hl _ _ _ _ _ _ a b) (hl _ _ _ _ _ _ a b)).trans ?_
    show _ = ((levb f 2 (8 + 32 * j.rev.val + a.val) (256 + b.val) : ℝ) : EReal)
    rw [← key, show 7 + 32 * j.rev.val + a.val = 8 + 32 * j.rev.val + a.val - 1 by omega]

omit hl in
theorem la1_cov : Cov (F := Ideal) (la1L l) (fun r c => 8 ≤ r ∧ 256 ≤ c) := fun y hy => by
  have h0 : (y 0).val < 544 := (y 0).isLt
  have h1 : (y 1).val < 1024 := (y 1).isLt
  by_cases h : (y 0).val < 520
  · refine ⟨_, List.mem_cons_of_mem _ (List.mem_ofFn.2 ⟨Fin.rev ⟨((y 0).val - 8) / 32, by omega⟩, rfl⟩), pc_mem.2 ?_⟩
    rw [Fin.rev_rev]
    dsimp only
    omega
  · exact ⟨_, List.mem_cons_self, pc_mem.2 (by omega)⟩

theorem la1c_at (p : Pt Ideal) {r c n m : ℕ} (hr : r + n ≤ 544) (hc : c + m ≤ 1024) (a : Fin n) (b : Fin m) (h : 8 ≤ r + a.val) (h' : 256 ≤ c + b.val) :
    la1c p l r c n m hr hc (ix2 a b) = ((levb f 2 (r + a.val) (c + b.val) : ℝ) : EReal) :=
  load_at' p.arg12 hr hc (la1_ok hl) la1_cov a b ⟨h, h'⟩

theorem lb_ok (p : Pt Ideal) : Ok (F := Ideal) (e := .f32) (lbL p l) (re (levb f 4)) := by
  refine ok_cons (pc_ok fun a b => ?_) (ok_ofFn fun j => pc_ok fun a b => ?_)
  · refine (FwdAt.level16_at a b (la1c_at hl p _ _ a b (by omega) (by omega)) (la1c_at hl p _ _ a b (by omega) (by omega))).trans ?_
    show _ = ((levb f 4 (528 + a.val) (512 + b.val) : ℝ) : EReal)
    rw [← levb_add f 2 2, show 526 + a.val = 528 + a.val - 2 by omega]
  · refine (FwdAt.level32'_at a b (la1c_at hl p _ _ a b (by omega) (by omega)) (la1c_at hl p _ _ a b (by omega) (by omega))).trans ?_
    show _ = ((levb f 4 (16 + 32 * j.rev.val + a.val) (512 + b.val) : ℝ) : EReal)
    rw [← levb_add f 2 2, show 14 + 32 * j.rev.val + a.val = 16 + 32 * j.rev.val + a.val - 2 by omega]

omit hl in
theorem lb_cov (p : Pt Ideal) : Cov (F := Ideal) (lbL p l) (fun r c => 16 ≤ r ∧ 512 ≤ c) := fun y hy => by
  have h0 : (y 0).val < 544 := (y 0).isLt
  have h1 : (y 1).val < 1024 := (y 1).isLt
  by_cases h : (y 0).val < 528
  · refine ⟨_, List.mem_cons_of_mem _ (List.mem_ofFn.2 ⟨Fin.rev ⟨((y 0).val - 16) / 32, by omega⟩, rfl⟩), pc_mem.2 ?_⟩
    rw [Fin.rev_rev]
    dsimp only
    omega
  · exact ⟨_, List.mem_cons_self, pc_mem.2 (by omega)⟩

theorem lbc_at (p : Pt Ideal) {r c n m : ℕ} (hr : r + n ≤ 544) (hc : c + m ≤ 1024) (a : Fin n) (b : Fin m) (h : 16 ≤ r + a.val) (h' : 512 ≤ c + b.val) :
    lbc p l r c n m hr hc (ix2 a b) = ((levb f 4 (r + a.val) (c + b.val) : ℝ) : EReal) :=
  load_at' p.arg13 hr hc (lb_ok hl p) (lb_cov p) a b ⟨h, h'⟩

theorem la2_ok (p : Pt Ideal) : Ok (F := Ideal) (e := .f32) (la2L p l) (re (levb f 8)) := by
  refine ok_cons (pc_ok fun a b => ?_) (ok_ofFn fun j => pc_ok fun a b => ?_)
  · refine (FwdAt.level8_at a b (lbc_at hl p _ _ a b (by omega) (by omega)) (lbc_at hl p _ _ a b (by omega) (by omega))).trans ?_
    show _ = ((levb f 8 (536 + a.val) (768 + b.val) : ℝ) : EReal)
    rw [← levb_add f 4 4, show 532 + a.val = 536 + a.val - 4 by omega]
  · refine (FwdAt.level32''_at a b (lbc_at hl p _ _ a b (by omega) (by omega)) (lbc_at hl p _ _ a b (by omega) (by omega))).trans ?_
    show _ = ((levb f 8 (24 + 32 * j.rev.val + a.val) (768 + b.val) : ℝ) : EReal)
    rw [← levb_add f 4 4, show 20 + 32 * j.rev.val + a.val = 24 + 32 * j.rev.val + a.val - 4 by omega]

omit hl in
theorem la2_cov (p : Pt Ideal) : Cov (F := Ideal) (la2L p l) (fun r c => 24 ≤ r ∧ 768 ≤ c) := fun y hy => by
  have h0 : (y 0).val < 544 := (y 0).isLt
  have h1 : (y 1).val < 1024 := (y 1).isLt
  by_cases h : (y 0).val < 536
  · refine ⟨_, List.mem_cons_of_mem _ (List.mem_ofFn.2 ⟨Fin.rev ⟨((y 0).val - 24) / 32, by omega⟩, rfl⟩), pc_mem.2 ?_⟩
    rw [Fin.rev_rev]
    dsimp only
    omega
  · exact ⟨_, List.mem_cons_self, pc_mem.2 (by omega)⟩

/-- The last columns hold sums of eight. -/
theorem lac_eight (p : Pt Ideal) {r c n m : ℕ} (hr : r + n ≤ 544) (hc : c + m ≤ 1024) (a : Fin n) (b : Fin m) (h : 24 ≤ r + a.val) (h' : 768 ≤ c + b.val) :
    lac p l r c n m hr hc (ix2 a b) = ((levb f 8 (r + a.val) (c + b.val) : ℝ) : EReal) :=
  load_at p.arg12 hr hc (la2_ok hl p) (la2_cov p) a b ⟨h, h'⟩

/-- The second group's columns still hold sums of two. -/
theorem lac_two (p : Pt Ideal) {r c n m : ℕ} (hr : r + n ≤ 544) (hc : c + m ≤ 1024) (a : Fin n) (b : Fin m) (h : 8 ≤ r + a.val)
    (h' : 256 ≤ c + b.val) (h'' : c + b.val < 768) :
    lac p l r c n m hr hc (ix2 a b) = ((levb f 2 (r + a.val) (c + b.val) : ℝ) : EReal) := by
  unfold lac
  refine (readCov_at p.arg12 hr hc _ a b).trans ((canon_skip _ _ _ fun q hq hm => ?_).trans (canon_at' (la1_ok hl) la1_cov (place hr hc a b) ⟨h, h'⟩))
  rcases List.mem_cons.1 hq with rfl | hq
  · have := (pc_mem.1 hm).2.1
    change 768 ≤ c + b.val at this
    omega
  · obtain ⟨j, rfl⟩ := List.mem_ofFn.1 hq
    have := (pc_mem.1 hm).2.1
    change 768 ≤ c + b.val at this
    omega

theorem xc_at (p : Pt Ideal) (k : Fin 128) (s : Fin 2) (a : Fin 16) (b : Fin 256) : xc p l k s (ix2 a b)
    = ((levb f (2 ^ (k.val % 4)) (32 + 16 * (k.val / 4) + a.val - 2 ^ (k.val % 4) * s.val) (256 * (k.val % 4) + b.val) : ℝ) : EReal) := by
  have hs := s.isLt
  unfold xc
  rcases (by omega : k.val % 4 = 0 ∨ k.val % 4 = 1 ∨ k.val % 4 = 2 ∨ k.val % 4 = 3) with h | h | h | h <;> simp only [h]
  · refine (hl _ _ _ _ _ _ a b).trans ?_
    rw [pow_zero, levb_one, show 32 + 16 * (k.val / 4) - s.val + a.val = 32 + 16 * (k.val / 4) + a.val - 1 * s.val by omega]
  · refine (lac_two hl p _ _ a b (by omega) (by omega) (by omega)).trans ?_
    rw [pow_one, show 32 + 16 * (k.val / 4) - 2 * s.val + a.val = 32 + 16 * (k.val / 4) + a.val - 2 * s.val by omega]
  · refine (lbc_at hl p _ _ a b (by omega) (by omega)).trans ?_
    rw [show (2 ^ 2 : ℕ) = 4 from rfl, show 32 + 16 * (k.val / 4) - 4 * s.val + a.val = 32 + 16 * (k.val / 4) + a.val - 4 * s.val by omega]
  · refine (lac_eight hl p _ _ a b (by omega) (by omega)).trans ?_
    rw [show (2 ^ 3 : ℕ) = 8 from rfl, show 32 + 16 * (k.val / 4) - 8 * s.val + a.val = 32 + 16 * (k.val / 4) + a.val - 8 * s.val by omega]

end

/-! ## The pooled rows -/

section
variable {l : Ld Ideal 544} (hl : LdOk l (fun r c => padX D (512 * T + r) c))
include G hl

theorem pl_ok : Ok (F := Ideal) (e := .bf16) (plL p l) (re fun r c => Cert.Fwd.pool D (512 * T + r) c) := ok_ofFn fun k => pc_ok fun a b => by
  have hk := k.rev.isLt
  rw [G.i]
  refine (FwdAt.pool_at a T _ _ G.hT (by omega) (by omega) b (xc_at hl p k.rev 0 a b) (xc_at hl p k.rev 1 a b) (hl _ _ _ _ _ _ a b)).trans ?_
  refine congrArg Real.toEReal ?_
  have hw : win (256 * (k.rev.val % 4) + b.val) = 2 ^ (k.rev.val % 4 + 1) := by
    unfold win; rw [show (256 * (k.rev.val % 4) + b.val) / 256 = k.rev.val % 4 by omega]
  have hle : 2 ^ (k.rev.val % 4 + 1) ≤ 16 := (Nat.pow_le_pow_right (by norm_num) (by omega : k.rev.val % 4 + 1 ≤ 4)).trans (by norm_num)
  unfold Cert.Fwd.pool
  beta_reduce
  rw [hw]
  have hs := levb_add (fun r c => padX D (512 * T + r) c) (2 ^ (k.rev.val % 4)) (2 ^ (k.rev.val % 4)) (32 + 16 * (k.rev.val / 4) + a.val) (256 * (k.rev.val % 4) + b.val)
  rw [show ((0 : Fin 2) : ℕ) = 0 from rfl, show ((1 : Fin 2) : ℕ) = 1 from rfl, Nat.mul_zero, Nat.mul_one, Nat.sub_zero, hs, ← Nat.mul_two, ← pow_succ,
    levb_shift (padX D) _ _ _ _ (by omega)]
  have hz : padX D (512 * T + (32 + 16 * (k.rev.val / 4) + a.val)) (256 * (k.rev.val % 4) + b.val)
      = D.z (512 * T + (16 * (k.rev.val / 4) + a.val)) (256 * (k.rev.val % 4) + b.val) := by
    unfold padX
    rw [if_neg (by omega)]
    exact congrArg (D.z · _) (by omega)
  rw [hz, show 512 * T + (32 + 16 * (k.rev.val / 4) + a.val) = 512 * T + (16 * (k.rev.val / 4) + a.val) + 32 by omega]

omit G hl in
theorem pl_cov : Cov (F := Ideal) (plL p l) (fun _ _ => True) := cov_ofFn fun y _ => by
  have h0 : (y 0).val < 512 := (y 0).isLt
  have h1 : (y 1).val < 1024 := (y 1).isLt
  refine ⟨Fin.rev ⟨(y 0).val / 16 * 4 + (y 1).val / 256, by omega⟩, pc_mem.2 ?_⟩
  rw [Fin.rev_rev]
  dsimp only
  omega

theorem pl_at (i : Fin 512) (k : Fin 1024) : View.canon (plL p l) (ix2 i k) = ((Cert.Fwd.pool D (512 * T + i.val) k.val : ℝ) : EReal) :=
  canon_at' (pl_ok G hl) pl_cov (ix2 i k) trivial

theorem yaL_ok : Ok (F := Ideal) (e := .f32) (yaL p l) (fun r c => ya D (512 * T + r) c) := ok_ofFn fun g => pc_ok fun a b => by
  refine (FwdAt.ya_at a b (p := fun e => ((Cert.Fwd.pool D (512 * T + a.val) (256 * g.rev.val + e) : ℝ) : EReal)) (q := fun e => D.pw g.rev.val e b.val)
    (fun e => ?_) fun e => pwG_at G g.rev e b).trans ?_
  · refine (load_at' p.arg7 (by omega) (by omega) (pl_ok G hl) pl_cov a e trivial).trans ?_
    show ((Cert.Fwd.pool D (512 * T + (0 + a.val)) (256 * g.rev.val + e.val) : ℝ) : EReal) = _
    rw [Nat.zero_add]
  · unfold ya
    beta_reduce
    rw [show (256 * g.rev.val + b.val) / 256 = g.rev.val by omega, show (256 * g.rev.val + b.val) % 256 = b.val by omega, Nat.mul_comm g.rev.val 256,
      Nat.zero_add]

theorem yac_at (k : Fin 32) (a : Fin 16) (b : Fin 1024) : yac p l k (ix2 a b) = ya D (512 * T + (16 * k.val + a.val)) b.val := by
  refine (load_at' p.arg11 (by omega) (by omega) (P := fun _ _ => True) (yaL_ok G hl) (cov_ofFn fun y _ => ?_) a b trivial).trans ?_
  · have h0 : (y 0).val < 512 := (y 0).isLt
    have h1 : (y 1).val < 1024 := (y 1).isLt
    refine ⟨Fin.rev ⟨(y 1).val / 256, by omega⟩, pc_mem.2 ?_⟩
    rw [Fin.rev_rev]
    dsimp only
    omega
  · rw [Nat.zero_add]

end

/-! ## The convolution and the output -/

section
variable {l' : Ld Ideal 520} (hq : LdOk l' (fun r c => padQ D (512 * T + r) c))
include G hq

theorem cvc_at (k : Fin 32) (a : Fin 16) (b : Fin 1024) : cvc p l' k (ix2 a b) = cv D (512 * T + (16 * k.val + a.val)) b.val := by
  refine (FwdAt.conv_at a b (swR_at G 2 b) (swR_at G 1 b) (swR_at G 0 b) (sbR_at G b) (hq _ _ _ _ _ _ a b) (hq _ _ _ _ _ _ a b) (hq _ _ _ _ _ _ a b)).trans ?_
  unfold cv
  beta_reduce
  rw [Nat.zero_add, show 512 * T + (8 + 16 * k.val + a.val) = 512 * T + (16 * k.val + a.val) + 8 by omega,
    show 512 * T + (7 + 16 * k.val + a.val) = 512 * T + (16 * k.val + a.val) + 7 by omega,
    show 512 * T + (6 + 16 * k.val + a.val) = 512 * T + (16 * k.val + a.val) + 6 by omega]
  rfl

theorem cv_at (i : Fin 512) (k : Fin 1024) : (View.canon (cvL p l') (ix2 i k) : EReal) = cv D (512 * T + i.val) k.val := by
  refine canon_at' (F := Ideal) (e := .bf16) (R := 512) (C := 1024) (G := fun r c => cv D (512 * T + r) c) (P := fun _ _ => True)
    (ok_ofFn fun k => pc_ok fun a b => ?_) (cov_ofFn fun y _ => ?_) (ix2 i k) trivial
  · refine Eq.trans ?_ ((cvc_at G hq k.rev a b).trans ?_)
    · pointwise
    · rw [Nat.zero_add]
  · have h0 : (y 0).val < 512 := (y 0).isLt
    have h1 : (y 1).val < 1024 := (y 1).isLt
    refine ⟨Fin.rev ⟨(y 0).val / 16, by omega⟩, pc_mem.2 ?_⟩
    rw [Fin.rev_rev]
    dsimp only
    omega

variable {l : Ld Ideal 544} (hl : LdOk l (fun r c => padX D (512 * T + r) c))
include hl

theorem y_at (i : Fin 512) (k : Fin 2048) : (View.canon (yL p l l') (ix2 i k) : EReal) = y D (512 * T + i.val) k.val := by
  refine canon_at' (F := Ideal) (e := .bf16) (R := 512) (C := 2048) (G := fun r c => y D (512 * T + r) c) (P := fun _ _ => True)
    (ok_pairs (fun k => pc_ok fun a b => ?_) (fun k => pc_ok fun a b => ?_)) (cov_pairs fun y _ => ?_) (ix2 i k) trivial
  · refine (FwdAt.yb_at a b (zr_at G 3 k.rev a b 3072 rfl) (cvc_at G hq k.rev a b) (zr_at G 5 k.rev a b 5120 rfl)).trans ?_
    unfold y
    rw [if_neg (by omega), show 1024 + b.val - 1024 = b.val by omega]
    rfl
  · refine (FwdAt.yc_at a b (yac_at G hl k.rev a b) (psR_at G b) (zr_at G 1 k.rev a b 1024 rfl)).trans ?_
    unfold y
    rw [if_pos (by omega), Nat.zero_add]
    rfl
  · have h0 : (y 0).val < 512 := (y 0).isLt
    have h1 : (y 1).val < 2048 := (y 1).isLt
    refine ⟨Fin.rev ⟨(y 0).val / 16, by omega⟩, ?_⟩
    rw [pc_mem, pc_mem, Fin.rev_rev]
    dsimp only
    omega

end

end Cert.FwdVal

end
-- ==== Proof.FwdHost.lean ====
/-
  The even mixer's forward kernel: the arrays which the host lines prepare for it, and the blocks of them which a point reads.
-/
module

public import proofs.«01_k».proof.Proof.Gen.Kernel5Ideal.Value
public import proofs.«01_k».proof.Proof.FwdRef
public import proofs.«01_k».proof.Proof.FwdPoint
public import proofs.«01_k».proof.Proof.FwdVal
public import proofs.«01_k».proof.Proof.OddHost

@[expose] public section

set_option maxRecDepth 16384

noncomputable section

namespace Cert.FwdHost

open Idealize.ShloMosaic Idealize.ShloMosaic.Pointwise Idealize.ShloMosaic.TcCoe Idealize.SL.Sem Cert.Rows
open Cert.Kernel5Ideal Cert.Kernel5Ideal.Gen
open Cert.Head (Mat)
open Cert.EvenLists (At)
open Cert.EvenVal (re)
open Cert.OddRef (ex2)
open Cert.OddHost (at2_of ex2_of)
open Cert.FwdRef (data ex3 ex3_fin)
open Cert.FwdVal (Good)
open Cert.FwdPoint (pt)

variable (m : (ℓ : Loc nD τ sig) → Buf (Elt Ideal) ℓ) (c : Dev nD)
variable (Z : Mat 8192 6144) (PW : S4x256x256.Idx → EReal) (PS : S1x1024.Idx → EReal) (SW : S3x1024.Idx → EReal) (SB : S1x1024.Idx → EReal)

/-- The launch memory holds the arguments; the one that the precondition names is real. -/
structure Holds : Prop where
  z : m ((c.tc : Thread nD τ).loc main_arg0) = up Z
  pw : m ((c.tc : Thread nD τ).loc main_arg1) = PW
  ps : m ((c.tc : Thread nD τ).loc main_arg2) = PS
  sw : m ((c.tc : Thread nD τ).loc main_arg3) = SW
  sb : m ((c.tc : Thread nD τ).loc main_arg4) = SB

variable {m c Z PW PS SW SB}

/-! ## What the host lines prepare -/

theorem V_z (h : Holds m c Z PW PS SW SB) : V m c main_v0 = up Z := by
  unfold V
  simp only [hostOps0, List.flatten_cons, List.flatten_nil, List.append_nil, List.cons_append, List.nil_append]
  after_results
  exact h.z

theorem V_pw (h : Holds m c Z PW PS SW SB) : V m c main_v1 = PW := by
  unfold V
  simp only [hostOps0, List.flatten_cons, List.flatten_nil, List.append_nil, List.cons_append, List.nil_append]
  after_results
  exact h.pw

theorem V_ps (h : Holds m c Z PW PS SW SB) : V m c main_arg2 = PS := by
  unfold V
  simp only [hostOps0, List.flatten_cons, List.flatten_nil, List.append_nil, List.cons_append, List.nil_append]
  after_results
  exact h.ps

theorem V_sw (h : Holds m c Z PW PS SW SB) : V m c main_arg3 = SW := by
  unfold V
  simp only [hostOps0, List.flatten_cons, List.flatten_nil, List.append_nil, List.cons_append, List.nil_append]
  after_results
  exact h.sw

theorem V_sb (h : Holds m c Z PW PS SW SB) : V m c main_arg4 = SB := by
  unfold V
  simp only [hostOps0, List.flatten_cons, List.flatten_nil, List.append_nil, List.cons_append, List.nil_append]
  after_results
  exact h.sb

/-! ## The blocks -/

theorem blk_0 (h : Holds m c Z PW PS SW SB) (t : Fin cfg0.N) : iblk m c 0 t
    = (At (F := Ideal) (e := .bf16) (re fun r k => (data Z PW PS SW SB).z (512 * t.val + r) k) : Vec Ideal ⟨2, ![512, 6144]⟩ .bf16) := by
  have hi : ∀ t : Fin grid0.N, win0_0.index t 0 = t.val ∧ win0_0.index t 1 = 0 := by decide +kernel
  funext j
  have h0 : (j 0).val < 512 := (j 0).isLt
  unfold iblk
  rw [View.read_apply]
  show V m c main_v0 _ = _
  rw [V_z h]
  refine congrArg Real.toEReal (at2_of Z _ ?_ ?_)
  · show win0_0.index t 0 * 512 + 1 * (j 0).val = 512 * t.val + (j 0).val
    rw [(hi t).1]; omega
  · show win0_0.index t 1 * 6144 + 1 * (j 1).val = (j 1).val
    rw [(hi t).2]; omega

theorem blk_2 (h : Holds m c Z PW PS SW SB) (t : Fin cfg0.N) : iblk m c 2 t
    = (At (F := Ideal) (e := .f32) (fun _ k => (data Z PW PS SW SB).ps k) : Vec Ideal ⟨2, ![1, 1024]⟩ .f32) := by
  have hi : ∀ t : Fin grid0.N, win0_2.index t 0 = 0 ∧ win0_2.index t 1 = 0 := by decide +kernel
  funext j
  have h0 : (j 0).val < 1 := (j 0).isLt
  unfold iblk
  rw [View.read_apply]
  show V m c main_arg2 _ = _
  rw [V_ps h]
  refine ex2_of PS _ ?_ ?_
  · show win0_2.index t 0 * 1 + 1 * (j 0).val = 0
    rw [(hi t).1]; omega
  · show win0_2.index t 1 * 1024 + 1 * (j 1).val = (j 1).val
    rw [(hi t).2]; omega

theorem blk_3 (h : Holds m c Z PW PS SW SB) (t : Fin cfg0.N) : iblk m c 3 t
    = (At (F := Ideal) (e := .f32) (data Z PW PS SW SB).sw : Vec Ideal ⟨2, ![3, 1024]⟩ .f32) := by
  have hi : ∀ t : Fin grid0.N, win0_3.index t 0 = 0 ∧ win0_3.index t 1 = 0 := by decide +kernel
  funext j
  have h0 : (j 0).val < 3 := (j 0).isLt
  unfold iblk
  rw [View.read_apply]
  show V m c main_arg3 _ = _
  rw [V_sw h]
  refine ex2_of SW _ ?_ ?_
  · show win0_3.index t 0 * 3 + 1 * (j 0).val = (j 0).val
    rw [(hi t).1]; omega
  · show win0_3.index t 1 * 1024 + 1 * (j 1).val = (j 1).val
    rw [(hi t).2]; omega

theorem blk_4 (h : Holds m c Z PW PS SW SB) (t : Fin cfg0.N) : iblk m c 4 t
    = (At (F := Ideal) (e := .f32) (fun _ k => (data Z PW PS SW SB).sb k) : Vec Ideal ⟨2, ![1, 1024]⟩ .f32) := by
  have hi : ∀ t : Fin grid0.N, win0_4.index t 0 = 0 ∧ win0_4.index t 1 = 0 := by decide +kernel
  funext j
  have h0 : (j 0).val < 1 := (j 0).isLt
  unfold iblk
  rw [View.read_apply]
  show V m c main_arg4 _ = _
  rw [V_sb h]
  refine ex2_of SB _ ?_ ?_
  · show win0_4.index t 0 * 1 + 1 * (j 0).val = 0
    rw [(hi t).1]; omega
  · show win0_4.index t 1 * 1024 + 1 * (j 1).val = (j 1).val
    rw [(hi t).2]; omega

theorem blk_1 (h : Holds m c Z PW PS SW SB) (t : Fin cfg0.N) (g : Fin 4) (i j : Fin 256) : iblk m c 1 t (ix3 g i j) = (data Z PW PS SW SB).pw g.val i.val j.val := by
  have hi : ∀ t : Fin grid0.N, win0_1.index t 0 = 0 ∧ win0_1.index t 1 = 0 ∧ win0_1.index t 2 = 0 := by decide +kernel
  unfold iblk
  rw [View.read_apply]
  show V m c main_v1 _ = _
  rw [V_pw h]
  refine Eq.trans (congrArg PW (funext fun a => Fin.ext ?_)) (ex3_fin PW g i j).symm
  match a with
  | ⟨0, _⟩ => show win0_1.index t 0 * 4 + 1 * g.val = g.val; rw [(hi t).1]; omega
  | ⟨1, _⟩ => show win0_1.index t 1 * 256 + 1 * i.val = i.val; rw [(hi t).2.1]; omega
  | ⟨2, _⟩ => show win0_1.index t 2 * 256 + 1 * j.val = j.val; rw [(hi t).2.2]; omega

theorem good (h : Holds m c Z PW PS SW SB) (t : Fin cfg0.N) : Good (data Z PW PS SW SB) t.val (pt m c t) := by
  constructor
  · exact lt_of_lt_of_eq t.isLt (show cfg0.N = 16 from N_0)
  · dsimp only [pt]; exact (by decide +kernel : ∀ t : Fin grid0.N, (grid0.coords t 0).val = t.val) t
  · dsimp only [pt]; exact blk_0 h t
  · dsimp only [pt]; exact blk_1 h t
  · dsimp only [pt]; exact blk_2 h t
  · dsimp only [pt]; exact blk_3 h t
  · dsimp only [pt]; exact blk_4 h t

end Cert.FwdHost

end
-- ==== Proof.FwdFinal.lean ====
/-
  The even mixer's forward kernel: its three results. A point after the first finds on top of its rows, and of the products
  that the convolution reads, the rows that the point before copied there.
-/
module

public import proofs.«01_k».proof.Proof.FwdHost

@[expose] public section

set_option maxRecDepth 16384

noncomputable section

namespace Cert.FwdFinal

open Idealize.ShloMosaic Idealize.ShloMosaic.Pointwise Idealize.ShloMosaic.TcCoe Idealize.SL.Sem Cert.Rows
open Cert.Kernel5Ideal Cert.Kernel5Ideal.Gen
open Cert.Head (Mat)
open Cert.FwdPieces Cert.FwdVal Cert.FwdHost Cert.FwdPoint
open Cert.Fwd (Data cv padX padQ)
open Cert.FwdRef (data)

variable {m : (ℓ : Loc nD τ sig) → Buf (Elt Ideal) ℓ} {c : Dev nD}
variable {Z : Mat 8192 6144} {PW : S4x256x256.Idx → EReal} {PS : S1x1024.Idx → EReal} {SW : S3x1024.Idx → EReal} {SB : S1x1024.Idx → EReal}

/-- What point `T` leaves: its rows of the three results, and on top of the two padded buffers the last rows of its own. -/
structure Out (D : Data) (T : ℕ) (oy : Vec Ideal S512x2048 .bf16) (op oc : Vec Ideal S512x1024 .bf16) (ox : Vec Ideal S544x1024 .f32)
    (oq : Vec Ideal S520x1024 .f32) : Prop where
  y : ∀ (i : Fin 512) (k : Fin 2048), (oy (ix2 i k) : EReal) = Cert.Fwd.y D (512 * T + i.val) k.val
  pool : ∀ (i : Fin 512) (k : Fin 1024), (op (ix2 i k) : EReal) = ((Cert.Fwd.pool D (512 * T + i.val) k.val : ℝ) : EReal)
  cv : ∀ (i : Fin 512) (k : Fin 1024), (oc (ix2 i k) : EReal) = cv D (512 * T + i.val) k.val
  topX : ∀ (i : Fin 544) (k : Fin 1024), i.val < 32 → (ox (ix2 i k) : EReal) = ((padX D (512 * (T + 1) + i.val) k.val : ℝ) : EReal)
  topQ : ∀ (i : Fin 520) (k : Fin 1024), i.val < 8 → (oq (ix2 i k) : EReal) = ((padQ D (512 * (T + 1) + i.val) k.val : ℝ) : EReal)

theorem out_first {D : Data} {T : ℕ} {p : Pt Ideal} (G : Good D T p) (hT : T = 0) :
    Out D T (View.canon (yL p (exA p) (eqA p))) (View.canon (plL p (exA p))) (View.canon (cvL p (eqA p))) (View.canon (tailX p fillX))
      (View.canon (tailQ p fillQ)) where
  y := y_at G (eqA_ok G hT) (exA_ok G hT)
  pool := pl_at G (exA_ok G hT)
  cv := cv_at G (eqA_ok G hT)
  topX := tailX_at G fillX
  topQ := tailQ_at G fillQ

theorem out_later {D : Data} {T : ℕ} {p : Pt Ideal} (G : Good D T p) (q : Vec Ideal S544x1024 .f32) (s : Vec Ideal S520x1024 .f32)
    (hq : ∀ (i : Fin 544) (k : Fin 1024), i.val < 32 → (q (ix2 i k) : EReal) = ((padX D (512 * T + i.val) k.val : ℝ) : EReal))
    (hs : ∀ (i : Fin 520) (k : Fin 1024), i.val < 8 → (s (ix2 i k) : EReal) = ((padQ D (512 * T + i.val) k.val : ℝ) : EReal)) :
    Out D T (View.canon (yL p (exB p q) (eqB p s))) (View.canon (plL p (exB p q))) (View.canon (cvL p (eqB p s))) (View.canon (tailX p []))
      (View.canon (tailQ p [])) where
  y := y_at G (eqB_ok G s hs) (exB_ok G q hq)
  pool := pl_at G (exB_ok G q hq)
  cv := cv_at G (eqB_ok G s hs)
  topX := tailX_at G []
  topQ := tailQ_at G []

theorem out (h : Holds m c Z PW PS SW SB) : ∀ (n : ℕ) (hn : n < cfg0.N), Out (data Z PW PS SW SB) n
    (outsAt0 m c n hn).1 (outsAt0 m c n hn).2.1 (outsAt0 m c n hn).2.2.1 (outsAt0 m c n hn).2.2.2.1 (outsAt0 m c n hn).2.2.2.2
  | 0, hn => by
    have e := outs_first m c ⟨0, hn⟩ rfl
    dsimp only at e
    have G : Good (data Z PW PS SW SB) 0 (pt m c ⟨0, hn⟩) := good h ⟨0, hn⟩
    rw [e]
    dsimp only
    exact out_first G rfl
  | n + 1, hn => by
    have hN : cfg0.N = 16 := N_0
    have I := out h n (Nat.lt_of_succ_lt hn)
    have G : Good (data Z PW PS SW SB) (n + 1) (pt m c ⟨n + 1, hn⟩) := good h ⟨n + 1, hn⟩
    have e := outs_later m c ⟨n + 1, hn⟩ (by dsimp only; omega)
    dsimp only at e
    rw [e]
    dsimp only
    refine out_later G _ _ ?_ ?_
    · dsimp only [carriedX]
      exact I.topX
    · dsimp only [carriedQ]
      exact I.topQ

/-- The mixer's output. -/
theorem final_5 (h : Holds m c Z PW PS SW SB) : (dats m 0 c).arrAt 5 cfg0.N
    = fun j : (⟨2, ![8192, 2048]⟩ : Shape).Idx => Cert.Fwd.y (data Z PW PS SW SB) (j 0).val (j 1).val := by
  have hi : ∀ t : Fin cfg0.N, win0_5.index t 0 = t.val ∧ win0_5.index t 1 = 0 :=
    (by decide +kernel : ∀ t : Fin grid0.N, _)
  refine (dats m 0 c).arrAt_eq_of_covers 5 _ (by decide +kernel) fun t hf y => ?_
  blk_simp
  rw [after0_5]
  idx_vars y
  refine ((out h t.val t.isLt).y y0 y1).trans (congrArg₂ (Cert.Fwd.y (data Z PW PS SW SB)) ?_ ?_)
  · blk_simp [(hi t).1]; omega
  · blk_simp [(hi t).2]

/-- The pooled rows. -/
theorem final_6 (h : Holds m c Z PW PS SW SB) : (dats m 0 c).arrAt 6 cfg0.N
    = fun j : (⟨2, ![8192, 1024]⟩ : Shape).Idx => ((Cert.Fwd.pool (data Z PW PS SW SB) (j 0).val (j 1).val : ℝ) : EReal) := by
  have hi : ∀ t : Fin cfg0.N, win0_6.index t 0 = t.val ∧ win0_6.index t 1 = 0 :=
    (by decide +kernel : ∀ t : Fin grid0.N, _)
  refine (dats m 0 c).arrAt_eq_of_covers 6 _ (by decide +kernel) fun t hf y => ?_
  blk_simp
  rw [after0_6]
  idx_vars y
  refine ((out h t.val t.isLt).pool y0 y1).trans (congrArg₂ (fun i k => ((Cert.Fwd.pool (data Z PW PS SW SB) i k : ℝ) : EReal)) ?_ ?_)
  · blk_simp [(hi t).1]; omega
  · blk_simp [(hi t).2]

/-- The convolution. -/
theorem final_7 (h : Holds m c Z PW PS SW SB) : (dats m 0 c).arrAt 7 cfg0.N
    = fun j : (⟨2, ![8192, 1024]⟩ : Shape).Idx => cv (data Z PW PS SW SB) (j 0).val (j 1).val := by
  have hi : ∀ t : Fin cfg0.N, win0_7.index t 0 = t.val ∧ win0_7.index t 1 = 0 :=
    (by decide +kernel : ∀ t : Fin grid0.N, _)
  refine (dats m 0 c).arrAt_eq_of_covers 7 _ (by decide +kernel) fun t hf y => ?_
  blk_simp
  rw [after0_7]
  idx_vars y
  refine ((out h t.val t.isLt).cv y0 y1).trans (congrArg₂ (cv (data Z PW PS SW SB)) ?_ ?_)
  · blk_simp [(hi t).1]; omega
  · blk_simp [(hi t).2]

end Cert.FwdFinal

end
-- ==== Proof.FwdClaim.lean ====
/-
  The value claim of the even mixer's forward pass: where the mixer's input is finite, the kernel and the reference leave the
  same three results.
-/
module

public import proofs.«01_k».proof.Defs
public import proofs.«01_k».proof.Proof.Gen.Pre_finite5
public import proofs.«01_k».proof.Proof.Gen.Reference5Ideal
public import proofs.«01_k».proof.Proof.Gen.Reference5Ideal.Run
public import proofs.«01_k».proof.Proof.Finite
public import proofs.«01_k».proof.Proof.FwdFinal

@[expose] public section

set_option maxRecDepth 16384

noncomputable section

namespace Cert.FwdClaim

open Idealize.ShloMosaic Idealize.ShloMosaic.Pointwise Idealize.ShloMosaic.StableHlo Idealize.SL.Sem Cert.Rows
  Cert.FwdHost Cert.FwdFinal Cert.FwdRef
open Cert.Head (Mat)
open Cert.Fwd (cv)

/-! ## The precondition -/

section
open Cert.Kernel5Ideal
variable (m : (ℓ : Loc nD τ sig) → Buf (Elt Ideal) ℓ) (c : Dev nD)

/-- On a finite input the launch memory holds its reals. -/
theorem holds (hp : Cert.Pre_Kernel5Ideal_finite5 m) :
    Holds m c (reals (m ((c.tc : Thread nD τ).loc main_arg0))) (m ((c.tc : Thread nD τ).loc main_arg1)) (m ((c.tc : Thread nD τ).loc main_arg2))
      (m ((c.tc : Thread nD τ).loc main_arg3)) (m ((c.tc : Thread nD τ).loc main_arg4)) :=
  ⟨eq_up_reals _ _ (hp c), rfl, rfl, rfl, rfl⟩

end

/-! ## The reference's results -/

section
open Cert.Reference5Ideal Cert.Reference5Ideal.Read
variable {a0 : S8192x6144.Idx → EReal} {a1 : S4x256x256.Idx → EReal} {a2 a4 : S1x1024.Idx → EReal} {a3 : S3x1024.Idx → EReal}
variable {Z : Mat 8192 6144} {PW : S4x256x256.Idx → EReal} {PS : S1x1024.Idx → EReal} {SW : S3x1024.Idx → EReal} {SB : S1x1024.Idx → EReal}

theorem ref_y (h0 : a0 = up Z) (h1 : a1 = PW) (h2 : a2 = PS) (h3 : a3 = SW) (h4 : a4 = SB) : val_main_v91 (F := Ideal) a0 a1 a2 a3 a4
    = fun j => Cert.Fwd.y (data Z PW PS SW SB) (j 0).val (j 1).val := by
  subst h0 h1 h2 h3 h4
  funext j
  idx_vars j
  exact at_v91 _ _ _ _ _ j0 j1

theorem ref_pool (h0 : a0 = up Z) : val_main_v92 (F := Ideal) a0
    = fun j => ((Cert.Fwd.pool (data Z PW PS SW SB) (j 0).val (j 1).val : ℝ) : EReal) := by
  subst h0
  funext j
  idx_vars j
  exact at_v92 Z PW PS SW SB j0 j1

theorem ref_cv (h0 : a0 = up Z) (h3 : a3 = SW) (h4 : a4 = SB) : val_main_v93 (F := Ideal) a0 a3 a4
    = fun j => cv (data Z PW PS SW SB) (j 0).val (j 1).val := by
  subst h0 h3 h4
  funext j
  idx_vars j
  exact at_v93 Z PW PS _ _ j0 j1

end

/-! ## The claim -/

set_option maxHeartbeats 8000000 in
theorem algebraic : Cert.algebraic_Kernel5Ideal_Reference5Ideal_pre_finite5 := by
  intro m ρ m' ρ' hp hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N,
    fun c => (Cert.Kernel5Ideal.Gen.dats m 0 c).arrAt 7 Cert.Kernel5Ideal.cfg0.N,
    Cert.Kernel5Ideal.Value.run_blocks (F := Ideal) m ρ, ?_⟩
  refine (θ_run Cert.Reference5Ideal.defs _ _).mono (fun r h c => ?_) (Cert.Reference5Ideal.Value.run (F := Ideal) m' ρ')
  obtain ⟨Z, PW, PS, SW, SB, H⟩ : ∃ Z PW PS SW SB, Holds m c Z PW PS SW SB := ⟨_, _, _, _, _, holds m c hp⟩
  obtain ⟨g0, g1, g2, g3, g4⟩ := hagree c
  obtain ⟨r0, r1, r2, kept⟩ := h c
  have e0 := g0.trans H.z
  have e3 := g3.trans H.sw
  have e4 := g4.trans H.sb
  refine ⟨?_, ?_, ?_, kept⟩
  · exact (r0.trans (Cert.Reference5Ideal.Read.val_main_v91_eq m' c)).trans
      ((ref_y e0 (g1.trans H.pw) (g2.trans H.ps) e3 e4).trans (final_5 H).symm)
  · exact (r1.trans (Cert.Reference5Ideal.Read.val_main_v92_eq m' c)).trans
      ((ref_pool (PW := PW) (PS := PS) (SW := SW) (SB := SB) e0).trans (final_6 H).symm)
  · exact (r2.trans (Cert.Reference5Ideal.Read.val_main_v93_eq _ _ _)).trans
      ((ref_cv (PW := PW) (PS := PS) e0 e3 e4).trans (final_7 H).symm)

end Cert.FwdClaim

end
-- ==== Proof.Proj.lean ====
/-
  The input projection with the layer norm below it, over arrays of extended reals: the residual sum, its layer norm and the
  product with the weights.
-/
module

public import proofs.«01_k».proof.Proof.Head
public import proofs.«01_k».proof.Proof.Lnb

@[expose] public section

noncomputable section

namespace Cert.Proj

open Idealize.ShloMosaic Idealize.ShloMosaic.Pointwise
open Cert.Head (row)
open Cert.Lnb (col)

/-- A matrix of extended reals. -/
abbrev EMat (p q : ℕ) : Type := (⟨2, ![p, q]⟩ : Shape).Idx → EReal

/-! ## The layer norm of a row -/

/-- The mean of a row of 1024. -/
def mean (f : Fin 1024 → EReal) : EReal := Ideal.div (∑ k, f k) (Ideal.ofBits .f32 0x44800000#32)
/-- One over the square root of the mean square distance from the mean, after the small addend. -/
def rs (f : Fin 1024 → EReal) : EReal :=
  Ideal.rsqrt (mean (fun k => (f k - mean f) * (f k - mean f)) + Ideal.ofBits .f32 0x3727C5AC#32)
/-- The normalized row. -/
def nrm (f : Fin 1024 → EReal) (k : Fin 1024) : EReal := (f k - mean f) * rs f

theorem mean_eq (f : Fin 1024 → EReal) : Ideal.div (∑ k, f k) (Ideal.ofBits .f32 0x44800000#32) = mean f := rfl

theorem rs_eq (f : Fin 1024 → EReal) :
    Ideal.rsqrt (mean (fun k => (f k - mean f) * (f k - mean f)) + Ideal.ofBits .f32 0x3727C5AC#32) = rs f := rfl

theorem nrm_eq (f : Fin 1024 → EReal) (k : Fin 1024) : (f k - mean f) * rs f = nrm f k := rfl

/-! ## The projection -/

variable (Y : EMat 8192 2048) (W : EMat 2048 1024) (Rb : EMat 8192 1024) (gb bb g b : EMat 1 1024) (WI : EMat 1024 6144)

/-- The residual sum. -/
def res (i : Fin 8192) (k : Fin 1024) : EReal :=
  Ideal.ofBits .f32 0x3FD744FD#32 * (nrm (fun q => Rb (ix2 i q)) k * gb (ix2 0 k) + bb (ix2 0 k))
    + ∑ q : Fin 2048, Y (ix2 i q) * W (ix2 q k)
/-- Its layer norm, the layer's input. -/
def inp (i : Fin 8192) (k : Fin 1024) : EReal := nrm (res Y W Rb gb bb i) k * g (ix2 0 k) + b (ix2 0 k)
/-- The projected rows. -/
def out (i : Fin 8192) (j : Fin 6144) : EReal := ∑ k : Fin 1024, inp Y W Rb gb bb g b i k * WI (ix2 k j)

theorem res_eq (i : Fin 8192) (k : Fin 1024) :
    Ideal.ofBits .f32 0x3FD744FD#32 * (nrm (fun q => Rb (ix2 i q)) k * gb (ix2 0 k) + bb (ix2 0 k))
      + ∑ q : Fin 2048, Y (ix2 i q) * W (ix2 q k) = res Y W Rb gb bb i k := rfl

/-! ## What the grid points read -/

/-- The 512 rows of tile `t`. -/
def tile {q : ℕ} (M : EMat 8192 q) (t : Fin 16) : EMat 512 q := fun j => M (ix2 (row t (j 0)) (j 1))

/-- The normalized rows of `R`. -/
def nrms (R : EMat 8192 1024) : EMat 8192 1024 := fun j => nrm (fun q => R (ix2 (j 0) q)) (j 1)

/-- The weights of the product below in eight row blocks of 256. -/
def wblk : (⟨3, ![8, 256, 1024]⟩ : Shape).Idx → EReal := fun j =>
  W (ix2 ⟨256 * (j 0).val + (j 1).val, by have h0 : (j 0).val < 8 := (j 0).isLt; have h1 : (j 1).val < 256 := (j 1).isLt; omega⟩ (j 2))

/-- The projection's weights in eight column blocks of 768. -/
def wcol : (⟨3, ![8, 1024, 768]⟩ : Shape).Idx → EReal := fun j => WI (ix2 (j 1) (col (j 0) (j 2)))

theorem tile_at {q : ℕ} (M : EMat 8192 q) (r : Fin 512) (k : Fin q) (t : Fin 16) : tile M t (ix2 r k) = M (ix2 (row t r) k) := rfl

theorem nrms_at (R : EMat 8192 1024) (i : Fin 8192) (k : Fin 1024) : nrms R (ix2 i k) = nrm (fun q => R (ix2 i q)) k := rfl

theorem wblk_at (q : Fin 2048) (h0 : q.val / 256 < 8) (h1 : q.val % 256 < 256) (k : Fin 1024) :
    wblk W (ix3 ⟨q.val / 256, h0⟩ ⟨q.val % 256, h1⟩ k) = W (ix2 q k) := by
  have h : (⟨256 * (q.val / 256) + q.val % 256, by omega⟩ : Fin 2048) = q := Fin.ext (by dsimp only; omega)
  exact congrArg (fun z => W (ix2 z k)) h

end Cert.Proj

end
-- ==== Proof.ProjRef.lean ====
/-
  The reference of the input projection: each value it computes is the one the mathematics names.
-/
module

public import proofs.«01_k».proof.Proof.Proj
public import proofs.«01_k».proof.Proof.Gen.Reference6Ideal.Read

@[expose] public section

set_option maxRecDepth 16384

noncomputable section

namespace Cert.ProjRef

open Idealize.ShloMosaic Idealize.ShloMosaic.Pointwise Cert.Proj Cert.Reference6Ideal Cert.Reference6Ideal.Read

variable (Y : EMat 8192 2048) (W : EMat 2048 1024) (Rb : EMat 8192 1024) (gb bb g b : EMat 1 1024) (WI : EMat 1024 6144)

theorem at_v3 (i : Fin 8192) : val_main_v3 (F := Ideal) Rb (ix2 i 0) = mean (fun q => Rb (ix2 i q)) := by
  pointwise [val_main_v3, val_main_v2, val_main_v1, val_main_v0, val_main_cst, val_main_cst_0]
  rfl

theorem at_v5 (i : Fin 8192) (k : Fin 1024) : val_main_v5 (F := Ideal) Rb (ix2 i k)
    = Rb (ix2 i k) - mean (fun q => Rb (ix2 i q)) := by
  pointwise [val_main_v5, val_main_v4]
  rw [at_v3]

theorem at_v15 (i : Fin 8192) : val_main_v15 (F := Ideal) Rb (ix2 i 0) = rs (fun q => Rb (ix2 i q)) := by
  pointwise [val_main_v15, val_main_v14, val_main_v13, val_main_v10, val_main_v9, val_main_v8, val_main_v7, val_main_v6,
    val_main_cst_1, val_main_cst_2, val_main_cst_3]
  simp only [at_v5]
  rfl

/-- The normalized rows below. -/
theorem at_v17 (i : Fin 8192) (k : Fin 1024) : val_main_v17 (F := Ideal) Rb (ix2 i k) = nrm (fun q => Rb (ix2 i q)) k := by
  pointwise [val_main_v17, val_main_v16, val_main_v12, val_main_v11]
  rw [at_v3, at_v15]
  rfl

theorem at_v25 (i : Fin 8192) (k : Fin 1024) : val_main_v25 (F := Ideal) Y W Rb gb bb (ix2 i k) = res Y W Rb gb bb i k := by
  pointwise [val_main_v25, val_main_v24, val_main_v23, val_main_v22, val_main_v21, val_main_v20, val_main_v19, val_main_v18,
    val_main_cst_4]
  simp only [at_v17]
  rfl

theorem at_v29 (i : Fin 8192) : val_main_v29 (F := Ideal) Y W Rb gb bb (ix2 i 0) = mean (res Y W Rb gb bb i) := by
  pointwise [val_main_v29, val_main_v28, val_main_v27, val_main_v26, val_main_cst_5, val_main_cst_6]
  simp only [at_v25]
  rfl

theorem at_v31 (i : Fin 8192) (k : Fin 1024) : val_main_v31 (F := Ideal) Y W Rb gb bb (ix2 i k)
    = res Y W Rb gb bb i k - mean (res Y W Rb gb bb i) := by
  pointwise [val_main_v31, val_main_v30]
  rw [at_v25, at_v29]

/-- The reciprocal deviations. -/
theorem at_v39 (i : Fin 8192) : val_main_v39 (F := Ideal) Y W Rb gb bb (ix2 i 0) = rs (res Y W Rb gb bb i) := by
  pointwise [val_main_v39, val_main_v38, val_main_v37, val_main_v36, val_main_v35, val_main_v34, val_main_v33, val_main_v32,
    val_main_cst_7, val_main_cst_8, val_main_cst_9]
  simp only [at_v31]
  rfl

/-- The normalized rows. -/
theorem at_v43 (i : Fin 8192) (k : Fin 1024) : val_main_v43 (F := Ideal) Y W Rb gb bb (ix2 i k) = nrm (res Y W Rb gb bb i) k := by
  pointwise [val_main_v43, val_main_v42, val_main_v41, val_main_v40]
  rw [at_v25, at_v29, at_v39]
  rfl

/-- The layer norm normalizes the same rows once more. -/
theorem v61_eq : val_main_v61 (F := Ideal) Y W Rb gb bb = val_main_v43 (F := Ideal) Y W Rb gb bb := rfl

/-- The layer norm's result. -/
theorem at_v65 (i : Fin 8192) (k : Fin 1024) :
    val_main_v65 (F := Ideal) Y W Rb gb bb g b (ix2 i k) = inp Y W Rb gb bb g b i k := by
  pointwise [val_main_v65, val_main_v64, val_main_v63, val_main_v62]
  rw [v61_eq, at_v43]
  rfl

theorem at_v68 (i : Fin 8192) (k : Fin 1024) :
    val_main_v68 (F := Ideal) Y W Rb gb bb g b (ix2 i k) = inp Y W Rb gb bb g b i k := at_v65 Y W Rb gb bb g b i k

/-- The projected rows. -/
theorem at_v67 (i : Fin 8192) (j : Fin 6144) :
    val_main_v67 (F := Ideal) Y W Rb gb bb g b WI (ix2 i j) = out Y W Rb gb bb g b WI i j := by
  pointwise [val_main_v67, val_main_v66]
  simp only [at_v65]
  rfl

end Cert.ProjRef

end
-- ==== Proof.ProjVal.lean ====
/-
  The kernel of the input projection: what a grid point computes of the 512 rows of its tile, the blocks it reads, its four
  results.
-/
module

public import proofs.«01_k».proof.Proof.ProjRef
public import proofs.«01_k».proof.Proof.EvenLists
public import proofs.«01_k».proof.Proof.Gen.Kernel6Ideal.Value
public import Idealize.ShloMosaic.Lib.Pipeline.ValueKit

@[expose] public section

set_option maxRecDepth 16384

noncomputable section

namespace Cert.ProjVal

open Idealize.ShloMosaic Idealize.ShloMosaic.Pointwise Idealize.ShloMosaic.TcCoe Idealize.SL.Sem Cert.Proj
  Cert.Kernel6Ideal Cert.Kernel6Ideal.Gen
open Cert.Head (row)
open Cert.Lnb (col)
open Cert.EvenPieces (pc inb)
open Cert.EvenLists (pc_ok pc_mem ok_ofFn cov_ofFn canon_at')

/-! ## A point's values -/

section
variable (Y : EMat 8192 2048) (W : EMat 2048 1024) (Rb : EMat 8192 1024) (gb bb g b : EMat 1 1024) (WI : EMat 1024 6144)
  (t : Fin 16)

/-- The blocks a point reads. -/
abbrev by_ : Vec Ideal S512x2048 .bf16 := tile Y t
abbrev bw : Vec Ideal S8x256x1024 .bf16 := wblk W
abbrev bx : Vec Ideal S512x1024 .f32 := tile (nrms Rb) t
abbrev bg : Vec Ideal S1x1024 .f32 := g
abbrev bi : Vec Ideal S8x1024x768 .bf16 := wcol WI

theorem at_pay5 (r : Fin 512) (k : Fin 1024) : k0_pay5 (F := Ideal) (bx Rb t) (bg gb) (bg bb) (by_ Y t) (bw W) (ix2 r k)
    = res Y W Rb gb bb (row t r) k - mean (res Y W Rb gb bb (row t r)) := by
  pointwise [k0_pay5]
  simp only [tile_at, nrms_at, wblk_at, res_eq]
  rfl

theorem at_pay6 (r : Fin 512) : k0_pay6 (F := Ideal) (bx Rb t) (bg gb) (bg bb) (by_ Y t) (bw W) (ix2 r 0)
    = rs (res Y W Rb gb bb (row t r)) := by
  pointwise [k0_pay6]
  simp only [at_pay5]
  rfl

theorem at_pay7 (r : Fin 512) (k : Fin 1024) : k0_pay7 (F := Ideal) (bx Rb t) (bg gb) (bg bb) (by_ Y t) (bw W) (ix2 r k)
    = nrm (res Y W Rb gb bb (row t r)) k := by
  pointwise [k0_pay7]
  rw [at_pay5, at_pay6]
  rfl

/-- The scaled rows, before the offset. -/
abbrev vs : FVec Ideal S512x1024 .f32 := k0_pay8 (F := Ideal) (bx Rb t) (bg gb) (bg bb) (by_ Y t) (bw W) (bg g)

theorem at_pay9 (r : Fin 512) (k : Fin 1024) : k0_pay9 (F := Ideal) (vs Y W Rb gb bb g t) (bg b) (ix2 r k)
    = inp Y W Rb gb bb g b (row t r) k := by
  pointwise [k0_pay9, k0_pay8]
  rw [at_pay7]
  rfl

/-- A block of 768 columns of the weights. -/
theorem ld_w (o : Fin 8) (n : ℕ) (hn : n = o.val) (inb) (k : Fin 1024) (j : Fin 768) :
    View.ld (bi WI) (Rect.unit (s := S8x1024x768) ![n, 0, 0] ![1, 1024, 768] inb) (ix3 0 k j) = WI (ix2 k (col o j)) := by
  refine (View.ld_unit_apply_of (bi WI) _ _ _ _ (ix3 o k j) fun a => ?_).trans rfl
  subst hn
  match a with
  | ⟨0, _⟩ => rfl
  | ⟨1, _⟩ => exact (Nat.zero_add _).symm
  | ⟨2, _⟩ => exact (Nat.zero_add _).symm

/-- The rows through one column block of the weights. -/
theorem at_prod (v : FVec Ideal S512x1024 .bf16) (w : Vec Ideal S1x1024x768 .bf16) (r : Fin 512) (j : Fin 768) :
    k0_pay1 (F := Ideal) v w (ix2 r j) = ∑ k : Fin 1024, (v (ix2 r k) : EReal) * w (ix3 0 k j) := by
  pointwise [k0_pay1]

/-- The block that holds column block `o` of the products. -/
def wo {F : FTy → Type} [FloatOps F] (w : Vec F S8x1024x768 .bf16) (o : Fin 8) : Vec F S1x1024x768 .bf16 :=
  View.ld w (Rect.unit (s := S8x1024x768) ![o.val, 0, 0] S1x1024x768.size (by
    intro a; fin_cases a
    · show o.val + 1 ≤ 8; omega
    · show 0 + 1024 ≤ 1024; omega
    · show 0 + 768 ≤ 768; omega))

/-- The products' pieces, the last column block first. -/
def zL {F : FTy → Type} [FloatOps F] (v : FVec F S512x1024 .bf16) (w : Vec F S8x1024x768 .bf16) :
    List (View.Piece (Elt F) S512x6144 .bf16) := List.ofFn fun o : Fin 8 =>
  pc 0 (768 * o.rev.val) 512 768 (by omega) (by omega) (k0_pay1 v (wo w o.rev))

theorem out_8 {F : FTy → Type} [FloatOps F] (x0 : Vec F S512x2048 .bf16) (x1 : Vec F S8x256x1024 .bf16) (x2 : Vec F S512x1024 .f32)
    (x3 x4 x5 x6 : Vec F S1x1024 .f32) (x7 : Vec F S8x1024x768 .bf16) :
    out0_8 x0 x1 x2 x3 x4 x5 x6 x7 = View.canon (zL (k0_pay15 x0 x1 x2 x3 x4 x5 x6 x7) x7) := by sl_kernel_rfl

theorem zL_at (v : FVec Ideal S512x1024 .bf16) (G : ℕ → ℕ → EReal) (w : Vec Ideal S8x1024x768 .bf16)
    (h : ∀ (o : Fin 8) (r : Fin 512) (j : Fin 768), k0_pay1 (F := Ideal) v (wo w o) (ix2 r j) = G r.val (768 * o.val + j.val))
    (r : Fin 512) (q : Fin 6144) : View.canon (zL v w) (ix2 r q) = G r.val q.val := by
  refine canon_at' (P := fun _ _ => True) (ok_ofFn fun o => pc_ok fun a b => ?_) (cov_ofFn fun y _ => ?_) (ix2 r q) trivial
  · rw [Nat.zero_add]
    exact h o.rev a b
  · have h0 : (y 0).val < 512 := (y 0).isLt
    have h1 : (y 1).val < 6144 := (y 1).isLt
    refine ⟨Fin.rev ⟨(y 1).val / 768, by omega⟩, pc_mem.2 ?_⟩
    rw [Fin.rev_rev]
    dsimp only
    omega

end

end Cert.ProjVal

end
-- ==== Proof.ProjFinal.lean ====
/-
  The kernel of the input projection: the blocks it reads from the launch memory and its four results.
-/
module

public import proofs.«01_k».proof.Proof.ProjVal

@[expose] public section

set_option maxRecDepth 16384

noncomputable section

namespace Cert.ProjVal

open Idealize.ShloMosaic Idealize.ShloMosaic.Pointwise Idealize.ShloMosaic.TcCoe Idealize.SL.Sem Cert.Proj
  Cert.Kernel6Ideal Cert.Kernel6Ideal.Gen
open Cert.Head (row)
open Cert.Lnb (col)

variable (m : (ℓ : Loc nD τ sig) → Buf (Elt Ideal) ℓ) (c : Dev nD)
variable (Y : EMat 8192 2048) (W : EMat 2048 1024) (Rb : EMat 8192 1024) (gb bb g b : EMat 1 1024) (WI : EMat 1024 6144)

/-- The launch memory holds the arguments. -/
structure Holds : Prop where
  y : m ((c.tc : Thread nD τ).loc main_arg0) = Y
  w : m ((c.tc : Thread nD τ).loc main_arg1) = W
  rb : m ((c.tc : Thread nD τ).loc main_arg2) = Rb
  gb : m ((c.tc : Thread nD τ).loc main_arg3) = gb
  bb : m ((c.tc : Thread nD τ).loc main_arg4) = bb
  g : m ((c.tc : Thread nD τ).loc main_arg5) = g
  b : m ((c.tc : Thread nD τ).loc main_arg6) = b
  wi : m ((c.tc : Thread nD τ).loc main_arg7) = WI

/-- A grid point's number. -/
def pt (t : Fin cfg0.N) : Fin 16 := ⟨t.val, lt_of_lt_of_eq t.isLt N_0⟩

variable {m c Y W Rb gb bb g b WI}

/-! ## What the host lines prepare -/

theorem V_y (h : Holds m c Y W Rb gb bb g b WI) : V m c main_v21 = Y := by
  unfold V
  after_results
  exact h.y

theorem w_blocks : shapeCast S8x256x1024 (truncf (F := Ideal) .bf16 (W : Vec Ideal S2048x1024 .f32) bitsLt_bf16_f32)
    shapeCasts_S2048x1024_S8x256x1024 = (wblk W : Vec Ideal S8x256x1024 .bf16) := by
  funext j
  idx_vars j
  pointwise
  exact congrArg (fun z => W (ix2 z j2)) (Fin.ext (by dsimp only [ix3]; omega))

theorem V_w (h : Holds m c Y W Rb gb bb g b WI) : V m c main_v23 = wblk W := by
  have e : V m c main_v23 = shapeCast S8x256x1024
      (truncf (F := Ideal) .bf16 (m ((c.tc : Thread nD τ).loc main_arg1) : Vec Ideal S2048x1024 .f32) bitsLt_bf16_f32)
      shapeCasts_S2048x1024_S8x256x1024 := by
    unfold V
    after_results
    rfl
  rw [e, h.w]
  exact w_blocks

theorem V_x (h : Holds m c Y W Rb gb bb g b WI) : V m c main_v17 = nrms Rb := by
  have e : V m c main_v17 = Cert.Reference6Ideal.Read.val_main_v17 (F := Ideal) (m ((c.tc : Thread nD τ).loc main_arg2)) := by
    unfold V
    after_results
    rfl
  rw [e, h.rb]
  funext j
  idx_vars j
  exact Cert.ProjRef.at_v17 Rb _ _

theorem wi_blocks : transpose S8x1024x768 [1, 0, 2] (shapeCast S1024x8x768 (truncf (F := Ideal) .bf16
    (WI : Vec Ideal S1024x6144 .f32) bitsLt_bf16_f32) shapeCasts_S1024x6144_S1024x8x768)
    transposes_S1024x8x768_S8x1024x768_1_0_2 = (wcol WI : Vec Ideal S8x1024x768 .bf16) := by
  funext j
  idx_vars j
  pointwise
  refine congrArg (fun q => WI (ix2 j1 q)) (Fin.ext ?_)
  show _ = 768 * j0.val + j2.val
  dsimp only
  omega

theorem V_wi (h : Holds m c Y W Rb gb bb g b WI) : V m c main_v20 = wcol WI := by
  have e : V m c main_v20 = transpose S8x1024x768 [1, 0, 2] (shapeCast S1024x8x768 (truncf (F := Ideal) .bf16
      (m ((c.tc : Thread nD τ).loc main_arg7) : Vec Ideal S1024x6144 .f32) bitsLt_bf16_f32) shapeCasts_S1024x6144_S1024x8x768)
      transposes_S1024x8x768_S8x1024x768_1_0_2 := by
    unfold V
    after_results
    rfl
  rw [e, h.wi]
  exact wi_blocks

/-! ## The blocks -/

theorem blk_0 (h : Holds m c Y W Rb gb bb g b WI) (t : Fin cfg0.N) : iblk m c 0 t = tile Y (pt t) := by
  have hi : ∀ t : Fin grid0.N, win0_0.index t 0 = t.val ∧ win0_0.index t 1 = 0 := by decide +kernel
  funext j
  unfold iblk
  rw [View.read_apply]
  show V m c main_v21 _ = _
  rw [V_y h]
  refine congrArg Y (funext fun a => Fin.ext ?_)
  match a with
  | ⟨0, _⟩ => show win0_0.index t 0 * 512 + 1 * (j 0).val = 512 * t.val + (j 0).val; rw [(hi t).1]; omega
  | ⟨1, _⟩ => show win0_0.index t 1 * 2048 + 1 * (j 1).val = (j 1).val; rw [(hi t).2]; omega

theorem blk_1 (h : Holds m c Y W Rb gb bb g b WI) (t : Fin cfg0.N) : iblk m c 1 t = wblk W := by
  have hi : ∀ t : Fin grid0.N, win0_1.index t 0 = 0 ∧ win0_1.index t 1 = 0 ∧ win0_1.index t 2 = 0 := by decide +kernel
  funext j
  unfold iblk
  rw [View.read_apply]
  show V m c main_v23 _ = _
  rw [V_w h]
  refine congrArg (wblk W) (funext fun a => Fin.ext ?_)
  match a with
  | ⟨0, _⟩ => show win0_1.index t 0 * 8 + 1 * (j 0).val = (j 0).val; rw [(hi t).1]; omega
  | ⟨1, _⟩ => show win0_1.index t 1 * 256 + 1 * (j 1).val = (j 1).val; rw [(hi t).2.1]; omega
  | ⟨2, _⟩ => show win0_1.index t 2 * 1024 + 1 * (j 2).val = (j 2).val; rw [(hi t).2.2]; omega

theorem blk_2 (h : Holds m c Y W Rb gb bb g b WI) (t : Fin cfg0.N) : iblk m c 2 t = tile (nrms Rb) (pt t) := by
  have hi : ∀ t : Fin grid0.N, win0_2.index t 0 = t.val ∧ win0_2.index t 1 = 0 := by decide +kernel
  funext j
  unfold iblk
  rw [View.read_apply]
  show V m c main_v17 _ = _
  rw [V_x h]
  refine congrArg (nrms Rb) (funext fun a => Fin.ext ?_)
  match a with
  | ⟨0, _⟩ => show win0_2.index t 0 * 512 + 1 * (j 0).val = 512 * t.val + (j 0).val; rw [(hi t).1]; omega
  | ⟨1, _⟩ => show win0_2.index t 1 * 1024 + 1 * (j 1).val = (j 1).val; rw [(hi t).2]; omega

theorem blk_3 (h : Holds m c Y W Rb gb bb g b WI) (t : Fin cfg0.N) : iblk m c 3 t = gb := by
  have hi : ∀ t : Fin grid0.N, win0_3.index t 0 = 0 ∧ win0_3.index t 1 = 0 := by decide +kernel
  funext j
  unfold iblk
  rw [View.read_apply]
  show V m c main_arg3 _ = _
  rw [V_main_arg3, h.gb]
  refine congrArg gb (funext fun a => Fin.ext ?_)
  match a with
  | ⟨0, _⟩ => show win0_3.index t 0 * 1 + 1 * (j 0).val = (j 0).val; rw [(hi t).1]; omega
  | ⟨1, _⟩ => show win0_3.index t 1 * 1024 + 1 * (j 1).val = (j 1).val; rw [(hi t).2]; omega

theorem blk_4 (h : Holds m c Y W Rb gb bb g b WI) (t : Fin cfg0.N) : iblk m c 4 t = bb := by
  have hi : ∀ t : Fin grid0.N, win0_4.index t 0 = 0 ∧ win0_4.index t 1 = 0 := by decide +kernel
  funext j
  unfold iblk
  rw [View.read_apply]
  show V m c main_arg4 _ = _
  rw [V_main_arg4, h.bb]
  refine congrArg bb (funext fun a => Fin.ext ?_)
  match a with
  | ⟨0, _⟩ => show win0_4.index t 0 * 1 + 1 * (j 0).val = (j 0).val; rw [(hi t).1]; omega
  | ⟨1, _⟩ => show win0_4.index t 1 * 1024 + 1 * (j 1).val = (j 1).val; rw [(hi t).2]; omega

theorem blk_5 (h : Holds m c Y W Rb gb bb g b WI) (t : Fin cfg0.N) : iblk m c 5 t = g := by
  have hi : ∀ t : Fin grid0.N, win0_5.index t 0 = 0 ∧ win0_5.index t 1 = 0 := by decide +kernel
  funext j
  unfold iblk
  rw [View.read_apply]
  show V m c main_arg5 _ = _
  rw [V_main_arg5, h.g]
  refine congrArg g (funext fun a => Fin.ext ?_)
  match a with
  | ⟨0, _⟩ => show win0_5.index t 0 * 1 + 1 * (j 0).val = (j 0).val; rw [(hi t).1]; omega
  | ⟨1, _⟩ => show win0_5.index t 1 * 1024 + 1 * (j 1).val = (j 1).val; rw [(hi t).2]; omega

theorem blk_6 (h : Holds m c Y W Rb gb bb g b WI) (t : Fin cfg0.N) : iblk m c 6 t = b := by
  have hi : ∀ t : Fin grid0.N, win0_6.index t 0 = 0 ∧ win0_6.index t 1 = 0 := by decide +kernel
  funext j
  unfold iblk
  rw [View.read_apply]
  show V m c main_arg6 _ = _
  rw [V_main_arg6, h.b]
  refine congrArg b (funext fun a => Fin.ext ?_)
  match a with
  | ⟨0, _⟩ => show win0_6.index t 0 * 1 + 1 * (j 0).val = (j 0).val; rw [(hi t).1]; omega
  | ⟨1, _⟩ => show win0_6.index t 1 * 1024 + 1 * (j 1).val = (j 1).val; rw [(hi t).2]; omega

theorem blk_7 (h : Holds m c Y W Rb gb bb g b WI) (t : Fin cfg0.N) : iblk m c 7 t = wcol WI := by
  have hi : ∀ t : Fin grid0.N, win0_7.index t 0 = 0 ∧ win0_7.index t 1 = 0 ∧ win0_7.index t 2 = 0 := by decide +kernel
  funext j
  unfold iblk
  rw [View.read_apply]
  show V m c main_v20 _ = _
  rw [V_wi h]
  refine congrArg (wcol WI) (funext fun a => Fin.ext ?_)
  match a with
  | ⟨0, _⟩ => show win0_7.index t 0 * 8 + 1 * (j 0).val = (j 0).val; rw [(hi t).1]; omega
  | ⟨1, _⟩ => show win0_7.index t 1 * 1024 + 1 * (j 1).val = (j 1).val; rw [(hi t).2.1]; omega
  | ⟨2, _⟩ => show win0_7.index t 2 * 768 + 1 * (j 2).val = (j 2).val; rw [(hi t).2.2]; omega

/-! ## What a point leaves -/

section
variable {F : FTy → Type} [FloatOps F]
variable (x0 : Vec F S512x2048 .bf16) (x1 : Vec F S8x256x1024 .bf16) (x2 : Vec F S512x1024 .f32) (x3 x4 x5 x6 : Vec F S1x1024 .f32)
  (x7 : Vec F S8x1024x768 .bf16)

theorem hz : (![0, 0] : Fin 2 → ℕ) = fun _ => 0 := by decide
theorem hz3 : (![0, 0, 0] : Fin 3 → ℕ) = fun _ => 0 := by decide

theorem pay14_eq : k0_pay14 x0 x1 x2 x3 x4 x5 x6 x7 = k0_pay8 x2 x3 x4 x0 x1 x5 := by
  unfold k0_pay14
  rw [View.ld_unit_zero (S := S512x1024) hz, View.ld_unit_zero (S := S1x1024) hz, View.ld_unit_zero (S := S1x1024) hz,
    View.ld_unit_zero (S := S512x2048) hz, View.ld_unit_zero (S := S8x256x1024) hz3, View.ld_unit_zero (S := S1x1024) hz]

theorem pay15_eq : k0_pay15 x0 x1 x2 x3 x4 x5 x6 x7 = k0_pay9 (k0_pay8 x2 x3 x4 x0 x1 x5) x6 := by
  unfold k0_pay15
  rw [pay14_eq, View.ld_unit_zero (S := S1x1024) hz]

theorem out_9 : out0_9 x0 x1 x2 x3 x4 x5 x6 x7 = k0_pay7 x2 x3 x4 x0 x1 := by
  unfold out0_9
  rw [View.canon_unit_zero (S := S512x1024) hz, View.ld_unit_zero (S := S512x1024) hz, View.ld_unit_zero (S := S1x1024) hz,
    View.ld_unit_zero (S := S1x1024) hz, View.ld_unit_zero (S := S512x2048) hz, View.ld_unit_zero (S := S8x256x1024) hz3]

theorem out_10 : out0_10 x0 x1 x2 x3 x4 x5 x6 x7 = k0_pay6 x2 x3 x4 x0 x1 := by
  unfold out0_10
  rw [View.canon_unit_zero (S := S512x1) hz, View.ld_unit_zero (S := S512x1024) hz, View.ld_unit_zero (S := S1x1024) hz,
    View.ld_unit_zero (S := S1x1024) hz, View.ld_unit_zero (S := S512x2048) hz, View.ld_unit_zero (S := S8x256x1024) hz3]

theorem out_11 : out0_11 x0 x1 x2 x3 x4 x5 x6 x7 = k0_pay9 (k0_pay8 x2 x3 x4 x0 x1 x5) x6 := by
  unfold out0_11
  rw [View.canon_unit_zero (S := S512x1024) hz, pay14_eq, View.ld_unit_zero (S := S1x1024) hz]

end

/-- A projected row of a point's tile. -/
theorem at_z (t : Fin 16) (r : Fin 512) (q : Fin 6144) :
    View.canon (zL (k0_pay9 (F := Ideal) (vs Y W Rb gb bb g t) (bg b)) (bi WI)) (ix2 r q) = out Y W Rb gb bb g b WI (row t r) q := by
  refine (zL_at _ (fun r q => if h : r < 512 ∧ q < 6144 then out Y W Rb gb bb g b WI (row t ⟨r, h.1⟩) ⟨q, h.2⟩ else 0) _
    (fun o r j => ?_) r q).trans (dif_pos ⟨r.isLt, q.isLt⟩)
  rw [at_prod, dif_pos ⟨r.isLt, by omega⟩]
  unfold out wo
  refine Finset.sum_congr rfl fun k _ => ?_
  rw [at_pay9]
  exact congrArg (inp Y W Rb gb bb g b (row t r) k * ·) (ld_w WI o o.val rfl _ k j)

/-! ## The result arrays -/

/-- The projected rows. -/
theorem final_8 (h : Holds m c Y W Rb gb bb g b WI) : (dats m 0 c).arrAt 8 cfg0.N
    = fun j : (⟨2, ![8192, 6144]⟩ : Shape).Idx => out Y W Rb gb bb g b WI (j 0) (j 1) := by
  have hi : ∀ t : Fin cfg0.N, win0_8.index t 0 = t.val ∧ win0_8.index t 1 = 0 :=
    (by decide +kernel : ∀ t : Fin grid0.N, _)
  refine (dats m 0 c).arrAt_eq_of_covers 8 _ (by decide +kernel) fun t hf y => ?_
  blk_simp
  rw [after0_8, out_8, pay15_eq, blk_0 h, blk_1 h, blk_2 h, blk_3 h, blk_4 h, blk_5 h, blk_6 h, blk_7 h]
  idx_vars y
  refine (at_z (pt t) y0 y1).trans (congrArg₂ (out Y W Rb gb bb g b WI) (Fin.ext ?_) (Fin.ext ?_))
  · show 512 * t.val + y0.val = _
    blk_simp [(hi t).1]
    omega
  · show y1.val = _
    blk_simp [(hi t).2]

/-- The normalized rows. -/
theorem final_9 (h : Holds m c Y W Rb gb bb g b WI) : (dats m 0 c).arrAt 9 cfg0.N
    = fun j : (⟨2, ![8192, 1024]⟩ : Shape).Idx => nrm (res Y W Rb gb bb (j 0)) (j 1) := by
  have hi : ∀ t : Fin cfg0.N, win0_9.index t 0 = t.val ∧ win0_9.index t 1 = 0 :=
    (by decide +kernel : ∀ t : Fin grid0.N, _)
  refine (dats m 0 c).arrAt_eq_of_covers 9 _ (by decide +kernel) fun t hf y => ?_
  blk_simp
  rw [after0_9, out_9, blk_0 h, blk_1 h, blk_2 h, blk_3 h, blk_4 h]
  idx_vars y
  refine (at_pay7 Y W Rb gb bb (pt t) y0 y1).trans (congrArg₂ (fun i k => nrm (res Y W Rb gb bb i) k) (Fin.ext ?_) (Fin.ext ?_))
  · show 512 * t.val + y0.val = _
    blk_simp [(hi t).1]
    omega
  · show y1.val = _
    blk_simp [(hi t).2]

/-- The reciprocal deviations. -/
theorem final_10 (h : Holds m c Y W Rb gb bb g b WI) : (dats m 0 c).arrAt 10 cfg0.N
    = fun j : (⟨2, ![8192, 1]⟩ : Shape).Idx => rs (res Y W Rb gb bb (j 0)) := by
  have hi : ∀ t : Fin cfg0.N, win0_10.index t 0 = t.val ∧ win0_10.index t 1 = 0 :=
    (by decide +kernel : ∀ t : Fin grid0.N, _)
  refine (dats m 0 c).arrAt_eq_of_covers 10 _ (by decide +kernel) fun t hf y => ?_
  blk_simp
  rw [after0_10, out_10, blk_0 h, blk_1 h, blk_2 h, blk_3 h, blk_4 h]
  idx_vars y
  obtain rfl : y1 = 0 := Subsingleton.elim _ _
  refine (at_pay6 Y W Rb gb bb (pt t) y0).trans (congrArg (fun i => rs (res Y W Rb gb bb i)) (Fin.ext ?_))
  show 512 * t.val + y0.val = _
  blk_simp [(hi t).1]
  omega

/-- The layer norm's result. -/
theorem final_11 (h : Holds m c Y W Rb gb bb g b WI) : (dats m 0 c).arrAt 11 cfg0.N
    = fun j : (⟨2, ![8192, 1024]⟩ : Shape).Idx => inp Y W Rb gb bb g b (j 0) (j 1) := by
  have hi : ∀ t : Fin cfg0.N, win0_11.index t 0 = t.val ∧ win0_11.index t 1 = 0 :=
    (by decide +kernel : ∀ t : Fin grid0.N, _)
  refine (dats m 0 c).arrAt_eq_of_covers 11 _ (by decide +kernel) fun t hf y => ?_
  blk_simp
  rw [after0_11, out_11, blk_0 h, blk_1 h, blk_2 h, blk_3 h, blk_4 h, blk_5 h, blk_6 h]
  idx_vars y
  refine (at_pay9 Y W Rb gb bb g b (pt t) y0 y1).trans (congrArg₂ (inp Y W Rb gb bb g b) (Fin.ext ?_) (Fin.ext ?_))
  · show 512 * t.val + y0.val = _
    blk_simp [(hi t).1]
    omega
  · show y1.val = _
    blk_simp [(hi t).2]

end Cert.ProjVal

end
-- ==== Proof.ProjClaim.lean ====
/-
  The value claim of the input projection: from any arguments, the kernel and the reference leave the same four results.
-/
module

public import proofs.«01_k».proof.Defs
public import proofs.«01_k».proof.Proof.Gen.Reference6Ideal
public import proofs.«01_k».proof.Proof.Gen.Reference6Ideal.Run
public import proofs.«01_k».proof.Proof.ProjFinal

@[expose] public section

set_option maxRecDepth 16384

noncomputable section

namespace Cert.ProjClaim

open Idealize.ShloMosaic Idealize.ShloMosaic.Pointwise Idealize.ShloMosaic.StableHlo Idealize.SL.Sem
  Cert.Proj Cert.ProjVal Cert.ProjRef

/-! ## The reference's results -/

section
open Cert.Reference6Ideal Cert.Reference6Ideal.Read
variable {a0 : S8192x2048.Idx → EReal} {a1 : S2048x1024.Idx → EReal} {a2 : S8192x1024.Idx → EReal} {a3 a4 a5 a6 : S1x1024.Idx → EReal}
  {a7 : S1024x6144.Idx → EReal}
variable {Y : EMat 8192 2048} {W : EMat 2048 1024} {Rb : EMat 8192 1024} {gb bb g b : EMat 1 1024} {WI : EMat 1024 6144}

theorem ref_z (h0 : a0 = Y) (h1 : a1 = W) (h2 : a2 = Rb) (h3 : a3 = gb) (h4 : a4 = bb) (h5 : a5 = g) (h6 : a6 = b) (h7 : a7 = WI) :
    val_main_v67 (F := Ideal) a0 a1 a2 a3 a4 a5 a6 a7
      = fun j : (⟨2, ![8192, 6144]⟩ : Shape).Idx => out Y W Rb gb bb g b WI (j 0) (j 1) := by
  subst h0 h1 h2 h3 h4 h5 h6 h7
  funext j
  idx_vars j
  exact at_v67 _ _ _ _ _ _ _ _ j0 j1

theorem ref_xhat (h0 : a0 = Y) (h1 : a1 = W) (h2 : a2 = Rb) (h3 : a3 = gb) (h4 : a4 = bb) : val_main_v43 (F := Ideal) a0 a1 a2 a3 a4
    = fun j : (⟨2, ![8192, 1024]⟩ : Shape).Idx => nrm (res Y W Rb gb bb (j 0)) (j 1) := by
  subst h0 h1 h2 h3 h4
  funext j
  idx_vars j
  exact at_v43 _ _ _ _ _ j0 j1

theorem ref_rstd (h0 : a0 = Y) (h1 : a1 = W) (h2 : a2 = Rb) (h3 : a3 = gb) (h4 : a4 = bb) : val_main_v39 (F := Ideal) a0 a1 a2 a3 a4
    = fun j : (⟨2, ![8192, 1]⟩ : Shape).Idx => rs (res Y W Rb gb bb (j 0)) := by
  subst h0 h1 h2 h3 h4
  funext j
  idx_vars j
  obtain rfl : j1 = 0 := Subsingleton.elim _ _
  exact at_v39 _ _ _ _ _ j0

theorem ref_x (h0 : a0 = Y) (h1 : a1 = W) (h2 : a2 = Rb) (h3 : a3 = gb) (h4 : a4 = bb) (h5 : a5 = g) (h6 : a6 = b) :
    val_main_v68 (F := Ideal) a0 a1 a2 a3 a4 a5 a6
      = fun j : (⟨2, ![8192, 1024]⟩ : Shape).Idx => inp Y W Rb gb bb g b (j 0) (j 1) := by
  subst h0 h1 h2 h3 h4 h5 h6
  funext j
  idx_vars j
  exact at_v68 _ _ _ _ _ _ _ j0 j1

end

/-! ## The claim -/

set_option maxHeartbeats 8000000 in
theorem algebraic : Cert.algebraic_Kernel6Ideal_Reference6Ideal := by
  intro m ρ m' ρ' _ hagree
  refine ⟨fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    fun c => (Cert.Kernel6Ideal.Gen.dats m 0 c).arrAt 11 Cert.Kernel6Ideal.cfg0.N,
    Cert.Kernel6Ideal.Value.run_blocks (F := Ideal) m ρ, ?_⟩
  refine (θ_run Cert.Reference6Ideal.defs _ _).mono (fun r h c => ?_) (Cert.Reference6Ideal.Value.run (F := Ideal) m' ρ')
  obtain ⟨Y, W, Rb, gb, bb, g, b, WI, H⟩ : ∃ Y W Rb gb bb g b WI, Holds m c Y W Rb gb bb g b WI :=
    ⟨_, _, _, _, _, _, _, _, rfl, rfl, rfl, rfl, rfl, rfl, rfl, rfl⟩
  obtain ⟨g0, g1, g2, g3, g4, g5, g6, g7⟩ := hagree c
  obtain ⟨r0, r1, r2, r3, kept⟩ := h c
  have e0 := g0.trans H.y
  have e1 := g1.trans H.w
  have e2 := g2.trans H.rb
  have e3 := g3.trans H.gb
  have e4 := g4.trans H.bb
  have e5 := g5.trans H.g
  have e6 := g6.trans H.b
  refine ⟨?_, ?_, ?_, ?_, kept⟩
  · exact (r0.trans (Cert.Reference6Ideal.Read.val_main_v67_eq m' c)).trans
      ((ref_z e0 e1 e2 e3 e4 e5 e6 (g7.trans H.wi)).trans (final_8 H).symm)
  · exact (r1.trans (Cert.Reference6Ideal.Read.val_main_v43_eq m' c)).trans ((ref_xhat e0 e1 e2 e3 e4).trans (final_9 H).symm)
  · exact (r2.trans (Cert.Reference6Ideal.Read.val_main_v39_eq m' c)).trans ((ref_rstd e0 e1 e2 e3 e4).trans (final_10 H).symm)
  · exact (r3.trans (Cert.Reference6Ideal.Read.val_main_v68_eq m' c)).trans ((ref_x e0 e1 e2 e3 e4 e5 e6).trans (final_11 H).symm)

end Cert.ProjClaim

end
-- ==== Proof.Wgrad.lean ====
/-
  The gradients of the two weight matrices over arrays of extended reals: the sums over the rows, tile by tile, and what the
  two references compute.
-/
module

public import proofs.«01_k».proof.Proof.Proj
public import proofs.«01_k».proof.Proof.Gen.Reference7Ideal.Read
public import proofs.«01_k».proof.Proof.Gen.Reference8Ideal.Read

@[expose] public section

set_option maxRecDepth 16384

noncomputable section

namespace Cert.Wgrad

open Idealize.ShloMosaic Idealize.ShloMosaic.Pointwise
open Cert.Proj (EMat)
open Cert.Lnb (col)

/-! ## The row tiles -/

section
variable {n q p : ℕ} (hn : q * n = 8192)

/-- Row `r` of tile `t`, of `n` tiles of `q` rows. -/
def row (t : Fin n) (r : Fin q) : Fin 8192 := ⟨q * t.val + r.val, by
  have h : q * (t.val + 1) ≤ q * n := Nat.mul_le_mul_left q t.isLt
  have hr := r.isLt
  rw [Nat.mul_succ] at h
  omega⟩

/-- The rows of tile `t`. -/
def tile (M : EMat 8192 p) (t : Fin n) : EMat q p := fun j => M (ix2 (row hn t (j 0)) (j 1))

theorem tile_at (M : EMat 8192 p) (t : Fin n) (r : Fin q) (k : Fin p) : tile hn M t (ix2 r k) = M (ix2 (row hn t r) k) := rfl

/-- A sum over the first `k` rows. -/
def upto (f : Fin 8192 → EReal) (k : ℕ) : EReal := ∑ i ∈ Finset.range k, if h : i < 8192 then f ⟨i, h⟩ else 0

theorem upto_zero (f : Fin 8192 → EReal) : upto f 0 = 0 := Finset.sum_range_zero _

/-- The next tile's rows extend the sum. -/
theorem upto_next (f : Fin 8192 → EReal) (t : Fin n) :
    upto f (q * t.val) + ∑ r : Fin q, f (row hn t r) = upto f (q * (t.val + 1)) := by
  unfold upto
  rw [Nat.mul_succ, Finset.sum_range_add, Finset.sum_range (n := q)]
  congr 1
  exact Finset.sum_congr rfl fun r _ => by
    have h : q * t.val + r.val < 8192 := (row hn t r).isLt
    rw [dif_pos h]
    rfl

/-- The sum over all rows. -/
theorem upto_all (f : Fin 8192 → EReal) : upto f 8192 = ∑ i, f i := by
  unfold upto
  rw [Finset.sum_range]
  exact Finset.sum_congr rfl fun i _ => dif_pos i.isLt

end

/-! ## The gradients -/

/-- One row's share of an entry of the gradient. -/
def term {p s : ℕ} (X : EMat 8192 p) (D : EMat 8192 s) (k : Fin p) (j : Fin s) (i : Fin 8192) : EReal := X (ix2 i k) * D (ix2 i j)

/-- The gradient of the weights of a product: its left side's columns against the cotangent's. -/
def grad {p s : ℕ} (X : EMat 8192 p) (D : EMat 8192 s) (k : Fin p) (j : Fin s) : EReal := ∑ i, term X D k j i

/-- Row `r` of row block `o`, of eight blocks of 256. -/
def wrow (o : Fin 8) (r : Fin 256) : Fin 2048 := ⟨256 * o.val + r.val, by omega⟩

/-- Column block `o` of 768 columns. -/
def cols (D : EMat 8192 6144) (o : Fin 8) : EMat 8192 768 := fun j => D (ix2 (j 0) (col o (j 1)))

theorem cols_at (D : EMat 8192 6144) (o : Fin 8) (i : Fin 8192) (j : Fin 768) : cols D o (ix2 i j) = D (ix2 i (col o j)) := rfl

/-! ## The references -/

section
open Cert.Reference7Ideal Cert.Reference7Ideal.Read
variable (Y : EMat 8192 2048) (D : EMat 8192 1024)

theorem out_v3 (q : Fin 2048) (k : Fin 1024) : val_main_v3 (F := Ideal) Y D (ix2 q k) = grad Y D q k := by
  pointwise [val_main_v3, val_main_v2]
  exact Finset.sum_congr rfl fun i _ => mul_comm _ _

theorem out_v5 (o : Fin 8) (r : Fin 256) (k : Fin 1024) : val_main_v5 (F := Ideal) Y D (ix3 o r k) = grad Y D (wrow o r) k := by
  pointwise [val_main_v5, val_main_v4]
  refine Eq.trans ?_ (out_v3 Y D (wrow o r) k)
  exact congrArg (fun z => val_main_v3 (F := Ideal) Y D (ix2 z k)) (Fin.ext (by unfold wrow; dsimp only [ix3]; omega))

end

section
open Cert.Reference8Ideal Cert.Reference8Ideal.Read
variable (X : EMat 8192 1024) (D : EMat 8192 6144)

theorem in_v3 (k : Fin 1024) (j : Fin 6144) : val_main_v3 (F := Ideal) X D (ix2 k j) = grad X D k j := by
  pointwise [val_main_v3, val_main_v2]
  exact Finset.sum_congr rfl fun i _ => mul_comm _ _

theorem in_v6 (o : Fin 8) (k : Fin 1024) (j : Fin 768) : val_main_v6 (F := Ideal) X D (ix3 o k j) = grad X (cols D o) k j := by
  pointwise [val_main_v6, val_main_v5, val_main_v4]
  refine Eq.trans ?_ (in_v3 X D k (col o j))
  exact congrArg (fun z => val_main_v3 (F := Ideal) X D (ix2 k z)) (Fin.ext (by unfold col; dsimp only [ix3]; omega))

end

end Cert.Wgrad

end
-- ==== Proof.WgradOut.lean ====
/-
  The gradient of the output projection's weights: what a grid point adds to the accumulator, the accumulator point by point,
  and the result.
-/
module

public import proofs.«01_k».proof.Proof.Wgrad
public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

namespace Cert.WgradOut

open Idealize.ShloMosaic Idealize.ShloMosaic.Pointwise Idealize.ShloMosaic.TcCoe Idealize.SL.Sem Cert.Wgrad
  Cert.Kernel7Ideal Cert.Kernel7Ideal.Gen
open Cert.Proj (EMat)

/-! ## A point's values -/

theorem at_start (k : Fin 2048) (j : Fin 1024) : (k0_pay1 (F := Ideal) (ix2 k j) : EReal) = 0 := by
  pointwise [k0_pay1]

theorem at_add (acc : Vec Ideal S2048x1024 .f32) (a : Vec Ideal S1024x2048 .bf16) (b : Vec Ideal S1024x1024 .bf16) (k : Fin 2048)
    (j : Fin 1024) : (k0_pay2 (F := Ideal) acc a b (ix2 k j) : EReal)
      = acc (ix2 k j) + ∑ r : Fin 1024, (a (ix2 r k) : EReal) * b (ix2 r j) := by
  pointwise [k0_pay2]

theorem at_out (acc : Vec Ideal S2048x1024 .f32) (o : Fin 8) (r : Fin 256) (j : Fin 1024) :
    (k0_pay3 (F := Ideal) acc (ix3 o r j) : EReal) = acc (ix2 (wrow o r) j) := by
  pointwise [k0_pay3]
  exact congrArg (fun z => (acc (ix2 z j) : EReal)) (Fin.ext (by unfold wrow; dsimp only [ix3]; omega))

/-! ## What a point leaves -/

section
variable {F : FTy → Type} [FloatOps F]
variable (m : (ℓ : Loc nD τ sig) → Buf (Elt F) ℓ) (c : Dev nD)

/-- What the point before left in the accumulator. -/
abbrev prev (t : Fin cfg0.N) := (outsAt0 m c (t.val - 1) (Nat.lt_of_le_of_lt (Nat.sub_le _ _) t.isLt)).2

theorem first_acc (t : Fin cfg0.N) (h0 : t.val % 8 = 0) : (outsAt0 m c t.val t.isLt).2
    = k0_pay2 k0_pay1 (iblk m c 0 t) (iblk m c 1 t) := by
  funext j
  rw [outsAt0_A m c t h0 (by omega)]; frame_out

theorem next_acc (t : Fin cfg0.N) (h0 : ¬t.val % 8 = 0) : (outsAt0 m c t.val t.isLt).2
    = k0_pay2 (prev m c t) (iblk m c 0 t) (iblk m c 1 t) := by
  funext j
  by_cases h1 : t.val % 8 = 7
  · rw [outsAt0_C m c t h0 h1]; frame_out; rw [read_unread_whole]
  · rw [outsAt0_B m c t h0 h1]; frame_out; rw [read_unread_whole]

theorem last_out (t : Fin cfg0.N) (h0 : ¬t.val % 8 = 0) (h1 : t.val % 8 = 7) : (outsAt0 m c t.val t.isLt).1
    = k0_pay3 (k0_pay2 (prev m c t) (iblk m c 0 t) (iblk m c 1 t)) := by
  funext j
  rw [outsAt0_C m c t h0 h1]; frame_out; rw [read_unread_whole]

end

/-! ## The blocks -/

variable (m : (ℓ : Loc nD τ sig) → Buf (Elt Ideal) ℓ) (c : Dev nD)
variable (Y : EMat 8192 2048) (D : EMat 8192 1024)

/-- The launch memory holds the arguments. -/
structure Holds : Prop where
  y : m ((c.tc : Thread nD τ).loc main_arg0) = Y
  d : m ((c.tc : Thread nD τ).loc main_arg1) = D

/-- A grid point's number. -/
def pt (t : Fin cfg0.N) : Fin 8 := ⟨t.val, lt_of_lt_of_eq t.isLt N_0⟩

/-- Eight tiles of 1024 rows. -/
theorem rows_all : 1024 * 8 = 8192 := rfl

variable {m c Y D}

theorem V_y (h : Holds m c Y D) : V m c main_v0 = Y := by
  unfold V
  after_results
  exact h.y

theorem V_d (h : Holds m c Y D) : V m c main_v1 = D := by
  unfold V
  after_results
  exact h.d

theorem blk_0 (h : Holds m c Y D) (t : Fin cfg0.N) : iblk m c 0 t = tile rows_all Y (pt t) := by
  have hi : ∀ t : Fin grid0.N, win0_0.index t 0 = t.val ∧ win0_0.index t 1 = 0 := by decide +kernel
  funext j
  unfold iblk
  rw [View.read_apply]
  show V m c main_v0 _ = _
  rw [V_y h]
  refine congrArg Y (funext fun a => Fin.ext ?_)
  match a with
  | ⟨0, _⟩ => show win0_0.index t 0 * 1024 + 1 * (j 0).val = 1024 * t.val + (j 0).val; rw [(hi t).1]; omega
  | ⟨1, _⟩ => show win0_0.index t 1 * 2048 + 1 * (j 1).val = (j 1).val; rw [(hi t).2]; omega

theorem blk_1 (h : Holds m c Y D) (t : Fin cfg0.N) : iblk m c 1 t = tile rows_all D (pt t) := by
  have hi : ∀ t : Fin grid0.N, win0_1.index t 0 = t.val ∧ win0_1.index t 1 = 0 := by decide +kernel
  funext j
  unfold iblk
  rw [View.read_apply]
  show V m c main_v1 _ = _
  rw [V_d h]
  refine congrArg D (funext fun a => Fin.ext ?_)
  match a with
  | ⟨0, _⟩ => show win0_1.index t 0 * 1024 + 1 * (j 0).val = 1024 * t.val + (j 0).val; rw [(hi t).1]; omega
  | ⟨1, _⟩ => show win0_1.index t 1 * 1024 + 1 * (j 1).val = (j 1).val; rw [(hi t).2]; omega

/-! ## The accumulator -/

/-- A point adds its tile's rows. -/
theorem add_tile (acc : Vec Ideal S2048x1024 .f32) (t : Fin 8) (k : Fin 2048) (j : Fin 1024)
    (ha : (acc (ix2 k j) : EReal) = upto (term Y D k j) (1024 * t.val)) :
    (k0_pay2 (F := Ideal) acc (tile rows_all Y t) (tile rows_all D t) (ix2 k j) : EReal)
      = upto (term Y D k j) (1024 * (t.val + 1)) := by
  rw [at_add, ha]
  exact upto_next rows_all (term Y D k j) t

/-- After point `n` the accumulator holds the sum over the rows of the tiles up to `n`. -/
theorem acc_at (h : Holds m c Y D) (k : Fin 2048) (j : Fin 1024) : ∀ (n : ℕ) (hn : n < cfg0.N),
    ((outsAt0 m c n hn).2 (ix2 k j) : EReal) = upto (term Y D k j) (1024 * (n + 1))
  | 0, hn => by
    rw [first_acc m c ⟨0, hn⟩ rfl, blk_0 h, blk_1 h]
    exact add_tile _ (pt ⟨0, hn⟩) k j ((at_start k j).trans (upto_zero _).symm)
  | n + 1, hn => by
    have hN : cfg0.N = 8 := N_0
    have i := acc_at h k j n (Nat.lt_of_succ_lt hn)
    rw [next_acc m c ⟨n + 1, hn⟩ (by dsimp only; omega), blk_0 h, blk_1 h]
    exact add_tile _ (pt ⟨n + 1, hn⟩) k j i

/-! ## The result -/

/-- The last grid point. -/
def lastPt : Fin cfg0.N := ⟨7, by rw [show cfg0.N = 8 from N_0]; decide⟩

theorem final_2 (h : Holds m c Y D) : (dats m 0 c).arrAt 2 cfg0.N
    = fun j : (⟨3, ![8, 256, 1024]⟩ : Shape).Idx => grad Y D (wrow (j 0) (j 1)) (j 2) := by
  refine (dats m 0 c).arrAt_eq_of_after_last 2 lastPt (by decide +kernel) _ fun j => ?_
  blk_simp
  rw [after0_2, last_out m c lastPt (by decide) (by decide), ← next_acc m c lastPt (by decide)]
  idx_vars j
  refine (at_out _ j0 j1 j2).trans ((acc_at h (wrow j0 j1) j2 7 lastPt.isLt).trans ?_)
  rw [show 1024 * (7 + 1) = 8192 from rfl, upto_all]
  rfl

end Cert.WgradOut

end
-- ==== Proof.WgradIn.lean ====
/-
  The gradient of the input projection's weights: each column block of the result is the sum of two points' products.
-/
module

public import proofs.«01_k».proof.Proof.Wgrad
public import proofs.«01_k».proof.Proof.Gen.Kernel8Ideal.Value
public import Idealize.ShloMosaic.Lib.Pipeline.ValueKit
public import Idealize.ShloMosaic.Lib.Pipeline.ReadBack

@[expose] public section

set_option maxRecDepth 16384

noncomputable section

namespace Cert.WgradIn

open Idealize.ShloMosaic Idealize.ShloMosaic.Pointwise Idealize.ShloMosaic.TcCoe Idealize.SL.Sem Cert.Wgrad
  Cert.Kernel8Ideal Cert.Kernel8Ideal.Gen
open Cert.Proj (EMat)
open Cert.Lnb (col)

/-! ## A point's values -/

theorem at_start (k : Fin 1024) (j : Fin 768) : (k0_pay1 (F := Ideal) (ix2 k j) : EReal) = 0 := by
  pointwise [k0_pay1]

theorem at_add (acc : Vec Ideal S1024x768 .f32) (a : Vec Ideal S4096x1024 .bf16) (b : Vec Ideal S4096x768 .bf16) (k : Fin 1024)
    (j : Fin 768) : (k0_pay2 (F := Ideal) acc a b (ix2 k j) : EReal)
      = acc (ix2 k j) + ∑ r : Fin 4096, (a (ix2 r k) : EReal) * b (ix2 r j) := by
  pointwise [k0_pay2]

theorem at_out (acc : Vec Ideal S1024x768 .f32) (o : Fin 1) (k : Fin 1024) (j : Fin 768) :
    (k0_pay3 (F := Ideal) acc (ix3 o k j) : EReal) = acc (ix2 k j) := by
  pointwise [k0_pay3]

/-! ## What a point leaves -/

section
variable {F : FTy → Type} [FloatOps F]
variable (m : (ℓ : Loc nD τ sig) → Buf (Elt F) ℓ) (c : Dev nD)

/-- The first of a column block's two points sets the accumulator. -/
theorem first_acc (t : Fin cfg0.N) (h0 : t.val % 2 = 0) : (outsAt0 m c t.val t.isLt).2
    = k0_pay2 k0_pay1 (iblk m c 0 t) (iblk m c 1 t) := by
  funext j
  rw [outsAt0_A m c t h0 (by omega)]; frame_out

/-- The second adds to it and writes the result out. -/
theorem last_out (t : Fin cfg0.N) (h1 : t.val % 2 = 1) : (outsAt0 m c t.val t.isLt).1
    = k0_pay3 (k0_pay2 (outsAt0 m c (t.val - 1) (Nat.lt_of_le_of_lt (Nat.sub_le _ _) t.isLt)).2 (iblk m c 0 t) (iblk m c 1 t)) := by
  funext j
  rw [outsAt0_B m c t (by omega) h1]; frame_out; rw [read_unread_whole]

end

/-! ## The blocks -/

variable (m : (ℓ : Loc nD τ sig) → Buf (Elt Ideal) ℓ) (c : Dev nD)
variable (X : EMat 8192 1024) (D : EMat 8192 6144)

/-- The launch memory holds the arguments. -/
structure Holds : Prop where
  x : m ((c.tc : Thread nD τ).loc main_arg0) = X
  d : m ((c.tc : Thread nD τ).loc main_arg1) = D

/-- A grid point's column block and its half of the rows. -/
def blkOf (t : Fin cfg0.N) : Fin 8 := ⟨t.val / 2, by have h := lt_of_lt_of_eq t.isLt N_0; omega⟩
def half (t : Fin cfg0.N) : Fin 2 := ⟨t.val % 2, Nat.mod_lt _ (by decide)⟩

/-- Two halves of 4096 rows. -/
theorem rows_all : 4096 * 2 = 8192 := rfl

variable {m c X D}

theorem V_x (h : Holds m c X D) : V m c main_v0 = X := by
  unfold V
  after_results
  exact h.x

theorem V_d (h : Holds m c X D) : V m c main_v1 = D := by
  unfold V
  after_results
  exact h.d

theorem blk_0 (h : Holds m c X D) (t : Fin cfg0.N) : iblk m c 0 t = tile rows_all X (half t) := by
  have hi : ∀ t : Fin grid0.N, win0_0.index t 0 = t.val % 2 ∧ win0_0.index t 1 = 0 := by decide +kernel
  funext j
  unfold iblk
  rw [View.read_apply]
  show V m c main_v0 _ = _
  rw [V_x h]
  refine congrArg X (funext fun a => Fin.ext ?_)
  match a with
  | ⟨0, _⟩ => show win0_0.index t 0 * 4096 + 1 * (j 0).val = 4096 * (t.val % 2) + (j 0).val; rw [(hi t).1]; omega
  | ⟨1, _⟩ => show win0_0.index t 1 * 1024 + 1 * (j 1).val = (j 1).val; rw [(hi t).2]; omega

theorem blk_1 (h : Holds m c X D) (t : Fin cfg0.N) : iblk m c 1 t = tile rows_all (cols D (blkOf t)) (half t) := by
  have hi : ∀ t : Fin grid0.N, win0_1.index t 0 = t.val % 2 ∧ win0_1.index t 1 = t.val / 2 := by decide +kernel
  funext j
  unfold iblk
  rw [View.read_apply]
  show V m c main_v1 _ = _
  rw [V_d h]
  refine congrArg D (funext fun a => Fin.ext ?_)
  match a with
  | ⟨0, _⟩ => show win0_1.index t 0 * 4096 + 1 * (j 0).val = 4096 * (t.val % 2) + (j 0).val; rw [(hi t).1]; omega
  | ⟨1, _⟩ => show win0_1.index t 1 * 768 + 1 * (j 1).val = 768 * (t.val / 2) + (j 1).val; rw [(hi t).2]; omega

/-! ## The accumulator -/

/-- A point adds its half of the rows. -/
theorem add_half (E : EMat 8192 768) (acc : Vec Ideal S1024x768 .f32) (t : Fin 2) (k : Fin 1024) (j : Fin 768)
    (ha : (acc (ix2 k j) : EReal) = upto (term X E k j) (4096 * t.val)) :
    (k0_pay2 (F := Ideal) acc (tile rows_all X t) (tile rows_all E t) (ix2 k j) : EReal)
      = upto (term X E k j) (4096 * (t.val + 1)) := by
  rw [at_add, ha]
  exact upto_next rows_all (term X E k j) t

theorem acc_first (h : Holds m c X D) (t : Fin cfg0.N) (h0 : t.val % 2 = 0) (k : Fin 1024) (j : Fin 768) :
    ((outsAt0 m c t.val t.isLt).2 (ix2 k j) : EReal) = upto (term X (cols D (blkOf t)) k j) 4096 := by
  have e : half t = 0 := Fin.ext h0
  rw [first_acc m c t h0, blk_0 h, blk_1 h, e]
  exact add_half (cols D (blkOf t)) _ 0 k j ((at_start k j).trans (upto_zero _).symm)

theorem outs_at (h : Holds m c X D) (t : Fin cfg0.N) (h1 : t.val % 2 = 1) (o : Fin 1) (k : Fin 1024) (j : Fin 768) :
    ((outsAt0 m c t.val t.isLt).1 (ix3 o k j) : EReal) = grad X (cols D (blkOf t)) k j := by
  have e : half t = 1 := Fin.ext h1
  have hp : t.val - 1 < cfg0.N := Nat.lt_of_le_of_lt (Nat.sub_le _ _) t.isLt
  have hb : blkOf ⟨t.val - 1, hp⟩ = blkOf t := Fin.ext (by unfold blkOf; dsimp only; omega)
  have ha := acc_first h ⟨t.val - 1, hp⟩ (by dsimp only; omega) k j
  rw [hb] at ha
  rw [last_out m c t h1, blk_0 h, blk_1 h, e]
  refine (at_out _ o k j).trans ((add_half (cols D (blkOf t)) _ 1 k j ha).trans ?_)
  exact upto_all _

/-! ## The result -/

theorem final_2 (h : Holds m c X D) : (dats m 0 c).arrAt 2 cfg0.N
    = fun j : (⟨3, ![8, 1024, 768]⟩ : Shape).Idx => grad X (cols D (j 0)) (j 1) (j 2) := by
  have hi : ∀ t : Fin cfg0.N, win0_2.index t 0 = t.val / 2 ∧ win0_2.index t 1 = 0 ∧ win0_2.index t 2 = 0 :=
    (by decide +kernel : ∀ t : Fin grid0.N, _)
  have hodd : ∀ t : Fin cfg0.N, (cfg0.win 2).flush t = true → t.val % 2 = 1 :=
    (by decide +kernel : ∀ t : Fin grid0.N, _)
  refine (dats m 0 c).arrAt_eq_of_covers 2 _ (by decide +kernel) fun t hf y => ?_
  have h1 := hodd t hf
  blk_simp
  rw [after0_2]
  idx_vars y
  refine (outs_at h t h1 y0 y1 y2).trans ?_
  have e : ∀ {o o' : Fin 8} {k k' : Fin 1024} {j j' : Fin 768}, o = o' → k = k' → j = j' →
      grad X (cols D o) k j = grad X (cols D o') k' j' := by
    rintro _ _ _ _ _ _ rfl rfl rfl
    rfl
  refine e (Fin.ext ?_) (Fin.ext ?_) (Fin.ext ?_)
  · show t.val / 2 = _
    blk_simp [(hi t).1]
  · show y1.val = _
    blk_simp [(hi t).2.1]
  · show y2.val = _
    blk_simp [(hi t).2.2]

end Cert.WgradIn

end
-- ==== Proof.WgradClaim.lean ====
/-
  The value claims of the gradients of the two weight matrices: from any arguments, kernel and reference leave the same result.
-/
module

public import proofs.«01_k».proof.Defs
public import proofs.«01_k».proof.Proof.Gen.Reference7Ideal
public import proofs.«01_k».proof.Proof.Gen.Reference7Ideal.Run
public import proofs.«01_k».proof.Proof.Gen.Reference8Ideal
public import proofs.«01_k».proof.Proof.Gen.Reference8Ideal.Run
public import proofs.«01_k».proof.Proof.WgradOut
public import proofs.«01_k».proof.Proof.WgradIn

@[expose] public section

set_option maxRecDepth 16384

noncomputable section

namespace Cert.WgradClaim

open Idealize.ShloMosaic Idealize.ShloMosaic.Pointwise Idealize.ShloMosaic.StableHlo Idealize.SL.Sem Cert.Wgrad
open Cert.Proj (EMat)

theorem ref_out {a0 Y : EMat 8192 2048} {a1 D : EMat 8192 1024} (h0 : a0 = Y) (h1 : a1 = D) :
    Cert.Reference7Ideal.Read.val_main_v5 (F := Ideal) a0 a1
      = fun j : (⟨3, ![8, 256, 1024]⟩ : Shape).Idx => grad Y D (wrow (j 0) (j 1)) (j 2) := by
  subst h0 h1
  funext j
  idx_vars j
  exact out_v5 _ _ j0 j1 j2

theorem ref_in {a0 X : EMat 8192 1024} {a1 D : EMat 8192 6144} (h0 : a0 = X) (h1 : a1 = D) :
    Cert.Reference8Ideal.Read.val_main_v6 (F := Ideal) a0 a1
      = fun j : (⟨3, ![8, 1024, 768]⟩ : Shape).Idx => grad X (cols D (j 0)) (j 1) (j 2) := by
  subst h0 h1
  funext j
  idx_vars j
  exact in_v6 _ _ j0 j1 j2

set_option maxHeartbeats 8000000 in
theorem algebraic_out : Cert.algebraic_Kernel7Ideal_Reference7Ideal := by
  intro m ρ m' ρ' _ hagree
  refine ⟨fun c => (Cert.Kernel7Ideal.Gen.dats m 0 c).arrAt 2 Cert.Kernel7Ideal.cfg0.N,
    Cert.Kernel7Ideal.Value.run_blocks (F := Ideal) m ρ, ?_⟩
  refine (θ_run Cert.Reference7Ideal.defs _ _).mono (fun r h c => ?_) (Cert.Reference7Ideal.Value.run (F := Ideal) m' ρ')
  obtain ⟨Y, D, H⟩ : ∃ Y D, WgradOut.Holds m c Y D := ⟨_, _, rfl, rfl⟩
  obtain ⟨g0, g1⟩ := hagree c
  obtain ⟨r0, kept⟩ := h c
  exact ⟨(r0.trans (Cert.Reference7Ideal.Read.val_main_v5_eq _ _)).trans
    ((ref_out (g0.trans H.y) (g1.trans H.d)).trans (WgradOut.final_2 H).symm), kept⟩

set_option maxHeartbeats 8000000 in
theorem algebraic_in : Cert.algebraic_Kernel8Ideal_Reference8Ideal := by
  intro m ρ m' ρ' _ hagree
  refine ⟨fun c => (Cert.Kernel8Ideal.Gen.dats m 0 c).arrAt 2 Cert.Kernel8Ideal.cfg0.N,
    Cert.Kernel8Ideal.Value.run_blocks (F := Ideal) m ρ, ?_⟩
  refine (θ_run Cert.Reference8Ideal.defs _ _).mono (fun r h c => ?_) (Cert.Reference8Ideal.Value.run (F := Ideal) m' ρ')
  obtain ⟨X, D, H⟩ : ∃ X D, WgradIn.Holds m c X D := ⟨_, _, rfl, rfl⟩
  obtain ⟨g0, g1⟩ := hagree c
  obtain ⟨r0, kept⟩ := h c
  exact ⟨(r0.trans (Cert.Reference8Ideal.Read.val_main_v6_eq _ _)).trans
    ((ref_in (g0.trans H.x) (g1.trans H.d)).trans (WgradIn.final_2 H).symm), kept⟩

end Cert.WgradClaim

end
-- ==== Proof.Dx.lean ====
/-
  The input's gradient over arrays of extended reals: the cotangent of the residual sum, scaled, and the cotangent of the
  projection against its weights; its reference, its kernel's blocks and its result.
-/
module

public import proofs.«01_k».proof.Proof.Wgrad
public import proofs.«01_k».proof.Proof.ProjFinal
public import proofs.«01_k».proof.Proof.Gen.Reference9Ideal.Read
public import proofs.«01_k».proof.Proof.Gen.Kernel9Ideal.Value
public import Idealize.ShloMosaic.Lib.Pipeline.ValueKit

@[expose] public section

set_option maxRecDepth 16384

noncomputable section

namespace Cert.Dx

open Idealize.ShloMosaic Idealize.ShloMosaic.Pointwise Idealize.ShloMosaic.TcCoe Idealize.SL.Sem
open Cert.Proj (EMat wcol)
open Cert.Lnb (col)
open Cert.Wgrad (row tile)

/-! ## The mathematics -/

section
variable (DZ : EMat 8192 6144) (W : EMat 1024 6144) (DR : EMat 8192 1024)

/-- The gradient of the input. -/
def dx (i : Fin 8192) (k : Fin 1024) : EReal :=
  Ideal.ofBits .f32 0x3FD744FD#32 * DR (ix2 i k) + ∑ q : Fin 6144, DZ (ix2 i q) * W (ix2 k q)

/-- A sum over the columns is the sum of the eight blocks' sums. -/
theorem sum_cols (f : Fin 6144 → EReal) : ∑ o : Fin 8, ∑ j : Fin 768, f (col o j) = ∑ q, f q := by
  rw [← Fintype.sum_prod_type']
  refine Fintype.sum_equiv (finProdFinEquiv (m := 8) (n := 768)) _ _ fun p => congrArg f (Fin.ext ?_)
  show 768 * p.1.val + p.2.val = p.2.val + 768 * p.1.val
  omega

/-- The gradient as the eight blocks' products added one after the other. -/
theorem dx_eq (i : Fin 8192) (k : Fin 1024) (p : Fin 8 → EReal)
    (hp : ∀ o, p o = ∑ j : Fin 768, DZ (ix2 i (col o j)) * W (ix2 k (col o j))) :
    Ideal.ofBits .f32 0x3FD744FD#32 * DR (ix2 i k) + p 0 + p 1 + p 2 + p 3 + p 4 + p 5 + p 6 + p 7 = dx DZ W DR i k := by
  unfold dx
  rw [← sum_cols fun q => DZ (ix2 i q) * W (ix2 k q)]
  simp only [← hp]
  rw [Fin.sum_univ_eight]
  simp only [add_assoc]

/-- 32 tiles of 256 rows. -/
theorem rows_all : 256 * 32 = 8192 := rfl

end

/-! ## The reference -/

section
open Cert.Reference9Ideal Cert.Reference9Ideal.Read
variable (DZ : EMat 8192 6144) (W : EMat 1024 6144) (DR : EMat 8192 1024)

theorem at_v7 (i : Fin 8192) (k : Fin 1024) : val_main_v7 (F := Ideal) DZ W DR (ix2 i k) = dx DZ W DR i k := by
  pointwise [val_main_v7, val_main_v6, val_main_v5, val_main_v4, val_main_cst_1]
  rfl

end

/-! ## A point's values -/

open Cert.Kernel9Ideal Cert.Kernel9Ideal.Gen

section
variable (DZ : EMat 8192 6144) (W : EMat 1024 6144) (DR : EMat 8192 1024) (t : Fin 32)

/-- The blocks a point reads. -/
abbrev bz : Vec Ideal S256x6144 .bf16 := tile rows_all DZ t
abbrev bi : Vec Ideal S8x1024x768 .bf16 := wcol W
abbrev bu : Vec Ideal S256x1024 .f32 := tile rows_all DR t

/-- A block of 768 columns of the rows' tile. -/
theorem ld_z (o : Fin 8) (n : ℕ) (hn : n = 768 * o.val) (inb) (r : Fin 256) (j : Fin 768) :
    View.ld (bz DZ t) (Rect.unit (s := S256x6144) ![0, n] ![256, 768] inb) (ix2 r j) = DZ (ix2 (row rows_all t r) (col o j)) := by
  refine (View.ld_unit_apply_of (bz DZ t) _ _ _ _ (ix2 r (col o j)) fun a => ?_).trans rfl
  subst hn
  match a with
  | ⟨0, _⟩ => exact (Nat.zero_add _).symm
  | ⟨1, _⟩ => rfl

/-- A block of 768 columns of the weights. -/
theorem ld_w (o : Fin 8) (n : ℕ) (hn : n = o.val) (inb) (k : Fin 1024) (j : Fin 768) :
    View.ld (bi W) (Rect.unit (s := S8x1024x768) ![n, 0, 0] ![1, 1024, 768] inb) (ix3 0 k j) = W (ix2 k (col o j)) :=
  Cert.ProjVal.ld_w W o n hn inb k j

/-- One column block's share of an entry. -/
def part (r : Fin 256) (k : Fin 1024) (o : Fin 8) : EReal :=
  ∑ j : Fin 768, DZ (ix2 (row rows_all t r) (col o j)) * W (ix2 k (col o j))

theorem part_at (r : Fin 256) (k : Fin 1024) (o : Fin 8) (n q : ℕ) (hn : n = 768 * o.val) (hq : q = o.val) (inb) (inb') :
    (∑ j : Fin 768, (View.ld (bz DZ t) (Rect.unit (s := S256x6144) ![0, n] ![256, 768] inb) (ix2 r j) : EReal)
      * View.ld (bi W) (Rect.unit (s := S8x1024x768) ![q, 0, 0] ![1, 1024, 768] inb') (ix3 0 k j)) = part DZ W t r k o :=
  Finset.sum_congr rfl fun j _ => congrArg₂ (fun a b : EReal => a * b) (ld_z DZ t o n hn inb r j) (ld_w W o q hq inb' k j)

theorem at_pay3 (v : Vec Ideal S256x768 .bf16) (r : Fin 256) (j : Fin 768) :
    (k0_pay3 (F := Ideal) v (ix2 r j) : EReal) = v (ix2 r j) := by
  pointwise [k0_pay3]

theorem at_pay2 (u : Vec Ideal S256x1024 .f32) (z0 z1 z2 z3 : Vec Ideal S256x768 .bf16) (w0 w1 w2 w3 : Vec Ideal S1x1024x768 .bf16)
    (r : Fin 256) (k : Fin 1024) : (k0_pay2 (F := Ideal) u z0 w0 z1 w1 z2 w2 z3 w3 (ix2 r k) : EReal)
      = Ideal.ofBits .f32 0x3FD744FD#32 * u (ix2 r k) + (∑ j : Fin 768, (z0 (ix2 r j) : EReal) * w0 (ix3 0 k j))
        + (∑ j : Fin 768, (z1 (ix2 r j) : EReal) * w1 (ix3 0 k j)) + (∑ j : Fin 768, (z2 (ix2 r j) : EReal) * w2 (ix3 0 k j))
        + (∑ j : Fin 768, (z3 (ix2 r j) : EReal) * w3 (ix3 0 k j)) := by
  pointwise [k0_pay2]

theorem at_pay1 (a : FVec Ideal S256x1024 .f32) (z0 : FVec Ideal S256x768 .bf16) (z1 z2 z3 : Vec Ideal S256x768 .bf16)
    (w0 w1 w2 w3 : Vec Ideal S1x1024x768 .bf16)
    (r : Fin 256) (k : Fin 1024) : (k0_pay1 (F := Ideal) a z0 w0 z1 w1 z2 w2 z3 w3 (ix2 r k) : EReal)
      = a (ix2 r k) + (∑ j : Fin 768, (z0 (ix2 r j) : EReal) * w0 (ix3 0 k j))
        + (∑ j : Fin 768, (z1 (ix2 r j) : EReal) * w1 (ix3 0 k j)) + (∑ j : Fin 768, (z2 (ix2 r j) : EReal) * w2 (ix3 0 k j))
        + (∑ j : Fin 768, (z3 (ix2 r j) : EReal) * w3 (ix3 0 k j)) := by
  pointwise [k0_pay1]

/-- Four summands replaced by equal ones. -/
theorem add_four {a a' b b' c c' d d' e e' : EReal} (ha : a = a') (hb : b = b') (hc : c = c') (hd : d = d') (he : e = e') :
    a + b + c + d + e = a' + b' + c' + d' + e' := by
  rw [ha, hb, hc, hd, he]

/-- A row of a point's result. -/
theorem at_out (r : Fin 256) (k : Fin 1024) :
    out0_3 (F := Ideal) (bz DZ t) (bi W) (bu DR t) (ix2 r k) = dx DZ W DR (row rows_all t r) k := by
  unfold out0_3
  rw [View.canon_unit_zero (S := S256x1024) Cert.ProjVal.hz, View.ld_unit_zero (S := S256x1024) Cert.ProjVal.hz]
  refine (at_pay1 _ _ _ _ _ _ _ _ _ r k).trans (Eq.trans (add_four (at_pay2 _ _ _ _ _ _ _ _ _ r k) ?_
    (part_at DZ W t r k 5 3840 5 rfl rfl _ _) (part_at DZ W t r k 6 4608 6 rfl rfl _ _) (part_at DZ W t r k 7 5376 7 rfl rfl _ _))
    ((add_four (add_four rfl (part_at DZ W t r k 0 0 0 rfl rfl _ _) (part_at DZ W t r k 1 768 1 rfl rfl _ _)
      (part_at DZ W t r k 2 1536 2 rfl rfl _ _) (part_at DZ W t r k 3 2304 3 rfl rfl _ _)) rfl rfl rfl rfl).trans
      (dx_eq DZ W DR (row rows_all t r) k (part DZ W t r k) fun o => rfl)))
  exact (Finset.sum_congr rfl fun j _ => congrArg (fun a : EReal => a * _) (at_pay3 _ r j)).trans
    (part_at DZ W t r k 4 3072 4 rfl rfl _ _)

end

/-! ## The blocks -/

variable (m : (ℓ : Loc nD τ sig) → Buf (Elt Ideal) ℓ) (c : Dev nD)
variable (DZ : EMat 8192 6144) (W : EMat 1024 6144) (DR : EMat 8192 1024)

/-- The launch memory holds the arguments. -/
structure Holds : Prop where
  dz : m ((c.tc : Thread nD τ).loc main_arg0) = DZ
  w : m ((c.tc : Thread nD τ).loc main_arg1) = W
  dr : m ((c.tc : Thread nD τ).loc main_arg2) = DR

/-- A grid point's tile. -/
def pt (t : Fin cfg0.N) : Fin 32 := ⟨t.val, lt_of_lt_of_eq t.isLt N_0⟩

variable {m c DZ W DR}

theorem V_dz (h : Holds m c DZ W DR) : V m c main_v0 = DZ := by
  unfold V
  after_results
  exact h.dz

theorem V_w (h : Holds m c DZ W DR) : V m c main_v3 = wcol W := by
  have e : V m c main_v3 = transpose S8x1024x768 [1, 0, 2] (shapeCast S1024x8x768 (truncf (F := Ideal) .bf16
      (m ((c.tc : Thread nD τ).loc main_arg1) : Vec Ideal S1024x6144 .f32) bitsLt_bf16_f32) shapeCasts_S1024x6144_S1024x8x768)
      transposes_S1024x8x768_S8x1024x768_1_0_2 := by
    unfold V
    after_results
    rfl
  rw [e, h.w]
  exact Cert.ProjVal.wi_blocks

theorem V_dr (h : Holds m c DZ W DR) : V m c main_arg2 = DR := by
  unfold V
  after_results
  exact h.dr

theorem blk_0 (h : Holds m c DZ W DR) (t : Fin cfg0.N) : iblk m c 0 t = tile rows_all DZ (pt t) := by
  have hi : ∀ t : Fin grid0.N, win0_0.index t 0 = t.val ∧ win0_0.index t 1 = 0 := by decide +kernel
  funext j
  unfold iblk
  rw [View.read_apply]
  show V m c main_v0 _ = _
  rw [V_dz h]
  refine congrArg DZ (funext fun a => Fin.ext ?_)
  match a with
  | ⟨0, _⟩ => show win0_0.index t 0 * 256 + 1 * (j 0).val = 256 * t.val + (j 0).val; rw [(hi t).1]; omega
  | ⟨1, _⟩ => show win0_0.index t 1 * 6144 + 1 * (j 1).val = (j 1).val; rw [(hi t).2]; omega

theorem blk_1 (h : Holds m c DZ W DR) (t : Fin cfg0.N) : iblk m c 1 t = wcol W := by
  have hi : ∀ t : Fin grid0.N, win0_1.index t 0 = 0 ∧ win0_1.index t 1 = 0 ∧ win0_1.index t 2 = 0 := by decide +kernel
  funext j
  unfold iblk
  rw [View.read_apply]
  show V m c main_v3 _ = _
  rw [V_w h]
  refine congrArg (wcol W) (funext fun a => Fin.ext ?_)
  match a with
  | ⟨0, _⟩ => show win0_1.index t 0 * 8 + 1 * (j 0).val = (j 0).val; rw [(hi t).1]; omega
  | ⟨1, _⟩ => show win0_1.index t 1 * 1024 + 1 * (j 1).val = (j 1).val; rw [(hi t).2.1]; omega
  | ⟨2, _⟩ => show win0_1.index t 2 * 768 + 1 * (j 2).val = (j 2).val; rw [(hi t).2.2]; omega

theorem blk_2 (h : Holds m c DZ W DR) (t : Fin cfg0.N) : iblk m c 2 t = tile rows_all DR (pt t) := by
  have hi : ∀ t : Fin grid0.N, win0_2.index t 0 = t.val ∧ win0_2.index t 1 = 0 := by decide +kernel
  funext j
  unfold iblk
  rw [View.read_apply]
  show V m c main_arg2 _ = _
  rw [V_dr h]
  refine congrArg DR (funext fun a => Fin.ext ?_)
  match a with
  | ⟨0, _⟩ => show win0_2.index t 0 * 256 + 1 * (j 0).val = 256 * t.val + (j 0).val; rw [(hi t).1]; omega
  | ⟨1, _⟩ => show win0_2.index t 1 * 1024 + 1 * (j 1).val = (j 1).val; rw [(hi t).2]; omega

/-! ## The result -/

theorem final_3 (h : Holds m c DZ W DR) : (dats m 0 c).arrAt 3 cfg0.N
    = fun j : (⟨2, ![8192, 1024]⟩ : Shape).Idx => dx DZ W DR (j 0) (j 1) := by
  have hi : ∀ t : Fin cfg0.N, win0_3.index t 0 = t.val ∧ win0_3.index t 1 = 0 :=
    (by decide +kernel : ∀ t : Fin grid0.N, _)
  refine (dats m 0 c).arrAt_eq_of_covers 3 _ (by decide +kernel) fun t hf y => ?_
  blk_simp
  rw [after0_3, blk_0 h, blk_1 h, blk_2 h]
  idx_vars y
  refine (at_out DZ W DR (pt t) y0 y1).trans (congrArg₂ (dx DZ W DR) (Fin.ext ?_) (Fin.ext ?_))
  · show 256 * t.val + y0.val = _
    blk_simp [(hi t).1]
    omega
  · show y1.val = _
    blk_simp [(hi t).2]

end Cert.Dx

end
-- ==== Proof.DxClaim.lean ====
/-
  The value claim of the input's gradient: from any arguments, kernel and reference leave the same result.
-/
module

public import proofs.«01_k».proof.Defs
public import proofs.«01_k».proof.Proof.Gen.Reference9Ideal
public import proofs.«01_k».proof.Proof.Gen.Reference9Ideal.Run
public import proofs.«01_k».proof.Proof.Dx

@[expose] public section

set_option maxRecDepth 16384

noncomputable section

namespace Cert.DxClaim

open Idealize.ShloMosaic Idealize.ShloMosaic.Pointwise Idealize.ShloMosaic.StableHlo Idealize.SL.Sem Cert.Dx
open Cert.Proj (EMat)

theorem ref_dx {a0 DZ : EMat 8192 6144} {a1 W : EMat 1024 6144} {a2 DR : EMat 8192 1024} (h0 : a0 = DZ) (h1 : a1 = W)
    (h2 : a2 = DR) : Cert.Reference9Ideal.Read.val_main_v7 (F := Ideal) a0 a1 a2
      = fun j : (⟨2, ![8192, 1024]⟩ : Shape).Idx => dx DZ W DR (j 0) (j 1) := by
  subst h0 h1 h2
  funext j
  idx_vars j
  exact at_v7 _ _ _ j0 j1

set_option maxHeartbeats 8000000 in
theorem algebraic : Cert.algebraic_Kernel9Ideal_Reference9Ideal := by
  intro m ρ m' ρ' _ hagree
  refine ⟨fun c => (Cert.Kernel9Ideal.Gen.dats m 0 c).arrAt 3 Cert.Kernel9Ideal.cfg0.N,
    Cert.Kernel9Ideal.Value.run_blocks (F := Ideal) m ρ, ?_⟩
  refine (θ_run Cert.Reference9Ideal.defs _ _).mono (fun r h c => ?_) (Cert.Reference9Ideal.Value.run (F := Ideal) m' ρ')
  obtain ⟨DZ, W, DR, H⟩ : ∃ DZ W DR, Holds m c DZ W DR := ⟨_, _, _, rfl, rfl, rfl⟩
  obtain ⟨g0, g1, g2⟩ := hagree c
  obtain ⟨r0, kept⟩ := h c
  exact ⟨(r0.trans (Cert.Reference9Ideal.Read.val_main_v7_eq _ _ _)).trans
    ((ref_dx (g0.trans H.dz) (g1.trans H.w) (g2.trans H.dr)).trans (final_3 H).symm), kept⟩

end Cert.DxClaim

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Pre_finite
public import proofs.«01_k».proof.Proof.Gen.Pre_finite2
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Frames
public import proofs.«01_k».proof.Proof.HeadClaim
public import proofs.«01_k».proof.Proof.LnbClaim
public import proofs.«01_k».proof.Proof.EvenClaim
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.OddClaim
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.FwdClaim
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.ProjClaim
public import proofs.«01_k».proof.Proof.WgradClaim
public import proofs.«01_k».proof.Proof.DxClaim
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite2.Gen.facts, Cert.Pre_finite3.Gen.facts, Cert.Pre_finite4.Gen.facts, Cert.Pre_finite5.Gen.facts,
  Cert.Frames.kernel, fun m ρ _ => Cert.KernelIdeal.Gen.frame m ρ, fun m ρ _ => Cert.KernelIdeal.Gen.frame m ρ,
  Cert.Frames.reference, fun m ρ _ => Cert.Frames.reference m ρ trivial,
  Cert.Frames.kernel2, fun m ρ _ => Cert.Kernel2Ideal.Gen.frame m ρ, fun m ρ _ => Cert.Kernel2Ideal.Gen.frame m ρ,
  Cert.Frames.reference2, fun m ρ _ => Cert.Frames.reference2 m ρ trivial,
  Cert.Frames.kernel3, fun m ρ _ => Cert.Kernel3Ideal.Gen.frame m ρ, fun m ρ _ => Cert.Kernel3Ideal.Gen.frame m ρ,
  Cert.Frames.reference3, fun m ρ _ => Cert.Frames.reference3 m ρ trivial,
  Cert.Frames.kernel4, fun m ρ _ => Cert.Kernel4Ideal.Gen.frame m ρ, fun m ρ _ => Cert.Kernel4Ideal.Gen.frame m ρ,
  Cert.Frames.reference4, fun m ρ _ => Cert.Frames.reference4 m ρ trivial,
  Cert.Frames.kernel5, fun m ρ _ => Cert.Kernel5Ideal.Gen.frame m ρ, fun m ρ _ => Cert.Kernel5Ideal.Gen.frame m ρ,
  Cert.Frames.reference5, fun m ρ _ => Cert.Frames.reference5 m ρ trivial,
  Cert.Frames.kernel6, fun m ρ _ => Cert.Kernel6Ideal.Gen.frame m ρ, Cert.Frames.reference6,
  Cert.Frames.kernel7, fun m ρ _ => Cert.Kernel7Ideal.Gen.frame m ρ, Cert.Frames.reference7,
  Cert.Frames.kernel8, fun m ρ _ => Cert.Kernel8Ideal.Gen.frame m ρ, Cert.Frames.reference8,
  Cert.Frames.kernel9, fun m ρ _ => Cert.Kernel9Ideal.Gen.frame m ρ, Cert.Frames.reference9,
  trivial, Cert.HeadClaim.algebraic, trivial, Cert.LnbClaim.algebraic, trivial, Cert.EvenClaim.algebraic, trivial, Cert.OddClaim.algebraic,
  trivial, Cert.FwdClaim.algebraic, trivial, Cert.ProjClaim.algebraic, trivial,
  Cert.WgradClaim.algebraic_out, trivial, Cert.WgradClaim.algebraic_in, trivial, Cert.DxClaim.algebraic⟩

end Cert.Proof

end
